-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpIdeal_sum_of_squares [hPre_sum_of_squares : Cert.Pre_sum_of_squares.Facts] (m : (ℓ : Loc Cert.UpIdeal.nD Cert.UpIdeal.τ Cert.UpIdeal.sig) → Buf (Elt Ideal) ℓ) : Prop :=
  ∀ c : Dev Cert.UpIdeal.nD,
    (Cert.Pre_sum_of_squares.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2))) = (fun _ => 1#1)

def Pre_UpRefIdeal (m : (ℓ : Loc Cert.UpRefIdeal.nD Cert.UpRefIdeal.τ Cert.UpRefIdeal.sig) → Buf (Elt Ideal) ℓ) : Prop :=
  True

def Pre_UpRefIdeal_sum_of_squares [hPre_sum_of_squares : Cert.Pre_sum_of_squares.Facts] (m : (ℓ : Loc Cert.UpRefIdeal.nD Cert.UpRefIdeal.τ Cert.UpRefIdeal.sig) → Buf (Elt Ideal) ℓ) : Prop :=
  ∀ c : Dev Cert.UpRefIdeal.nD,
    (Cert.Pre_sum_of_squares.fn (F := Ideal) (m ((c.tc : Thread Cert.UpRefIdeal.nD Cert.UpRefIdeal.τ).loc Cert.UpRefIdeal.main_arg0)) (m ((c.tc : Thread Cert.UpRefIdeal.nD Cert.UpRefIdeal.τ).loc Cert.UpRefIdeal.main_arg1)) (m ((c.tc : Thread Cert.UpRefIdeal.nD Cert.UpRefIdeal.τ).loc Cert.UpRefIdeal.main_arg2))) = (fun _ => 1#1)

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_NormPrompt (m : (ℓ : Loc Cert.NormPrompt.nD Cert.NormPrompt.τ Cert.NormPrompt.sig) → Buf (Elt Bits) ℓ) : Prop :=
  True

def Pre_NormPromptIdeal (m : (ℓ : Loc Cert.NormPromptIdeal.nD Cert.NormPromptIdeal.τ Cert.NormPromptIdeal.sig) → Buf (Elt Ideal) ℓ) : Prop :=
  True

def Pre_NormPromptRefIdeal (m : (ℓ : Loc Cert.NormPromptRefIdeal.nD Cert.NormPromptRefIdeal.τ Cert.NormPromptRefIdeal.sig) → Buf (Elt Ideal) ℓ) : Prop :=
  True

def Pre_NormSample (m : (ℓ : Loc Cert.NormSample.nD Cert.NormSample.τ Cert.NormSample.sig) → Buf (Elt Bits) ℓ) : Prop :=
  True

def Pre_NormSampleIdeal (m : (ℓ : Loc Cert.NormSampleIdeal.nD Cert.NormSampleIdeal.τ Cert.NormSampleIdeal.sig) → Buf (Elt Ideal) ℓ) : Prop :=
  True

def Pre_NormSampleRefIdeal (m : (ℓ : Loc Cert.NormSampleRefIdeal.nD Cert.NormSampleRefIdeal.τ Cert.NormSampleRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Bounds (m : (ℓ : Loc Cert.Bounds.nD Cert.Bounds.τ Cert.Bounds.sig) → Buf (Elt Bits) ℓ) : Prop :=
  True

def Pre_BoundsIdeal (m : (ℓ : Loc Cert.BoundsIdeal.nD Cert.BoundsIdeal.τ Cert.BoundsIdeal.sig) → Buf (Elt Ideal) ℓ) : Prop :=
  True

def Pre_BoundsRefIdeal (m : (ℓ : Loc Cert.BoundsRefIdeal.nD Cert.BoundsRefIdeal.τ Cert.BoundsRefIdeal.sig) → Buf (Elt Ideal) ℓ) : Prop :=
  True

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailRefIdeal (m : (ℓ : Loc Cert.TailRefIdeal.nD Cert.TailRefIdeal.τ Cert.TailRefIdeal.sig) → Buf (Elt Ideal) ℓ) : Prop :=
  True

def Pre_Cast (m : (ℓ : Loc Cert.Cast.nD Cert.Cast.τ Cert.Cast.sig) → Buf (Elt Bits) ℓ) : Prop :=
  True

def Pre_CastIdeal (m : (ℓ : Loc Cert.CastIdeal.nD Cert.CastIdeal.τ Cert.CastIdeal.sig) → Buf (Elt Ideal) ℓ) : Prop :=
  True

def Pre_CastRefIdeal (m : (ℓ : Loc Cert.CastRefIdeal.nD Cert.CastRefIdeal.τ Cert.CastRefIdeal.sig) → Buf (Elt Ideal) ℓ) : Prop :=
  True

def Pre_Mid (m : (ℓ : Loc Cert.Mid.nD Cert.Mid.τ Cert.Mid.sig) → Buf (Elt Bits) ℓ) : Prop :=
  True

def Pre_MidIdeal (m : (ℓ : Loc Cert.MidIdeal.nD Cert.MidIdeal.τ Cert.MidIdeal.sig) → Buf (Elt Ideal) ℓ) : Prop :=
  True

def Pre_MidRefIdeal (m : (ℓ : Loc Cert.MidRefIdeal.nD Cert.MidRefIdeal.τ Cert.MidRefIdeal.sig) → Buf (Elt Ideal) ℓ) : Prop :=
  True

def Pre_Second (m : (ℓ : Loc Cert.Second.nD Cert.Second.τ Cert.Second.sig) → Buf (Elt Bits) ℓ) : Prop :=
  True

def Pre_SecondIdeal (m : (ℓ : Loc Cert.SecondIdeal.nD Cert.SecondIdeal.τ Cert.SecondIdeal.sig) → Buf (Elt Ideal) ℓ) : Prop :=
  True

def Pre_SecondRefIdeal (m : (ℓ : Loc Cert.SecondRefIdeal.nD Cert.SecondRefIdeal.τ Cert.SecondRefIdeal.sig) → Buf (Elt Ideal) ℓ) : Prop :=
  True

def Pre_Begin (m : (ℓ : Loc Cert.Begin.nD Cert.Begin.τ Cert.Begin.sig) → Buf (Elt Bits) ℓ) : Prop :=
  True

def Pre_BeginIdeal (m : (ℓ : Loc Cert.BeginIdeal.nD Cert.BeginIdeal.τ Cert.BeginIdeal.sig) → Buf (Elt Ideal) ℓ) : Prop :=
  True

def Pre_BeginRefIdeal (m : (ℓ : Loc Cert.BeginRefIdeal.nD Cert.BeginRefIdeal.τ Cert.BeginRefIdeal.sig) → Buf (Elt Ideal) ℓ) : Prop :=
  True

def Pre_First (m : (ℓ : Loc Cert.First.nD Cert.First.τ Cert.First.sig) → Buf (Elt Bits) ℓ) : Prop :=
  True

def Pre_FirstIdeal (m : (ℓ : Loc Cert.FirstIdeal.nD Cert.FirstIdeal.τ Cert.FirstIdeal.sig) → Buf (Elt Ideal) ℓ) : Prop :=
  True

def Pre_FirstRefIdeal (m : (ℓ : Loc Cert.FirstRefIdeal.nD Cert.FirstRefIdeal.τ Cert.FirstRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_UpIdeal_pre_sum_of_squares [hUpIdeal : Cert.UpIdeal.Facts] [hPre_sum_of_squares : Cert.Pre_sum_of_squares.Facts] : Prop :=
  ∀ (m : (ℓ : Loc Cert.UpIdeal.nD Cert.UpIdeal.τ Cert.UpIdeal.sig) → Buf (Elt Ideal) ℓ) (g : Dev Cert.UpIdeal.nD → PrngReg), Pre_UpIdeal_sum_of_squares m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2))
      ∧ r.2.sem = fun _ => 0)

def quiescent_UpRefIdeal_pre_sum_of_squares [hUpRefIdeal : Cert.UpRefIdeal.Facts] [hPre_sum_of_squares : Cert.Pre_sum_of_squares.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal_sum_of_squares m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0)

def quiescent_NormPrompt [hNormPrompt : Cert.NormPrompt.Facts] : Prop :=
  ∀ (m : (ℓ : Loc Cert.NormPrompt.nD Cert.NormPrompt.τ Cert.NormPrompt.sig) → Buf (Elt Bits) ℓ) (g : Dev Cert.NormPrompt.nD → PrngReg), Pre_NormPrompt m →
    θ_run (Cert.NormPrompt.defs (F := Bits)) (onTc (τ := Cert.NormPrompt.τ) (Cert.NormPrompt.main (F := Bits))) ⟨m, fun _ => 0, g⟩ (fun r => (∀ c : Dev Cert.NormPrompt.nD,
      r.2.mem ((c.tc : Thread Cert.NormPrompt.nD Cert.NormPrompt.τ).loc Cert.NormPrompt.main_arg0) = m ((c.tc : Thread Cert.NormPrompt.nD Cert.NormPrompt.τ).loc Cert.NormPrompt.main_arg0)
      ∧ r.2.mem ((c.tc : Thread Cert.NormPrompt.nD Cert.NormPrompt.τ).loc Cert.NormPrompt.main_arg1) = m ((c.tc : Thread Cert.NormPrompt.nD Cert.NormPrompt.τ).loc Cert.NormPrompt.main_arg1))
      ∧ r.2.sem = fun _ => 0)

def quiescent_NormPromptIdeal [hNormPromptIdeal : Cert.NormPromptIdeal.Facts] : Prop :=
  ∀ (m : (ℓ : Loc Cert.NormPromptIdeal.nD Cert.NormPromptIdeal.τ Cert.NormPromptIdeal.sig) → Buf (Elt Ideal) ℓ) (g : Dev Cert.NormPromptIdeal.nD → PrngReg), Pre_NormPromptIdeal m →
    θ_run (Cert.NormPromptIdeal.defs (F := Ideal)) (onTc (τ := Cert.NormPromptIdeal.τ) (Cert.NormPromptIdeal.main (F := Ideal))) ⟨m, fun _ => 0, g⟩ (fun r => (∀ c : Dev Cert.NormPromptIdeal.nD,
      r.2.mem ((c.tc : Thread Cert.NormPromptIdeal.nD Cert.NormPromptIdeal.τ).loc Cert.NormPromptIdeal.main_arg0) = m ((c.tc : Thread Cert.NormPromptIdeal.nD Cert.NormPromptIdeal.τ).loc Cert.NormPromptIdeal.main_arg0)
      ∧ r.2.mem ((c.tc : Thread Cert.NormPromptIdeal.nD Cert.NormPromptIdeal.τ).loc Cert.NormPromptIdeal.main_arg1) = m ((c.tc : Thread Cert.NormPromptIdeal.nD Cert.NormPromptIdeal.τ).loc Cert.NormPromptIdeal.main_arg1))
      ∧ r.2.sem = fun _ => 0)

def quiescent_NormPromptRefIdeal [hNormPromptRefIdeal : Cert.NormPromptRefIdeal.Facts] : Prop :=
  ∀ (m : (ℓ : Loc Cert.NormPromptRefIdeal.nD Cert.NormPromptRefIdeal.τ Cert.NormPromptRefIdeal.sig) → Buf (Elt Ideal) ℓ) (g : Dev Cert.NormPromptRefIdeal.nD → PrngReg), Pre_NormPromptRefIdeal m →
    θ_run (Cert.NormPromptRefIdeal.defs (F := Ideal)) (onTc (τ := Cert.NormPromptRefIdeal.τ) (Cert.NormPromptRefIdeal.main (F := Ideal))) ⟨m, fun _ => 0, g⟩ (fun r => (∀ c : Dev Cert.NormPromptRefIdeal.nD,
      r.2.mem ((c.tc : Thread Cert.NormPromptRefIdeal.nD Cert.NormPromptRefIdeal.τ).loc Cert.NormPromptRefIdeal.main_arg0) = m ((c.tc : Thread Cert.NormPromptRefIdeal.nD Cert.NormPromptRefIdeal.τ).loc Cert.NormPromptRefIdeal.main_arg0)
      ∧ r.2.mem ((c.tc : Thread Cert.NormPromptRefIdeal.nD Cert.NormPromptRefIdeal.τ).loc Cert.NormPromptRefIdeal.main_arg1) = m ((c.tc : Thread Cert.NormPromptRefIdeal.nD Cert.NormPromptRefIdeal.τ).loc Cert.NormPromptRefIdeal.main_arg1))
      ∧ r.2.sem = fun _ => 0)

def quiescent_NormSample [hNormSample : Cert.NormSample.Facts] : Prop :=
  ∀ (m : (ℓ : Loc Cert.NormSample.nD Cert.NormSample.τ Cert.NormSample.sig) → Buf (Elt Bits) ℓ) (g : Dev Cert.NormSample.nD → PrngReg), Pre_NormSample m →
    θ_run (Cert.NormSample.defs (F := Bits)) (onTc (τ := Cert.NormSample.τ) (Cert.NormSample.main (F := Bits))) ⟨m, fun _ => 0, g⟩ (fun r => (∀ c : Dev Cert.NormSample.nD,
      r.2.mem ((c.tc : Thread Cert.NormSample.nD Cert.NormSample.τ).loc Cert.NormSample.main_arg0) = m ((c.tc : Thread Cert.NormSample.nD Cert.NormSample.τ).loc Cert.NormSample.main_arg0)
      ∧ r.2.mem ((c.tc : Thread Cert.NormSample.nD Cert.NormSample.τ).loc Cert.NormSample.main_arg1) = m ((c.tc : Thread Cert.NormSample.nD Cert.NormSample.τ).loc Cert.NormSample.main_arg1))
      ∧ r.2.sem = fun _ => 0)

def quiescent_NormSampleIdeal [hNormSampleIdeal : Cert.NormSampleIdeal.Facts] : Prop :=
  ∀ (m : (ℓ : Loc Cert.NormSampleIdeal.nD Cert.NormSampleIdeal.τ Cert.NormSampleIdeal.sig) → Buf (Elt Ideal) ℓ) (g : Dev Cert.NormSampleIdeal.nD → PrngReg), Pre_NormSampleIdeal m →
    θ_run (Cert.NormSampleIdeal.defs (F := Ideal)) (onTc (τ := Cert.NormSampleIdeal.τ) (Cert.NormSampleIdeal.main (F := Ideal))) ⟨m, fun _ => 0, g⟩ (fun r => (∀ c : Dev Cert.NormSampleIdeal.nD,
      r.2.mem ((c.tc : Thread Cert.NormSampleIdeal.nD Cert.NormSampleIdeal.τ).loc Cert.NormSampleIdeal.main_arg0) = m ((c.tc : Thread Cert.NormSampleIdeal.nD Cert.NormSampleIdeal.τ).loc Cert.NormSampleIdeal.main_arg0)
      ∧ r.2.mem ((c.tc : Thread Cert.NormSampleIdeal.nD Cert.NormSampleIdeal.τ).loc Cert.NormSampleIdeal.main_arg1) = m ((c.tc : Thread Cert.NormSampleIdeal.nD Cert.NormSampleIdeal.τ).loc Cert.NormSampleIdeal.main_arg1))
      ∧ r.2.sem = fun _ => 0)

def quiescent_NormSampleRefIdeal [hNormSampleRefIdeal : Cert.NormSampleRefIdeal.Facts] : Prop :=
  ∀ (m : (ℓ : Loc Cert.NormSampleRefIdeal.nD Cert.NormSampleRefIdeal.τ Cert.NormSampleRefIdeal.sig) → Buf (Elt Ideal) ℓ) (g : Dev Cert.NormSampleRefIdeal.nD → PrngReg), Pre_NormSampleRefIdeal m →
    θ_run (Cert.NormSampleRefIdeal.defs (F := Ideal)) (onTc (τ := Cert.NormSampleRefIdeal.τ) (Cert.NormSampleRefIdeal.main (F := Ideal))) ⟨m, fun _ => 0, g⟩ (fun r => (∀ c : Dev Cert.NormSampleRefIdeal.nD,
      r.2.mem ((c.tc : Thread Cert.NormSampleRefIdeal.nD Cert.NormSampleRefIdeal.τ).loc Cert.NormSampleRefIdeal.main_arg0) = m ((c.tc : Thread Cert.NormSampleRefIdeal.nD Cert.NormSampleRefIdeal.τ).loc Cert.NormSampleRefIdeal.main_arg0)
      ∧ r.2.mem ((c.tc : Thread Cert.NormSampleRefIdeal.nD Cert.NormSampleRefIdeal.τ).loc Cert.NormSampleRefIdeal.main_arg1) = m ((c.tc : Thread Cert.NormSampleRefIdeal.nD Cert.NormSampleRefIdeal.τ).loc Cert.NormSampleRefIdeal.main_arg1))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_Bounds [hBounds : Cert.Bounds.Facts] : Prop :=
  ∀ (m : (ℓ : Loc Cert.Bounds.nD Cert.Bounds.τ Cert.Bounds.sig) → Buf (Elt Bits) ℓ) (g : Dev Cert.Bounds.nD → PrngReg), Pre_Bounds m →
    θ_run (Cert.Bounds.defs (F := Bits)) (onTc (τ := Cert.Bounds.τ) (Cert.Bounds.main (F := Bits))) ⟨m, fun _ => 0, g⟩ (fun r => (∀ c : Dev Cert.Bounds.nD,
      r.2.mem ((c.tc : Thread Cert.Bounds.nD Cert.Bounds.τ).loc Cert.Bounds.main_arg0) = m ((c.tc : Thread Cert.Bounds.nD Cert.Bounds.τ).loc Cert.Bounds.main_arg0))
      ∧ r.2.sem = fun _ => 0)

def quiescent_BoundsIdeal [hBoundsIdeal : Cert.BoundsIdeal.Facts] : Prop :=
  ∀ (m : (ℓ : Loc Cert.BoundsIdeal.nD Cert.BoundsIdeal.τ Cert.BoundsIdeal.sig) → Buf (Elt Ideal) ℓ) (g : Dev Cert.BoundsIdeal.nD → PrngReg), Pre_BoundsIdeal m →
    θ_run (Cert.BoundsIdeal.defs (F := Ideal)) (onTc (τ := Cert.BoundsIdeal.τ) (Cert.BoundsIdeal.main (F := Ideal))) ⟨m, fun _ => 0, g⟩ (fun r => (∀ c : Dev Cert.BoundsIdeal.nD,
      r.2.mem ((c.tc : Thread Cert.BoundsIdeal.nD Cert.BoundsIdeal.τ).loc Cert.BoundsIdeal.main_arg0) = m ((c.tc : Thread Cert.BoundsIdeal.nD Cert.BoundsIdeal.τ).loc Cert.BoundsIdeal.main_arg0))
      ∧ r.2.sem = fun _ => 0)

def quiescent_BoundsRefIdeal [hBoundsRefIdeal : Cert.BoundsRefIdeal.Facts] : Prop :=
  ∀ (m : (ℓ : Loc Cert.BoundsRefIdeal.nD Cert.BoundsRefIdeal.τ Cert.BoundsRefIdeal.sig) → Buf (Elt Ideal) ℓ) (g : Dev Cert.BoundsRefIdeal.nD → PrngReg), Pre_BoundsRefIdeal m →
    θ_run (Cert.BoundsRefIdeal.defs (F := Ideal)) (onTc (τ := Cert.BoundsRefIdeal.τ) (Cert.BoundsRefIdeal.main (F := Ideal))) ⟨m, fun _ => 0, g⟩ (fun r => (∀ c : Dev Cert.BoundsRefIdeal.nD,
      r.2.mem ((c.tc : Thread Cert.BoundsRefIdeal.nD Cert.BoundsRefIdeal.τ).loc Cert.BoundsRefIdeal.main_arg0) = m ((c.tc : Thread Cert.BoundsRefIdeal.nD Cert.BoundsRefIdeal.τ).loc Cert.BoundsRefIdeal.main_arg0))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5)
      ∧ r.2.mem ((c.tc : Thread Cert.Tail.nD Cert.Tail.τ).loc Cert.Tail.main_arg6) = m ((c.tc : Thread Cert.Tail.nD Cert.Tail.τ).loc Cert.Tail.main_arg6))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6))
      ∧ r.2.sem = fun _ => 0)

def quiescent_TailRefIdeal [hTailRefIdeal : Cert.TailRefIdeal.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1)
      ∧ r.2.mem ((c.tc : Thread Cert.TailRefIdeal.nD Cert.TailRefIdeal.τ).loc Cert.TailRefIdeal.main_arg2) = m ((c.tc : Thread Cert.TailRefIdeal.nD Cert.TailRefIdeal.τ).loc Cert.TailRefIdeal.main_arg2)
      ∧ r.2.mem ((c.tc : Thread Cert.TailRefIdeal.nD Cert.TailRefIdeal.τ).loc Cert.TailRefIdeal.main_arg3) = m ((c.tc : Thread Cert.TailRefIdeal.nD Cert.TailRefIdeal.τ).loc Cert.TailRefIdeal.main_arg3)
      ∧ r.2.mem ((c.tc : Thread Cert.TailRefIdeal.nD Cert.TailRefIdeal.τ).loc Cert.TailRefIdeal.main_arg4) = m ((c.tc : Thread Cert.TailRefIdeal.nD Cert.TailRefIdeal.τ).loc Cert.TailRefIdeal.main_arg4)
      ∧ r.2.mem ((c.tc : Thread Cert.TailRefIdeal.nD Cert.TailRefIdeal.τ).loc Cert.TailRefIdeal.main_arg5) = m ((c.tc : Thread Cert.TailRefIdeal.nD Cert.TailRefIdeal.τ).loc Cert.TailRefIdeal.main_arg5)
      ∧ r.2.mem ((c.tc : Thread Cert.TailRefIdeal.nD Cert.TailRefIdeal.τ).loc Cert.TailRefIdeal.main_arg6) = m ((c.tc : Thread Cert.TailRefIdeal.nD Cert.TailRefIdeal.τ).loc Cert.TailRefIdeal.main_arg6))
      ∧ r.2.sem = fun _ => 0)

def quiescent_Cast [hCast : Cert.Cast.Facts] : Prop :=
  ∀ (m : (ℓ : Loc Cert.Cast.nD Cert.Cast.τ Cert.Cast.sig) → Buf (Elt Bits) ℓ) (g : Dev Cert.Cast.nD → PrngReg), Pre_Cast m →
    θ_run (Cert.Cast.defs (F := Bits)) (onTc (τ := Cert.Cast.τ) (Cert.Cast.main (F := Bits))) ⟨m, fun _ => 0, g⟩ (fun r => (∀ c : Dev Cert.Cast.nD,
      r.2.mem ((c.tc : Thread Cert.Cast.nD Cert.Cast.τ).loc Cert.Cast.main_arg0) = m ((c.tc : Thread Cert.Cast.nD Cert.Cast.τ).loc Cert.Cast.main_arg0))
      ∧ r.2.sem = fun _ => 0)

def quiescent_CastIdeal [hCastIdeal : Cert.CastIdeal.Facts] : Prop :=
  ∀ (m : (ℓ : Loc Cert.CastIdeal.nD Cert.CastIdeal.τ Cert.CastIdeal.sig) → Buf (Elt Ideal) ℓ) (g : Dev Cert.CastIdeal.nD → PrngReg), Pre_CastIdeal m →
    θ_run (Cert.CastIdeal.defs (F := Ideal)) (onTc (τ := Cert.CastIdeal.τ) (Cert.CastIdeal.main (F := Ideal))) ⟨m, fun _ => 0, g⟩ (fun r => (∀ c : Dev Cert.CastIdeal.nD,
      r.2.mem ((c.tc : Thread Cert.CastIdeal.nD Cert.CastIdeal.τ).loc Cert.CastIdeal.main_arg0) = m ((c.tc : Thread Cert.CastIdeal.nD Cert.CastIdeal.τ).loc Cert.CastIdeal.main_arg0))
      ∧ r.2.sem = fun _ => 0)

def quiescent_CastRefIdeal [hCastRefIdeal : Cert.CastRefIdeal.Facts] : Prop :=
  ∀ (m : (ℓ : Loc Cert.CastRefIdeal.nD Cert.CastRefIdeal.τ Cert.CastRefIdeal.sig) → Buf (Elt Ideal) ℓ) (g : Dev Cert.CastRefIdeal.nD → PrngReg), Pre_CastRefIdeal m →
    θ_run (Cert.CastRefIdeal.defs (F := Ideal)) (onTc (τ := Cert.CastRefIdeal.τ) (Cert.CastRefIdeal.main (F := Ideal))) ⟨m, fun _ => 0, g⟩ (fun r => (∀ c : Dev Cert.CastRefIdeal.nD,
      r.2.mem ((c.tc : Thread Cert.CastRefIdeal.nD Cert.CastRefIdeal.τ).loc Cert.CastRefIdeal.main_arg0) = m ((c.tc : Thread Cert.CastRefIdeal.nD Cert.CastRefIdeal.τ).loc Cert.CastRefIdeal.main_arg0))
      ∧ r.2.sem = fun _ => 0)

def quiescent_Mid [hMid : Cert.Mid.Facts] : Prop :=
  ∀ (m : (ℓ : Loc Cert.Mid.nD Cert.Mid.τ Cert.Mid.sig) → Buf (Elt Bits) ℓ) (g : Dev Cert.Mid.nD → PrngReg), Pre_Mid m →
    θ_run (Cert.Mid.defs (F := Bits)) (onTc (τ := Cert.Mid.τ) (Cert.Mid.main (F := Bits))) ⟨m, fun _ => 0, g⟩ (fun r => (∀ c : Dev Cert.Mid.nD,
      r.2.mem ((c.tc : Thread Cert.Mid.nD Cert.Mid.τ).loc Cert.Mid.main_arg0) = m ((c.tc : Thread Cert.Mid.nD Cert.Mid.τ).loc Cert.Mid.main_arg0)
      ∧ r.2.mem ((c.tc : Thread Cert.Mid.nD Cert.Mid.τ).loc Cert.Mid.main_arg1) = m ((c.tc : Thread Cert.Mid.nD Cert.Mid.τ).loc Cert.Mid.main_arg1)
      ∧ r.2.mem ((c.tc : Thread Cert.Mid.nD Cert.Mid.τ).loc Cert.Mid.main_arg2) = m ((c.tc : Thread Cert.Mid.nD Cert.Mid.τ).loc Cert.Mid.main_arg2)
      ∧ r.2.mem ((c.tc : Thread Cert.Mid.nD Cert.Mid.τ).loc Cert.Mid.main_arg3) = m ((c.tc : Thread Cert.Mid.nD Cert.Mid.τ).loc Cert.Mid.main_arg3)
      ∧ r.2.mem ((c.tc : Thread Cert.Mid.nD Cert.Mid.τ).loc Cert.Mid.main_arg4) = m ((c.tc : Thread Cert.Mid.nD Cert.Mid.τ).loc Cert.Mid.main_arg4)
      ∧ r.2.mem ((c.tc : Thread Cert.Mid.nD Cert.Mid.τ).loc Cert.Mid.main_arg5) = m ((c.tc : Thread Cert.Mid.nD Cert.Mid.τ).loc Cert.Mid.main_arg5)
      ∧ r.2.mem ((c.tc : Thread Cert.Mid.nD Cert.Mid.τ).loc Cert.Mid.main_arg6) = m ((c.tc : Thread Cert.Mid.nD Cert.Mid.τ).loc Cert.Mid.main_arg6)
      ∧ r.2.mem ((c.tc : Thread Cert.Mid.nD Cert.Mid.τ).loc Cert.Mid.main_arg7) = m ((c.tc : Thread Cert.Mid.nD Cert.Mid.τ).loc Cert.Mid.main_arg7))
      ∧ r.2.sem = fun _ => 0)

def quiescent_MidIdeal [hMidIdeal : Cert.MidIdeal.Facts] : Prop :=
  ∀ (m : (ℓ : Loc Cert.MidIdeal.nD Cert.MidIdeal.τ Cert.MidIdeal.sig) → Buf (Elt Ideal) ℓ) (g : Dev Cert.MidIdeal.nD → PrngReg), Pre_MidIdeal m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
      ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
      ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
      ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
      ∧ r.2.mem ((c.tc : Thread Cert.MidIdeal.nD Cert.MidIdeal.τ).loc Cert.MidIdeal.main_arg7) = m ((c.tc : Thread Cert.MidIdeal.nD Cert.MidIdeal.τ).loc Cert.MidIdeal.main_arg7))
      ∧ r.2.sem = fun _ => 0)

def quiescent_MidRefIdeal [hMidRefIdeal : Cert.MidRefIdeal.Facts] : Prop :=
  ∀ (m : (ℓ : Loc Cert.MidRefIdeal.nD Cert.MidRefIdeal.τ Cert.MidRefIdeal.sig) → Buf (Elt Ideal) ℓ) (g : Dev Cert.MidRefIdeal.nD → PrngReg), Pre_MidRefIdeal m →
    θ_run (Cert.MidRefIdeal.defs (F := Ideal)) (onTc (τ := Cert.MidRefIdeal.τ) (Cert.MidRefIdeal.main (F := Ideal))) ⟨m, fun _ => 0, g⟩ (fun r => (∀ c : Dev Cert.MidRefIdeal.nD,
      r.2.mem ((c.tc : Thread Cert.MidRefIdeal.nD Cert.MidRefIdeal.τ).loc Cert.MidRefIdeal.main_arg0) = m ((c.tc : Thread Cert.MidRefIdeal.nD Cert.MidRefIdeal.τ).loc Cert.MidRefIdeal.main_arg0)
      ∧ r.2.mem ((c.tc : Thread Cert.MidRefIdeal.nD Cert.MidRefIdeal.τ).loc Cert.MidRefIdeal.main_arg1) = m ((c.tc : Thread Cert.MidRefIdeal.nD Cert.MidRefIdeal.τ).loc Cert.MidRefIdeal.main_arg1)
      ∧ r.2.mem ((c.tc : Thread Cert.MidRefIdeal.nD Cert.MidRefIdeal.τ).loc Cert.MidRefIdeal.main_arg2) = m ((c.tc : Thread Cert.MidRefIdeal.nD Cert.MidRefIdeal.τ).loc Cert.MidRefIdeal.main_arg2)
      ∧ r.2.mem ((c.tc : Thread Cert.MidRefIdeal.nD Cert.MidRefIdeal.τ).loc Cert.MidRefIdeal.main_arg3) = m ((c.tc : Thread Cert.MidRefIdeal.nD Cert.MidRefIdeal.τ).loc Cert.MidRefIdeal.main_arg3)
      ∧ r.2.mem ((c.tc : Thread Cert.MidRefIdeal.nD Cert.MidRefIdeal.τ).loc Cert.MidRefIdeal.main_arg4) = m ((c.tc : Thread Cert.MidRefIdeal.nD Cert.MidRefIdeal.τ).loc Cert.MidRefIdeal.main_arg4)
      ∧ r.2.mem ((c.tc : Thread Cert.MidRefIdeal.nD Cert.MidRefIdeal.τ).loc Cert.MidRefIdeal.main_arg5) = m ((c.tc : Thread Cert.MidRefIdeal.nD Cert.MidRefIdeal.τ).loc Cert.MidRefIdeal.main_arg5)
      ∧ r.2.mem ((c.tc : Thread Cert.MidRefIdeal.nD Cert.MidRefIdeal.τ).loc Cert.MidRefIdeal.main_arg6) = m ((c.tc : Thread Cert.MidRefIdeal.nD Cert.MidRefIdeal.τ).loc Cert.MidRefIdeal.main_arg6)
      ∧ r.2.mem ((c.tc : Thread Cert.MidRefIdeal.nD Cert.MidRefIdeal.τ).loc Cert.MidRefIdeal.main_arg7) = m ((c.tc : Thread Cert.MidRefIdeal.nD Cert.MidRefIdeal.τ).loc Cert.MidRefIdeal.main_arg7))
      ∧ r.2.sem = fun _ => 0)

def quiescent_Second [hSecond : Cert.Second.Facts] : Prop :=
  ∀ (m : (ℓ : Loc Cert.Second.nD Cert.Second.τ Cert.Second.sig) → Buf (Elt Bits) ℓ) (g : Dev Cert.Second.nD → PrngReg), Pre_Second m →
    θ_run (Cert.Second.defs (F := Bits)) (onTc (τ := Cert.Second.τ) (Cert.Second.main (F := Bits))) ⟨m, fun _ => 0, g⟩ (fun r => (∀ c : Dev Cert.Second.nD,
      r.2.mem ((c.tc : Thread Cert.Second.nD Cert.Second.τ).loc Cert.Second.main_arg0) = m ((c.tc : Thread Cert.Second.nD Cert.Second.τ).loc Cert.Second.main_arg0)
      ∧ r.2.mem ((c.tc : Thread Cert.Second.nD Cert.Second.τ).loc Cert.Second.main_arg1) = m ((c.tc : Thread Cert.Second.nD Cert.Second.τ).loc Cert.Second.main_arg1)
      ∧ r.2.mem ((c.tc : Thread Cert.Second.nD Cert.Second.τ).loc Cert.Second.main_arg2) = m ((c.tc : Thread Cert.Second.nD Cert.Second.τ).loc Cert.Second.main_arg2)
      ∧ r.2.mem ((c.tc : Thread Cert.Second.nD Cert.Second.τ).loc Cert.Second.main_arg3) = m ((c.tc : Thread Cert.Second.nD Cert.Second.τ).loc Cert.Second.main_arg3)
      ∧ r.2.mem ((c.tc : Thread Cert.Second.nD Cert.Second.τ).loc Cert.Second.main_arg4) = m ((c.tc : Thread Cert.Second.nD Cert.Second.τ).loc Cert.Second.main_arg4)
      ∧ r.2.mem ((c.tc : Thread Cert.Second.nD Cert.Second.τ).loc Cert.Second.main_arg5) = m ((c.tc : Thread Cert.Second.nD Cert.Second.τ).loc Cert.Second.main_arg5)
      ∧ r.2.mem ((c.tc : Thread Cert.Second.nD Cert.Second.τ).loc Cert.Second.main_arg6) = m ((c.tc : Thread Cert.Second.nD Cert.Second.τ).loc Cert.Second.main_arg6)
      ∧ r.2.mem ((c.tc : Thread Cert.Second.nD Cert.Second.τ).loc Cert.Second.main_arg7) = m ((c.tc : Thread Cert.Second.nD Cert.Second.τ).loc Cert.Second.main_arg7))
      ∧ r.2.sem = fun _ => 0)

def quiescent_SecondIdeal [hSecondIdeal : Cert.SecondIdeal.Facts] : Prop :=
  ∀ (m : (ℓ : Loc Cert.SecondIdeal.nD Cert.SecondIdeal.τ Cert.SecondIdeal.sig) → Buf (Elt Ideal) ℓ) (g : Dev Cert.SecondIdeal.nD → PrngReg), Pre_SecondIdeal m →
    θ_run (Cert.SecondIdeal.defs (F := Ideal)) (onTc (τ := Cert.SecondIdeal.τ) (Cert.SecondIdeal.main (F := Ideal))) ⟨m, fun _ => 0, g⟩ (fun r => (∀ c : Dev Cert.SecondIdeal.nD,
      r.2.mem ((c.tc : Thread Cert.SecondIdeal.nD Cert.SecondIdeal.τ).loc Cert.SecondIdeal.main_arg0) = m ((c.tc : Thread Cert.SecondIdeal.nD Cert.SecondIdeal.τ).loc Cert.SecondIdeal.main_arg0)
      ∧ r.2.mem ((c.tc : Thread Cert.SecondIdeal.nD Cert.SecondIdeal.τ).loc Cert.SecondIdeal.main_arg1) = m ((c.tc : Thread Cert.SecondIdeal.nD Cert.SecondIdeal.τ).loc Cert.SecondIdeal.main_arg1)
      ∧ r.2.mem ((c.tc : Thread Cert.SecondIdeal.nD Cert.SecondIdeal.τ).loc Cert.SecondIdeal.main_arg2) = m ((c.tc : Thread Cert.SecondIdeal.nD Cert.SecondIdeal.τ).loc Cert.SecondIdeal.main_arg2)
      ∧ r.2.mem ((c.tc : Thread Cert.SecondIdeal.nD Cert.SecondIdeal.τ).loc Cert.SecondIdeal.main_arg3) = m ((c.tc : Thread Cert.SecondIdeal.nD Cert.SecondIdeal.τ).loc Cert.SecondIdeal.main_arg3)
      ∧ r.2.mem ((c.tc : Thread Cert.SecondIdeal.nD Cert.SecondIdeal.τ).loc Cert.SecondIdeal.main_arg4) = m ((c.tc : Thread Cert.SecondIdeal.nD Cert.SecondIdeal.τ).loc Cert.SecondIdeal.main_arg4)
      ∧ r.2.mem ((c.tc : Thread Cert.SecondIdeal.nD Cert.SecondIdeal.τ).loc Cert.SecondIdeal.main_arg5) = m ((c.tc : Thread Cert.SecondIdeal.nD Cert.SecondIdeal.τ).loc Cert.SecondIdeal.main_arg5)
      ∧ r.2.mem ((c.tc : Thread Cert.SecondIdeal.nD Cert.SecondIdeal.τ).loc Cert.SecondIdeal.main_arg6) = m ((c.tc : Thread Cert.SecondIdeal.nD Cert.SecondIdeal.τ).loc Cert.SecondIdeal.main_arg6)
      ∧ r.2.mem ((c.tc : Thread Cert.SecondIdeal.nD Cert.SecondIdeal.τ).loc Cert.SecondIdeal.main_arg7) = m ((c.tc : Thread Cert.SecondIdeal.nD Cert.SecondIdeal.τ).loc Cert.SecondIdeal.main_arg7))
      ∧ r.2.sem = fun _ => 0)

def quiescent_SecondRefIdeal [hSecondRefIdeal : Cert.SecondRefIdeal.Facts] : Prop :=
  ∀ (m : (ℓ : Loc Cert.SecondRefIdeal.nD Cert.SecondRefIdeal.τ Cert.SecondRefIdeal.sig) → Buf (Elt Ideal) ℓ) (g : Dev Cert.SecondRefIdeal.nD → PrngReg), Pre_SecondRefIdeal m →
    θ_run (Cert.SecondRefIdeal.defs (F := Ideal)) (onTc (τ := Cert.SecondRefIdeal.τ) (Cert.SecondRefIdeal.main (F := Ideal))) ⟨m, fun _ => 0, g⟩ (fun r => (∀ c : Dev Cert.SecondRefIdeal.nD,
      r.2.mem ((c.tc : Thread Cert.SecondRefIdeal.nD Cert.SecondRefIdeal.τ).loc Cert.SecondRefIdeal.main_arg0) = m ((c.tc : Thread Cert.SecondRefIdeal.nD Cert.SecondRefIdeal.τ).loc Cert.SecondRefIdeal.main_arg0)
      ∧ r.2.mem ((c.tc : Thread Cert.SecondRefIdeal.nD Cert.SecondRefIdeal.τ).loc Cert.SecondRefIdeal.main_arg1) = m ((c.tc : Thread Cert.SecondRefIdeal.nD Cert.SecondRefIdeal.τ).loc Cert.SecondRefIdeal.main_arg1)
      ∧ r.2.mem ((c.tc : Thread Cert.SecondRefIdeal.nD Cert.SecondRefIdeal.τ).loc Cert.SecondRefIdeal.main_arg2) = m ((c.tc : Thread Cert.SecondRefIdeal.nD Cert.SecondRefIdeal.τ).loc Cert.SecondRefIdeal.main_arg2)
      ∧ r.2.mem ((c.tc : Thread Cert.SecondRefIdeal.nD Cert.SecondRefIdeal.τ).loc Cert.SecondRefIdeal.main_arg3) = m ((c.tc : Thread Cert.SecondRefIdeal.nD Cert.SecondRefIdeal.τ).loc Cert.SecondRefIdeal.main_arg3)
      ∧ r.2.mem ((c.tc : Thread Cert.SecondRefIdeal.nD Cert.SecondRefIdeal.τ).loc Cert.SecondRefIdeal.main_arg4) = m ((c.tc : Thread Cert.SecondRefIdeal.nD Cert.SecondRefIdeal.τ).loc Cert.SecondRefIdeal.main_arg4)
      ∧ r.2.mem ((c.tc : Thread Cert.SecondRefIdeal.nD Cert.SecondRefIdeal.τ).loc Cert.SecondRefIdeal.main_arg5) = m ((c.tc : Thread Cert.SecondRefIdeal.nD Cert.SecondRefIdeal.τ).loc Cert.SecondRefIdeal.main_arg5)
      ∧ r.2.mem ((c.tc : Thread Cert.SecondRefIdeal.nD Cert.SecondRefIdeal.τ).loc Cert.SecondRefIdeal.main_arg6) = m ((c.tc : Thread Cert.SecondRefIdeal.nD Cert.SecondRefIdeal.τ).loc Cert.SecondRefIdeal.main_arg6)
      ∧ r.2.mem ((c.tc : Thread Cert.SecondRefIdeal.nD Cert.SecondRefIdeal.τ).loc Cert.SecondRefIdeal.main_arg7) = m ((c.tc : Thread Cert.SecondRefIdeal.nD Cert.SecondRefIdeal.τ).loc Cert.SecondRefIdeal.main_arg7))
      ∧ r.2.sem = fun _ => 0)

def quiescent_Begin [hBegin : Cert.Begin.Facts] : Prop :=
  ∀ (m : (ℓ : Loc Cert.Begin.nD Cert.Begin.τ Cert.Begin.sig) → Buf (Elt Bits) ℓ) (g : Dev Cert.Begin.nD → PrngReg), Pre_Begin m →
    θ_run (Cert.Begin.defs (F := Bits)) (onTc (τ := Cert.Begin.τ) (Cert.Begin.main (F := Bits))) ⟨m, fun _ => 0, g⟩ (fun r => (∀ c : Dev Cert.Begin.nD,
      r.2.mem ((c.tc : Thread Cert.Begin.nD Cert.Begin.τ).loc Cert.Begin.main_arg0) = m ((c.tc : Thread Cert.Begin.nD Cert.Begin.τ).loc Cert.Begin.main_arg0)
      ∧ r.2.mem ((c.tc : Thread Cert.Begin.nD Cert.Begin.τ).loc Cert.Begin.main_arg1) = m ((c.tc : Thread Cert.Begin.nD Cert.Begin.τ).loc Cert.Begin.main_arg1)
      ∧ r.2.mem ((c.tc : Thread Cert.Begin.nD Cert.Begin.τ).loc Cert.Begin.main_arg2) = m ((c.tc : Thread Cert.Begin.nD Cert.Begin.τ).loc Cert.Begin.main_arg2)
      ∧ r.2.mem ((c.tc : Thread Cert.Begin.nD Cert.Begin.τ).loc Cert.Begin.main_arg3) = m ((c.tc : Thread Cert.Begin.nD Cert.Begin.τ).loc Cert.Begin.main_arg3))
      ∧ r.2.sem = fun _ => 0)

def quiescent_BeginIdeal [hBeginIdeal : Cert.BeginIdeal.Facts] : Prop :=
  ∀ (m : (ℓ : Loc Cert.BeginIdeal.nD Cert.BeginIdeal.τ Cert.BeginIdeal.sig) → Buf (Elt Ideal) ℓ) (g : Dev Cert.BeginIdeal.nD → PrngReg), Pre_BeginIdeal m →
    θ_run (Cert.BeginIdeal.defs (F := Ideal)) (onTc (τ := Cert.BeginIdeal.τ) (Cert.BeginIdeal.main (F := Ideal))) ⟨m, fun _ => 0, g⟩ (fun r => (∀ c : Dev Cert.BeginIdeal.nD,
      r.2.mem ((c.tc : Thread Cert.BeginIdeal.nD Cert.BeginIdeal.τ).loc Cert.BeginIdeal.main_arg0) = m ((c.tc : Thread Cert.BeginIdeal.nD Cert.BeginIdeal.τ).loc Cert.BeginIdeal.main_arg0)
      ∧ r.2.mem ((c.tc : Thread Cert.BeginIdeal.nD Cert.BeginIdeal.τ).loc Cert.BeginIdeal.main_arg1) = m ((c.tc : Thread Cert.BeginIdeal.nD Cert.BeginIdeal.τ).loc Cert.BeginIdeal.main_arg1)
      ∧ r.2.mem ((c.tc : Thread Cert.BeginIdeal.nD Cert.BeginIdeal.τ).loc Cert.BeginIdeal.main_arg2) = m ((c.tc : Thread Cert.BeginIdeal.nD Cert.BeginIdeal.τ).loc Cert.BeginIdeal.main_arg2)
      ∧ r.2.mem ((c.tc : Thread Cert.BeginIdeal.nD Cert.BeginIdeal.τ).loc Cert.BeginIdeal.main_arg3) = m ((c.tc : Thread Cert.BeginIdeal.nD Cert.BeginIdeal.τ).loc Cert.BeginIdeal.main_arg3))
      ∧ r.2.sem = fun _ => 0)

def quiescent_BeginRefIdeal [hBeginRefIdeal : Cert.BeginRefIdeal.Facts] : Prop :=
  ∀ (m : (ℓ : Loc Cert.BeginRefIdeal.nD Cert.BeginRefIdeal.τ Cert.BeginRefIdeal.sig) → Buf (Elt Ideal) ℓ) (g : Dev Cert.BeginRefIdeal.nD → PrngReg), Pre_BeginRefIdeal m →
    θ_run (Cert.BeginRefIdeal.defs (F := Ideal)) (onTc (τ := Cert.BeginRefIdeal.τ) (Cert.BeginRefIdeal.main (F := Ideal))) ⟨m, fun _ => 0, g⟩ (fun r => (∀ c : Dev Cert.BeginRefIdeal.nD,
      r.2.mem ((c.tc : Thread Cert.BeginRefIdeal.nD Cert.BeginRefIdeal.τ).loc Cert.BeginRefIdeal.main_arg0) = m ((c.tc : Thread Cert.BeginRefIdeal.nD Cert.BeginRefIdeal.τ).loc Cert.BeginRefIdeal.main_arg0)
      ∧ r.2.mem ((c.tc : Thread Cert.BeginRefIdeal.nD Cert.BeginRefIdeal.τ).loc Cert.BeginRefIdeal.main_arg1) = m ((c.tc : Thread Cert.BeginRefIdeal.nD Cert.BeginRefIdeal.τ).loc Cert.BeginRefIdeal.main_arg1)
      ∧ r.2.mem ((c.tc : Thread Cert.BeginRefIdeal.nD Cert.BeginRefIdeal.τ).loc Cert.BeginRefIdeal.main_arg2) = m ((c.tc : Thread Cert.BeginRefIdeal.nD Cert.BeginRefIdeal.τ).loc Cert.BeginRefIdeal.main_arg2)
      ∧ r.2.mem ((c.tc : Thread Cert.BeginRefIdeal.nD Cert.BeginRefIdeal.τ).loc Cert.BeginRefIdeal.main_arg3) = m ((c.tc : Thread Cert.BeginRefIdeal.nD Cert.BeginRefIdeal.τ).loc Cert.BeginRefIdeal.main_arg3))
      ∧ r.2.sem = fun _ => 0)

def quiescent_First [hFirst : Cert.First.Facts] : Prop :=
  ∀ (m : (ℓ : Loc Cert.First.nD Cert.First.τ Cert.First.sig) → Buf (Elt Bits) ℓ) (g : Dev Cert.First.nD → PrngReg), Pre_First m →
    θ_run (Cert.First.defs (F := Bits)) (onTc (τ := Cert.First.τ) (Cert.First.main (F := Bits))) ⟨m, fun _ => 0, g⟩ (fun r => (∀ c : Dev Cert.First.nD,
      r.2.mem ((c.tc : Thread Cert.First.nD Cert.First.τ).loc Cert.First.main_arg0) = m ((c.tc : Thread Cert.First.nD Cert.First.τ).loc Cert.First.main_arg0)
      ∧ r.2.mem ((c.tc : Thread Cert.First.nD Cert.First.τ).loc Cert.First.main_arg1) = m ((c.tc : Thread Cert.First.nD Cert.First.τ).loc Cert.First.main_arg1)
      ∧ r.2.mem ((c.tc : Thread Cert.First.nD Cert.First.τ).loc Cert.First.main_arg2) = m ((c.tc : Thread Cert.First.nD Cert.First.τ).loc Cert.First.main_arg2)
      ∧ r.2.mem ((c.tc : Thread Cert.First.nD Cert.First.τ).loc Cert.First.main_arg3) = m ((c.tc : Thread Cert.First.nD Cert.First.τ).loc Cert.First.main_arg3)
      ∧ r.2.mem ((c.tc : Thread Cert.First.nD Cert.First.τ).loc Cert.First.main_arg4) = m ((c.tc : Thread Cert.First.nD Cert.First.τ).loc Cert.First.main_arg4)
      ∧ r.2.mem ((c.tc : Thread Cert.First.nD Cert.First.τ).loc Cert.First.main_arg5) = m ((c.tc : Thread Cert.First.nD Cert.First.τ).loc Cert.First.main_arg5)
      ∧ r.2.mem ((c.tc : Thread Cert.First.nD Cert.First.τ).loc Cert.First.main_arg6) = m ((c.tc : Thread Cert.First.nD Cert.First.τ).loc Cert.First.main_arg6)
      ∧ r.2.mem ((c.tc : Thread Cert.First.nD Cert.First.τ).loc Cert.First.main_arg7) = m ((c.tc : Thread Cert.First.nD Cert.First.τ).loc Cert.First.main_arg7)
      ∧ r.2.mem ((c.tc : Thread Cert.First.nD Cert.First.τ).loc Cert.First.main_arg8) = m ((c.tc : Thread Cert.First.nD Cert.First.τ).loc Cert.First.main_arg8))
      ∧ r.2.sem = fun _ => 0)

def quiescent_FirstIdeal [hFirstIdeal : Cert.FirstIdeal.Facts] : Prop :=
  ∀ (m : (ℓ : Loc Cert.FirstIdeal.nD Cert.FirstIdeal.τ Cert.FirstIdeal.sig) → Buf (Elt Ideal) ℓ) (g : Dev Cert.FirstIdeal.nD → PrngReg), Pre_FirstIdeal m →
    θ_run (Cert.FirstIdeal.defs (F := Ideal)) (onTc (τ := Cert.FirstIdeal.τ) (Cert.FirstIdeal.main (F := Ideal))) ⟨m, fun _ => 0, g⟩ (fun r => (∀ c : Dev Cert.FirstIdeal.nD,
      r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
      ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
      ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
      ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3)
      ∧ r.2.mem ((c.tc : Thread Cert.FirstIdeal.nD Cert.FirstIdeal.τ).loc Cert.FirstIdeal.main_arg4) = m ((c.tc : Thread Cert.FirstIdeal.nD Cert.FirstIdeal.τ).loc Cert.FirstIdeal.main_arg4)
      ∧ r.2.mem ((c.tc : Thread Cert.FirstIdeal.nD Cert.FirstIdeal.τ).loc Cert.FirstIdeal.main_arg5) = m ((c.tc : Thread Cert.FirstIdeal.nD Cert.FirstIdeal.τ).loc Cert.FirstIdeal.main_arg5)
      ∧ r.2.mem ((c.tc : Thread Cert.FirstIdeal.nD Cert.FirstIdeal.τ).loc Cert.FirstIdeal.main_arg6) = m ((c.tc : Thread Cert.FirstIdeal.nD Cert.FirstIdeal.τ).loc Cert.FirstIdeal.main_arg6)
      ∧ r.2.mem ((c.tc : Thread Cert.FirstIdeal.nD Cert.FirstIdeal.τ).loc Cert.FirstIdeal.main_arg7) = m ((c.tc : Thread Cert.FirstIdeal.nD Cert.FirstIdeal.τ).loc Cert.FirstIdeal.main_arg7)
      ∧ r.2.mem ((c.tc : Thread Cert.FirstIdeal.nD Cert.FirstIdeal.τ).loc Cert.FirstIdeal.main_arg8) = m ((c.tc : Thread Cert.FirstIdeal.nD Cert.FirstIdeal.τ).loc Cert.FirstIdeal.main_arg8))
      ∧ r.2.sem = fun _ => 0)

def quiescent_FirstRefIdeal [hFirstRefIdeal : Cert.FirstRefIdeal.Facts] : Prop :=
  ∀ (m : (ℓ : Loc Cert.FirstRefIdeal.nD Cert.FirstRefIdeal.τ Cert.FirstRefIdeal.sig) → Buf (Elt Ideal) ℓ) (g : Dev Cert.FirstRefIdeal.nD → PrngReg), Pre_FirstRefIdeal m →
    θ_run (Cert.FirstRefIdeal.defs (F := Ideal)) (onTc (τ := Cert.FirstRefIdeal.τ) (Cert.FirstRefIdeal.main (F := Ideal))) ⟨m, fun _ => 0, g⟩ (fun r => (∀ c : Dev Cert.FirstRefIdeal.nD,
      r.2.mem ((c.tc : Thread Cert.FirstRefIdeal.nD Cert.FirstRefIdeal.τ).loc Cert.FirstRefIdeal.main_arg0) = m ((c.tc : Thread Cert.FirstRefIdeal.nD Cert.FirstRefIdeal.τ).loc Cert.FirstRefIdeal.main_arg0)
      ∧ r.2.mem ((c.tc : Thread Cert.FirstRefIdeal.nD Cert.FirstRefIdeal.τ).loc Cert.FirstRefIdeal.main_arg1) = m ((c.tc : Thread Cert.FirstRefIdeal.nD Cert.FirstRefIdeal.τ).loc Cert.FirstRefIdeal.main_arg1)
      ∧ r.2.mem ((c.tc : Thread Cert.FirstRefIdeal.nD Cert.FirstRefIdeal.τ).loc Cert.FirstRefIdeal.main_arg2) = m ((c.tc : Thread Cert.FirstRefIdeal.nD Cert.FirstRefIdeal.τ).loc Cert.FirstRefIdeal.main_arg2)
      ∧ r.2.mem ((c.tc : Thread Cert.FirstRefIdeal.nD Cert.FirstRefIdeal.τ).loc Cert.FirstRefIdeal.main_arg3) = m ((c.tc : Thread Cert.FirstRefIdeal.nD Cert.FirstRefIdeal.τ).loc Cert.FirstRefIdeal.main_arg3)
      ∧ r.2.mem ((c.tc : Thread Cert.FirstRefIdeal.nD Cert.FirstRefIdeal.τ).loc Cert.FirstRefIdeal.main_arg4) = m ((c.tc : Thread Cert.FirstRefIdeal.nD Cert.FirstRefIdeal.τ).loc Cert.FirstRefIdeal.main_arg4)
      ∧ r.2.mem ((c.tc : Thread Cert.FirstRefIdeal.nD Cert.FirstRefIdeal.τ).loc Cert.FirstRefIdeal.main_arg5) = m ((c.tc : Thread Cert.FirstRefIdeal.nD Cert.FirstRefIdeal.τ).loc Cert.FirstRefIdeal.main_arg5)
      ∧ r.2.mem ((c.tc : Thread Cert.FirstRefIdeal.nD Cert.FirstRefIdeal.τ).loc Cert.FirstRefIdeal.main_arg6) = m ((c.tc : Thread Cert.FirstRefIdeal.nD Cert.FirstRefIdeal.τ).loc Cert.FirstRefIdeal.main_arg6)
      ∧ r.2.mem ((c.tc : Thread Cert.FirstRefIdeal.nD Cert.FirstRefIdeal.τ).loc Cert.FirstRefIdeal.main_arg7) = m ((c.tc : Thread Cert.FirstRefIdeal.nD Cert.FirstRefIdeal.τ).loc Cert.FirstRefIdeal.main_arg7)
      ∧ r.2.mem ((c.tc : Thread Cert.FirstRefIdeal.nD Cert.FirstRefIdeal.τ).loc Cert.FirstRefIdeal.main_arg8) = m ((c.tc : Thread Cert.FirstRefIdeal.nD Cert.FirstRefIdeal.τ).loc Cert.FirstRefIdeal.main_arg8))
      ∧ r.2.sem = fun _ => 0)

def preserves_Kernel_KernelIdeal : Prop :=
  IdealRules.named_const.Statement Cert.KernelIdeal.κ "scale_log2e" .f32 0x3E0293EE#32 (((11863283 / 134217728) * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Up_UpIdeal : Prop :=
  True

def algebraic_UpIdeal_UpRefIdeal_pre_sum_of_squares [hUpIdeal : Cert.UpIdeal.Facts] [hUpRefIdeal : Cert.UpRefIdeal.Facts] [hPre_sum_of_squares : Cert.Pre_sum_of_squares.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal_sum_of_squares m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v15) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v5) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)) →
    ∃ (v0 : (c : Dev Cert.QkvIdeal.nD) → Buf (Elt Ideal) ((c.tc : Thread Cert.QkvIdeal.nD Cert.QkvIdeal.τ).loc Cert.QkvIdeal.main_v0)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v0) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v5) = v0 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v0)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v4) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v1_0)) (v1 : (c : Dev Cert.OutIdeal.nD) → Buf (Elt Ideal) ((c.tc : Thread Cert.OutIdeal.nD Cert.OutIdeal.τ).loc Cert.OutIdeal.main_v1_1)) (v2 : (c : Dev Cert.OutIdeal.nD) → Buf (Elt Ideal) ((c.tc : Thread Cert.OutIdeal.nD Cert.OutIdeal.τ).loc Cert.OutIdeal.main_v1_2)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v1_0) = v0 c
          ∧ r.2.mem ((c.tc : Thread Cert.OutIdeal.nD Cert.OutIdeal.τ).loc Cert.OutIdeal.main_v1_1) = v1 c
          ∧ r.2.mem ((c.tc : Thread Cert.OutIdeal.nD Cert.OutIdeal.τ).loc Cert.OutIdeal.main_v1_2) = v2 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v5) = v0 c
          ∧ r.2.mem ((c.tc : Thread Cert.OutRefIdeal.nD Cert.OutRefIdeal.τ).loc Cert.OutRefIdeal.main_v9) = v1 c
          ∧ r.2.mem ((c.tc : Thread Cert.OutRefIdeal.nD Cert.OutRefIdeal.τ).loc Cert.OutRefIdeal.main_v13) = v2 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3))

def preserves_NormPrompt_NormPromptIdeal : Prop :=
  True

def algebraic_NormPromptIdeal_NormPromptRefIdeal [hNormPromptIdeal : Cert.NormPromptIdeal.Facts] [hNormPromptRefIdeal : Cert.NormPromptRefIdeal.Facts] : Prop :=
  ∀ (m : (ℓ : Loc Cert.NormPromptIdeal.nD Cert.NormPromptIdeal.τ Cert.NormPromptIdeal.sig) → Buf (Elt Ideal) ℓ) (g : Dev Cert.NormPromptIdeal.nD → PrngReg)
    (m' : (ℓ : Loc Cert.NormPromptRefIdeal.nD Cert.NormPromptRefIdeal.τ Cert.NormPromptRefIdeal.sig) → Buf (Elt Ideal) ℓ) (g' : Dev Cert.NormPromptRefIdeal.nD → PrngReg), Pre_NormPromptIdeal m →
    (∀ c : Dev Cert.NormPromptIdeal.nD,
      m' ((c.tc : Thread Cert.NormPromptRefIdeal.nD Cert.NormPromptRefIdeal.τ).loc Cert.NormPromptRefIdeal.main_arg0) = m ((c.tc : Thread Cert.NormPromptIdeal.nD Cert.NormPromptIdeal.τ).loc Cert.NormPromptIdeal.main_arg0)
      ∧ m' ((c.tc : Thread Cert.NormPromptRefIdeal.nD Cert.NormPromptRefIdeal.τ).loc Cert.NormPromptRefIdeal.main_arg1) = m ((c.tc : Thread Cert.NormPromptIdeal.nD Cert.NormPromptIdeal.τ).loc Cert.NormPromptIdeal.main_arg1)) →
    ∃ (v0 : (c : Dev Cert.NormPromptIdeal.nD) → Buf (Elt Ideal) ((c.tc : Thread Cert.NormPromptIdeal.nD Cert.NormPromptIdeal.τ).loc Cert.NormPromptIdeal.main_v1)),
      θ_run (Cert.NormPromptIdeal.defs (F := Ideal)) (onTc (τ := Cert.NormPromptIdeal.τ) (Cert.NormPromptIdeal.main (F := Ideal))) ⟨m, fun _ => 0, g⟩ (fun r => ∀ c : Dev Cert.NormPromptIdeal.nD,
          r.2.mem ((c.tc : Thread Cert.NormPromptIdeal.nD Cert.NormPromptIdeal.τ).loc Cert.NormPromptIdeal.main_v1) = v0 c
          ∧ r.2.mem ((c.tc : Thread Cert.NormPromptIdeal.nD Cert.NormPromptIdeal.τ).loc Cert.NormPromptIdeal.main_arg0) = m ((c.tc : Thread Cert.NormPromptIdeal.nD Cert.NormPromptIdeal.τ).loc Cert.NormPromptIdeal.main_arg0)
          ∧ r.2.mem ((c.tc : Thread Cert.NormPromptIdeal.nD Cert.NormPromptIdeal.τ).loc Cert.NormPromptIdeal.main_arg1) = m ((c.tc : Thread Cert.NormPromptIdeal.nD Cert.NormPromptIdeal.τ).loc Cert.NormPromptIdeal.main_arg1))
      ∧ θ_run (Cert.NormPromptRefIdeal.defs (F := Ideal)) (onTc (τ := Cert.NormPromptRefIdeal.τ) (Cert.NormPromptRefIdeal.main (F := Ideal))) ⟨m', fun _ => 0, g'⟩ (fun r => ∀ c : Dev Cert.NormPromptRefIdeal.nD,
          r.2.mem ((c.tc : Thread Cert.NormPromptRefIdeal.nD Cert.NormPromptRefIdeal.τ).loc Cert.NormPromptRefIdeal.main_v13) = v0 c
          ∧ r.2.mem ((c.tc : Thread Cert.NormPromptRefIdeal.nD Cert.NormPromptRefIdeal.τ).loc Cert.NormPromptRefIdeal.main_arg0) = m' ((c.tc : Thread Cert.NormPromptRefIdeal.nD Cert.NormPromptRefIdeal.τ).loc Cert.NormPromptRefIdeal.main_arg0)
          ∧ r.2.mem ((c.tc : Thread Cert.NormPromptRefIdeal.nD Cert.NormPromptRefIdeal.τ).loc Cert.NormPromptRefIdeal.main_arg1) = m' ((c.tc : Thread Cert.NormPromptRefIdeal.nD Cert.NormPromptRefIdeal.τ).loc Cert.NormPromptRefIdeal.main_arg1))

def preserves_NormSample_NormSampleIdeal : Prop :=
  True

def algebraic_NormSampleIdeal_NormSampleRefIdeal [hNormSampleIdeal : Cert.NormSampleIdeal.Facts] [hNormSampleRefIdeal : Cert.NormSampleRefIdeal.Facts] : Prop :=
  ∀ (m : (ℓ : Loc Cert.NormSampleIdeal.nD Cert.NormSampleIdeal.τ Cert.NormSampleIdeal.sig) → Buf (Elt Ideal) ℓ) (g : Dev Cert.NormSampleIdeal.nD → PrngReg)
    (m' : (ℓ : Loc Cert.NormSampleRefIdeal.nD Cert.NormSampleRefIdeal.τ Cert.NormSampleRefIdeal.sig) → Buf (Elt Ideal) ℓ) (g' : Dev Cert.NormSampleRefIdeal.nD → PrngReg), Pre_NormSampleIdeal m →
    (∀ c : Dev Cert.NormSampleIdeal.nD,
      m' ((c.tc : Thread Cert.NormSampleRefIdeal.nD Cert.NormSampleRefIdeal.τ).loc Cert.NormSampleRefIdeal.main_arg0) = m ((c.tc : Thread Cert.NormSampleIdeal.nD Cert.NormSampleIdeal.τ).loc Cert.NormSampleIdeal.main_arg0)
      ∧ m' ((c.tc : Thread Cert.NormSampleRefIdeal.nD Cert.NormSampleRefIdeal.τ).loc Cert.NormSampleRefIdeal.main_arg1) = m ((c.tc : Thread Cert.NormSampleIdeal.nD Cert.NormSampleIdeal.τ).loc Cert.NormSampleIdeal.main_arg1)) →
    ∃ (v0 : (c : Dev Cert.NormSampleIdeal.nD) → Buf (Elt Ideal) ((c.tc : Thread Cert.NormSampleIdeal.nD Cert.NormSampleIdeal.τ).loc Cert.NormSampleIdeal.main_v1)),
      θ_run (Cert.NormSampleIdeal.defs (F := Ideal)) (onTc (τ := Cert.NormSampleIdeal.τ) (Cert.NormSampleIdeal.main (F := Ideal))) ⟨m, fun _ => 0, g⟩ (fun r => ∀ c : Dev Cert.NormSampleIdeal.nD,
          r.2.mem ((c.tc : Thread Cert.NormSampleIdeal.nD Cert.NormSampleIdeal.τ).loc Cert.NormSampleIdeal.main_v1) = v0 c
          ∧ r.2.mem ((c.tc : Thread Cert.NormSampleIdeal.nD Cert.NormSampleIdeal.τ).loc Cert.NormSampleIdeal.main_arg0) = m ((c.tc : Thread Cert.NormSampleIdeal.nD Cert.NormSampleIdeal.τ).loc Cert.NormSampleIdeal.main_arg0)
          ∧ r.2.mem ((c.tc : Thread Cert.NormSampleIdeal.nD Cert.NormSampleIdeal.τ).loc Cert.NormSampleIdeal.main_arg1) = m ((c.tc : Thread Cert.NormSampleIdeal.nD Cert.NormSampleIdeal.τ).loc Cert.NormSampleIdeal.main_arg1))
      ∧ θ_run (Cert.NormSampleRefIdeal.defs (F := Ideal)) (onTc (τ := Cert.NormSampleRefIdeal.τ) (Cert.NormSampleRefIdeal.main (F := Ideal))) ⟨m', fun _ => 0, g'⟩ (fun r => ∀ c : Dev Cert.NormSampleRefIdeal.nD,
          r.2.mem ((c.tc : Thread Cert.NormSampleRefIdeal.nD Cert.NormSampleRefIdeal.τ).loc Cert.NormSampleRefIdeal.main_v13) = v0 c
          ∧ r.2.mem ((c.tc : Thread Cert.NormSampleRefIdeal.nD Cert.NormSampleRefIdeal.τ).loc Cert.NormSampleRefIdeal.main_arg0) = m' ((c.tc : Thread Cert.NormSampleRefIdeal.nD Cert.NormSampleRefIdeal.τ).loc Cert.NormSampleRefIdeal.main_arg0)
          ∧ r.2.mem ((c.tc : Thread Cert.NormSampleRefIdeal.nD Cert.NormSampleRefIdeal.τ).loc Cert.NormSampleRefIdeal.main_arg1) = m' ((c.tc : Thread Cert.NormSampleRefIdeal.nD Cert.NormSampleRefIdeal.τ).loc Cert.NormSampleRefIdeal.main_arg1))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v13) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_Bounds_BoundsIdeal : Prop :=
  True

def algebraic_BoundsIdeal_BoundsRefIdeal [hBoundsIdeal : Cert.BoundsIdeal.Facts] [hBoundsRefIdeal : Cert.BoundsRefIdeal.Facts] : Prop :=
  ∀ (m : (ℓ : Loc Cert.BoundsIdeal.nD Cert.BoundsIdeal.τ Cert.BoundsIdeal.sig) → Buf (Elt Ideal) ℓ) (g : Dev Cert.BoundsIdeal.nD → PrngReg)
    (m' : (ℓ : Loc Cert.BoundsRefIdeal.nD Cert.BoundsRefIdeal.τ Cert.BoundsRefIdeal.sig) → Buf (Elt Ideal) ℓ) (g' : Dev Cert.BoundsRefIdeal.nD → PrngReg), Pre_BoundsIdeal m →
    (∀ c : Dev Cert.BoundsIdeal.nD,
      m' ((c.tc : Thread Cert.BoundsRefIdeal.nD Cert.BoundsRefIdeal.τ).loc Cert.BoundsRefIdeal.main_arg0) = m ((c.tc : Thread Cert.BoundsIdeal.nD Cert.BoundsIdeal.τ).loc Cert.BoundsIdeal.main_arg0)) →
    ∃ (v0 : (c : Dev Cert.BoundsIdeal.nD) → Buf (Elt Ideal) ((c.tc : Thread Cert.BoundsIdeal.nD Cert.BoundsIdeal.τ).loc Cert.BoundsIdeal.main_v0_0)) (v1 : (c : Dev Cert.BoundsIdeal.nD) → Buf (Elt Ideal) ((c.tc : Thread Cert.BoundsIdeal.nD Cert.BoundsIdeal.τ).loc Cert.BoundsIdeal.main_v0_1)),
      θ_run (Cert.BoundsIdeal.defs (F := Ideal)) (onTc (τ := Cert.BoundsIdeal.τ) (Cert.BoundsIdeal.main (F := Ideal))) ⟨m, fun _ => 0, g⟩ (fun r => ∀ c : Dev Cert.BoundsIdeal.nD,
          r.2.mem ((c.tc : Thread Cert.BoundsIdeal.nD Cert.BoundsIdeal.τ).loc Cert.BoundsIdeal.main_v0_0) = v0 c
          ∧ r.2.mem ((c.tc : Thread Cert.BoundsIdeal.nD Cert.BoundsIdeal.τ).loc Cert.BoundsIdeal.main_v0_1) = v1 c
          ∧ r.2.mem ((c.tc : Thread Cert.BoundsIdeal.nD Cert.BoundsIdeal.τ).loc Cert.BoundsIdeal.main_arg0) = m ((c.tc : Thread Cert.BoundsIdeal.nD Cert.BoundsIdeal.τ).loc Cert.BoundsIdeal.main_arg0))
      ∧ θ_run (Cert.BoundsRefIdeal.defs (F := Ideal)) (onTc (τ := Cert.BoundsRefIdeal.τ) (Cert.BoundsRefIdeal.main (F := Ideal))) ⟨m', fun _ => 0, g'⟩ (fun r => ∀ c : Dev Cert.BoundsRefIdeal.nD,
          r.2.mem ((c.tc : Thread Cert.BoundsRefIdeal.nD Cert.BoundsRefIdeal.τ).loc Cert.BoundsRefIdeal.main_v16) = v0 c
          ∧ r.2.mem ((c.tc : Thread Cert.BoundsRefIdeal.nD Cert.BoundsRefIdeal.τ).loc Cert.BoundsRefIdeal.main_v18) = v1 c
          ∧ r.2.mem ((c.tc : Thread Cert.BoundsRefIdeal.nD Cert.BoundsRefIdeal.τ).loc Cert.BoundsRefIdeal.main_arg0) = m' ((c.tc : Thread Cert.BoundsRefIdeal.nD Cert.BoundsRefIdeal.τ).loc Cert.BoundsRefIdeal.main_arg0))

def preserves_Tail_TailIdeal : Prop :=
  True

def algebraic_TailIdeal_TailRefIdeal [hTailIdeal : Cert.TailIdeal.Facts] [hTailRefIdeal : Cert.TailRefIdeal.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailRefIdeal.nD Cert.TailRefIdeal.τ Cert.TailRefIdeal.sig) → Buf (Elt Ideal) ℓ) (g' : Dev Cert.TailRefIdeal.nD → PrngReg), Pre_TailIdeal m →
    (∀ c : Dev Cert.TailIdeal.nD,
      m' ((c.tc : Thread Cert.TailRefIdeal.nD Cert.TailRefIdeal.τ).loc Cert.TailRefIdeal.main_arg0) = m ((c.tc : Thread Cert.TailIdeal.nD Cert.TailIdeal.τ).loc Cert.TailIdeal.main_arg0)
      ∧ m' ((c.tc : Thread Cert.TailRefIdeal.nD Cert.TailRefIdeal.τ).loc Cert.TailRefIdeal.main_arg1) = m ((c.tc : Thread Cert.TailIdeal.nD Cert.TailIdeal.τ).loc Cert.TailIdeal.main_arg1)
      ∧ m' ((c.tc : Thread Cert.TailRefIdeal.nD Cert.TailRefIdeal.τ).loc Cert.TailRefIdeal.main_arg2) = m ((c.tc : Thread Cert.TailIdeal.nD Cert.TailIdeal.τ).loc Cert.TailIdeal.main_arg2)
      ∧ m' ((c.tc : Thread Cert.TailRefIdeal.nD Cert.TailRefIdeal.τ).loc Cert.TailRefIdeal.main_arg3) = m ((c.tc : Thread Cert.TailIdeal.nD Cert.TailIdeal.τ).loc Cert.TailIdeal.main_arg3)
      ∧ m' ((c.tc : Thread Cert.TailRefIdeal.nD Cert.TailRefIdeal.τ).loc Cert.TailRefIdeal.main_arg4) = m ((c.tc : Thread Cert.TailIdeal.nD Cert.TailIdeal.τ).loc Cert.TailIdeal.main_arg4)
      ∧ m' ((c.tc : Thread Cert.TailRefIdeal.nD Cert.TailRefIdeal.τ).loc Cert.TailRefIdeal.main_arg5) = m ((c.tc : Thread Cert.TailIdeal.nD Cert.TailIdeal.τ).loc Cert.TailIdeal.main_arg5)
      ∧ m' ((c.tc : Thread Cert.TailRefIdeal.nD Cert.TailRefIdeal.τ).loc Cert.TailRefIdeal.main_arg6) = m ((c.tc : Thread Cert.TailIdeal.nD Cert.TailIdeal.τ).loc Cert.TailIdeal.main_arg6)) →
    ∃ (v0 : (c : Dev Cert.TailIdeal.nD) → Buf (Elt Ideal) ((c.tc : Thread Cert.TailIdeal.nD Cert.TailIdeal.τ).loc Cert.TailIdeal.main_v5)) (v1 : (c : Dev Cert.TailIdeal.nD) → Buf (Elt Ideal) ((c.tc : Thread Cert.TailIdeal.nD Cert.TailIdeal.τ).loc Cert.TailIdeal.main_v7)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v5) = v0 c
          ∧ r.2.mem ((c.tc : Thread Cert.TailIdeal.nD Cert.TailIdeal.τ).loc Cert.TailIdeal.main_v7) = v1 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
          ∧ r.2.mem ((c.tc : Thread Cert.TailIdeal.nD Cert.TailIdeal.τ).loc Cert.TailIdeal.main_arg6) = m ((c.tc : Thread Cert.TailIdeal.nD Cert.TailIdeal.τ).loc Cert.TailIdeal.main_arg6))
      ∧ θ_run (Cert.TailRefIdeal.defs (F := Ideal)) (onTc (τ := Cert.TailRefIdeal.τ) (Cert.TailRefIdeal.main (F := Ideal))) ⟨m', fun _ => 0, g'⟩ (fun r => ∀ c : Dev Cert.TailRefIdeal.nD,
          r.2.mem ((c.tc : Thread Cert.TailRefIdeal.nD Cert.TailRefIdeal.τ).loc Cert.TailRefIdeal.main_v43) = v0 c
          ∧ r.2.mem ((c.tc : Thread Cert.TailRefIdeal.nD Cert.TailRefIdeal.τ).loc Cert.TailRefIdeal.main_v44) = v1 c
          ∧ r.2.mem ((c.tc : Thread Cert.TailRefIdeal.nD Cert.TailRefIdeal.τ).loc Cert.TailRefIdeal.main_arg0) = m' ((c.tc : Thread Cert.TailRefIdeal.nD Cert.TailRefIdeal.τ).loc Cert.TailRefIdeal.main_arg0)
          ∧ r.2.mem ((c.tc : Thread Cert.TailRefIdeal.nD Cert.TailRefIdeal.τ).loc Cert.TailRefIdeal.main_arg1) = m' ((c.tc : Thread Cert.TailRefIdeal.nD Cert.TailRefIdeal.τ).loc Cert.TailRefIdeal.main_arg1)
          ∧ r.2.mem ((c.tc : Thread Cert.TailRefIdeal.nD Cert.TailRefIdeal.τ).loc Cert.TailRefIdeal.main_arg2) = m' ((c.tc : Thread Cert.TailRefIdeal.nD Cert.TailRefIdeal.τ).loc Cert.TailRefIdeal.main_arg2)
          ∧ r.2.mem ((c.tc : Thread Cert.TailRefIdeal.nD Cert.TailRefIdeal.τ).loc Cert.TailRefIdeal.main_arg3) = m' ((c.tc : Thread Cert.TailRefIdeal.nD Cert.TailRefIdeal.τ).loc Cert.TailRefIdeal.main_arg3)
          ∧ r.2.mem ((c.tc : Thread Cert.TailRefIdeal.nD Cert.TailRefIdeal.τ).loc Cert.TailRefIdeal.main_arg4) = m' ((c.tc : Thread Cert.TailRefIdeal.nD Cert.TailRefIdeal.τ).loc Cert.TailRefIdeal.main_arg4)
          ∧ r.2.mem ((c.tc : Thread Cert.TailRefIdeal.nD Cert.TailRefIdeal.τ).loc Cert.TailRefIdeal.main_arg5) = m' ((c.tc : Thread Cert.TailRefIdeal.nD Cert.TailRefIdeal.τ).loc Cert.TailRefIdeal.main_arg5)
          ∧ r.2.mem ((c.tc : Thread Cert.TailRefIdeal.nD Cert.TailRefIdeal.τ).loc Cert.TailRefIdeal.main_arg6) = m' ((c.tc : Thread Cert.TailRefIdeal.nD Cert.TailRefIdeal.τ).loc Cert.TailRefIdeal.main_arg6))

def preserves_Cast_CastIdeal : Prop :=
  True

def algebraic_CastIdeal_CastRefIdeal [hCastIdeal : Cert.CastIdeal.Facts] [hCastRefIdeal : Cert.CastRefIdeal.Facts] : Prop :=
  ∀ (m : (ℓ : Loc Cert.CastIdeal.nD Cert.CastIdeal.τ Cert.CastIdeal.sig) → Buf (Elt Ideal) ℓ) (g : Dev Cert.CastIdeal.nD → PrngReg)
    (m' : (ℓ : Loc Cert.CastRefIdeal.nD Cert.CastRefIdeal.τ Cert.CastRefIdeal.sig) → Buf (Elt Ideal) ℓ) (g' : Dev Cert.CastRefIdeal.nD → PrngReg), Pre_CastIdeal m →
    (∀ c : Dev Cert.CastIdeal.nD,
      m' ((c.tc : Thread Cert.CastRefIdeal.nD Cert.CastRefIdeal.τ).loc Cert.CastRefIdeal.main_arg0) = m ((c.tc : Thread Cert.CastIdeal.nD Cert.CastIdeal.τ).loc Cert.CastIdeal.main_arg0)) →
    ∃ (v0 : (c : Dev Cert.CastIdeal.nD) → Buf (Elt Ideal) ((c.tc : Thread Cert.CastIdeal.nD Cert.CastIdeal.τ).loc Cert.CastIdeal.main_v0)),
      θ_run (Cert.CastIdeal.defs (F := Ideal)) (onTc (τ := Cert.CastIdeal.τ) (Cert.CastIdeal.main (F := Ideal))) ⟨m, fun _ => 0, g⟩ (fun r => ∀ c : Dev Cert.CastIdeal.nD,
          r.2.mem ((c.tc : Thread Cert.CastIdeal.nD Cert.CastIdeal.τ).loc Cert.CastIdeal.main_v0) = v0 c
          ∧ r.2.mem ((c.tc : Thread Cert.CastIdeal.nD Cert.CastIdeal.τ).loc Cert.CastIdeal.main_arg0) = m ((c.tc : Thread Cert.CastIdeal.nD Cert.CastIdeal.τ).loc Cert.CastIdeal.main_arg0))
      ∧ θ_run (Cert.CastRefIdeal.defs (F := Ideal)) (onTc (τ := Cert.CastRefIdeal.τ) (Cert.CastRefIdeal.main (F := Ideal))) ⟨m', fun _ => 0, g'⟩ (fun r => ∀ c : Dev Cert.CastRefIdeal.nD,
          r.2.mem ((c.tc : Thread Cert.CastRefIdeal.nD Cert.CastRefIdeal.τ).loc Cert.CastRefIdeal.main_v0) = v0 c
          ∧ r.2.mem ((c.tc : Thread Cert.CastRefIdeal.nD Cert.CastRefIdeal.τ).loc Cert.CastRefIdeal.main_arg0) = m' ((c.tc : Thread Cert.CastRefIdeal.nD Cert.CastRefIdeal.τ).loc Cert.CastRefIdeal.main_arg0))

def preserves_Mid_MidIdeal : Prop :=
  True

def algebraic_MidIdeal_MidRefIdeal [hMidIdeal : Cert.MidIdeal.Facts] [hMidRefIdeal : Cert.MidRefIdeal.Facts] : Prop :=
  ∀ (m : (ℓ : Loc Cert.MidIdeal.nD Cert.MidIdeal.τ Cert.MidIdeal.sig) → Buf (Elt Ideal) ℓ) (g : Dev Cert.MidIdeal.nD → PrngReg)
    (m' : (ℓ : Loc Cert.MidRefIdeal.nD Cert.MidRefIdeal.τ Cert.MidRefIdeal.sig) → Buf (Elt Ideal) ℓ) (g' : Dev Cert.MidRefIdeal.nD → PrngReg), Pre_MidIdeal m →
    (∀ c : Dev Cert.MidIdeal.nD,
      m' ((c.tc : Thread Cert.MidRefIdeal.nD Cert.MidRefIdeal.τ).loc Cert.MidRefIdeal.main_arg0) = m ((c.tc : Thread Cert.MidIdeal.nD Cert.MidIdeal.τ).loc Cert.MidIdeal.main_arg0)
      ∧ m' ((c.tc : Thread Cert.MidRefIdeal.nD Cert.MidRefIdeal.τ).loc Cert.MidRefIdeal.main_arg1) = m ((c.tc : Thread Cert.MidIdeal.nD Cert.MidIdeal.τ).loc Cert.MidIdeal.main_arg1)
      ∧ m' ((c.tc : Thread Cert.MidRefIdeal.nD Cert.MidRefIdeal.τ).loc Cert.MidRefIdeal.main_arg2) = m ((c.tc : Thread Cert.MidIdeal.nD Cert.MidIdeal.τ).loc Cert.MidIdeal.main_arg2)
      ∧ m' ((c.tc : Thread Cert.MidRefIdeal.nD Cert.MidRefIdeal.τ).loc Cert.MidRefIdeal.main_arg3) = m ((c.tc : Thread Cert.MidIdeal.nD Cert.MidIdeal.τ).loc Cert.MidIdeal.main_arg3)
      ∧ m' ((c.tc : Thread Cert.MidRefIdeal.nD Cert.MidRefIdeal.τ).loc Cert.MidRefIdeal.main_arg4) = m ((c.tc : Thread Cert.MidIdeal.nD Cert.MidIdeal.τ).loc Cert.MidIdeal.main_arg4)
      ∧ m' ((c.tc : Thread Cert.MidRefIdeal.nD Cert.MidRefIdeal.τ).loc Cert.MidRefIdeal.main_arg5) = m ((c.tc : Thread Cert.MidIdeal.nD Cert.MidIdeal.τ).loc Cert.MidIdeal.main_arg5)
      ∧ m' ((c.tc : Thread Cert.MidRefIdeal.nD Cert.MidRefIdeal.τ).loc Cert.MidRefIdeal.main_arg6) = m ((c.tc : Thread Cert.MidIdeal.nD Cert.MidIdeal.τ).loc Cert.MidIdeal.main_arg6)
      ∧ m' ((c.tc : Thread Cert.MidRefIdeal.nD Cert.MidRefIdeal.τ).loc Cert.MidRefIdeal.main_arg7) = m ((c.tc : Thread Cert.MidIdeal.nD Cert.MidIdeal.τ).loc Cert.MidIdeal.main_arg7)) →
    ∃ (v0 : (c : Dev Cert.MidIdeal.nD) → Buf (Elt Ideal) ((c.tc : Thread Cert.MidIdeal.nD Cert.MidIdeal.τ).loc Cert.MidIdeal.main_v3)) (v1 : (c : Dev Cert.MidIdeal.nD) → Buf (Elt Ideal) ((c.tc : Thread Cert.MidIdeal.nD Cert.MidIdeal.τ).loc Cert.MidIdeal.main_v6)),
      θ_run (Cert.MidIdeal.defs (F := Ideal)) (onTc (τ := Cert.MidIdeal.τ) (Cert.MidIdeal.main (F := Ideal))) ⟨m, fun _ => 0, g⟩ (fun r => ∀ c : Dev Cert.MidIdeal.nD,
          r.2.mem ((c.tc : Thread Cert.MidIdeal.nD Cert.MidIdeal.τ).loc Cert.MidIdeal.main_v3) = v0 c
          ∧ r.2.mem ((c.tc : Thread Cert.MidIdeal.nD Cert.MidIdeal.τ).loc Cert.MidIdeal.main_v6) = v1 c
          ∧ r.2.mem ((c.tc : Thread Cert.MidIdeal.nD Cert.MidIdeal.τ).loc Cert.MidIdeal.main_arg0) = m ((c.tc : Thread Cert.MidIdeal.nD Cert.MidIdeal.τ).loc Cert.MidIdeal.main_arg0)
          ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
          ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
          ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
          ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
          ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
          ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
          ∧ r.2.mem ((c.tc : Thread Cert.MidIdeal.nD Cert.MidIdeal.τ).loc Cert.MidIdeal.main_arg7) = m ((c.tc : Thread Cert.MidIdeal.nD Cert.MidIdeal.τ).loc Cert.MidIdeal.main_arg7))
      ∧ θ_run (Cert.MidRefIdeal.defs (F := Ideal)) (onTc (τ := Cert.MidRefIdeal.τ) (Cert.MidRefIdeal.main (F := Ideal))) ⟨m', fun _ => 0, g'⟩ (fun r => ∀ c : Dev Cert.MidRefIdeal.nD,
          r.2.mem ((c.tc : Thread Cert.MidRefIdeal.nD Cert.MidRefIdeal.τ).loc Cert.MidRefIdeal.main_v29) = v0 c
          ∧ r.2.mem ((c.tc : Thread Cert.MidRefIdeal.nD Cert.MidRefIdeal.τ).loc Cert.MidRefIdeal.main_v46) = v1 c
          ∧ r.2.mem ((c.tc : Thread Cert.MidRefIdeal.nD Cert.MidRefIdeal.τ).loc Cert.MidRefIdeal.main_arg0) = m' ((c.tc : Thread Cert.MidRefIdeal.nD Cert.MidRefIdeal.τ).loc Cert.MidRefIdeal.main_arg0)
          ∧ r.2.mem ((c.tc : Thread Cert.MidRefIdeal.nD Cert.MidRefIdeal.τ).loc Cert.MidRefIdeal.main_arg1) = m' ((c.tc : Thread Cert.MidRefIdeal.nD Cert.MidRefIdeal.τ).loc Cert.MidRefIdeal.main_arg1)
          ∧ r.2.mem ((c.tc : Thread Cert.MidRefIdeal.nD Cert.MidRefIdeal.τ).loc Cert.MidRefIdeal.main_arg2) = m' ((c.tc : Thread Cert.MidRefIdeal.nD Cert.MidRefIdeal.τ).loc Cert.MidRefIdeal.main_arg2)
          ∧ r.2.mem ((c.tc : Thread Cert.MidRefIdeal.nD Cert.MidRefIdeal.τ).loc Cert.MidRefIdeal.main_arg3) = m' ((c.tc : Thread Cert.MidRefIdeal.nD Cert.MidRefIdeal.τ).loc Cert.MidRefIdeal.main_arg3)
          ∧ r.2.mem ((c.tc : Thread Cert.MidRefIdeal.nD Cert.MidRefIdeal.τ).loc Cert.MidRefIdeal.main_arg4) = m' ((c.tc : Thread Cert.MidRefIdeal.nD Cert.MidRefIdeal.τ).loc Cert.MidRefIdeal.main_arg4)
          ∧ r.2.mem ((c.tc : Thread Cert.MidRefIdeal.nD Cert.MidRefIdeal.τ).loc Cert.MidRefIdeal.main_arg5) = m' ((c.tc : Thread Cert.MidRefIdeal.nD Cert.MidRefIdeal.τ).loc Cert.MidRefIdeal.main_arg5)
          ∧ r.2.mem ((c.tc : Thread Cert.MidRefIdeal.nD Cert.MidRefIdeal.τ).loc Cert.MidRefIdeal.main_arg6) = m' ((c.tc : Thread Cert.MidRefIdeal.nD Cert.MidRefIdeal.τ).loc Cert.MidRefIdeal.main_arg6)
          ∧ r.2.mem ((c.tc : Thread Cert.MidRefIdeal.nD Cert.MidRefIdeal.τ).loc Cert.MidRefIdeal.main_arg7) = m' ((c.tc : Thread Cert.MidRefIdeal.nD Cert.MidRefIdeal.τ).loc Cert.MidRefIdeal.main_arg7))

def preserves_Second_SecondIdeal : Prop :=
  True

def algebraic_SecondIdeal_SecondRefIdeal [hSecondIdeal : Cert.SecondIdeal.Facts] [hSecondRefIdeal : Cert.SecondRefIdeal.Facts] : Prop :=
  ∀ (m : (ℓ : Loc Cert.SecondIdeal.nD Cert.SecondIdeal.τ Cert.SecondIdeal.sig) → Buf (Elt Ideal) ℓ) (g : Dev Cert.SecondIdeal.nD → PrngReg)
    (m' : (ℓ : Loc Cert.SecondRefIdeal.nD Cert.SecondRefIdeal.τ Cert.SecondRefIdeal.sig) → Buf (Elt Ideal) ℓ) (g' : Dev Cert.SecondRefIdeal.nD → PrngReg), Pre_SecondIdeal m →
    (∀ c : Dev Cert.SecondIdeal.nD,
      m' ((c.tc : Thread Cert.SecondRefIdeal.nD Cert.SecondRefIdeal.τ).loc Cert.SecondRefIdeal.main_arg0) = m ((c.tc : Thread Cert.SecondIdeal.nD Cert.SecondIdeal.τ).loc Cert.SecondIdeal.main_arg0)
      ∧ m' ((c.tc : Thread Cert.SecondRefIdeal.nD Cert.SecondRefIdeal.τ).loc Cert.SecondRefIdeal.main_arg1) = m ((c.tc : Thread Cert.SecondIdeal.nD Cert.SecondIdeal.τ).loc Cert.SecondIdeal.main_arg1)
      ∧ m' ((c.tc : Thread Cert.SecondRefIdeal.nD Cert.SecondRefIdeal.τ).loc Cert.SecondRefIdeal.main_arg2) = m ((c.tc : Thread Cert.SecondIdeal.nD Cert.SecondIdeal.τ).loc Cert.SecondIdeal.main_arg2)
      ∧ m' ((c.tc : Thread Cert.SecondRefIdeal.nD Cert.SecondRefIdeal.τ).loc Cert.SecondRefIdeal.main_arg3) = m ((c.tc : Thread Cert.SecondIdeal.nD Cert.SecondIdeal.τ).loc Cert.SecondIdeal.main_arg3)
      ∧ m' ((c.tc : Thread Cert.SecondRefIdeal.nD Cert.SecondRefIdeal.τ).loc Cert.SecondRefIdeal.main_arg4) = m ((c.tc : Thread Cert.SecondIdeal.nD Cert.SecondIdeal.τ).loc Cert.SecondIdeal.main_arg4)
      ∧ m' ((c.tc : Thread Cert.SecondRefIdeal.nD Cert.SecondRefIdeal.τ).loc Cert.SecondRefIdeal.main_arg5) = m ((c.tc : Thread Cert.SecondIdeal.nD Cert.SecondIdeal.τ).loc Cert.SecondIdeal.main_arg5)
      ∧ m' ((c.tc : Thread Cert.SecondRefIdeal.nD Cert.SecondRefIdeal.τ).loc Cert.SecondRefIdeal.main_arg6) = m ((c.tc : Thread Cert.SecondIdeal.nD Cert.SecondIdeal.τ).loc Cert.SecondIdeal.main_arg6)
      ∧ m' ((c.tc : Thread Cert.SecondRefIdeal.nD Cert.SecondRefIdeal.τ).loc Cert.SecondRefIdeal.main_arg7) = m ((c.tc : Thread Cert.SecondIdeal.nD Cert.SecondIdeal.τ).loc Cert.SecondIdeal.main_arg7)) →
    ∃ (v0 : (c : Dev Cert.SecondIdeal.nD) → Buf (Elt Ideal) ((c.tc : Thread Cert.SecondIdeal.nD Cert.SecondIdeal.τ).loc Cert.SecondIdeal.main_v3)) (v1 : (c : Dev Cert.SecondIdeal.nD) → Buf (Elt Ideal) ((c.tc : Thread Cert.SecondIdeal.nD Cert.SecondIdeal.τ).loc Cert.SecondIdeal.main_v6)),
      θ_run (Cert.SecondIdeal.defs (F := Ideal)) (onTc (τ := Cert.SecondIdeal.τ) (Cert.SecondIdeal.main (F := Ideal))) ⟨m, fun _ => 0, g⟩ (fun r => ∀ c : Dev Cert.SecondIdeal.nD,
          r.2.mem ((c.tc : Thread Cert.SecondIdeal.nD Cert.SecondIdeal.τ).loc Cert.SecondIdeal.main_v3) = v0 c
          ∧ r.2.mem ((c.tc : Thread Cert.SecondIdeal.nD Cert.SecondIdeal.τ).loc Cert.SecondIdeal.main_v6) = v1 c
          ∧ r.2.mem ((c.tc : Thread Cert.SecondIdeal.nD Cert.SecondIdeal.τ).loc Cert.SecondIdeal.main_arg0) = m ((c.tc : Thread Cert.SecondIdeal.nD Cert.SecondIdeal.τ).loc Cert.SecondIdeal.main_arg0)
          ∧ r.2.mem ((c.tc : Thread Cert.SecondIdeal.nD Cert.SecondIdeal.τ).loc Cert.SecondIdeal.main_arg1) = m ((c.tc : Thread Cert.SecondIdeal.nD Cert.SecondIdeal.τ).loc Cert.SecondIdeal.main_arg1)
          ∧ r.2.mem ((c.tc : Thread Cert.SecondIdeal.nD Cert.SecondIdeal.τ).loc Cert.SecondIdeal.main_arg2) = m ((c.tc : Thread Cert.SecondIdeal.nD Cert.SecondIdeal.τ).loc Cert.SecondIdeal.main_arg2)
          ∧ r.2.mem ((c.tc : Thread Cert.SecondIdeal.nD Cert.SecondIdeal.τ).loc Cert.SecondIdeal.main_arg3) = m ((c.tc : Thread Cert.SecondIdeal.nD Cert.SecondIdeal.τ).loc Cert.SecondIdeal.main_arg3)
          ∧ r.2.mem ((c.tc : Thread Cert.SecondIdeal.nD Cert.SecondIdeal.τ).loc Cert.SecondIdeal.main_arg4) = m ((c.tc : Thread Cert.SecondIdeal.nD Cert.SecondIdeal.τ).loc Cert.SecondIdeal.main_arg4)
          ∧ r.2.mem ((c.tc : Thread Cert.SecondIdeal.nD Cert.SecondIdeal.τ).loc Cert.SecondIdeal.main_arg5) = m ((c.tc : Thread Cert.SecondIdeal.nD Cert.SecondIdeal.τ).loc Cert.SecondIdeal.main_arg5)
          ∧ r.2.mem ((c.tc : Thread Cert.SecondIdeal.nD Cert.SecondIdeal.τ).loc Cert.SecondIdeal.main_arg6) = m ((c.tc : Thread Cert.SecondIdeal.nD Cert.SecondIdeal.τ).loc Cert.SecondIdeal.main_arg6)
          ∧ r.2.mem ((c.tc : Thread Cert.SecondIdeal.nD Cert.SecondIdeal.τ).loc Cert.SecondIdeal.main_arg7) = m ((c.tc : Thread Cert.SecondIdeal.nD Cert.SecondIdeal.τ).loc Cert.SecondIdeal.main_arg7))
      ∧ θ_run (Cert.SecondRefIdeal.defs (F := Ideal)) (onTc (τ := Cert.SecondRefIdeal.τ) (Cert.SecondRefIdeal.main (F := Ideal))) ⟨m', fun _ => 0, g'⟩ (fun r => ∀ c : Dev Cert.SecondRefIdeal.nD,
          r.2.mem ((c.tc : Thread Cert.SecondRefIdeal.nD Cert.SecondRefIdeal.τ).loc Cert.SecondRefIdeal.main_v29) = v0 c
          ∧ r.2.mem ((c.tc : Thread Cert.SecondRefIdeal.nD Cert.SecondRefIdeal.τ).loc Cert.SecondRefIdeal.main_v47) = v1 c
          ∧ r.2.mem ((c.tc : Thread Cert.SecondRefIdeal.nD Cert.SecondRefIdeal.τ).loc Cert.SecondRefIdeal.main_arg0) = m' ((c.tc : Thread Cert.SecondRefIdeal.nD Cert.SecondRefIdeal.τ).loc Cert.SecondRefIdeal.main_arg0)
          ∧ r.2.mem ((c.tc : Thread Cert.SecondRefIdeal.nD Cert.SecondRefIdeal.τ).loc Cert.SecondRefIdeal.main_arg1) = m' ((c.tc : Thread Cert.SecondRefIdeal.nD Cert.SecondRefIdeal.τ).loc Cert.SecondRefIdeal.main_arg1)
          ∧ r.2.mem ((c.tc : Thread Cert.SecondRefIdeal.nD Cert.SecondRefIdeal.τ).loc Cert.SecondRefIdeal.main_arg2) = m' ((c.tc : Thread Cert.SecondRefIdeal.nD Cert.SecondRefIdeal.τ).loc Cert.SecondRefIdeal.main_arg2)
          ∧ r.2.mem ((c.tc : Thread Cert.SecondRefIdeal.nD Cert.SecondRefIdeal.τ).loc Cert.SecondRefIdeal.main_arg3) = m' ((c.tc : Thread Cert.SecondRefIdeal.nD Cert.SecondRefIdeal.τ).loc Cert.SecondRefIdeal.main_arg3)
          ∧ r.2.mem ((c.tc : Thread Cert.SecondRefIdeal.nD Cert.SecondRefIdeal.τ).loc Cert.SecondRefIdeal.main_arg4) = m' ((c.tc : Thread Cert.SecondRefIdeal.nD Cert.SecondRefIdeal.τ).loc Cert.SecondRefIdeal.main_arg4)
          ∧ r.2.mem ((c.tc : Thread Cert.SecondRefIdeal.nD Cert.SecondRefIdeal.τ).loc Cert.SecondRefIdeal.main_arg5) = m' ((c.tc : Thread Cert.SecondRefIdeal.nD Cert.SecondRefIdeal.τ).loc Cert.SecondRefIdeal.main_arg5)
          ∧ r.2.mem ((c.tc : Thread Cert.SecondRefIdeal.nD Cert.SecondRefIdeal.τ).loc Cert.SecondRefIdeal.main_arg6) = m' ((c.tc : Thread Cert.SecondRefIdeal.nD Cert.SecondRefIdeal.τ).loc Cert.SecondRefIdeal.main_arg6)
          ∧ r.2.mem ((c.tc : Thread Cert.SecondRefIdeal.nD Cert.SecondRefIdeal.τ).loc Cert.SecondRefIdeal.main_arg7) = m' ((c.tc : Thread Cert.SecondRefIdeal.nD Cert.SecondRefIdeal.τ).loc Cert.SecondRefIdeal.main_arg7))

def preserves_Begin_BeginIdeal : Prop :=
  True

def algebraic_BeginIdeal_BeginRefIdeal [hBeginIdeal : Cert.BeginIdeal.Facts] [hBeginRefIdeal : Cert.BeginRefIdeal.Facts] : Prop :=
  ∀ (m : (ℓ : Loc Cert.BeginIdeal.nD Cert.BeginIdeal.τ Cert.BeginIdeal.sig) → Buf (Elt Ideal) ℓ) (g : Dev Cert.BeginIdeal.nD → PrngReg)
    (m' : (ℓ : Loc Cert.BeginRefIdeal.nD Cert.BeginRefIdeal.τ Cert.BeginRefIdeal.sig) → Buf (Elt Ideal) ℓ) (g' : Dev Cert.BeginRefIdeal.nD → PrngReg), Pre_BeginIdeal m →
    (∀ c : Dev Cert.BeginIdeal.nD,
      m' ((c.tc : Thread Cert.BeginRefIdeal.nD Cert.BeginRefIdeal.τ).loc Cert.BeginRefIdeal.main_arg0) = m ((c.tc : Thread Cert.BeginIdeal.nD Cert.BeginIdeal.τ).loc Cert.BeginIdeal.main_arg0)
      ∧ m' ((c.tc : Thread Cert.BeginRefIdeal.nD Cert.BeginRefIdeal.τ).loc Cert.BeginRefIdeal.main_arg1) = m ((c.tc : Thread Cert.BeginIdeal.nD Cert.BeginIdeal.τ).loc Cert.BeginIdeal.main_arg1)
      ∧ m' ((c.tc : Thread Cert.BeginRefIdeal.nD Cert.BeginRefIdeal.τ).loc Cert.BeginRefIdeal.main_arg2) = m ((c.tc : Thread Cert.BeginIdeal.nD Cert.BeginIdeal.τ).loc Cert.BeginIdeal.main_arg2)
      ∧ m' ((c.tc : Thread Cert.BeginRefIdeal.nD Cert.BeginRefIdeal.τ).loc Cert.BeginRefIdeal.main_arg3) = m ((c.tc : Thread Cert.BeginIdeal.nD Cert.BeginIdeal.τ).loc Cert.BeginIdeal.main_arg3)) →
    ∃ (v0 : (c : Dev Cert.BeginIdeal.nD) → Buf (Elt Ideal) ((c.tc : Thread Cert.BeginIdeal.nD Cert.BeginIdeal.τ).loc Cert.BeginIdeal.main_v4)),
      θ_run (Cert.BeginIdeal.defs (F := Ideal)) (onTc (τ := Cert.BeginIdeal.τ) (Cert.BeginIdeal.main (F := Ideal))) ⟨m, fun _ => 0, g⟩ (fun r => ∀ c : Dev Cert.BeginIdeal.nD,
          r.2.mem ((c.tc : Thread Cert.BeginIdeal.nD Cert.BeginIdeal.τ).loc Cert.BeginIdeal.main_v4) = v0 c
          ∧ r.2.mem ((c.tc : Thread Cert.BeginIdeal.nD Cert.BeginIdeal.τ).loc Cert.BeginIdeal.main_arg0) = m ((c.tc : Thread Cert.BeginIdeal.nD Cert.BeginIdeal.τ).loc Cert.BeginIdeal.main_arg0)
          ∧ r.2.mem ((c.tc : Thread Cert.BeginIdeal.nD Cert.BeginIdeal.τ).loc Cert.BeginIdeal.main_arg1) = m ((c.tc : Thread Cert.BeginIdeal.nD Cert.BeginIdeal.τ).loc Cert.BeginIdeal.main_arg1)
          ∧ r.2.mem ((c.tc : Thread Cert.BeginIdeal.nD Cert.BeginIdeal.τ).loc Cert.BeginIdeal.main_arg2) = m ((c.tc : Thread Cert.BeginIdeal.nD Cert.BeginIdeal.τ).loc Cert.BeginIdeal.main_arg2)
          ∧ r.2.mem ((c.tc : Thread Cert.BeginIdeal.nD Cert.BeginIdeal.τ).loc Cert.BeginIdeal.main_arg3) = m ((c.tc : Thread Cert.BeginIdeal.nD Cert.BeginIdeal.τ).loc Cert.BeginIdeal.main_arg3))
      ∧ θ_run (Cert.BeginRefIdeal.defs (F := Ideal)) (onTc (τ := Cert.BeginRefIdeal.τ) (Cert.BeginRefIdeal.main (F := Ideal))) ⟨m', fun _ => 0, g'⟩ (fun r => ∀ c : Dev Cert.BeginRefIdeal.nD,
          r.2.mem ((c.tc : Thread Cert.BeginRefIdeal.nD Cert.BeginRefIdeal.τ).loc Cert.BeginRefIdeal.main_v18) = v0 c
          ∧ r.2.mem ((c.tc : Thread Cert.BeginRefIdeal.nD Cert.BeginRefIdeal.τ).loc Cert.BeginRefIdeal.main_arg0) = m' ((c.tc : Thread Cert.BeginRefIdeal.nD Cert.BeginRefIdeal.τ).loc Cert.BeginRefIdeal.main_arg0)
          ∧ r.2.mem ((c.tc : Thread Cert.BeginRefIdeal.nD Cert.BeginRefIdeal.τ).loc Cert.BeginRefIdeal.main_arg1) = m' ((c.tc : Thread Cert.BeginRefIdeal.nD Cert.BeginRefIdeal.τ).loc Cert.BeginRefIdeal.main_arg1)
          ∧ r.2.mem ((c.tc : Thread Cert.BeginRefIdeal.nD Cert.BeginRefIdeal.τ).loc Cert.BeginRefIdeal.main_arg2) = m' ((c.tc : Thread Cert.BeginRefIdeal.nD Cert.BeginRefIdeal.τ).loc Cert.BeginRefIdeal.main_arg2)
          ∧ r.2.mem ((c.tc : Thread Cert.BeginRefIdeal.nD Cert.BeginRefIdeal.τ).loc Cert.BeginRefIdeal.main_arg3) = m' ((c.tc : Thread Cert.BeginRefIdeal.nD Cert.BeginRefIdeal.τ).loc Cert.BeginRefIdeal.main_arg3))

def preserves_First_FirstIdeal : Prop :=
  True

def algebraic_FirstIdeal_FirstRefIdeal [hFirstIdeal : Cert.FirstIdeal.Facts] [hFirstRefIdeal : Cert.FirstRefIdeal.Facts] : Prop :=
  ∀ (m : (ℓ : Loc Cert.FirstIdeal.nD Cert.FirstIdeal.τ Cert.FirstIdeal.sig) → Buf (Elt Ideal) ℓ) (g : Dev Cert.FirstIdeal.nD → PrngReg)
    (m' : (ℓ : Loc Cert.FirstRefIdeal.nD Cert.FirstRefIdeal.τ Cert.FirstRefIdeal.sig) → Buf (Elt Ideal) ℓ) (g' : Dev Cert.FirstRefIdeal.nD → PrngReg), Pre_FirstIdeal m →
    (∀ c : Dev Cert.FirstIdeal.nD,
      m' ((c.tc : Thread Cert.FirstRefIdeal.nD Cert.FirstRefIdeal.τ).loc Cert.FirstRefIdeal.main_arg0) = m ((c.tc : Thread Cert.FirstIdeal.nD Cert.FirstIdeal.τ).loc Cert.FirstIdeal.main_arg0)
      ∧ m' ((c.tc : Thread Cert.FirstRefIdeal.nD Cert.FirstRefIdeal.τ).loc Cert.FirstRefIdeal.main_arg1) = m ((c.tc : Thread Cert.FirstIdeal.nD Cert.FirstIdeal.τ).loc Cert.FirstIdeal.main_arg1)
      ∧ m' ((c.tc : Thread Cert.FirstRefIdeal.nD Cert.FirstRefIdeal.τ).loc Cert.FirstRefIdeal.main_arg2) = m ((c.tc : Thread Cert.FirstIdeal.nD Cert.FirstIdeal.τ).loc Cert.FirstIdeal.main_arg2)
      ∧ m' ((c.tc : Thread Cert.FirstRefIdeal.nD Cert.FirstRefIdeal.τ).loc Cert.FirstRefIdeal.main_arg3) = m ((c.tc : Thread Cert.FirstIdeal.nD Cert.FirstIdeal.τ).loc Cert.FirstIdeal.main_arg3)
      ∧ m' ((c.tc : Thread Cert.FirstRefIdeal.nD Cert.FirstRefIdeal.τ).loc Cert.FirstRefIdeal.main_arg4) = m ((c.tc : Thread Cert.FirstIdeal.nD Cert.FirstIdeal.τ).loc Cert.FirstIdeal.main_arg4)
      ∧ m' ((c.tc : Thread Cert.FirstRefIdeal.nD Cert.FirstRefIdeal.τ).loc Cert.FirstRefIdeal.main_arg5) = m ((c.tc : Thread Cert.FirstIdeal.nD Cert.FirstIdeal.τ).loc Cert.FirstIdeal.main_arg5)
      ∧ m' ((c.tc : Thread Cert.FirstRefIdeal.nD Cert.FirstRefIdeal.τ).loc Cert.FirstRefIdeal.main_arg6) = m ((c.tc : Thread Cert.FirstIdeal.nD Cert.FirstIdeal.τ).loc Cert.FirstIdeal.main_arg6)
      ∧ m' ((c.tc : Thread Cert.FirstRefIdeal.nD Cert.FirstRefIdeal.τ).loc Cert.FirstRefIdeal.main_arg7) = m ((c.tc : Thread Cert.FirstIdeal.nD Cert.FirstIdeal.τ).loc Cert.FirstIdeal.main_arg7)
      ∧ m' ((c.tc : Thread Cert.FirstRefIdeal.nD Cert.FirstRefIdeal.τ).loc Cert.FirstRefIdeal.main_arg8) = m ((c.tc : Thread Cert.FirstIdeal.nD Cert.FirstIdeal.τ).loc Cert.FirstIdeal.main_arg8)) →
    ∃ (v0 : (c : Dev Cert.FirstIdeal.nD) → Buf (Elt Ideal) ((c.tc : Thread Cert.FirstIdeal.nD Cert.FirstIdeal.τ).loc Cert.FirstIdeal.main_v5)) (v1 : (c : Dev Cert.FirstIdeal.nD) → Buf (Elt Ideal) ((c.tc : Thread Cert.FirstIdeal.nD Cert.FirstIdeal.τ).loc Cert.FirstIdeal.main_v8)),
      θ_run (Cert.FirstIdeal.defs (F := Ideal)) (onTc (τ := Cert.FirstIdeal.τ) (Cert.FirstIdeal.main (F := Ideal))) ⟨m, fun _ => 0, g⟩ (fun r => ∀ c : Dev Cert.FirstIdeal.nD,
          r.2.mem ((c.tc : Thread Cert.FirstIdeal.nD Cert.FirstIdeal.τ).loc Cert.FirstIdeal.main_v5) = v0 c
          ∧ r.2.mem ((c.tc : Thread Cert.FirstIdeal.nD Cert.FirstIdeal.τ).loc Cert.FirstIdeal.main_v8) = v1 c
          ∧ r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
          ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
          ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
          ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3)
          ∧ r.2.mem ((c.tc : Thread Cert.FirstIdeal.nD Cert.FirstIdeal.τ).loc Cert.FirstIdeal.main_arg4) = m ((c.tc : Thread Cert.FirstIdeal.nD Cert.FirstIdeal.τ).loc Cert.FirstIdeal.main_arg4)
          ∧ r.2.mem ((c.tc : Thread Cert.FirstIdeal.nD Cert.FirstIdeal.τ).loc Cert.FirstIdeal.main_arg5) = m ((c.tc : Thread Cert.FirstIdeal.nD Cert.FirstIdeal.τ).loc Cert.FirstIdeal.main_arg5)
          ∧ r.2.mem ((c.tc : Thread Cert.FirstIdeal.nD Cert.FirstIdeal.τ).loc Cert.FirstIdeal.main_arg6) = m ((c.tc : Thread Cert.FirstIdeal.nD Cert.FirstIdeal.τ).loc Cert.FirstIdeal.main_arg6)
          ∧ r.2.mem ((c.tc : Thread Cert.FirstIdeal.nD Cert.FirstIdeal.τ).loc Cert.FirstIdeal.main_arg7) = m ((c.tc : Thread Cert.FirstIdeal.nD Cert.FirstIdeal.τ).loc Cert.FirstIdeal.main_arg7)
          ∧ r.2.mem ((c.tc : Thread Cert.FirstIdeal.nD Cert.FirstIdeal.τ).loc Cert.FirstIdeal.main_arg8) = m ((c.tc : Thread Cert.FirstIdeal.nD Cert.FirstIdeal.τ).loc Cert.FirstIdeal.main_arg8))
      ∧ θ_run (Cert.FirstRefIdeal.defs (F := Ideal)) (onTc (τ := Cert.FirstRefIdeal.τ) (Cert.FirstRefIdeal.main (F := Ideal))) ⟨m', fun _ => 0, g'⟩ (fun r => ∀ c : Dev Cert.FirstRefIdeal.nD,
          r.2.mem ((c.tc : Thread Cert.FirstRefIdeal.nD Cert.FirstRefIdeal.τ).loc Cert.FirstRefIdeal.main_v30) = v0 c
          ∧ r.2.mem ((c.tc : Thread Cert.FirstRefIdeal.nD Cert.FirstRefIdeal.τ).loc Cert.FirstRefIdeal.main_v47) = v1 c
          ∧ r.2.mem ((c.tc : Thread Cert.FirstRefIdeal.nD Cert.FirstRefIdeal.τ).loc Cert.FirstRefIdeal.main_arg0) = m' ((c.tc : Thread Cert.FirstRefIdeal.nD Cert.FirstRefIdeal.τ).loc Cert.FirstRefIdeal.main_arg0)
          ∧ r.2.mem ((c.tc : Thread Cert.FirstRefIdeal.nD Cert.FirstRefIdeal.τ).loc Cert.FirstRefIdeal.main_arg1) = m' ((c.tc : Thread Cert.FirstRefIdeal.nD Cert.FirstRefIdeal.τ).loc Cert.FirstRefIdeal.main_arg1)
          ∧ r.2.mem ((c.tc : Thread Cert.FirstRefIdeal.nD Cert.FirstRefIdeal.τ).loc Cert.FirstRefIdeal.main_arg2) = m' ((c.tc : Thread Cert.FirstRefIdeal.nD Cert.FirstRefIdeal.τ).loc Cert.FirstRefIdeal.main_arg2)
          ∧ r.2.mem ((c.tc : Thread Cert.FirstRefIdeal.nD Cert.FirstRefIdeal.τ).loc Cert.FirstRefIdeal.main_arg3) = m' ((c.tc : Thread Cert.FirstRefIdeal.nD Cert.FirstRefIdeal.τ).loc Cert.FirstRefIdeal.main_arg3)
          ∧ r.2.mem ((c.tc : Thread Cert.FirstRefIdeal.nD Cert.FirstRefIdeal.τ).loc Cert.FirstRefIdeal.main_arg4) = m' ((c.tc : Thread Cert.FirstRefIdeal.nD Cert.FirstRefIdeal.τ).loc Cert.FirstRefIdeal.main_arg4)
          ∧ r.2.mem ((c.tc : Thread Cert.FirstRefIdeal.nD Cert.FirstRefIdeal.τ).loc Cert.FirstRefIdeal.main_arg5) = m' ((c.tc : Thread Cert.FirstRefIdeal.nD Cert.FirstRefIdeal.τ).loc Cert.FirstRefIdeal.main_arg5)
          ∧ r.2.mem ((c.tc : Thread Cert.FirstRefIdeal.nD Cert.FirstRefIdeal.τ).loc Cert.FirstRefIdeal.main_arg6) = m' ((c.tc : Thread Cert.FirstRefIdeal.nD Cert.FirstRefIdeal.τ).loc Cert.FirstRefIdeal.main_arg6)
          ∧ r.2.mem ((c.tc : Thread Cert.FirstRefIdeal.nD Cert.FirstRefIdeal.τ).loc Cert.FirstRefIdeal.main_arg7) = m' ((c.tc : Thread Cert.FirstRefIdeal.nD Cert.FirstRefIdeal.τ).loc Cert.FirstRefIdeal.main_arg7)
          ∧ r.2.mem ((c.tc : Thread Cert.FirstRefIdeal.nD Cert.FirstRefIdeal.τ).loc Cert.FirstRefIdeal.main_arg8) = m' ((c.tc : Thread Cert.FirstRefIdeal.nD Cert.FirstRefIdeal.τ).loc Cert.FirstRefIdeal.main_arg8))

def Claim : Prop :=
  ∃ (hKernel : Cert.Kernel.Facts) (hKernelIdeal : Cert.KernelIdeal.Facts) (hReferenceIdeal : Cert.ReferenceIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hQkv : Cert.Qkv.Facts) (hQkvIdeal : Cert.QkvIdeal.Facts) (hQkvRefIdeal : Cert.QkvRefIdeal.Facts) (hProj : Cert.Proj.Facts) (hProjIdeal : Cert.ProjIdeal.Facts) (hProjRefIdeal : Cert.ProjRefIdeal.Facts) (hOut : Cert.Out.Facts) (hOutIdeal : Cert.OutIdeal.Facts) (hOutRefIdeal : Cert.OutRefIdeal.Facts) (hNormPrompt : Cert.NormPrompt.Facts) (hNormPromptIdeal : Cert.NormPromptIdeal.Facts) (hNormPromptRefIdeal : Cert.NormPromptRefIdeal.Facts) (hNormSample : Cert.NormSample.Facts) (hNormSampleIdeal : Cert.NormSampleIdeal.Facts) (hNormSampleRefIdeal : Cert.NormSampleRefIdeal.Facts) (hNorm : Cert.Norm.Facts) (hNormIdeal : Cert.NormIdeal.Facts) (hNormRefIdeal : Cert.NormRefIdeal.Facts) (hBounds : Cert.Bounds.Facts) (hBoundsIdeal : Cert.BoundsIdeal.Facts) (hBoundsRefIdeal : Cert.BoundsRefIdeal.Facts) (hTail : Cert.Tail.Facts) (hTailIdeal : Cert.TailIdeal.Facts) (hTailRefIdeal : Cert.TailRefIdeal.Facts) (hCast : Cert.Cast.Facts) (hCastIdeal : Cert.CastIdeal.Facts) (hCastRefIdeal : Cert.CastRefIdeal.Facts) (hMid : Cert.Mid.Facts) (hMidIdeal : Cert.MidIdeal.Facts) (hMidRefIdeal : Cert.MidRefIdeal.Facts) (hSecond : Cert.Second.Facts) (hSecondIdeal : Cert.SecondIdeal.Facts) (hSecondRefIdeal : Cert.SecondRefIdeal.Facts) (hBegin : Cert.Begin.Facts) (hBeginIdeal : Cert.BeginIdeal.Facts) (hBeginRefIdeal : Cert.BeginRefIdeal.Facts) (hFirst : Cert.First.Facts) (hFirstIdeal : Cert.FirstIdeal.Facts) (hFirstRefIdeal : Cert.FirstRefIdeal.Facts) (hPre_finite : Cert.Pre_finite.Facts) (hPre_sum_of_squares : Cert.Pre_sum_of_squares.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Up (hUp := hUp)
    ∧ quiescent_UpIdeal (hUpIdeal := hUpIdeal)
    ∧ quiescent_UpIdeal_pre_sum_of_squares (hUpIdeal := hUpIdeal) (hPre_sum_of_squares := hPre_sum_of_squares)
    ∧ quiescent_UpRefIdeal (hUpRefIdeal := hUpRefIdeal)
    ∧ quiescent_UpRefIdeal_pre_sum_of_squares (hUpRefIdeal := hUpRefIdeal) (hPre_sum_of_squares := hPre_sum_of_squares)
    ∧ quiescent_Down (hDown := hDown)
    ∧ quiescent_DownIdeal (hDownIdeal := hDownIdeal)
    ∧ quiescent_DownRefIdeal (hDownRefIdeal := hDownRefIdeal)
    ∧ quiescent_Qkv (hQkv := hQkv)
    ∧ quiescent_QkvIdeal (hQkvIdeal := hQkvIdeal)
    ∧ quiescent_QkvRefIdeal (hQkvRefIdeal := hQkvRefIdeal)
    ∧ quiescent_Proj (hProj := hProj)
    ∧ quiescent_ProjIdeal (hProjIdeal := hProjIdeal)
    ∧ quiescent_ProjRefIdeal (hProjRefIdeal := hProjRefIdeal)
    ∧ quiescent_Out (hOut := hOut)
    ∧ quiescent_OutIdeal (hOutIdeal := hOutIdeal)
    ∧ quiescent_OutRefIdeal (hOutRefIdeal := hOutRefIdeal)
    ∧ quiescent_NormPrompt (hNormPrompt := hNormPrompt)
    ∧ quiescent_NormPromptIdeal (hNormPromptIdeal := hNormPromptIdeal)
    ∧ quiescent_NormPromptRefIdeal (hNormPromptRefIdeal := hNormPromptRefIdeal)
    ∧ quiescent_NormSample (hNormSample := hNormSample)
    ∧ quiescent_NormSampleIdeal (hNormSampleIdeal := hNormSampleIdeal)
    ∧ quiescent_NormSampleRefIdeal (hNormSampleRefIdeal := hNormSampleRefIdeal)
    ∧ quiescent_Norm (hNorm := hNorm)
    ∧ quiescent_NormIdeal (hNormIdeal := hNormIdeal)
    ∧ quiescent_NormRefIdeal (hNormRefIdeal := hNormRefIdeal)
    ∧ quiescent_Bounds (hBounds := hBounds)
    ∧ quiescent_BoundsIdeal (hBoundsIdeal := hBoundsIdeal)
    ∧ quiescent_BoundsRefIdeal (hBoundsRefIdeal := hBoundsRefIdeal)
    ∧ quiescent_Tail (hTail := hTail)
    ∧ quiescent_TailIdeal (hTailIdeal := hTailIdeal)
    ∧ quiescent_TailRefIdeal (hTailRefIdeal := hTailRefIdeal)
    ∧ quiescent_Cast (hCast := hCast)
    ∧ quiescent_CastIdeal (hCastIdeal := hCastIdeal)
    ∧ quiescent_CastRefIdeal (hCastRefIdeal := hCastRefIdeal)
    ∧ quiescent_Mid (hMid := hMid)
    ∧ quiescent_MidIdeal (hMidIdeal := hMidIdeal)
    ∧ quiescent_MidRefIdeal (hMidRefIdeal := hMidRefIdeal)
    ∧ quiescent_Second (hSecond := hSecond)
    ∧ quiescent_SecondIdeal (hSecondIdeal := hSecondIdeal)
    ∧ quiescent_SecondRefIdeal (hSecondRefIdeal := hSecondRefIdeal)
    ∧ quiescent_Begin (hBegin := hBegin)
    ∧ quiescent_BeginIdeal (hBeginIdeal := hBeginIdeal)
    ∧ quiescent_BeginRefIdeal (hBeginRefIdeal := hBeginRefIdeal)
    ∧ quiescent_First (hFirst := hFirst)
    ∧ quiescent_FirstIdeal (hFirstIdeal := hFirstIdeal)
    ∧ quiescent_FirstRefIdeal (hFirstRefIdeal := hFirstRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Up_UpIdeal
    ∧ algebraic_UpIdeal_UpRefIdeal_pre_sum_of_squares (hUpIdeal := hUpIdeal) (hUpRefIdeal := hUpRefIdeal) (hPre_sum_of_squares := hPre_sum_of_squares)
    ∧ preserves_Down_DownIdeal
    ∧ algebraic_DownIdeal_DownRefIdeal (hDownIdeal := hDownIdeal) (hDownRefIdeal := hDownRefIdeal)
    ∧ preserves_Qkv_QkvIdeal
    ∧ algebraic_QkvIdeal_QkvRefIdeal (hQkvIdeal := hQkvIdeal) (hQkvRefIdeal := hQkvRefIdeal)
    ∧ preserves_Proj_ProjIdeal
    ∧ algebraic_ProjIdeal_ProjRefIdeal (hProjIdeal := hProjIdeal) (hProjRefIdeal := hProjRefIdeal)
    ∧ preserves_Out_OutIdeal
    ∧ algebraic_OutIdeal_OutRefIdeal (hOutIdeal := hOutIdeal) (hOutRefIdeal := hOutRefIdeal)
    ∧ preserves_NormPrompt_NormPromptIdeal
    ∧ algebraic_NormPromptIdeal_NormPromptRefIdeal (hNormPromptIdeal := hNormPromptIdeal) (hNormPromptRefIdeal := hNormPromptRefIdeal)
    ∧ preserves_NormSample_NormSampleIdeal
    ∧ algebraic_NormSampleIdeal_NormSampleRefIdeal (hNormSampleIdeal := hNormSampleIdeal) (hNormSampleRefIdeal := hNormSampleRefIdeal)
    ∧ preserves_Norm_NormIdeal
    ∧ algebraic_NormIdeal_NormRefIdeal (hNormIdeal := hNormIdeal) (hNormRefIdeal := hNormRefIdeal)
    ∧ preserves_Bounds_BoundsIdeal
    ∧ algebraic_BoundsIdeal_BoundsRefIdeal (hBoundsIdeal := hBoundsIdeal) (hBoundsRefIdeal := hBoundsRefIdeal)
    ∧ preserves_Tail_TailIdeal
    ∧ algebraic_TailIdeal_TailRefIdeal (hTailIdeal := hTailIdeal) (hTailRefIdeal := hTailRefIdeal)
    ∧ preserves_Cast_CastIdeal
    ∧ algebraic_CastIdeal_CastRefIdeal (hCastIdeal := hCastIdeal) (hCastRefIdeal := hCastRefIdeal)
    ∧ preserves_Mid_MidIdeal
    ∧ algebraic_MidIdeal_MidRefIdeal (hMidIdeal := hMidIdeal) (hMidRefIdeal := hMidRefIdeal)
    ∧ preserves_Second_SecondIdeal
    ∧ algebraic_SecondIdeal_SecondRefIdeal (hSecondIdeal := hSecondIdeal) (hSecondRefIdeal := hSecondRefIdeal)
    ∧ preserves_Begin_BeginIdeal
    ∧ algebraic_BeginIdeal_BeginRefIdeal (hBeginIdeal := hBeginIdeal) (hBeginRefIdeal := hBeginRefIdeal)
    ∧ preserves_First_FirstIdeal
    ∧ algebraic_FirstIdeal_FirstRefIdeal (hFirstIdeal := hFirstIdeal) (hFirstRefIdeal := hFirstRefIdeal)
-- ==== Pre_finite.lean ====
abbrev S24576x12288 : Shape := ⟨2, ![24576, 12288]⟩
abbrev S32x15x31 : Shape := ⟨3, ![32, 15, 31]⟩
abbrev S24576x4096 : Shape := ⟨2, ![24576, 4096]⟩
abbrev S8192x8192 : Shape := ⟨2, ![8192, 8192]⟩
abbrev S_ : Shape := ⟨0, ![]⟩

class Facts : Prop where
  slices_S24576x12288_S8192x8192_16384_0 : S24576x12288.Slices ![16384, 0] S8192x8192
  bitsLt_bf16_f32 : FTy.bits .bf16 < FTy.bits .f32
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S32x15x31 : S_.BroadcastsInDim S32x15x31 (![] : Fin 0 → Fin S32x15x31.rank)
  reducesTo_S32x15x31_S_d0_1_2 : S32x15x31.ReducesTo [0, 1, 2] S_

variable [Facts]

def fn {F : FTy → Type} [FloatOps F] (main_arg0 : FVec F S24576x12288 .bf16) (main_arg1 : FVec F S32x15x31 .f32) (main_arg2 : FVec F S24576x4096 .bf16) : IVec S_ 1 :=
  let main_v0 : FVec F S8192x8192 .bf16 := (extractStridedSlice S8192x8192 ![16384, 0] · slices_S24576x12288_S8192x8192_16384_0) main_arg0
  let main_v1 : FVec F S8192x8192 .f32 := (extf .f32 · bitsLt_bf16_f32) main_v0
  let main_v2 : FVec F S8192x8192 .f32 := Host.absf main_v1
  let main_cst : FVec F S_ .f32 := constant S_ .f32 0x7F800000#32
  let main_v3 : FVec F S8192x8192 .f32 := broadcastInDim S8192x8192 ![] bcast_S_S8192x8192 main_cst
  let main_v4 : IVec S8192x8192 1 := cmpf .olt main_v2 main_v3
  let main_c : IVec S_ 1 := constantI S_ 1 1#1
  let main_v5 : IVec S_ 1 := (fun x v => Host.reduce IntOp.andi x v reducesTo_S8192x8192_S_d0_1 h_S_) main_v4 main_c
  let main_v6 : FVec F S32x15x31 .f32 := Host.absf main_arg1
  let main_cst_0 : FVec F S_ .f32 := constant S_ .f32 0x7F800000#32
  let main_v7 : FVec F S32x15x31 .f32 := broadcastInDim S32x15x31 ![] bcast_S_S32x15x31 main_cst_0
  let main_v8 : IVec S32x15x31 1 := cmpf .olt main_v6 main_v7
  let main_c_1 : IVec S_ 1 := constantI S_ 1 1#1
  let main_v9 : IVec S_ 1 := (fun x v => Host.reduce IntOp.andi x v reducesTo_S32x15x31_S_d0_1_2 h_S_) main_v8 main_c_1
  let main_v10 : IVec S_ 1 := andi main_v5 main_v9
  main_v10
-- ==== Pre_sum_of_squares.lean ====
abbrev S24576x4096 : Shape := ⟨2, ![24576, 4096]⟩
abbrev S4x4096x16384 : Shape := ⟨3, ![4, 4096, 16384]⟩
abbrev S24576x128 : Shape := ⟨2, ![24576, 128]⟩
abbrev S_ : Shape := ⟨0, ![]⟩

class Facts : Prop where
  bcast_S_S24576x128 : S_.BroadcastsInDim S24576x128 (![] : Fin 0 → Fin S24576x128.rank)
  reducesTo_S24576x128_S_d0_1 : S24576x128.ReducesTo [0, 1] S_
  h_S_ : 0 < S_.numel

variable [Facts]

def fn {F : FTy → Type} [FloatOps F] (main_arg0 : FVec F S24576x4096 .bf16) (main_arg1 : FVec F S4x4096x16384 .bf16) (main_arg2 : FVec F S24576x128 .f32) : IVec S_ 1 :=
  let main_cst : FVec F S_ .f32 := constant S_ .f32 0x00000000#32
  let main_v0 : FVec F S24576x128 .f32 := broadcastInDim S24576x128 ![] bcast_S_S24576x128 main_cst
  let main_v1 : IVec S24576x128 1 := cmpf .oge main_arg2 main_v0
  let main_c : IVec S_ 1 := constantI S_ 1 1#1
  let main_v2 : IVec S_ 1 := (fun x v => Host.reduce IntOp.andi x v reducesTo_S24576x128_S_d0_1 h_S_) main_v1 main_c
  main_v2
-- ==== Kernel.lean ====
abbrev S24576x12288 : Shape := ⟨2, ![24576, 12288]⟩
abbrev S32x15x31 : Shape := ⟨3, ![32, 15, 31]⟩
abbrev S24576x4096 : Shape := ⟨2, ![24576, 4096]⟩
abbrev S64x64 : Shape := ⟨2, ![64, 64]⟩
abbrev S8x8 : Shape := ⟨2, ![8, 8]⟩
abbrev S1x1x64x64 : Shape := ⟨4, ![1, 1, 64, 64]⟩
abbrev S_ : Shape := ⟨0, ![]⟩
abbrev S64x64x1 : Shape := ⟨3, ![64, 64, 1]⟩
abbrev S32x15x64x64 : Shape := ⟨4, ![32, 15, 64, 64]⟩
abbrev S8x8x1 : Shape := ⟨3, ![8, 8, 1]⟩
abbrev S32x8x8x64x64 : Shape := ⟨5, ![32, 8, 8, 64, 64]⟩
abbrev S32x8x64x8x64 : Shape := ⟨5, ![32, 8, 64, 8, 64]⟩
abbrev S32x8x64x512 : Shape := ⟨4, ![32, 8, 64, 512]⟩
abbrev S2048x128 : Shape := ⟨2, ![2048, 128]⟩
abbrev S1x8x64x512 : Shape := ⟨4, ![1, 8, 64, 512]⟩
abbrev S64x128 : Shape := ⟨2, ![64, 128]⟩
abbrev S512x128 : Shape := ⟨2, ![512, 128]⟩
abbrev S64x512 : Shape := ⟨2, ![64, 512]⟩
abbrev S1x1x64x512 : Shape := ⟨4, ![1, 1, 64, 512]⟩
abbrev S64 : Shape := ⟨1, ![64]⟩
abbrev S64x1 : Shape := ⟨2, ![64, 1]⟩

abbrev nBuf : Space → Nat
  | .hbm => 32
  | .vmem => 10
  | .smem => 0
  | _ => 0

abbrev bufTy : (tb : Table) → Fin (tcTables nBuf tb) → BufTy
  | .hbm, ⟨0, _⟩ => ⟨S24576x12288, .bf16⟩
  | .hbm, ⟨1, _⟩ => ⟨S32x15x31, .f32⟩
  | .hbm, ⟨2, _⟩ => ⟨S24576x4096, .bf16⟩
  | .hbm, ⟨3, _⟩ => ⟨S64x64, .i1⟩
  | .hbm, ⟨4, _⟩ => ⟨S64x64, .i32⟩
  | .hbm, ⟨5, _⟩ => ⟨S64x64, .i1⟩
  | .hbm, ⟨6, _⟩ => ⟨S8x8, .i32⟩
  | .hbm, ⟨7, _⟩ => ⟨S8x8, .i1⟩
  | .hbm, ⟨8, _⟩ => ⟨S1x1x64x64, .i1⟩
  | .hbm, ⟨9, _⟩ => ⟨S_, .i32⟩
  | .hbm, ⟨10, _⟩ => ⟨S64x64, .i32⟩
  | .hbm, ⟨11, _⟩ => ⟨S64x64, .i32⟩
  | .hbm, ⟨12, _⟩ => ⟨S64x64, .i32⟩
  | .hbm, ⟨13, _⟩ => ⟨S64x64x1, .i32⟩
  | .hbm, ⟨14, _⟩ => ⟨S32x15x64x64, .f32⟩
  | .hbm, ⟨15, _⟩ => ⟨S_, .f32⟩
  | .hbm, ⟨16, _⟩ => ⟨S32x15x64x64, .f32⟩
  | .hbm, ⟨17, _⟩ => ⟨S32x15x64x64, .f32⟩
  | .hbm, ⟨18, _⟩ => ⟨S_, .f32⟩
  | .hbm, ⟨19, _⟩ => ⟨S_, .f32⟩
  | .hbm, ⟨20, _⟩ => ⟨S32x15x64x64, .i1⟩
  | .hbm, ⟨21, _⟩ => ⟨S32x15x64x64, .f32⟩
  | .hbm, ⟨22, _⟩ => ⟨S32x15x64x64, .f32⟩
  | .hbm, ⟨23, _⟩ => ⟨S_, .i32⟩
  | .hbm, ⟨24, _⟩ => ⟨S8x8, .i32⟩
  | .hbm, ⟨25, _⟩ => ⟨S8x8, .i32⟩
  | .hbm, ⟨26, _⟩ => ⟨S8x8, .i32⟩
  | .hbm, ⟨27, _⟩ => ⟨S8x8x1, .i32⟩
  | .hbm, ⟨28, _⟩ => ⟨S32x8x8x64x64, .f32⟩
  | .hbm, ⟨29, _⟩ => ⟨S32x8x64x8x64, .f32⟩
  | .hbm, ⟨30, _⟩ => ⟨S32x8x64x512, .f32⟩
  | .hbm, ⟨31, _⟩ => ⟨S24576x4096, .bf16⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S1x8x64x512, .f32⟩
  | .local _ .vmem, ⟨7, _⟩ => ⟨S1x8x64x512, .f32⟩
  | .local _ .vmem, ⟨8, _⟩ => ⟨S2048x128, .bf16⟩
  | .local _ .vmem, ⟨9, _⟩ => ⟨S2048x128, .bf16⟩
  | _, _ => ⟨S24576x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_c_2 : Ref sig .tc := ⟨.hbm, 6, rfl⟩
abbrev main_c_3 : Ref sig .tc := ⟨.hbm, 7, rfl⟩
abbrev main_v0 : Ref sig .tc := ⟨.hbm, 8, rfl⟩
abbrev main_c_4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_5 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v8 : Ref sig .tc := ⟨.hbm, 22, rfl⟩
abbrev main_c_6 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 32], ![false, false]⟩

def k0_mult1 : BitVec 32 :=
  let c0_i32 : BitVec 32 := 0#32
  let c32_i32 : BitVec 32 := 32#32
  let v0 : BitVec 32 := Scalar.muli c0_i32 c32_i32
  let c0_i32_0 : BitVec 32 := 0#32
  let v1 : BitVec 32 := Scalar.addi v0 c0_i32_0
  let c64_i32 : BitVec 32 := 64#32
  let v5 : BitVec 32 := Scalar.muli v1 c64_i32
  v5
def k0_mult2 : BitVec 32 :=
  let c24_i32 : BitVec 32 := 24#32
  let c0_i32_1 : BitVec 32 := 0#32
  let c0_i32 : BitVec 32 := 0#32
  let c32_i32 : BitVec 32 := 32#32
  let v0 : BitVec 32 := Scalar.muli c0_i32 c32_i32
  let c0_i32_0 : BitVec 32 := 0#32
  let v1 : BitVec 32 := Scalar.addi v0 c0_i32_0
  let c4_i32 : BitVec 32 := 4#32
  let v2 : BitVec 32 := Scalar.subi v1 c4_i32
  let v3 : BitVec 32 := Scalar.maxsi c0_i32_1 v2
  let v4 : BitVec 32 := Scalar.minsi c24_i32 v3
  let c64_i32_2 : BitVec 32 := 64#32
  let v7 : BitVec 32 := Scalar.muli v4 c64_i32_2
  v7
def k0_off1 (c0_i32_0 : BitVec 32) : Fin 2 → Nat :=
  let c0_i32 : BitVec 32 := 0#32
  let c32_i32 : BitVec 32 := 32#32
  let v0 : BitVec 32 := Scalar.muli c0_i32 c32_i32
  let v1 : BitVec 32 := Scalar.addi v0 c0_i32_0
  let c64_i32 : BitVec 32 := 64#32
  let v5 : BitVec 32 := Scalar.muli v1 c64_i32
  let v6 : BitVec 32 := v5
  let v9 : Index := Scalar.indexCast v6
  let c0 : Index := 0#32
  ![v9.toNat, 0]
def k0_off2 (c0_i32_0 : BitVec 32) : Fin 2 → Nat :=
  let c24_i32 : BitVec 32 := 24#32
  let c0_i32_1 : BitVec 32 := 0#32
  let c0_i32 : BitVec 32 := 0#32
  let c32_i32 : BitVec 32 := 32#32
  let v0 : BitVec 32 := Scalar.muli c0_i32 c32_i32
  let v1 : BitVec 32 := Scalar.addi v0 c0_i32_0
  let c4_i32 : BitVec 32 := 4#32
  let v2 : BitVec 32 := Scalar.subi v1 c4_i32
  let v3 : BitVec 32 := Scalar.maxsi c0_i32_1 v2
  let v4 : BitVec 32 := Scalar.minsi c24_i32 v3
  let c64_i32_2 : BitVec 32 := 64#32
  let v7 : BitVec 32 := Scalar.muli v4 c64_i32_2
  let v8 : BitVec 32 := v7
  let v11 : Index := Scalar.indexCast v8
  let c0_3 : Index := 0#32
  ![v11.toNat, 0]
def k0_mult3 : BitVec 32 :=
  let c0_i32 : BitVec 32 := 0#32
  let c32_i32_4 : BitVec 32 := 32#32
  let v15 : BitVec 32 := Scalar.muli c0_i32 c32_i32_4
  let c1_i32 : BitVec 32 := 1#32
  let v16 : BitVec 32 := Scalar.addi v15 c1_i32
  let c64_i32_8 : BitVec 32 := 64#32
  let v20 : BitVec 32 := Scalar.muli v16 c64_i32_8
  v20
def k0_mult4 : BitVec 32 :=
  let c24_i32_7 : BitVec 32 := 24#32
  let c0_i32_6 : BitVec 32 := 0#32
  let c0_i32 : BitVec 32 := 0#32
  let c32_i32_4 : BitVec 32 := 32#32
  let v15 : BitVec 32 := Scalar.muli c0_i32 c32_i32_4
  let c1_i32 : BitVec 32 := 1#32
  let v16 : BitVec 32 := Scalar.addi v15 c1_i32
  let c4_i32_5 : BitVec 32 := 4#32
  let v17 : BitVec 32 := Scalar.subi v16 c4_i32_5
  let v18 : BitVec 32 := Scalar.maxsi c0_i32_6 v17
  let v19 : BitVec 32 := Scalar.minsi c24_i32_7 v18
  let c64_i32_9 : BitVec 32 := 64#32
  let v22 : BitVec 32 := Scalar.muli v19 c64_i32_9
  v22
def k0_mult5 : BitVec 32 :=
  let c0_i32 : BitVec 32 := 0#32
  let c32_i32_13 : BitVec 32 := 32#32
  let v30 : BitVec 32 := Scalar.muli c0_i32 c32_i32_13
  let c2_i32 : BitVec 32 := 2#32
  let v31 : BitVec 32 := Scalar.addi v30 c2_i32
  let c64_i32_17 : BitVec 32 := 64#32
  let v35 : BitVec 32 := Scalar.muli v31 c64_i32_17
  v35
def k0_mult6 : BitVec 32 :=
  let c24_i32_16 : BitVec 32 := 24#32
  let c0_i32_15 : BitVec 32 := 0#32
  let c0_i32 : BitVec 32 := 0#32
  let c32_i32_13 : BitVec 32 := 32#32
  let v30 : BitVec 32 := Scalar.muli c0_i32 c32_i32_13
  let c2_i32 : BitVec 32 := 2#32
  let v31 : BitVec 32 := Scalar.addi v30 c2_i32
  let c4_i32_14 : BitVec 32 := 4#32
  let v32 : BitVec 32 := Scalar.subi v31 c4_i32_14
  let v33 : BitVec 32 := Scalar.maxsi c0_i32_15 v32
  let v34 : BitVec 32 := Scalar.minsi c24_i32_16 v33
  let c64_i32_18 : BitVec 32 := 64#32
  let v37 : BitVec 32 := Scalar.muli v34 c64_i32_18
  v37
def k0_mult7 : BitVec 32 :=
  let c0_i32 : BitVec 32 := 0#32
  let c32_i32_22 : BitVec 32 := 32#32
  let v45 : BitVec 32 := Scalar.muli c0_i32 c32_i32_22
  let c3_i32 : BitVec 32 := 3#32
  let v46 : BitVec 32 := Scalar.addi v45 c3_i32
  let c64_i32_26 : BitVec 32 := 64#32
  let v50 : BitVec 32 := Scalar.muli v46 c64_i32_26
  v50
def k0_mult8 : BitVec 32 :=
  let c24_i32_25 : BitVec 32 := 24#32
  let c0_i32_24 : BitVec 32 := 0#32
  let c0_i32 : BitVec 32 := 0#32
  let c32_i32_22 : BitVec 32 := 32#32
  let v45 : BitVec 32 := Scalar.muli c0_i32 c32_i32_22
  let c3_i32 : BitVec 32 := 3#32
  let v46 : BitVec 32 := Scalar.addi v45 c3_i32
  let c4_i32_23 : BitVec 32 := 4#32
  let v47 : BitVec 32 := Scalar.subi v46 c4_i32_23
  let v48 : BitVec 32 := Scalar.maxsi c0_i32_24 v47
  let v49 : BitVec 32 := Scalar.minsi c24_i32_25 v48
  let c64_i32_27 : BitVec 32 := 64#32
  let v52 : BitVec 32 := Scalar.muli v49 c64_i32_27
  v52
def k0_mult9 : BitVec 32 :=
  let c0_i32 : BitVec 32 := 0#32
  let c32_i32_31 : BitVec 32 := 32#32
  let v60 : BitVec 32 := Scalar.muli c0_i32 c32_i32_31
  let c4_i32_32 : BitVec 32 := 4#32
  let v61 : BitVec 32 := Scalar.addi v60 c4_i32_32
  let c64_i32_36 : BitVec 32 := 64#32
  let v65 : BitVec 32 := Scalar.muli v61 c64_i32_36
  v65
def k0_mult10 : BitVec 32 :=
  let c24_i32_35 : BitVec 32 := 24#32
  let c0_i32_34 : BitVec 32 := 0#32
  let c0_i32 : BitVec 32 := 0#32
  let c32_i32_31 : BitVec 32 := 32#32
  let v60 : BitVec 32 := Scalar.muli c0_i32 c32_i32_31
  let c4_i32_32 : BitVec 32 := 4#32
  let v61 : BitVec 32 := Scalar.addi v60 c4_i32_32
  let c4_i32_33 : BitVec 32 := 4#32
  let v62 : BitVec 32 := Scalar.subi v61 c4_i32_33
  let v63 : BitVec 32 := Scalar.maxsi c0_i32_34 v62
  let v64 : BitVec 32 := Scalar.minsi c24_i32_35 v63
  let c64_i32_37 : BitVec 32 := 64#32
  let v67 : BitVec 32 := Scalar.muli v64 c64_i32_37
  v67
def k0_mult11 : BitVec 32 :=
  let c0_i32 : BitVec 32 := 0#32
  let c32_i32_41 : BitVec 32 := 32#32
  let v75 : BitVec 32 := Scalar.muli c0_i32 c32_i32_41
  let c5_i32 : BitVec 32 := 5#32
  let v76 : BitVec 32 := Scalar.addi v75 c5_i32
  let c64_i32_45 : BitVec 32 := 64#32
  let v80 : BitVec 32 := Scalar.muli v76 c64_i32_45
  v80
def k0_mult12 : BitVec 32 :=
  let c24_i32_44 : BitVec 32 := 24#32
  let c0_i32_43 : BitVec 32 := 0#32
  let c0_i32 : BitVec 32 := 0#32
  let c32_i32_41 : BitVec 32 := 32#32
  let v75 : BitVec 32 := Scalar.muli c0_i32 c32_i32_41
  let c5_i32 : BitVec 32 := 5#32
  let v76 : BitVec 32 := Scalar.addi v75 c5_i32
  let c4_i32_42 : BitVec 32 := 4#32
  let v77 : BitVec 32 := Scalar.subi v76 c4_i32_42
  let v78 : BitVec 32 := Scalar.maxsi c0_i32_43 v77
  let v79 : BitVec 32 := Scalar.minsi c24_i32_44 v78
  let c64_i32_46 : BitVec 32 := 64#32
  let v82 : BitVec 32 := Scalar.muli v79 c64_i32_46
  v82
def k0_mult13 : BitVec 32 :=
  let c0_i32 : BitVec 32 := 0#32
  let c32_i32_50 : BitVec 32 := 32#32
  let v90 : BitVec 32 := Scalar.muli c0_i32 c32_i32_50
  let c6_i32 : BitVec 32 := 6#32
  let v91 : BitVec 32 := Scalar.addi v90 c6_i32
  let c64_i32_54 : BitVec 32 := 64#32
  let v95 : BitVec 32 := Scalar.muli v91 c64_i32_54
  v95
def k0_mult14 : BitVec 32 :=
  let c24_i32_53 : BitVec 32 := 24#32
  let c0_i32_52 : BitVec 32 := 0#32
  let c0_i32 : BitVec 32 := 0#32
  let c32_i32_50 : BitVec 32 := 32#32
  let v90 : BitVec 32 := Scalar.muli c0_i32 c32_i32_50
  let c6_i32 : BitVec 32 := 6#32
  let v91 : BitVec 32 := Scalar.addi v90 c6_i32
  let c4_i32_51 : BitVec 32 := 4#32
  let v92 : BitVec 32 := Scalar.subi v91 c4_i32_51
  let v93 : BitVec 32 := Scalar.maxsi c0_i32_52 v92
  let v94 : BitVec 32 := Scalar.minsi c24_i32_53 v93
  let c64_i32_55 : BitVec 32 := 64#32
  let v97 : BitVec 32 := Scalar.muli v94 c64_i32_55
  v97
def k0_mult15 : BitVec 32 :=
  let c0_i32 : BitVec 32 := 0#32
  let c32_i32_59 : BitVec 32 := 32#32
  let v105 : BitVec 32 := Scalar.muli c0_i32 c32_i32_59
  let c7_i32 : BitVec 32 := 7#32
  let v106 : BitVec 32 := Scalar.addi v105 c7_i32
  let c64_i32_63 : BitVec 32 := 64#32
  let v110 : BitVec 32 := Scalar.muli v106 c64_i32_63
  v110
def k0_mult16 : BitVec 32 :=
  let c24_i32_62 : BitVec 32 := 24#32
  let c0_i32_61 : BitVec 32 := 0#32
  let c0_i32 : BitVec 32 := 0#32
  let c32_i32_59 : BitVec 32 := 32#32
  let v105 : BitVec 32 := Scalar.muli c0_i32 c32_i32_59
  let c7_i32 : BitVec 32 := 7#32
  let v106 : BitVec 32 := Scalar.addi v105 c7_i32
  let c4_i32_60 : BitVec 32 := 4#32
  let v107 : BitVec 32 := Scalar.subi v106 c4_i32_60
  let v108 : BitVec 32 := Scalar.maxsi c0_i32_61 v107
  let v109 : BitVec 32 := Scalar.minsi c24_i32_62 v108
  let c64_i32_64 : BitVec 32 := 64#32
  let v112 : BitVec 32 := Scalar.muli v109 c64_i32_64
  v112
def k0_mult17 : BitVec 32 :=
  let c0_i32 : BitVec 32 := 0#32
  let c32_i32_68 : BitVec 32 := 32#32
  let v120 : BitVec 32 := Scalar.muli c0_i32 c32_i32_68
  let c8_i32 : BitVec 32 := 8#32
  let v121 : BitVec 32 := Scalar.addi v120 c8_i32
  let c64_i32_72 : BitVec 32 := 64#32
  let v125 : BitVec 32 := Scalar.muli v121 c64_i32_72
  v125
def k0_mult18 : BitVec 32 :=
  let c24_i32_71 : BitVec 32 := 24#32
  let c0_i32_70 : BitVec 32 := 0#32
  let c0_i32 : BitVec 32 := 0#32
  let c32_i32_68 : BitVec 32 := 32#32
  let v120 : BitVec 32 := Scalar.muli c0_i32 c32_i32_68
  let c8_i32 : BitVec 32 := 8#32
  let v121 : BitVec 32 := Scalar.addi v120 c8_i32
  let c4_i32_69 : BitVec 32 := 4#32
  let v122 : BitVec 32 := Scalar.subi v121 c4_i32_69
  let v123 : BitVec 32 := Scalar.maxsi c0_i32_70 v122
  let v124 : BitVec 32 := Scalar.minsi c24_i32_71 v123
  let c64_i32_73 : BitVec 32 := 64#32
  let v127 : BitVec 32 := Scalar.muli v124 c64_i32_73
  v127
def k0_mult19 : BitVec 32 :=
  let c0_i32 : BitVec 32 := 0#32
  let c32_i32_77 : BitVec 32 := 32#32
  let v135 : BitVec 32 := Scalar.muli c0_i32 c32_i32_77
  let c9_i32 : BitVec 32 := 9#32
  let v136 : BitVec 32 := Scalar.addi v135 c9_i32
  let c64_i32_81 : BitVec 32 := 64#32
  let v140 : BitVec 32 := Scalar.muli v136 c64_i32_81
  v140
def k0_mult20 : BitVec 32 :=
  let c24_i32_80 : BitVec 32 := 24#32
  let c0_i32_79 : BitVec 32 := 0#32
  let c0_i32 : BitVec 32 := 0#32
  let c32_i32_77 : BitVec 32 := 32#32
  let v135 : BitVec 32 := Scalar.muli c0_i32 c32_i32_77
  let c9_i32 : BitVec 32 := 9#32
  let v136 : BitVec 32 := Scalar.addi v135 c9_i32
  let c4_i32_78 : BitVec 32 := 4#32
  let v137 : BitVec 32 := Scalar.subi v136 c4_i32_78
  let v138 : BitVec 32 := Scalar.maxsi c0_i32_79 v137
  let v139 : BitVec 32 := Scalar.minsi c24_i32_80 v138
  let c64_i32_82 : BitVec 32 := 64#32
  let v142 : BitVec 32 := Scalar.muli v139 c64_i32_82
  v142
def k0_mult21 : BitVec 32 :=
  let c0_i32 : BitVec 32 := 0#32
  let c32_i32_86 : BitVec 32 := 32#32
  let v150 : BitVec 32 := Scalar.muli c0_i32 c32_i32_86
  let c10_i32 : BitVec 32 := 10#32
  let v151 : BitVec 32 := Scalar.addi v150 c10_i32
  let c64_i32_90 : BitVec 32 := 64#32
  let v155 : BitVec 32 := Scalar.muli v151 c64_i32_90
  v155
def k0_mult22 : BitVec 32 :=
  let c24_i32_89 : BitVec 32 := 24#32
  let c0_i32_88 : BitVec 32 := 0#32
  let c0_i32 : BitVec 32 := 0#32
  let c32_i32_86 : BitVec 32 := 32#32
  let v150 : BitVec 32 := Scalar.muli c0_i32 c32_i32_86
  let c10_i32 : BitVec 32 := 10#32
  let v151 : BitVec 32 := Scalar.addi v150 c10_i32
  let c4_i32_87 : BitVec 32 := 4#32
  let v152 : BitVec 32 := Scalar.subi v151 c4_i32_87
  let v153 : BitVec 32 := Scalar.maxsi c0_i32_88 v152
  let v154 : BitVec 32 := Scalar.minsi c24_i32_89 v153
  let c64_i32_91 : BitVec 32 := 64#32
  let v157 : BitVec 32 := Scalar.muli v154 c64_i32_91
  v157
def k0_mult23 : BitVec 32 :=
  let c0_i32 : BitVec 32 := 0#32
  let c32_i32_95 : BitVec 32 := 32#32
  let v165 : BitVec 32 := Scalar.muli c0_i32 c32_i32_95
  let c11_i32 : BitVec 32 := 11#32
  let v166 : BitVec 32 := Scalar.addi v165 c11_i32
  let c64_i32_99 : BitVec 32 := 64#32
  let v170 : BitVec 32 := Scalar.muli v166 c64_i32_99
  v170
def k0_mult24 : BitVec 32 :=
  let c24_i32_98 : BitVec 32 := 24#32
  let c0_i32_97 : BitVec 32 := 0#32
  let c0_i32 : BitVec 32 := 0#32
  let c32_i32_95 : BitVec 32 := 32#32
  let v165 : BitVec 32 := Scalar.muli c0_i32 c32_i32_95
  let c11_i32 : BitVec 32 := 11#32
  let v166 : BitVec 32 := Scalar.addi v165 c11_i32
  let c4_i32_96 : BitVec 32 := 4#32
  let v167 : BitVec 32 := Scalar.subi v166 c4_i32_96
  let v168 : BitVec 32 := Scalar.maxsi c0_i32_97 v167
  let v169 : BitVec 32 := Scalar.minsi c24_i32_98 v168
  let c64_i32_100 : BitVec 32 := 64#32
  let v172 : BitVec 32 := Scalar.muli v169 c64_i32_100
  v172
def k0_mult25 : BitVec 32 :=
  let c0_i32 : BitVec 32 := 0#32
  let c32_i32_104 : BitVec 32 := 32#32
  let v180 : BitVec 32 := Scalar.muli c0_i32 c32_i32_104
  let c12_i32 : BitVec 32 := 12#32
  let v181 : BitVec 32 := Scalar.addi v180 c12_i32
  let c64_i32_108 : BitVec 32 := 64#32
  let v185 : BitVec 32 := Scalar.muli v181 c64_i32_108
  v185
def k0_mult26 : BitVec 32 :=
  let c24_i32_107 : BitVec 32 := 24#32
  let c0_i32_106 : BitVec 32 := 0#32
  let c0_i32 : BitVec 32 := 0#32
  let c32_i32_104 : BitVec 32 := 32#32
  let v180 : BitVec 32 := Scalar.muli c0_i32 c32_i32_104
  let c12_i32 : BitVec 32 := 12#32
  let v181 : BitVec 32 := Scalar.addi v180 c12_i32
  let c4_i32_105 : BitVec 32 := 4#32
  let v182 : BitVec 32 := Scalar.subi v181 c4_i32_105
  let v183 : BitVec 32 := Scalar.maxsi c0_i32_106 v182
  let v184 : BitVec 32 := Scalar.minsi c24_i32_107 v183
  let c64_i32_109 : BitVec 32 := 64#32
  let v187 : BitVec 32 := Scalar.muli v184 c64_i32_109
  v187
def k0_mult27 : BitVec 32 :=
  let c0_i32 : BitVec 32 := 0#32
  let c32_i32_113 : BitVec 32 := 32#32
  let v195 : BitVec 32 := Scalar.muli c0_i32 c32_i32_113
  let c13_i32 : BitVec 32 := 13#32
  let v196 : BitVec 32 := Scalar.addi v195 c13_i32
  let c64_i32_117 : BitVec 32 := 64#32
  let v200 : BitVec 32 := Scalar.muli v196 c64_i32_117
  v200
def k0_mult28 : BitVec 32 :=
  let c24_i32_116 : BitVec 32 := 24#32
  let c0_i32_115 : BitVec 32 := 0#32
  let c0_i32 : BitVec 32 := 0#32
  let c32_i32_113 : BitVec 32 := 32#32
  let v195 : BitVec 32 := Scalar.muli c0_i32 c32_i32_113
  let c13_i32 : BitVec 32 := 13#32
  let v196 : BitVec 32 := Scalar.addi v195 c13_i32
  let c4_i32_114 : BitVec 32 := 4#32
  let v197 : BitVec 32 := Scalar.subi v196 c4_i32_114
  let v198 : BitVec 32 := Scalar.maxsi c0_i32_115 v197
  let v199 : BitVec 32 := Scalar.minsi c24_i32_116 v198
  let c64_i32_118 : BitVec 32 := 64#32
  let v202 : BitVec 32 := Scalar.muli v199 c64_i32_118
  v202
def k0_mult29 : BitVec 32 :=
  let c0_i32 : BitVec 32 := 0#32
  let c32_i32_122 : BitVec 32 := 32#32
  let v210 : BitVec 32 := Scalar.muli c0_i32 c32_i32_122
  let c14_i32 : BitVec 32 := 14#32
  let v211 : BitVec 32 := Scalar.addi v210 c14_i32
  let c64_i32_126 : BitVec 32 := 64#32
  let v215 : BitVec 32 := Scalar.muli v211 c64_i32_126
  v215
def k0_mult30 : BitVec 32 :=
  let c24_i32_125 : BitVec 32 := 24#32
  let c0_i32_124 : BitVec 32 := 0#32
  let c0_i32 : BitVec 32 := 0#32
  let c32_i32_122 : BitVec 32 := 32#32
  let v210 : BitVec 32 := Scalar.muli c0_i32 c32_i32_122
  let c14_i32 : BitVec 32 := 14#32
  let v211 : BitVec 32 := Scalar.addi v210 c14_i32
  let c4_i32_123 : BitVec 32 := 4#32
  let v212 : BitVec 32 := Scalar.subi v211 c4_i32_123
  let v213 : BitVec 32 := Scalar.maxsi c0_i32_124 v212
  let v214 : BitVec 32 := Scalar.minsi c24_i32_125 v213
  let c64_i32_127 : BitVec 32 := 64#32
  let v217 : BitVec 32 := Scalar.muli v214 c64_i32_127
  v217
def k0_mult31 : BitVec 32 :=
  let c0_i32 : BitVec 32 := 0#32
  let c32_i32_131 : BitVec 32 := 32#32
  let v225 : BitVec 32 := Scalar.muli c0_i32 c32_i32_131
  let c15_i32 : BitVec 32 := 15#32
  let v226 : BitVec 32 := Scalar.addi v225 c15_i32
  let c64_i32_135 : BitVec 32 := 64#32
  let v230 : BitVec 32 := Scalar.muli v226 c64_i32_135
  v230
def k0_mult32 : BitVec 32 :=
  let c24_i32_134 : BitVec 32 := 24#32
  let c0_i32_133 : BitVec 32 := 0#32
  let c0_i32 : BitVec 32 := 0#32
  let c32_i32_131 : BitVec 32 := 32#32
  let v225 : BitVec 32 := Scalar.muli c0_i32 c32_i32_131
  let c15_i32 : BitVec 32 := 15#32
  let v226 : BitVec 32 := Scalar.addi v225 c15_i32
  let c4_i32_132 : BitVec 32 := 4#32
  let v227 : BitVec 32 := Scalar.subi v226 c4_i32_132
  let v228 : BitVec 32 := Scalar.maxsi c0_i32_133 v227
  let v229 : BitVec 32 := Scalar.minsi c24_i32_134 v228
  let c64_i32_136 : BitVec 32 := 64#32
  let v232 : BitVec 32 := Scalar.muli v229 c64_i32_136
  v232
def k0_mult33 : BitVec 32 :=
  let c0_i32 : BitVec 32 := 0#32
  let c32_i32_140 : BitVec 32 := 32#32
  let v240 : BitVec 32 := Scalar.muli c0_i32 c32_i32_140
  let c16_i32 : BitVec 32 := 16#32
  let v241 : BitVec 32 := Scalar.addi v240 c16_i32
  let c64_i32_144 : BitVec 32 := 64#32
  let v245 : BitVec 32 := Scalar.muli v241 c64_i32_144
  v245
def k0_mult34 : BitVec 32 :=
  let c24_i32_143 : BitVec 32 := 24#32
  let c0_i32_142 : BitVec 32 := 0#32
  let c0_i32 : BitVec 32 := 0#32
  let c32_i32_140 : BitVec 32 := 32#32
  let v240 : BitVec 32 := Scalar.muli c0_i32 c32_i32_140
  let c16_i32 : BitVec 32 := 16#32
  let v241 : BitVec 32 := Scalar.addi v240 c16_i32
  let c4_i32_141 : BitVec 32 := 4#32
  let v242 : BitVec 32 := Scalar.subi v241 c4_i32_141
  let v243 : BitVec 32 := Scalar.maxsi c0_i32_142 v242
  let v244 : BitVec 32 := Scalar.minsi c24_i32_143 v243
  let c64_i32_145 : BitVec 32 := 64#32
  let v247 : BitVec 32 := Scalar.muli v244 c64_i32_145
  v247
def k0_mult35 : BitVec 32 :=
  let c0_i32 : BitVec 32 := 0#32
  let c32_i32_149 : BitVec 32 := 32#32
  let v255 : BitVec 32 := Scalar.muli c0_i32 c32_i32_149
  let c17_i32 : BitVec 32 := 17#32
  let v256 : BitVec 32 := Scalar.addi v255 c17_i32
  let c64_i32_153 : BitVec 32 := 64#32
  let v260 : BitVec 32 := Scalar.muli v256 c64_i32_153
  v260
def k0_mult36 : BitVec 32 :=
  let c24_i32_152 : BitVec 32 := 24#32
  let c0_i32_151 : BitVec 32 := 0#32
  let c0_i32 : BitVec 32 := 0#32
  let c32_i32_149 : BitVec 32 := 32#32
  let v255 : BitVec 32 := Scalar.muli c0_i32 c32_i32_149
  let c17_i32 : BitVec 32 := 17#32
  let v256 : BitVec 32 := Scalar.addi v255 c17_i32
  let c4_i32_150 : BitVec 32 := 4#32
  let v257 : BitVec 32 := Scalar.subi v256 c4_i32_150
  let v258 : BitVec 32 := Scalar.maxsi c0_i32_151 v257
  let v259 : BitVec 32 := Scalar.minsi c24_i32_152 v258
  let c64_i32_154 : BitVec 32 := 64#32
  let v262 : BitVec 32 := Scalar.muli v259 c64_i32_154
  v262
def k0_mult37 : BitVec 32 :=
  let c0_i32 : BitVec 32 := 0#32
  let c32_i32_158 : BitVec 32 := 32#32
  let v270 : BitVec 32 := Scalar.muli c0_i32 c32_i32_158
  let c18_i32 : BitVec 32 := 18#32
  let v271 : BitVec 32 := Scalar.addi v270 c18_i32
  let c64_i32_162 : BitVec 32 := 64#32
  let v275 : BitVec 32 := Scalar.muli v271 c64_i32_162
  v275
def k0_mult38 : BitVec 32 :=
  let c24_i32_161 : BitVec 32 := 24#32
  let c0_i32_160 : BitVec 32 := 0#32
  let c0_i32 : BitVec 32 := 0#32
  let c32_i32_158 : BitVec 32 := 32#32
  let v270 : BitVec 32 := Scalar.muli c0_i32 c32_i32_158
  let c18_i32 : BitVec 32 := 18#32
  let v271 : BitVec 32 := Scalar.addi v270 c18_i32
  let c4_i32_159 : BitVec 32 := 4#32
  let v272 : BitVec 32 := Scalar.subi v271 c4_i32_159
  let v273 : BitVec 32 := Scalar.maxsi c0_i32_160 v272
  let v274 : BitVec 32 := Scalar.minsi c24_i32_161 v273
  let c64_i32_163 : BitVec 32 := 64#32
  let v277 : BitVec 32 := Scalar.muli v274 c64_i32_163
  v277
def k0_mult39 : BitVec 32 :=
  let c0_i32 : BitVec 32 := 0#32
  let c32_i32_167 : BitVec 32 := 32#32
  let v285 : BitVec 32 := Scalar.muli c0_i32 c32_i32_167
  let c19_i32 : BitVec 32 := 19#32
  let v286 : BitVec 32 := Scalar.addi v285 c19_i32
  let c64_i32_171 : BitVec 32 := 64#32
  let v290 : BitVec 32 := Scalar.muli v286 c64_i32_171
  v290
def k0_mult40 : BitVec 32 :=
  let c24_i32_170 : BitVec 32 := 24#32
  let c0_i32_169 : BitVec 32 := 0#32
  let c0_i32 : BitVec 32 := 0#32
  let c32_i32_167 : BitVec 32 := 32#32
  let v285 : BitVec 32 := Scalar.muli c0_i32 c32_i32_167
  let c19_i32 : BitVec 32 := 19#32
  let v286 : BitVec 32 := Scalar.addi v285 c19_i32
  let c4_i32_168 : BitVec 32 := 4#32
  let v287 : BitVec 32 := Scalar.subi v286 c4_i32_168
  let v288 : BitVec 32 := Scalar.maxsi c0_i32_169 v287
  let v289 : BitVec 32 := Scalar.minsi c24_i32_170 v288
  let c64_i32_172 : BitVec 32 := 64#32
  let v292 : BitVec 32 := Scalar.muli v289 c64_i32_172
  v292
def k0_mult41 : BitVec 32 :=
  let c0_i32 : BitVec 32 := 0#32
  let c32_i32_176 : BitVec 32 := 32#32
  let v300 : BitVec 32 := Scalar.muli c0_i32 c32_i32_176
  let c20_i32 : BitVec 32 := 20#32
  let v301 : BitVec 32 := Scalar.addi v300 c20_i32
  let c64_i32_180 : BitVec 32 := 64#32
  let v305 : BitVec 32 := Scalar.muli v301 c64_i32_180
  v305
def k0_mult42 : BitVec 32 :=
  let c24_i32_179 : BitVec 32 := 24#32
  let c0_i32_178 : BitVec 32 := 0#32
  let c0_i32 : BitVec 32 := 0#32
  let c32_i32_176 : BitVec 32 := 32#32
  let v300 : BitVec 32 := Scalar.muli c0_i32 c32_i32_176
  let c20_i32 : BitVec 32 := 20#32
  let v301 : BitVec 32 := Scalar.addi v300 c20_i32
  let c4_i32_177 : BitVec 32 := 4#32
  let v302 : BitVec 32 := Scalar.subi v301 c4_i32_177
  let v303 : BitVec 32 := Scalar.maxsi c0_i32_178 v302
  let v304 : BitVec 32 := Scalar.minsi c24_i32_179 v303
  let c64_i32_181 : BitVec 32 := 64#32
  let v307 : BitVec 32 := Scalar.muli v304 c64_i32_181
  v307
def k0_mult43 : BitVec 32 :=
  let c0_i32 : BitVec 32 := 0#32
  let c32_i32_185 : BitVec 32 := 32#32
  let v315 : BitVec 32 := Scalar.muli c0_i32 c32_i32_185
  let c21_i32 : BitVec 32 := 21#32
  let v316 : BitVec 32 := Scalar.addi v315 c21_i32
  let c64_i32_189 : BitVec 32 := 64#32
  let v320 : BitVec 32 := Scalar.muli v316 c64_i32_189
  v320
def k0_mult44 : BitVec 32 :=
  let c24_i32_188 : BitVec 32 := 24#32
  let c0_i32_187 : BitVec 32 := 0#32
  let c0_i32 : BitVec 32 := 0#32
  let c32_i32_185 : BitVec 32 := 32#32
  let v315 : BitVec 32 := Scalar.muli c0_i32 c32_i32_185
  let c21_i32 : BitVec 32 := 21#32
  let v316 : BitVec 32 := Scalar.addi v315 c21_i32
  let c4_i32_186 : BitVec 32 := 4#32
  let v317 : BitVec 32 := Scalar.subi v316 c4_i32_186
  let v318 : BitVec 32 := Scalar.maxsi c0_i32_187 v317
  let v319 : BitVec 32 := Scalar.minsi c24_i32_188 v318
  let c64_i32_190 : BitVec 32 := 64#32
  let v322 : BitVec 32 := Scalar.muli v319 c64_i32_190
  v322
def k0_mult45 : BitVec 32 :=
  let c0_i32 : BitVec 32 := 0#32
  let c32_i32_194 : BitVec 32 := 32#32
  let v330 : BitVec 32 := Scalar.muli c0_i32 c32_i32_194
  let c22_i32 : BitVec 32 := 22#32
  let v331 : BitVec 32 := Scalar.addi v330 c22_i32
  let c64_i32_198 : BitVec 32 := 64#32
  let v335 : BitVec 32 := Scalar.muli v331 c64_i32_198
  v335
def k0_mult46 : BitVec 32 :=
  let c24_i32_197 : BitVec 32 := 24#32
  let c0_i32_196 : BitVec 32 := 0#32
  let c0_i32 : BitVec 32 := 0#32
  let c32_i32_194 : BitVec 32 := 32#32
  let v330 : BitVec 32 := Scalar.muli c0_i32 c32_i32_194
  let c22_i32 : BitVec 32 := 22#32
  let v331 : BitVec 32 := Scalar.addi v330 c22_i32
  let c4_i32_195 : BitVec 32 := 4#32
  let v332 : BitVec 32 := Scalar.subi v331 c4_i32_195
  let v333 : BitVec 32 := Scalar.maxsi c0_i32_196 v332
  let v334 : BitVec 32 := Scalar.minsi c24_i32_197 v333
  let c64_i32_199 : BitVec 32 := 64#32
  let v337 : BitVec 32 := Scalar.muli v334 c64_i32_199
  v337
def k0_mult47 : BitVec 32 :=
  let c0_i32 : BitVec 32 := 0#32
  let c32_i32_203 : BitVec 32 := 32#32
  let v345 : BitVec 32 := Scalar.muli c0_i32 c32_i32_203
  let c23_i32 : BitVec 32 := 23#32
  let v346 : BitVec 32 := Scalar.addi v345 c23_i32
  let c64_i32_207 : BitVec 32 := 64#32
  let v350 : BitVec 32 := Scalar.muli v346 c64_i32_207
  v350
def k0_mult48 : BitVec 32 :=
  let c24_i32_206 : BitVec 32 := 24#32
  let c0_i32_205 : BitVec 32 := 0#32
  let c0_i32 : BitVec 32 := 0#32
  let c32_i32_203 : BitVec 32 := 32#32
  let v345 : BitVec 32 := Scalar.muli c0_i32 c32_i32_203
  let c23_i32 : BitVec 32 := 23#32
  let v346 : BitVec 32 := Scalar.addi v345 c23_i32
  let c4_i32_204 : BitVec 32 := 4#32
  let v347 : BitVec 32 := Scalar.subi v346 c4_i32_204
  let v348 : BitVec 32 := Scalar.maxsi c0_i32_205 v347
  let v349 : BitVec 32 := Scalar.minsi c24_i32_206 v348
  let c64_i32_208 : BitVec 32 := 64#32
  let v352 : BitVec 32 := Scalar.muli v349 c64_i32_208
  v352
def k0_mult49 : BitVec 32 :=
  let c0_i32 : BitVec 32 := 0#32
  let c32_i32_212 : BitVec 32 := 32#32
  let v360 : BitVec 32 := Scalar.muli c0_i32 c32_i32_212
  let c24_i32_213 : BitVec 32 := 24#32
  let v361 : BitVec 32 := Scalar.addi v360 c24_i32_213
  let c64_i32_217 : BitVec 32 := 64#32
  let v365 : BitVec 32 := Scalar.muli v361 c64_i32_217
  v365
def k0_mult50 : BitVec 32 :=
  let c24_i32_216 : BitVec 32 := 24#32
  let c0_i32_215 : BitVec 32 := 0#32
  let c0_i32 : BitVec 32 := 0#32
  let c32_i32_212 : BitVec 32 := 32#32
  let v360 : BitVec 32 := Scalar.muli c0_i32 c32_i32_212
  let c24_i32_213 : BitVec 32 := 24#32
  let v361 : BitVec 32 := Scalar.addi v360 c24_i32_213
  let c4_i32_214 : BitVec 32 := 4#32
  let v362 : BitVec 32 := Scalar.subi v361 c4_i32_214
  let v363 : BitVec 32 := Scalar.maxsi c0_i32_215 v362
  let v364 : BitVec 32 := Scalar.minsi c24_i32_216 v363
  let c64_i32_218 : BitVec 32 := 64#32
  let v367 : BitVec 32 := Scalar.muli v364 c64_i32_218
  v367
def k0_mult51 : BitVec 32 :=
  let c0_i32 : BitVec 32 := 0#32
  let c32_i32_222 : BitVec 32 := 32#32
  let v375 : BitVec 32 := Scalar.muli c0_i32 c32_i32_222
  let c25_i32 : BitVec 32 := 25#32
  let v376 : BitVec 32 := Scalar.addi v375 c25_i32
  let c64_i32_226 : BitVec 32 := 64#32
  let v380 : BitVec 32 := Scalar.muli v376 c64_i32_226
  v380
def k0_mult52 : BitVec 32 :=
  let c24_i32_225 : BitVec 32 := 24#32
  let c0_i32_224 : BitVec 32 := 0#32
  let c0_i32 : BitVec 32 := 0#32
  let c32_i32_222 : BitVec 32 := 32#32
  let v375 : BitVec 32 := Scalar.muli c0_i32 c32_i32_222
  let c25_i32 : BitVec 32 := 25#32
  let v376 : BitVec 32 := Scalar.addi v375 c25_i32
  let c4_i32_223 : BitVec 32 := 4#32
  let v377 : BitVec 32 := Scalar.subi v376 c4_i32_223
  let v378 : BitVec 32 := Scalar.maxsi c0_i32_224 v377
  let v379 : BitVec 32 := Scalar.minsi c24_i32_225 v378
  let c64_i32_227 : BitVec 32 := 64#32
  let v382 : BitVec 32 := Scalar.muli v379 c64_i32_227
  v382
def k0_mult53 : BitVec 32 :=
  let c0_i32 : BitVec 32 := 0#32
  let c32_i32_231 : BitVec 32 := 32#32
  let v390 : BitVec 32 := Scalar.muli c0_i32 c32_i32_231
  let c26_i32 : BitVec 32 := 26#32
  let v391 : BitVec 32 := Scalar.addi v390 c26_i32
  let c64_i32_235 : BitVec 32 := 64#32
  let v395 : BitVec 32 := Scalar.muli v391 c64_i32_235
  v395
def k0_mult54 : BitVec 32 :=
  let c24_i32_234 : BitVec 32 := 24#32
  let c0_i32_233 : BitVec 32 := 0#32
  let c0_i32 : BitVec 32 := 0#32
  let c32_i32_231 : BitVec 32 := 32#32
  let v390 : BitVec 32 := Scalar.muli c0_i32 c32_i32_231
  let c26_i32 : BitVec 32 := 26#32
  let v391 : BitVec 32 := Scalar.addi v390 c26_i32
  let c4_i32_232 : BitVec 32 := 4#32
  let v392 : BitVec 32 := Scalar.subi v391 c4_i32_232
  let v393 : BitVec 32 := Scalar.maxsi c0_i32_233 v392
  let v394 : BitVec 32 := Scalar.minsi c24_i32_234 v393
  let c64_i32_236 : BitVec 32 := 64#32
  let v397 : BitVec 32 := Scalar.muli v394 c64_i32_236
  v397
def k0_mult55 : BitVec 32 :=
  let c0_i32 : BitVec 32 := 0#32
  let c32_i32_240 : BitVec 32 := 32#32
  let v405 : BitVec 32 := Scalar.muli c0_i32 c32_i32_240
  let c27_i32 : BitVec 32 := 27#32
  let v406 : BitVec 32 := Scalar.addi v405 c27_i32
  let c64_i32_244 : BitVec 32 := 64#32
  let v410 : BitVec 32 := Scalar.muli v406 c64_i32_244
  v410
def k0_mult56 : BitVec 32 :=
  let c24_i32_243 : BitVec 32 := 24#32
  let c0_i32_242 : BitVec 32 := 0#32
  let c0_i32 : BitVec 32 := 0#32
  let c32_i32_240 : BitVec 32 := 32#32
  let v405 : BitVec 32 := Scalar.muli c0_i32 c32_i32_240
  let c27_i32 : BitVec 32 := 27#32
  let v406 : BitVec 32 := Scalar.addi v405 c27_i32
  let c4_i32_241 : BitVec 32 := 4#32
  let v407 : BitVec 32 := Scalar.subi v406 c4_i32_241
  let v408 : BitVec 32 := Scalar.maxsi c0_i32_242 v407
  let v409 : BitVec 32 := Scalar.minsi c24_i32_243 v408
  let c64_i32_245 : BitVec 32 := 64#32
  let v412 : BitVec 32 := Scalar.muli v409 c64_i32_245
  v412
def k0_mult57 : BitVec 32 :=
  let c0_i32 : BitVec 32 := 0#32
  let c32_i32_249 : BitVec 32 := 32#32
  let v420 : BitVec 32 := Scalar.muli c0_i32 c32_i32_249
  let c28_i32 : BitVec 32 := 28#32
  let v421 : BitVec 32 := Scalar.addi v420 c28_i32
  let c64_i32_253 : BitVec 32 := 64#32
  let v425 : BitVec 32 := Scalar.muli v421 c64_i32_253
  v425
def k0_mult58 : BitVec 32 :=
  let c24_i32_252 : BitVec 32 := 24#32
  let c0_i32_251 : BitVec 32 := 0#32
  let c0_i32 : BitVec 32 := 0#32
  let c32_i32_249 : BitVec 32 := 32#32
  let v420 : BitVec 32 := Scalar.muli c0_i32 c32_i32_249
  let c28_i32 : BitVec 32 := 28#32
  let v421 : BitVec 32 := Scalar.addi v420 c28_i32
  let c4_i32_250 : BitVec 32 := 4#32
  let v422 : BitVec 32 := Scalar.subi v421 c4_i32_250
  let v423 : BitVec 32 := Scalar.maxsi c0_i32_251 v422
  let v424 : BitVec 32 := Scalar.minsi c24_i32_252 v423
  let c64_i32_254 : BitVec 32 := 64#32
  let v427 : BitVec 32 := Scalar.muli v424 c64_i32_254
  v427
def k0_mult59 : BitVec 32 :=
  let c0_i32 : BitVec 32 := 0#32
  let c32_i32_258 : BitVec 32 := 32#32
  let v435 : BitVec 32 := Scalar.muli c0_i32 c32_i32_258
  let c29_i32 : BitVec 32 := 29#32
  let v436 : BitVec 32 := Scalar.addi v435 c29_i32
  let c64_i32_262 : BitVec 32 := 64#32
  let v440 : BitVec 32 := Scalar.muli v436 c64_i32_262
  v440
def k0_mult60 : BitVec 32 :=
  let c24_i32_261 : BitVec 32 := 24#32
  let c0_i32_260 : BitVec 32 := 0#32
  let c0_i32 : BitVec 32 := 0#32
  let c32_i32_258 : BitVec 32 := 32#32
  let v435 : BitVec 32 := Scalar.muli c0_i32 c32_i32_258
  let c29_i32 : BitVec 32 := 29#32
  let v436 : BitVec 32 := Scalar.addi v435 c29_i32
  let c4_i32_259 : BitVec 32 := 4#32
  let v437 : BitVec 32 := Scalar.subi v436 c4_i32_259
  let v438 : BitVec 32 := Scalar.maxsi c0_i32_260 v437
  let v439 : BitVec 32 := Scalar.minsi c24_i32_261 v438
  let c64_i32_263 : BitVec 32 := 64#32
  let v442 : BitVec 32 := Scalar.muli v439 c64_i32_263
  v442
def k0_mult61 : BitVec 32 :=
  let c0_i32 : BitVec 32 := 0#32
  let c32_i32_267 : BitVec 32 := 32#32
  let v450 : BitVec 32 := Scalar.muli c0_i32 c32_i32_267
  let c30_i32 : BitVec 32 := 30#32
  let v451 : BitVec 32 := Scalar.addi v450 c30_i32
  let c64_i32_271 : BitVec 32 := 64#32
  let v455 : BitVec 32 := Scalar.muli v451 c64_i32_271
  v455
def k0_mult62 : BitVec 32 :=
  let c24_i32_270 : BitVec 32 := 24#32
  let c0_i32_269 : BitVec 32 := 0#32
  let c0_i32 : BitVec 32 := 0#32
  let c32_i32_267 : BitVec 32 := 32#32
  let v450 : BitVec 32 := Scalar.muli c0_i32 c32_i32_267
  let c30_i32 : BitVec 32 := 30#32
  let v451 : BitVec 32 := Scalar.addi v450 c30_i32
  let c4_i32_268 : BitVec 32 := 4#32
  let v452 : BitVec 32 := Scalar.subi v451 c4_i32_268
  let v453 : BitVec 32 := Scalar.maxsi c0_i32_269 v452
  let v454 : BitVec 32 := Scalar.minsi c24_i32_270 v453
  let c64_i32_272 : BitVec 32 := 64#32
  let v457 : BitVec 32 := Scalar.muli v454 c64_i32_272
  v457
def k0_mult63 : BitVec 32 :=
  let c0_i32 : BitVec 32 := 0#32
  let c32_i32_276 : BitVec 32 := 32#32
  let v465 : BitVec 32 := Scalar.muli c0_i32 c32_i32_276
  let c31_i32 : BitVec 32 := 31#32
  let v466 : BitVec 32 := Scalar.addi v465 c31_i32
  let c64_i32_280 : BitVec 32 := 64#32
  let v470 : BitVec 32 := Scalar.muli v466 c64_i32_280
  v470
def k0_mult64 : BitVec 32 :=
  let c24_i32_279 : BitVec 32 := 24#32
  let c0_i32_278 : BitVec 32 := 0#32
  let c0_i32 : BitVec 32 := 0#32
  let c32_i32_276 : BitVec 32 := 32#32
  let v465 : BitVec 32 := Scalar.muli c0_i32 c32_i32_276
  let c31_i32 : BitVec 32 := 31#32
  let v466 : BitVec 32 := Scalar.addi v465 c31_i32
  let c4_i32_277 : BitVec 32 := 4#32
  let v467 : BitVec 32 := Scalar.subi v466 c4_i32_277
  let v468 : BitVec 32 := Scalar.maxsi c0_i32_278 v467
  let v469 : BitVec 32 := Scalar.minsi c24_i32_279 v468
  let c64_i32_281 : BitVec 32 := 64#32
  let v472 : BitVec 32 := Scalar.muli v469 c64_i32_281
  v472
def k0_off3 (c0_i32_0 : BitVec 32) : Fin 4 → Nat :=
  let c0_285 : Index := 0#32
  let c0_i32 : BitVec 32 := 0#32
  let c32_i32 : BitVec 32 := 32#32
  let v0 : BitVec 32 := Scalar.muli c0_i32 c32_i32
  let v1 : BitVec 32 := Scalar.addi v0 c0_i32_0
  let c24_i32 : BitVec 32 := 24#32
  let c0_i32_1 : BitVec 32 := 0#32
  let c4_i32 : BitVec 32 := 4#32
  let v2 : BitVec 32 := Scalar.subi v1 c4_i32
  let v3 : BitVec 32 := Scalar.maxsi c0_i32_1 v2
  let v4 : BitVec 32 := Scalar.minsi c24_i32 v3
  let v14 : BitVec 32 := Scalar.subi v1 v4
  let v480 : Index := Scalar.indexCast v14
  let c0_286 : Index := 0#32
  let c0_287 : Index := 0#32
  ![0, v480.toNat, 0, 0]
def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![v0.toNat, arg1.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c32_i32 : BitVec 32 := 32#32
  let v1 : BitVec 32 := Scalar.addi c32_i32 arg1
  let c0_i32 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c64_i32 : BitVec 32 := 64#32
  let v1 : BitVec 32 := Scalar.addi c64_i32 arg1
  let c0_i32 : BitVec 32 := 0#32
  ![v0.toNat, v1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![v0.toNat, arg1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "scale_log2e" => some (((11863283 / 134217728) * (Real.log 2)⁻¹ : ℝ) : EReal)
  | _ => none
-- ==== ReferenceIdeal.lean ====
abbrev S24576x12288 : Shape := ⟨2, ![24576, 12288]⟩
abbrev S32x15x31 : Shape := ⟨3, ![32, 15, 31]⟩
abbrev S24576x4096 : Shape := ⟨2, ![24576, 4096]⟩
abbrev S32x8 : Shape := ⟨2, ![32, 8]⟩
abbrev S64x16 : Shape := ⟨2, ![64, 16]⟩
abbrev S32x1x8x1 : Shape := ⟨4, ![32, 1, 8, 1]⟩
abbrev S1x64x1x16 : Shape := ⟨4, ![1, 64, 1, 16]⟩
abbrev S8192x12288 : Shape := ⟨2, ![8192, 12288]⟩
abbrev S4x2048x12288 : Shape := ⟨3, ![4, 2048, 12288]⟩
abbrev S4x2048x4096 : Shape := ⟨3, ![4, 2048, 4096]⟩
abbrev S4x32x64x32x128 : Shape := ⟨5, ![4, 32, 64, 32, 128]⟩
abbrev S_ : Shape := ⟨0, ![]⟩
abbrev S32x8x1 : Shape := ⟨3, ![32, 8, 1]⟩
abbrev S4x32x8x64x32x128 : Shape := ⟨6, ![4, 32, 8, 64, 32, 128]⟩
abbrev S64x16x1 : Shape := ⟨3, ![64, 16, 1]⟩
abbrev S4x32x8x64x16x32x128 : Shape := ⟨7, ![4, 32, 8, 64, 16, 32, 128]⟩
abbrev S32x64x8x16 : Shape := ⟨4, ![32, 64, 8, 16]⟩
abbrev S32x64x8x16x1 : Shape := ⟨5, ![32, 64, 8, 16, 1]⟩
abbrev S32x64x8x16x2 : Shape := ⟨5, ![32, 64, 8, 16, 2]⟩
abbrev S32x32x64x8x16 : Shape := ⟨5, ![32, 32, 64, 8, 16]⟩
abbrev S4x32x32x64x8x16 : Shape := ⟨6, ![4, 32, 32, 64, 8, 16]⟩
abbrev S1x32x32x64x8x16 : Shape := ⟨6, ![1, 32, 32, 64, 8, 16]⟩
abbrev S4x32x32x64x128 : Shape := ⟨5, ![4, 32, 32, 64, 128]⟩
abbrev S4x32x32x64 : Shape := ⟨4, ![4, 32, 32, 64]⟩
abbrev S4x32x32x64x1 : Shape := ⟨5, ![4, 32, 32, 64, 1]⟩
abbrev S8192x4096 : Shape := ⟨2, ![8192, 4096]⟩
abbrev S16384x4096 : Shape := ⟨2, ![16384, 4096]⟩

abbrev nBuf : Space → Nat
  | .hbm => 88
  | .vmem => 0
  | .smem => 0
  | _ => 0

abbrev bufTy : (tb : Table) → Fin (tcTables nBuf tb) → BufTy
  | .hbm, ⟨0, _⟩ => ⟨S24576x12288, .bf16⟩
  | .hbm, ⟨1, _⟩ => ⟨S32x15x31, .f32⟩
  | .hbm, ⟨2, _⟩ => ⟨S24576x4096, .bf16⟩
  | .hbm, ⟨3, _⟩ => ⟨S32x8, .i32⟩
  | .hbm, ⟨4, _⟩ => ⟨S32x8, .i1⟩
  | .hbm, ⟨5, _⟩ => ⟨S64x16, .i32⟩
  | .hbm, ⟨6, _⟩ => ⟨S64x16, .i1⟩
  | .hbm, ⟨7, _⟩ => ⟨S32x8, .i1⟩
  | .hbm, ⟨8, _⟩ => ⟨S64x16, .i1⟩
  | .hbm, ⟨9, _⟩ => ⟨S32x1x8x1, .i32⟩
  | .hbm, ⟨10, _⟩ => ⟨S32x1x8x1, .i1⟩
  | .hbm, ⟨11, _⟩ => ⟨S1x64x1x16, .i32⟩
  | .hbm, ⟨12, _⟩ => ⟨S1x64x1x16, .i1⟩
  | .hbm, ⟨13, _⟩ => ⟨S24576x12288, .f32⟩
  | .hbm, ⟨14, _⟩ => ⟨S8192x12288, .f32⟩
  | .hbm, ⟨15, _⟩ => ⟨S4x2048x12288, .f32⟩
  | .hbm, ⟨16, _⟩ => ⟨S4x2048x4096, .f32⟩
  | .hbm, ⟨17, _⟩ => ⟨S4x2048x4096, .f32⟩
  | .hbm, ⟨18, _⟩ => ⟨S4x2048x4096, .f32⟩
  | .hbm, ⟨19, _⟩ => ⟨S4x32x64x32x128, .f32⟩
  | .hbm, ⟨20, _⟩ => ⟨S4x32x64x32x128, .f32⟩
  | .hbm, ⟨21, _⟩ => ⟨S4x32x64x32x128, .f32⟩
  | .hbm, ⟨22, _⟩ => ⟨S_, .i32⟩
  | .hbm, ⟨23, _⟩ => ⟨S32x8, .i32⟩
  | .hbm, ⟨24, _⟩ => ⟨S32x8, .i32⟩
  | .hbm, ⟨25, _⟩ => ⟨S32x8, .i32⟩
  | .hbm, ⟨26, _⟩ => ⟨S32x8x1, .i32⟩
  | .hbm, ⟨27, _⟩ => ⟨S4x32x8x64x32x128, .f32⟩
  | .hbm, ⟨28, _⟩ => ⟨S_, .i32⟩
  | .hbm, ⟨29, _⟩ => ⟨S64x16, .i32⟩
  | .hbm, ⟨30, _⟩ => ⟨S64x16, .i32⟩
  | .hbm, ⟨31, _⟩ => ⟨S64x16, .i32⟩
  | .hbm, ⟨32, _⟩ => ⟨S64x16x1, .i32⟩
  | .hbm, ⟨33, _⟩ => ⟨S4x32x8x64x16x32x128, .f32⟩
  | .hbm, ⟨34, _⟩ => ⟨S_, .i32⟩
  | .hbm, ⟨35, _⟩ => ⟨S32x8, .i32⟩
  | .hbm, ⟨36, _⟩ => ⟨S32x8, .i32⟩
  | .hbm, ⟨37, _⟩ => ⟨S32x8, .i32⟩
  | .hbm, ⟨38, _⟩ => ⟨S32x8x1, .i32⟩
  | .hbm, ⟨39, _⟩ => ⟨S4x32x8x64x32x128, .f32⟩
  | .hbm, ⟨40, _⟩ => ⟨S_, .i32⟩
  | .hbm, ⟨41, _⟩ => ⟨S64x16, .i32⟩
  | .hbm, ⟨42, _⟩ => ⟨S64x16, .i32⟩
  | .hbm, ⟨43, _⟩ => ⟨S64x16, .i32⟩
  | .hbm, ⟨44, _⟩ => ⟨S64x16x1, .i32⟩
  | .hbm, ⟨45, _⟩ => ⟨S4x32x8x64x16x32x128, .f32⟩
  | .hbm, ⟨46, _⟩ => ⟨S_, .i32⟩
  | .hbm, ⟨47, _⟩ => ⟨S32x1x8x1, .i32⟩
  | .hbm, ⟨48, _⟩ => ⟨S32x1x8x1, .i32⟩
  | .hbm, ⟨49, _⟩ => ⟨S32x1x8x1, .i32⟩
  | .hbm, ⟨50, _⟩ => ⟨S_, .i32⟩
  | .hbm, ⟨51, _⟩ => ⟨S1x64x1x16, .i32⟩
  | .hbm, ⟨52, _⟩ => ⟨S1x64x1x16, .i32⟩
  | .hbm, ⟨53, _⟩ => ⟨S1x64x1x16, .i32⟩
  | .hbm, ⟨54, _⟩ => ⟨S32x64x8x16, .i32⟩
  | .hbm, ⟨55, _⟩ => ⟨S32x64x8x16, .i32⟩
  | .hbm, ⟨56, _⟩ => ⟨S32x64x8x16x1, .i32⟩
  | .hbm, ⟨57, _⟩ => ⟨S32x64x8x16x1, .i32⟩
  | .hbm, ⟨58, _⟩ => ⟨S32x64x8x16x2, .i32⟩
  | .hbm, ⟨59, _⟩ => ⟨S32x32x64x8x16, .f32⟩
  | .hbm, ⟨60, _⟩ => ⟨S4x32x32x64x8x16, .f32⟩
  | .hbm, ⟨61, _⟩ => ⟨S_, .f32⟩
  | .hbm, ⟨62, _⟩ => ⟨S4x32x32x64x8x16, .f32⟩
  | .hbm, ⟨63, _⟩ => ⟨S4x32x32x64x8x16, .f32⟩
  | .hbm, ⟨64, _⟩ => ⟨S1x32x32x64x8x16, .f32⟩
  | .hbm, ⟨65, _⟩ => ⟨S4x32x32x64x8x16, .f32⟩
  | .hbm, ⟨66, _⟩ => ⟨S4x32x32x64x8x16, .f32⟩
  | .hbm, ⟨67, _⟩ => ⟨S4x32x32x64x128, .f32⟩
  | .hbm, ⟨68, _⟩ => ⟨S_, .f32⟩
  | .hbm, ⟨69, _⟩ => ⟨S4x32x32x64, .f32⟩
  | .hbm, ⟨70, _⟩ => ⟨S_, .f32⟩
  | .hbm, ⟨71, _⟩ => ⟨S4x32x32x64, .f32⟩
  | .hbm, ⟨72, _⟩ => ⟨S4x32x32x64, .f32⟩
  | .hbm, ⟨73, _⟩ => ⟨S4x32x32x64x1, .f32⟩
  | .hbm, ⟨74, _⟩ => ⟨S4x32x32x64x128, .f32⟩
  | .hbm, ⟨75, _⟩ => ⟨S4x32x32x64x128, .f32⟩
  | .hbm, ⟨76, _⟩ => ⟨S4x32x32x64x128, .f32⟩
  | .hbm, ⟨77, _⟩ => ⟨S_, .f32⟩
  | .hbm, ⟨78, _⟩ => ⟨S4x32x32x64, .f32⟩
  | .hbm, ⟨79, _⟩ => ⟨S4x32x32x64x1, .f32⟩
  | .hbm, ⟨80, _⟩ => ⟨S4x32x32x64x128, .f32⟩
  | .hbm, ⟨81, _⟩ => ⟨S4x32x32x64x128, .f32⟩
  | .hbm, ⟨82, _⟩ => ⟨S4x32x32x64x8x16, .f32⟩
  | .hbm, ⟨83, _⟩ => ⟨S4x32x64x32x128, .f32⟩
  | .hbm, ⟨84, _⟩ => ⟨S8192x4096, .f32⟩
  | .hbm, ⟨85, _⟩ => ⟨S8192x4096, .bf16⟩
  | .hbm, ⟨86, _⟩ => ⟨S16384x4096, .bf16⟩
  | .hbm, ⟨87, _⟩ => ⟨S24576x4096, .bf16⟩
  | _, _ => ⟨S24576x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_c_2 : Ref sig .tc := ⟨.hbm, 6, rfl⟩
abbrev main_c_3 : Ref sig .tc := ⟨.hbm, 7, rfl⟩
abbrev main_c_4 : Ref sig .tc := ⟨.hbm, 8, rfl⟩
abbrev main_c_5 : Ref sig .tc := ⟨.hbm, 9, rfl⟩
abbrev main_c_6 : Ref sig .tc := ⟨.hbm, 10, rfl⟩
abbrev main_c_7 : Ref sig .tc := ⟨.hbm, 11, rfl⟩
abbrev main_c_8 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c_9 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c_10 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_11 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_12 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_13 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_14 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_15 : Ref sig .tc := ⟨.hbm, 68, rfl⟩
abbrev main_v48 : Ref sig .tc := ⟨.hbm, 69, rfl⟩
abbrev main_cst_16 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_17 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩

abbrev nD : Nat := 1
abbrev τ : Topo := Topo.v7x

variable {F : FTy → Type} [FloatOps F]
-- ==== Up.lean ====
abbrev S24576x4096 : Shape := ⟨2, ![24576, 4096]⟩
abbrev S4x4096x16384 : Shape := ⟨3, ![4, 4096, 16384]⟩
abbrev S24576x128 : Shape := ⟨2, ![24576, 128]⟩
abbrev S24576x16384 : Shape := ⟨2, ![24576, 16384]⟩
abbrev S1024x4096 : Shape := ⟨2, ![1024, 4096]⟩
abbrev S1x4096x1024 : Shape := ⟨3, ![1, 4096, 1024]⟩
abbrev S1024x128 : Shape := ⟨2, ![1024, 128]⟩
abbrev S1024x1024 : Shape := ⟨2, ![1024, 1024]⟩
abbrev S4096x1024 : Shape := ⟨2, ![4096, 1024]⟩
abbrev S1024x1 : Shape := ⟨2, ![1024, 1]⟩

abbrev nBuf : Space → Nat
  | .hbm => 4
  | .vmem => 8
  | .smem => 0
  | _ => 0

abbrev bufTy : (tb : Table) → Fin (tcTables nBuf tb) → BufTy
  | .hbm, ⟨0, _⟩ => ⟨S24576x4096, .bf16⟩
  | .hbm, ⟨1, _⟩ => ⟨S4x4096x16384, .bf16⟩
  | .hbm, ⟨2, _⟩ => ⟨S24576x128, .f32⟩
  | .hbm, ⟨3, _⟩ => ⟨S24576x16384, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1024x128, .f32⟩
  | .local _ .vmem, ⟨5, _⟩ => ⟨S1024x128, .f32⟩
  | .local _ .vmem, ⟨6, _⟩ => ⟨S1024x1024, .bf16⟩
  | .local _ .vmem, ⟨7, _⟩ => ⟨S1024x1024, .bf16⟩
  | _, _ => ⟨S24576x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![24, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== UpRefIdeal.lean ====
abbrev S24576x4096 : Shape := ⟨2, ![24576, 4096]⟩
abbrev S4x4096x16384 : Shape := ⟨3, ![4, 4096, 16384]⟩
abbrev S24576x128 : Shape := ⟨2, ![24576, 128]⟩
abbrev S24576x1 : Shape := ⟨2, ![24576, 1]⟩
abbrev S_ : Shape := ⟨0, ![]⟩
abbrev S1x4096x16384 : Shape := ⟨3, ![1, 4096, 16384]⟩
abbrev S4096x16384 : Shape := ⟨2, ![4096, 16384]⟩
abbrev S24576x16384 : Shape := ⟨2, ![24576, 16384]⟩

abbrev nBuf : Space → Nat
  | .hbm => 23
  | .vmem => 0
  | .smem => 0
  | _ => 0

abbrev bufTy : (tb : Table) → Fin (tcTables nBuf tb) → BufTy
  | .hbm, ⟨0, _⟩ => ⟨S24576x4096, .bf16⟩
  | .hbm, ⟨1, _⟩ => ⟨S4x4096x16384, .bf16⟩
  | .hbm, ⟨2, _⟩ => ⟨S24576x128, .f32⟩
  | .hbm, ⟨3, _⟩ => ⟨S24576x4096, .f32⟩
  | .hbm, ⟨4, _⟩ => ⟨S24576x1, .f32⟩
  | .hbm, ⟨5, _⟩ => ⟨S_, .f32⟩
  | .hbm, ⟨6, _⟩ => ⟨S24576x1, .f32⟩
  | .hbm, ⟨7, _⟩ => ⟨S24576x1, .f32⟩
  | .hbm, ⟨8, _⟩ => ⟨S_, .f32⟩
  | .hbm, ⟨9, _⟩ => ⟨S24576x1, .f32⟩
  | .hbm, ⟨10, _⟩ => ⟨S24576x1, .f32⟩
  | .hbm, ⟨11, _⟩ => ⟨S24576x1, .f32⟩
  | .hbm, ⟨12, _⟩ => ⟨S24576x4096, .f32⟩
  | .hbm, ⟨13, _⟩ => ⟨S24576x4096, .f32⟩
  | .hbm, ⟨14, _⟩ => ⟨S1x4096x16384, .bf16⟩
  | .hbm, ⟨15, _⟩ => ⟨S4096x16384, .bf16⟩
  | .hbm, ⟨16, _⟩ => ⟨S4096x16384, .f32⟩
  | .hbm, ⟨17, _⟩ => ⟨S24576x16384, .f32⟩
  | .hbm, ⟨18, _⟩ => ⟨S_, .f32⟩
  | .hbm, ⟨19, _⟩ => ⟨S24576x16384, .f32⟩
  | .hbm, ⟨20, _⟩ => ⟨S24576x16384, .f32⟩
  | .hbm, ⟨21, _⟩ => ⟨S24576x16384, .f32⟩
  | .hbm, ⟨22, _⟩ => ⟨S24576x16384, .bf16⟩
  | _, _ => ⟨S24576x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_call0_cst : Ref sig .tc := ⟨.hbm, 18, rfl⟩
abbrev main_call0_v0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Down.lean ====
abbrev S24576x16384 : Shape := ⟨2, ![24576, 16384]⟩
abbrev S4x16384x4096 : Shape := ⟨3, ![4, 16384, 4096]⟩
abbrev S24576x4096 : Shape := ⟨2, ![24576, 4096]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S24576x16384, .bf16⟩
  | .hbm, ⟨1, _⟩ => ⟨S4x16384x4096, .bf16⟩
  | .hbm, ⟨2, _⟩ => ⟨S24576x4096, .f32⟩
  | .hbm, ⟨3, _⟩ => ⟨S24576x4096, .f32⟩
  | .local _ .vmem, ⟨0, _⟩ => ⟨S2048x1024, .bf16⟩
  | .local _ .vmem, ⟨1, _⟩ => ⟨S2048x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | .local _ .vmem, ⟨7, _⟩ => ⟨S2048x1024, .f32⟩
  | _, _ => ⟨S24576x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![12, 4, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownRefIdeal.lean ====
abbrev S24576x16384 : Shape := ⟨2, ![24576, 16384]⟩
abbrev S4x16384x4096 : Shape := ⟨3, ![4, 16384, 4096]⟩
abbrev S24576x4096 : Shape := ⟨2, ![24576, 4096]⟩
abbrev S1x16384x4096 : Shape := ⟨3, ![1, 16384, 4096]⟩
abbrev S16384x4096 : Shape := ⟨2, ![16384, 4096]⟩

abbrev nBuf : Space → Nat
  | .hbm => 9
  | .vmem => 0
  | .smem => 0
  | _ => 0

abbrev bufTy : (tb : Table) → Fin (tcTables nBuf tb) → BufTy
  | .hbm, ⟨0, _⟩ => ⟨S24576x16384, .bf16⟩
  | .hbm, ⟨1, _⟩ => ⟨S4x16384x4096, .bf16⟩
  | .hbm, ⟨2, _⟩ => ⟨S24576x4096, .f32⟩
  | .hbm, ⟨3, _⟩ => ⟨S24576x16384, .f32⟩
  | .hbm, ⟨4, _⟩ => ⟨S1x16384x4096, .bf16⟩
  | .hbm, ⟨5, _⟩ => ⟨S16384x4096, .bf16⟩
  | .hbm, ⟨6, _⟩ => ⟨S16384x4096, .f32⟩
  | .hbm, ⟨7, _⟩ => ⟨S24576x4096, .f32⟩
  | .hbm, ⟨8, _⟩ => ⟨S24576x4096, .f32⟩
  | _, _ => ⟨S24576x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Qkv.lean ====
abbrev S24576x4096 : Shape := ⟨2, ![24576, 4096]⟩
abbrev S2x4096x12288 : Shape := ⟨3, ![2, 4096, 12288]⟩
abbrev S24576x12288 : Shape := ⟨2, ![24576, 12288]⟩
abbrev S1024x4096 : Shape := ⟨2, ![1024, 4096]⟩
abbrev S1x4096x1024 : Shape := ⟨3, ![1, 4096, 1024]⟩
abbrev S1024x1024 : Shape := ⟨2, ![1024, 1024]⟩
abbrev S4096x1024 : Shape := ⟨2, ![4096, 1024]⟩

abbrev nBuf : Space → Nat
  | .hbm => 3
  | .vmem => 6
  | .smem => 0
  | _ => 0

abbrev bufTy : (tb : Table) → Fin (tcTables nBuf tb) → BufTy
  | .hbm, ⟨0, _⟩ => ⟨S24576x4096, .bf16⟩
  | .hbm, ⟨1, _⟩ => ⟨S2x4096x12288, .bf16⟩
  | .hbm, ⟨2, _⟩ => ⟨S24576x12288, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1024x1024, .bf16⟩
  | .local _ .vmem, ⟨5, _⟩ => ⟨S1024x1024, .bf16⟩
  | _, _ => ⟨S24576x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![24, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== QkvRefIdeal.lean ====
abbrev S24576x4096 : Shape := ⟨2, ![24576, 4096]⟩
abbrev S2x4096x12288 : Shape := ⟨3, ![2, 4096, 12288]⟩
abbrev S1x4096x12288 : Shape := ⟨3, ![1, 4096, 12288]⟩
abbrev S4096x12288 : Shape := ⟨2, ![4096, 12288]⟩
abbrev S24576x12288 : Shape := ⟨2, ![24576, 12288]⟩

abbrev nBuf : Space → Nat
  | .hbm => 8
  | .vmem => 0
  | .smem => 0
  | _ => 0

abbrev bufTy : (tb : Table) → Fin (tcTables nBuf tb) → BufTy
  | .hbm, ⟨0, _⟩ => ⟨S24576x4096, .bf16⟩
  | .hbm, ⟨1, _⟩ => ⟨S2x4096x12288, .bf16⟩
  | .hbm, ⟨2, _⟩ => ⟨S24576x4096, .f32⟩
  | .hbm, ⟨3, _⟩ => ⟨S1x4096x12288, .bf16⟩
  | .hbm, ⟨4, _⟩ => ⟨S4096x12288, .bf16⟩
  | .hbm, ⟨5, _⟩ => ⟨S4096x12288, .f32⟩
  | .hbm, ⟨6, _⟩ => ⟨S24576x12288, .f32⟩
  | .hbm, ⟨7, _⟩ => ⟨S24576x12288, .bf16⟩
  | _, _ => ⟨S24576x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Proj.lean ====
abbrev S24576x4096 : Shape := ⟨2, ![24576, 4096]⟩
abbrev S2x4096x20480 : Shape := ⟨3, ![2, 4096, 20480]⟩
abbrev S24576x20480 : Shape := ⟨2, ![24576, 20480]⟩
abbrev S1024x4096 : Shape := ⟨2, ![1024, 4096]⟩
abbrev S1x4096x1024 : Shape := ⟨3, ![1, 4096, 1024]⟩
abbrev S1024x1024 : Shape := ⟨2, ![1024, 1024]⟩
abbrev S4096x1024 : Shape := ⟨2, ![4096, 1024]⟩

abbrev nBuf : Space → Nat
  | .hbm => 3
  | .vmem => 6
  | .smem => 0
  | _ => 0

abbrev bufTy : (tb : Table) → Fin (tcTables nBuf tb) → BufTy
  | .hbm, ⟨0, _⟩ => ⟨S24576x4096, .bf16⟩
  | .hbm, ⟨1, _⟩ => ⟨S2x4096x20480, .bf16⟩
  | .hbm, ⟨2, _⟩ => ⟨S24576x20480, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1024x1024, .f32⟩
  | .local _ .vmem, ⟨5, _⟩ => ⟨S1024x1024, .f32⟩
  | _, _ => ⟨S24576x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![24, 20], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjRefIdeal.lean ====
abbrev S24576x4096 : Shape := ⟨2, ![24576, 4096]⟩
abbrev S2x4096x20480 : Shape := ⟨3, ![2, 4096, 20480]⟩
abbrev S1x4096x20480 : Shape := ⟨3, ![1, 4096, 20480]⟩
abbrev S4096x20480 : Shape := ⟨2, ![4096, 20480]⟩
abbrev S24576x20480 : Shape := ⟨2, ![24576, 20480]⟩

abbrev nBuf : Space → Nat
  | .hbm => 7
  | .vmem => 0
  | .smem => 0
  | _ => 0

abbrev bufTy : (tb : Table) → Fin (tcTables nBuf tb) → BufTy
  | .hbm, ⟨0, _⟩ => ⟨S24576x4096, .bf16⟩
  | .hbm, ⟨1, _⟩ => ⟨S2x4096x20480, .bf16⟩
  | .hbm, ⟨2, _⟩ => ⟨S24576x4096, .f32⟩
  | .hbm, ⟨3, _⟩ => ⟨S1x4096x20480, .bf16⟩
  | .hbm, ⟨4, _⟩ => ⟨S4096x20480, .bf16⟩
  | .hbm, ⟨5, _⟩ => ⟨S4096x20480, .f32⟩
  | .hbm, ⟨6, _⟩ => ⟨S24576x20480, .f32⟩
  | _, _ => ⟨S24576x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Out.lean ====
abbrev S24576x4096 : Shape := ⟨2, ![24576, 4096]⟩
abbrev S2x4096x4096 : Shape := ⟨3, ![2, 4096, 4096]⟩
abbrev S4096 : Shape := ⟨1, ![4096]⟩
abbrev S1x4096 : Shape := ⟨2, ![1, 4096]⟩
abbrev S24576x128 : Shape := ⟨2, ![24576, 128]⟩
abbrev S1024x4096 : Shape := ⟨2, ![1024, 4096]⟩
abbrev S1x4096x512 : Shape := ⟨3, ![1, 4096, 512]⟩
abbrev S1024x512 : Shape := ⟨2, ![1024, 512]⟩
abbrev S1x512 : Shape := ⟨2, ![1, 512]⟩
abbrev S1024x128 : Shape := ⟨2, ![1024, 128]⟩
abbrev S4096x512 : Shape := ⟨2, ![4096, 512]⟩
abbrev S1024 : Shape := ⟨1, ![1024]⟩
abbrev S1024x1 : Shape := ⟨2, ![1024, 1]⟩

abbrev nBuf : Space → Nat
  | .hbm => 8
  | .vmem => 14
  | .smem => 0
  | _ => 0

abbrev bufTy : (tb : Table) → Fin (tcTables nBuf tb) → BufTy
  | .hbm, ⟨0, _⟩ => ⟨S24576x4096, .bf16⟩
  | .hbm, ⟨1, _⟩ => ⟨S2x4096x4096, .bf16⟩
  | .hbm, ⟨2, _⟩ => ⟨S24576x4096, .f32⟩
  | .hbm, ⟨3, _⟩ => ⟨S4096, .f32⟩
  | .hbm, ⟨4, _⟩ => ⟨S1x4096, .f32⟩
  | .hbm, ⟨5, _⟩ => ⟨S24576x4096, .f32⟩
  | .hbm, ⟨6, _⟩ => ⟨S24576x4096, .bf16⟩
  | .hbm, ⟨7, _⟩ => ⟨S24576x128, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1024x512, .f32⟩
  | .local _ .vmem, ⟨5, _⟩ => ⟨S1024x512, .f32⟩
  | .local _ .vmem, ⟨6, _⟩ => ⟨S1x512, .f32⟩
  | .local _ .vmem, ⟨7, _⟩ => ⟨S1x512, .f32⟩
  | .local _ .vmem, ⟨8, _⟩ => ⟨S1024x512, .f32⟩
  | .local _ .vmem, ⟨9, _⟩ => ⟨S1024x512, .f32⟩
  | .local _ .vmem, ⟨10, _⟩ => ⟨S1024x512, .bf16⟩
  | .local _ .vmem, ⟨11, _⟩ => ⟨S1024x512, .bf16⟩
  | .local _ .vmem, ⟨12, _⟩ => ⟨S1024x128, .f32⟩
  | .local _ .vmem, ⟨13, _⟩ => ⟨S1024x128, .f32⟩
  | _, _ => ⟨S24576x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![24, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![v0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![v0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== OutRefIdeal.lean ====
abbrev S24576x4096 : Shape := ⟨2, ![24576, 4096]⟩
abbrev S2x4096x4096 : Shape := ⟨3, ![2, 4096, 4096]⟩
abbrev S4096 : Shape := ⟨1, ![4096]⟩
abbrev S1x4096x4096 : Shape := ⟨3, ![1, 4096, 4096]⟩
abbrev S4096x4096 : Shape := ⟨2, ![4096, 4096]⟩
abbrev S1x4096 : Shape := ⟨2, ![1, 4096]⟩
abbrev S_ : Shape := ⟨0, ![]⟩
abbrev S24576 : Shape := ⟨1, ![24576]⟩
abbrev S24576x1 : Shape := ⟨2, ![24576, 1]⟩
abbrev S24576x128 : Shape := ⟨2, ![24576, 128]⟩

abbrev nBuf : Space → Nat
  | .hbm => 19
  | .vmem => 0
  | .smem => 0
  | _ => 0

abbrev bufTy : (tb : Table) → Fin (tcTables nBuf tb) → BufTy
  | .hbm, ⟨0, _⟩ => ⟨S24576x4096, .bf16⟩
  | .hbm, ⟨1, _⟩ => ⟨S2x4096x4096, .bf16⟩
  | .hbm, ⟨2, _⟩ => ⟨S24576x4096, .f32⟩
  | .hbm, ⟨3, _⟩ => ⟨S4096, .f32⟩
  | .hbm, ⟨4, _⟩ => ⟨S24576x4096, .f32⟩
  | .hbm, ⟨5, _⟩ => ⟨S1x4096x4096, .bf16⟩
  | .hbm, ⟨6, _⟩ => ⟨S4096x4096, .bf16⟩
  | .hbm, ⟨7, _⟩ => ⟨S4096x4096, .f32⟩
  | .hbm, ⟨8, _⟩ => ⟨S24576x4096, .f32⟩
  | .hbm, ⟨9, _⟩ => ⟨S24576x4096, .f32⟩
  | .hbm, ⟨10, _⟩ => ⟨S1x4096, .f32⟩
  | .hbm, ⟨11, _⟩ => ⟨S24576x4096, .f32⟩
  | .hbm, ⟨12, _⟩ => ⟨S24576x4096, .f32⟩
  | .hbm, ⟨13, _⟩ => ⟨S24576x4096, .bf16⟩
  | .hbm, ⟨14, _⟩ => ⟨S24576x4096, .f32⟩
  | .hbm, ⟨15, _⟩ => ⟨S_, .f32⟩
  | .hbm, ⟨16, _⟩ => ⟨S24576, .f32⟩
  | .hbm, ⟨17, _⟩ => ⟨S24576x1, .f32⟩
  | .hbm, ⟨18, _⟩ => ⟨S24576x128, .f32⟩
  | _, _ => ⟨S24576x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== NormPrompt.lean ====
abbrev S24576x4096 : Shape := ⟨2, ![24576, 4096]⟩
abbrev S4096 : Shape := ⟨1, ![4096]⟩
abbrev S1x4096 : Shape := ⟨2, ![1, 4096]⟩
abbrev S16384x4096 : Shape := ⟨2, ![16384, 4096]⟩
abbrev S512x4096 : Shape := ⟨2, ![512, 4096]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S24576x4096, .f32⟩
  | .hbm, ⟨1, _⟩ => ⟨S4096, .f32⟩
  | .hbm, ⟨2, _⟩ => ⟨S1x4096, .f32⟩
  | .hbm, ⟨3, _⟩ => ⟨S16384x4096, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .f32⟩
  | .local _ .vmem, ⟨4, _⟩ => ⟨S512x4096, .f32⟩
  | _, _ => ⟨S24576x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormPromptRefIdeal.lean ====
abbrev S24576x4096 : Shape := ⟨2, ![24576, 4096]⟩
abbrev S4096 : Shape := ⟨1, ![4096]⟩
abbrev S16384x4096 : Shape := ⟨2, ![16384, 4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S24576x4096, .f32⟩
  | .hbm, ⟨1, _⟩ => ⟨S4096, .f32⟩
  | .hbm, ⟨2, _⟩ => ⟨S16384x4096, .f32⟩
  | .hbm, ⟨3, _⟩ => ⟨S16384x4096, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x4096, .f32⟩
  | .hbm, ⟨15, _⟩ => ⟨S16384x4096, .f32⟩
  | .hbm, ⟨16, _⟩ => ⟨S1x4096, .f32⟩
  | .hbm, ⟨17, _⟩ => ⟨S16384x4096, .f32⟩
  | .hbm, ⟨18, _⟩ => ⟨S16384x4096, .f32⟩
  | _, _ => ⟨S24576x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== NormSample.lean ====
abbrev S24576x4096 : Shape := ⟨2, ![24576, 4096]⟩
abbrev S4096 : Shape := ⟨1, ![4096]⟩
abbrev S1x4096 : Shape := ⟨2, ![1, 4096]⟩
abbrev S8192x4096 : Shape := ⟨2, ![8192, 4096]⟩
abbrev S512x4096 : Shape := ⟨2, ![512, 4096]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S24576x4096, .f32⟩
  | .hbm, ⟨1, _⟩ => ⟨S4096, .f32⟩
  | .hbm, ⟨2, _⟩ => ⟨S1x4096, .f32⟩
  | .hbm, ⟨3, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .f32⟩
  | .local _ .vmem, ⟨4, _⟩ => ⟨S512x4096, .f32⟩
  | _, _ => ⟨S24576x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c32_i32 : BitVec 32 := 32#32
  let v0 : BitVec 32 := Scalar.addi arg0 c32_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormSampleRefIdeal.lean ====
abbrev S24576x4096 : Shape := ⟨2, ![24576, 4096]⟩
abbrev S4096 : Shape := ⟨1, ![4096]⟩
abbrev S8192x4096 : Shape := ⟨2, ![8192, 4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S24576x4096, .f32⟩
  | .hbm, ⟨1, _⟩ => ⟨S4096, .f32⟩
  | .hbm, ⟨2, _⟩ => ⟨S8192x4096, .f32⟩
  | .hbm, ⟨3, _⟩ => ⟨S8192x4096, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x4096, .f32⟩
  | .hbm, ⟨15, _⟩ => ⟨S8192x4096, .f32⟩
  | .hbm, ⟨16, _⟩ => ⟨S1x4096, .f32⟩
  | .hbm, ⟨17, _⟩ => ⟨S8192x4096, .f32⟩
  | .hbm, ⟨18, _⟩ => ⟨S8192x4096, .f32⟩
  | _, _ => ⟨S24576x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Norm.lean ====
abbrev S24576x4096 : Shape := ⟨2, ![24576, 4096]⟩
abbrev S4096 : Shape := ⟨1, ![4096]⟩
abbrev S1x4096 : Shape := ⟨2, ![1, 4096]⟩
abbrev S512x4096 : Shape := ⟨2, ![512, 4096]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S24576x4096, .f32⟩
  | .hbm, ⟨1, _⟩ => ⟨S4096, .f32⟩
  | .hbm, ⟨2, _⟩ => ⟨S1x4096, .f32⟩
  | .hbm, ⟨3, _⟩ => ⟨S24576x4096, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .bf16⟩
  | .local _ .vmem, ⟨4, _⟩ => ⟨S512x4096, .bf16⟩
  | _, _ => ⟨S24576x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S24576x4096 : Shape := ⟨2, ![24576, 4096]⟩
abbrev S4096 : Shape := ⟨1, ![4096]⟩
abbrev S_ : Shape := ⟨0, ![]⟩
abbrev S24576 : Shape := ⟨1, ![24576]⟩
abbrev S24576x1 : Shape := ⟨2, ![24576, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S24576x4096, .f32⟩
  | .hbm, ⟨1, _⟩ => ⟨S4096, .f32⟩
  | .hbm, ⟨2, _⟩ => ⟨S24576x4096, .f32⟩
  | .hbm, ⟨3, _⟩ => ⟨S_, .f32⟩
  | .hbm, ⟨4, _⟩ => ⟨S24576, .f32⟩
  | .hbm, ⟨5, _⟩ => ⟨S24576x1, .f32⟩
  | .hbm, ⟨6, _⟩ => ⟨S_, .f32⟩
  | .hbm, ⟨7, _⟩ => ⟨S24576x1, .f32⟩
  | .hbm, ⟨8, _⟩ => ⟨S24576x1, .f32⟩
  | .hbm, ⟨9, _⟩ => ⟨S_, .f32⟩
  | .hbm, ⟨10, _⟩ => ⟨S24576x1, .f32⟩
  | .hbm, ⟨11, _⟩ => ⟨S24576x1, .f32⟩
  | .hbm, ⟨12, _⟩ => ⟨S24576x1, .f32⟩
  | .hbm, ⟨13, _⟩ => ⟨S24576x4096, .f32⟩
  | .hbm, ⟨14, _⟩ => ⟨S24576x4096, .f32⟩
  | .hbm, ⟨15, _⟩ => ⟨S1x4096, .f32⟩
  | .hbm, ⟨16, _⟩ => ⟨S24576x4096, .f32⟩
  | .hbm, ⟨17, _⟩ => ⟨S24576x4096, .f32⟩
  | .hbm, ⟨18, _⟩ => ⟨S24576x4096, .bf16⟩
  | _, _ => ⟨S24576x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Bounds.lean ====
abbrev S4x4096 : Shape := ⟨2, ![4, 4096]⟩
abbrev S4096 : Shape := ⟨1, ![4096]⟩
abbrev S1x4096 : Shape := ⟨2, ![1, 4096]⟩

abbrev nBuf : Space → Nat
  | .hbm => 3
  | .vmem => 3
  | .smem => 0
  | _ => 0

abbrev bufTy : (tb : Table) → Fin (tcTables nBuf tb) → BufTy
  | .hbm, ⟨0, _⟩ => ⟨S4x4096, .f32⟩
  | .hbm, ⟨1, _⟩ => ⟨S4x4096, .f32⟩
  | .hbm, ⟨2, _⟩ => ⟨S4x4096, .f32⟩
  | .local _ .vmem, ⟨0, _⟩ => ⟨S4x4096, .f32⟩
  | .local _ .vmem, ⟨1, _⟩ => ⟨S4x4096, .f32⟩
  | .local _ .vmem, ⟨2, _⟩ => ⟨S4x4096, .f32⟩
  | _, _ => ⟨S4x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== BoundsRefIdeal.lean ====
abbrev S4x4096 : Shape := ⟨2, ![4, 4096]⟩
abbrev S_ : Shape := ⟨0, ![]⟩
abbrev S4096 : Shape := ⟨1, ![4096]⟩
abbrev S1x4096 : Shape := ⟨2, ![1, 4096]⟩

abbrev nBuf : Space → Nat
  | .hbm => 26
  | .vmem => 0
  | .smem => 0
  | _ => 0

abbrev bufTy : (tb : Table) → Fin (tcTables nBuf tb) → BufTy
  | .hbm, ⟨0, _⟩ => ⟨S4x4096, .f32⟩
  | .hbm, ⟨1, _⟩ => ⟨S_, .f32⟩
  | .hbm, ⟨2, _⟩ => ⟨S4096, .f32⟩
  | .hbm, ⟨3, _⟩ => ⟨S_, .f32⟩
  | .hbm, ⟨4, _⟩ => ⟨S4096, .f32⟩
  | .hbm, ⟨5, _⟩ => ⟨S4096, .f32⟩
  | .hbm, ⟨6, _⟩ => ⟨S1x4096, .f32⟩
  | .hbm, ⟨7, _⟩ => ⟨S4x4096, .f32⟩
  | .hbm, ⟨8, _⟩ => ⟨S4x4096, .f32⟩
  | .hbm, ⟨9, _⟩ => ⟨S4x4096, .f32⟩
  | .hbm, ⟨10, _⟩ => ⟨S_, .f32⟩
  | .hbm, ⟨11, _⟩ => ⟨S4096, .f32⟩
  | .hbm, ⟨12, _⟩ => ⟨S1x4096, .f32⟩
  | .hbm, ⟨13, _⟩ => ⟨S4x4096, .f32⟩
  | .hbm, ⟨14, _⟩ => ⟨S4x4096, .f32⟩
  | .hbm, ⟨15, _⟩ => ⟨S_, .f32⟩
  | .hbm, ⟨16, _⟩ => ⟨S_, .f32⟩
  | .hbm, ⟨17, _⟩ => ⟨S4x4096, .f32⟩
  | .hbm, ⟨18, _⟩ => ⟨S1x4096, .f32⟩
  | .hbm, ⟨19, _⟩ => ⟨S4096, .f32⟩
  | .hbm, ⟨20, _⟩ => ⟨S1x4096, .f32⟩
  | .hbm, ⟨21, _⟩ => ⟨S4x4096, .f32⟩
  | .hbm, ⟨22, _⟩ => ⟨S4x4096, .f32⟩
  | .hbm, ⟨23, _⟩ => ⟨S_, .f32⟩
  | .hbm, ⟨24, _⟩ => ⟨S4x4096, .f32⟩
  | .hbm, ⟨25, _⟩ => ⟨S4x4096, .f32⟩
  | _, _ => ⟨S4x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_call0_call0_cst : Ref sig .tc := ⟨.hbm, 15, rfl⟩
abbrev main_call0_call0_v0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Tail.lean ====
abbrev S24576x4096 : Shape := ⟨2, ![24576, 4096]⟩
abbrev S2x4096x4096 : Shape := ⟨3, ![2, 4096, 4096]⟩
abbrev S4096 : Shape := ⟨1, ![4096]⟩
abbrev S4x4096x16384 : Shape := ⟨3, ![4, 4096, 16384]⟩
abbrev S4x16384x4096 : Shape := ⟨3, ![4, 16384, 4096]⟩
abbrev S1x4096 : Shape := ⟨2, ![1, 4096]⟩
abbrev S24576x128 : Shape := ⟨2, ![24576, 128]⟩
abbrev S1024x4096 : Shape := ⟨2, ![1024, 4096]⟩
abbrev S1x4096x512 : Shape := ⟨3, ![1, 4096, 512]⟩
abbrev S1024x512 : Shape := ⟨2, ![1024, 512]⟩
abbrev S1x512 : Shape := ⟨2, ![1, 512]⟩
abbrev S1024x128 : Shape := ⟨2, ![1024, 128]⟩
abbrev S4096x512 : Shape := ⟨2, ![4096, 512]⟩
abbrev S1024 : Shape := ⟨1, ![1024]⟩
abbrev S1024x1 : Shape := ⟨2, ![1024, 1]⟩
abbrev S24576x16384 : Shape := ⟨2, ![24576, 16384]⟩
abbrev S1x4096x1024 : Shape := ⟨3, ![1, 4096, 1024]⟩
abbrev S1024x1024 : Shape := ⟨2, ![1024, 1024]⟩
abbrev S4096x1024 : Shape := ⟨2, ![4096, 1024]⟩
abbrev S2048x1024 : Shape := ⟨2, ![2048, 1024]⟩
abbrev S1x1024x1024 : Shape := ⟨3, ![1, 1024, 1024]⟩
abbrev S16384x4096 : Shape := ⟨2, ![16384, 4096]⟩
abbrev S512x4096 : Shape := ⟨2, ![512, 4096]⟩
abbrev S512 : Shape := ⟨1, ![512]⟩
abbrev S512x1 : Shape := ⟨2, ![512, 1]⟩
abbrev S8192x4096 : Shape := ⟨2, ![8192, 4096]⟩

abbrev nBuf : Space → Nat
  | .hbm => 17
  | .vmem => 40
  | .smem => 0
  | _ => 0

abbrev bufTy : (tb : Table) → Fin (tcTables nBuf tb) → BufTy
  | .hbm, ⟨0, _⟩ => ⟨S24576x4096, .bf16⟩
  | .hbm, ⟨1, _⟩ => ⟨S2x4096x4096, .bf16⟩
  | .hbm, ⟨2, _⟩ => ⟨S24576x4096, .f32⟩
  | .hbm, ⟨3, _⟩ => ⟨S4096, .f32⟩
  | .hbm, ⟨4, _⟩ => ⟨S4x4096x16384, .bf16⟩
  | .hbm, ⟨5, _⟩ => ⟨S4x16384x4096, .bf16⟩
  | .hbm, ⟨6, _⟩ => ⟨S4096, .f32⟩
  | .hbm, ⟨7, _⟩ => ⟨S1x4096, .f32⟩
  | .hbm, ⟨8, _⟩ => ⟨S24576x4096, .f32⟩
  | .hbm, ⟨9, _⟩ => ⟨S24576x4096, .bf16⟩
  | .hbm, ⟨10, _⟩ => ⟨S24576x128, .f32⟩
  | .hbm, ⟨11, _⟩ => ⟨S24576x16384, .bf16⟩
  | .hbm, ⟨12, _⟩ => ⟨S24576x4096, .f32⟩
  | .hbm, ⟨13, _⟩ => ⟨S1x4096, .f32⟩
  | .hbm, ⟨14, _⟩ => ⟨S16384x4096, .f32⟩
  | .hbm, ⟨15, _⟩ => ⟨S1x4096, .f32⟩
  | .hbm, ⟨16, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1024x512, .f32⟩
  | .local _ .vmem, ⟨5, _⟩ => ⟨S1024x512, .f32⟩
  | .local _ .vmem, ⟨6, _⟩ => ⟨S1x512, .f32⟩
  | .local _ .vmem, ⟨7, _⟩ => ⟨S1x512, .f32⟩
  | .local _ .vmem, ⟨8, _⟩ => ⟨S1024x512, .f32⟩
  | .local _ .vmem, ⟨9, _⟩ => ⟨S1024x512, .f32⟩
  | .local _ .vmem, ⟨10, _⟩ => ⟨S1024x512, .bf16⟩
  | .local _ .vmem, ⟨11, _⟩ => ⟨S1024x512, .bf16⟩
  | .local _ .vmem, ⟨12, _⟩ => ⟨S1024x128, .f32⟩
  | .local _ .vmem, ⟨13, _⟩ => ⟨S1024x128, .f32⟩
  | .local _ .vmem, ⟨14, _⟩ => ⟨S1024x4096, .bf16⟩
  | .local _ .vmem, ⟨15, _⟩ => ⟨S1024x4096, .bf16⟩
  | .local _ .vmem, ⟨16, _⟩ => ⟨S1x4096x1024, .bf16⟩
  | .local _ .vmem, ⟨17, _⟩ => ⟨S1x4096x1024, .bf16⟩
  | .local _ .vmem, ⟨18, _⟩ => ⟨S1024x128, .f32⟩
  | .local _ .vmem, ⟨19, _⟩ => ⟨S1024x128, .f32⟩
  | .local _ .vmem, ⟨20, _⟩ => ⟨S1024x1024, .bf16⟩
  | .local _ .vmem, ⟨21, _⟩ => ⟨S1024x1024, .bf16⟩
  | .local _ .vmem, ⟨22, _⟩ => ⟨S2048x1024, .bf16⟩
  | .local _ .vmem, ⟨23, _⟩ => ⟨S2048x1024, .bf16⟩
  | .local _ .vmem, ⟨24, _⟩ => ⟨S1x1024x1024, .bf16⟩
  | .local _ .vmem, ⟨25, _⟩ => ⟨S1x1024x1024, .bf16⟩
  | .local _ .vmem, ⟨26, _⟩ => ⟨S2048x1024, .f32⟩
  | .local _ .vmem, ⟨27, _⟩ => ⟨S2048x1024, .f32⟩
  | .local _ .vmem, ⟨28, _⟩ => ⟨S2048x1024, .f32⟩
  | .local _ .vmem, ⟨29, _⟩ => ⟨S2048x1024, .f32⟩
  | .local _ .vmem, ⟨30, _⟩ => ⟨S512x4096, .f32⟩
  | .local _ .vmem, ⟨31, _⟩ => ⟨S512x4096, .f32⟩
  | .local _ .vmem, ⟨32, _⟩ => ⟨S1x4096, .f32⟩
  | .local _ .vmem, ⟨33, _⟩ => ⟨S512x4096, .f32⟩
  | .local _ .vmem, ⟨34, _⟩ => ⟨S512x4096, .f32⟩
  | .local _ .vmem, ⟨35, _⟩ => ⟨S512x4096, .f32⟩
  | .local _ .vmem, ⟨36, _⟩ => ⟨S512x4096, .f32⟩
  | .local _ .vmem, ⟨37, _⟩ => ⟨S1x4096, .f32⟩
  | .local _ .vmem, ⟨38, _⟩ => ⟨S512x4096, .f32⟩
  | .local _ .vmem, ⟨39, _⟩ => ⟨S512x4096, .f32⟩
  | _, _ => ⟨S24576x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg3_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg2_0 : Ref sig .tc := ⟨.vmem, 33, rfl⟩
abbrev cc3_stg2_1 : Ref sig .tc := ⟨.vmem, 34, rfl⟩
abbrev cc4_stg0_0 : Ref sig .tc := ⟨.vmem, 35, rfl⟩
abbrev cc4_stg0_1 : Ref sig .tc := ⟨.vmem, 36, rfl⟩
abbrev cc4_stg1_0 : Ref sig .tc := ⟨.vmem, 37, rfl⟩
abbrev cc4_stg2_0 : Ref sig .tc := ⟨.vmem, 38, rfl⟩
abbrev cc4_stg2_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem3_1 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem2_1 : DmaSem sig := 34
abbrev cc4_sem0_0 : DmaSem sig := 35
abbrev cc4_sem0_1 : DmaSem sig := 36
abbrev cc4_sem1_0 : DmaSem sig := 37
abbrev cc4_sem2_0 : DmaSem sig := 38
abbrev cc4_sem2_1 : DmaSem sig := 39

abbrev nD : Nat := 1
abbrev τ : Topo := Topo.v7x

variable {F : FTy → Type} [FloatOps F]

abbrev grid0 : Pipeline.Grid := ⟨2, ![24, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![v0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![v0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev grid1 : Pipeline.Grid := ⟨2, ![24, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x4096x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨3, ![12, 4, 16], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  ![c3_i32.toNat, arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S2048x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1x1024x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S2048x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S2048x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage3_0 : Fin 2 → Memref sig .tc .vmem S512x4096 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x4096 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S512x4096 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![16], ![false]⟩

def cc4_transform_0 (i : grid4.Coords) : Fin 2 → Nat :=
  let arg0 : BitVec 32 := BitVec.ofNat 32 (i 0).val
  let c32_i32 : BitVec 32 := 32#32
  let v0 : BitVec 32 := Scalar.addi arg0 c32_i32
  let c0_i32 : BitVec 32 := 0#32
  let c0_i32_0 : BitVec 32 := 0#32
  ![v0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage4_0 : Fin 2 → Memref sig .tc .vmem S512x4096 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x4096 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S512x4096 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]
-- ==== TailRefIdeal.lean ====
abbrev S24576x4096 : Shape := ⟨2, ![24576, 4096]⟩
abbrev S2x4096x4096 : Shape := ⟨3, ![2, 4096, 4096]⟩
abbrev S4096 : Shape := ⟨1, ![4096]⟩
abbrev S4x4096x16384 : Shape := ⟨3, ![4, 4096, 16384]⟩
abbrev S4x16384x4096 : Shape := ⟨3, ![4, 16384, 4096]⟩
abbrev S1x4096x4096 : Shape := ⟨3, ![1, 4096, 4096]⟩
abbrev S4096x4096 : Shape := ⟨2, ![4096, 4096]⟩
abbrev S_ : Shape := ⟨0, ![]⟩
abbrev S24576 : Shape := ⟨1, ![24576]⟩
abbrev S24576x1 : Shape := ⟨2, ![24576, 1]⟩
abbrev S1x4096 : Shape := ⟨2, ![1, 4096]⟩
abbrev S1x4096x16384 : Shape := ⟨3, ![1, 4096, 16384]⟩
abbrev S4096x16384 : Shape := ⟨2, ![4096, 16384]⟩
abbrev S24576x16384 : Shape := ⟨2, ![24576, 16384]⟩
abbrev S1x16384x4096 : Shape := ⟨3, ![1, 16384, 4096]⟩
abbrev S16384x4096 : Shape := ⟨2, ![16384, 4096]⟩
abbrev S8192x4096 : Shape := ⟨2, ![8192, 4096]⟩

abbrev nBuf : Space → Nat
  | .hbm => 60
  | .vmem => 0
  | .smem => 0
  | _ => 0

abbrev bufTy : (tb : Table) → Fin (tcTables nBuf tb) → BufTy
  | .hbm, ⟨0, _⟩ => ⟨S24576x4096, .bf16⟩
  | .hbm, ⟨1, _⟩ => ⟨S2x4096x4096, .bf16⟩
  | .hbm, ⟨2, _⟩ => ⟨S24576x4096, .f32⟩
  | .hbm, ⟨3, _⟩ => ⟨S4096, .f32⟩
  | .hbm, ⟨4, _⟩ => ⟨S4x4096x16384, .bf16⟩
  | .hbm, ⟨5, _⟩ => ⟨S4x16384x4096, .bf16⟩
  | .hbm, ⟨6, _⟩ => ⟨S4096, .f32⟩
  | .hbm, ⟨7, _⟩ => ⟨S24576x4096, .f32⟩
  | .hbm, ⟨8, _⟩ => ⟨S1x4096x4096, .bf16⟩
  | .hbm, ⟨9, _⟩ => ⟨S4096x4096, .bf16⟩
  | .hbm, ⟨10, _⟩ => ⟨S4096x4096, .f32⟩
  | .hbm, ⟨11, _⟩ => ⟨S24576x4096, .f32⟩
  | .hbm, ⟨12, _⟩ => ⟨S24576x4096, .f32⟩
  | .hbm, ⟨13, _⟩ => ⟨S24576x4096, .f32⟩
  | .hbm, ⟨14, _⟩ => ⟨S_, .f32⟩
  | .hbm, ⟨15, _⟩ => ⟨S24576, .f32⟩
  | .hbm, ⟨16, _⟩ => ⟨S24576x1, .f32⟩
  | .hbm, ⟨17, _⟩ => ⟨S_, .f32⟩
  | .hbm, ⟨18, _⟩ => ⟨S24576x1, .f32⟩
  | .hbm, ⟨19, _⟩ => ⟨S24576x1, .f32⟩
  | .hbm, ⟨20, _⟩ => ⟨S_, .f32⟩
  | .hbm, ⟨21, _⟩ => ⟨S24576x1, .f32⟩
  | .hbm, ⟨22, _⟩ => ⟨S24576x1, .f32⟩
  | .hbm, ⟨23, _⟩ => ⟨S24576x1, .f32⟩
  | .hbm, ⟨24, _⟩ => ⟨S24576x4096, .f32⟩
  | .hbm, ⟨25, _⟩ => ⟨S24576x4096, .f32⟩
  | .hbm, ⟨26, _⟩ => ⟨S1x4096, .f32⟩
  | .hbm, ⟨27, _⟩ => ⟨S24576x4096, .f32⟩
  | .hbm, ⟨28, _⟩ => ⟨S24576x4096, .f32⟩
  | .hbm, ⟨29, _⟩ => ⟨S1x4096x16384, .bf16⟩
  | .hbm, ⟨30, _⟩ => ⟨S4096x16384, .bf16⟩
  | .hbm, ⟨31, _⟩ => ⟨S4096x16384, .f32⟩
  | .hbm, ⟨32, _⟩ => ⟨S24576x16384, .f32⟩
  | .hbm, ⟨33, _⟩ => ⟨S_, .f32⟩
  | .hbm, ⟨34, _⟩ => ⟨S24576x16384, .f32⟩
  | .hbm, ⟨35, _⟩ => ⟨S24576x16384, .f32⟩
  | .hbm, ⟨36, _⟩ => ⟨S24576x16384, .f32⟩
  | .hbm, ⟨37, _⟩ => ⟨S1x16384x4096, .bf16⟩
  | .hbm, ⟨38, _⟩ => ⟨S16384x4096, .bf16⟩
  | .hbm, ⟨39, _⟩ => ⟨S16384x4096, .f32⟩
  | .hbm, ⟨40, _⟩ => ⟨S24576x4096, .f32⟩
  | .hbm, ⟨41, _⟩ => ⟨S24576x4096, .f32⟩
  | .hbm, ⟨42, _⟩ => ⟨S24576x4096, .f32⟩
  | .hbm, ⟨43, _⟩ => ⟨S_, .f32⟩
  | .hbm, ⟨44, _⟩ => ⟨S24576, .f32⟩
  | .hbm, ⟨45, _⟩ => ⟨S24576x1, .f32⟩
  | .hbm, ⟨46, _⟩ => ⟨S_, .f32⟩
  | .hbm, ⟨47, _⟩ => ⟨S24576x1, .f32⟩
  | .hbm, ⟨48, _⟩ => ⟨S24576x1, .f32⟩
  | .hbm, ⟨49, _⟩ => ⟨S_, .f32⟩
  | .hbm, ⟨50, _⟩ => ⟨S24576x1, .f32⟩
  | .hbm, ⟨51, _⟩ => ⟨S24576x1, .f32⟩
  | .hbm, ⟨52, _⟩ => ⟨S24576x1, .f32⟩
  | .hbm, ⟨53, _⟩ => ⟨S24576x4096, .f32⟩
  | .hbm, ⟨54, _⟩ => ⟨S24576x4096, .f32⟩
  | .hbm, ⟨55, _⟩ => ⟨S1x4096, .f32⟩
  | .hbm, ⟨56, _⟩ => ⟨S24576x4096, .f32⟩
  | .hbm, ⟨57, _⟩ => ⟨S24576x4096, .f32⟩
  | .hbm, ⟨58, _⟩ => ⟨S16384x4096, .f32⟩
  | .hbm, ⟨59, _⟩ => ⟨S8192x4096, .f32⟩
  | _, _ => ⟨S24576x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_call0_cst : Ref sig .tc := ⟨.hbm, 33, rfl⟩
abbrev main_call0_v0 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_2 : Ref sig .tc := ⟨.hbm, 43, rfl⟩
abbrev main_v31 : Ref sig .tc := ⟨.hbm, 44, rfl⟩
abbrev main_v32 : Ref sig .tc := ⟨.hbm, 45, rfl⟩
abbrev main_cst_3 : Ref sig .tc := ⟨.hbm, 46, rfl⟩
abbrev main_v33 : Ref sig .tc := ⟨.hbm, 47, rfl⟩
abbrev main_v34 : Ref sig .tc := ⟨.hbm, 48, rfl⟩
abbrev main_cst_4 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩

abbrev nD : Nat := 1
abbrev τ : Topo := Topo.v7x

variable {F : FTy → Type} [FloatOps F]
-- ==== Cast.lean ====
abbrev S2x4096x12288 : Shape := ⟨3, ![2, 4096, 12288]⟩
abbrev S1x512x4096 : Shape := ⟨3, ![1, 512, 4096]⟩
abbrev S512x4096 : Shape := ⟨2, ![512, 4096]⟩

abbrev nBuf : Space → Nat
  | .hbm => 2
  | .vmem => 4
  | .smem => 0
  | _ => 0

abbrev bufTy : (tb : Table) → Fin (tcTables nBuf tb) → BufTy
  | .hbm, ⟨0, _⟩ => ⟨S2x4096x12288, .f32⟩
  | .hbm, ⟨1, _⟩ => ⟨S2x4096x12288, .bf16⟩
  | .local _ .vmem, ⟨0, _⟩ => ⟨S1x512x4096, .f32⟩
  | .local _ .vmem, ⟨1, _⟩ => ⟨S1x512x4096, .f32⟩
  | .local _ .vmem, ⟨2, _⟩ => ⟨S1x512x4096, .bf16⟩
  | .local _ .vmem, ⟨3, _⟩ => ⟨S1x512x4096, .bf16⟩
  | _, _ => ⟨S2x4096x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨3, ![2, 8, 3], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]
-- ==== CastRefIdeal.lean ====
abbrev S2x4096x12288 : Shape := ⟨3, ![2, 4096, 12288]⟩

abbrev nBuf : Space → Nat
  | .hbm => 2
  | .vmem => 0
  | .smem => 0
  | _ => 0

abbrev bufTy : (tb : Table) → Fin (tcTables nBuf tb) → BufTy
  | .hbm, ⟨0, _⟩ => ⟨S2x4096x12288, .f32⟩
  | .hbm, ⟨1, _⟩ => ⟨S2x4096x12288, .bf16⟩
  | _, _ => ⟨S2x4096x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Mid.lean ====
abbrev S24576x4096 : Shape := ⟨2, ![24576, 4096]⟩
abbrev S2x4096x4096 : Shape := ⟨3, ![2, 4096, 4096]⟩
abbrev S4096 : Shape := ⟨1, ![4096]⟩
abbrev S4x4096x16384 : Shape := ⟨3, ![4, 4096, 16384]⟩
abbrev S4x16384x4096 : Shape := ⟨3, ![4, 16384, 4096]⟩
abbrev S2x4096x20480 : Shape := ⟨3, ![2, 4096, 20480]⟩
abbrev S1x4096 : Shape := ⟨2, ![1, 4096]⟩
abbrev S24576x128 : Shape := ⟨2, ![24576, 128]⟩
abbrev S1024x4096 : Shape := ⟨2, ![1024, 4096]⟩
abbrev S1x4096x512 : Shape := ⟨3, ![1, 4096, 512]⟩
abbrev S1024x512 : Shape := ⟨2, ![1024, 512]⟩
abbrev S1x512 : Shape := ⟨2, ![1, 512]⟩
abbrev S1024x128 : Shape := ⟨2, ![1024, 128]⟩
abbrev S4096x512 : Shape := ⟨2, ![4096, 512]⟩
abbrev S1024 : Shape := ⟨1, ![1024]⟩
abbrev S1024x1 : Shape := ⟨2, ![1024, 1]⟩
abbrev S24576x16384 : Shape := ⟨2, ![24576, 16384]⟩
abbrev S1x4096x1024 : Shape := ⟨3, ![1, 4096, 1024]⟩
abbrev S1024x1024 : Shape := ⟨2, ![1024, 1024]⟩
abbrev S4096x1024 : Shape := ⟨2, ![4096, 1024]⟩
abbrev S2048x1024 : Shape := ⟨2, ![2048, 1024]⟩
abbrev S1x1024x1024 : Shape := ⟨3, ![1, 1024, 1024]⟩
abbrev S512x4096 : Shape := ⟨2, ![512, 4096]⟩
abbrev S512 : Shape := ⟨1, ![512]⟩
abbrev S512x1 : Shape := ⟨2, ![512, 1]⟩
abbrev S24576x20480 : Shape := ⟨2, ![24576, 20480]⟩

abbrev nBuf : Space → Nat
  | .hbm => 17
  | .vmem => 41
  | .smem => 0
  | _ => 0

abbrev bufTy : (tb : Table) → Fin (tcTables nBuf tb) → BufTy
  | .hbm, ⟨0, _⟩ => ⟨S24576x4096, .bf16⟩
  | .hbm, ⟨1, _⟩ => ⟨S2x4096x4096, .bf16⟩
  | .hbm, ⟨2, _⟩ => ⟨S24576x4096, .f32⟩
  | .hbm, ⟨3, _⟩ => ⟨S4096, .f32⟩
  | .hbm, ⟨4, _⟩ => ⟨S4x4096x16384, .bf16⟩
  | .hbm, ⟨5, _⟩ => ⟨S4x16384x4096, .bf16⟩
  | .hbm, ⟨6, _⟩ => ⟨S4096, .f32⟩
  | .hbm, ⟨7, _⟩ => ⟨S2x4096x20480, .bf16⟩
  | .hbm, ⟨8, _⟩ => ⟨S1x4096, .f32⟩
  | .hbm, ⟨9, _⟩ => ⟨S24576x4096, .f32⟩
  | .hbm, ⟨10, _⟩ => ⟨S24576x4096, .bf16⟩
  | .hbm, ⟨11, _⟩ => ⟨S24576x128, .f32⟩
  | .hbm, ⟨12, _⟩ => ⟨S24576x16384, .bf16⟩
  | .hbm, ⟨13, _⟩ => ⟨S24576x4096, .f32⟩
  | .hbm, ⟨14, _⟩ => ⟨S1x4096, .f32⟩
  | .hbm, ⟨15, _⟩ => ⟨S24576x4096, .bf16⟩
  | .hbm, ⟨16, _⟩ => ⟨S24576x20480, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1024x512, .f32⟩
  | .local _ .vmem, ⟨5, _⟩ => ⟨S1024x512, .f32⟩
  | .local _ .vmem, ⟨6, _⟩ => ⟨S1x512, .f32⟩
  | .local _ .vmem, ⟨7, _⟩ => ⟨S1x512, .f32⟩
  | .local _ .vmem, ⟨8, _⟩ => ⟨S1024x512, .f32⟩
  | .local _ .vmem, ⟨9, _⟩ => ⟨S1024x512, .f32⟩
  | .local _ .vmem, ⟨10, _⟩ => ⟨S1024x512, .bf16⟩
  | .local _ .vmem, ⟨11, _⟩ => ⟨S1024x512, .bf16⟩
  | .local _ .vmem, ⟨12, _⟩ => ⟨S1024x128, .f32⟩
  | .local _ .vmem, ⟨13, _⟩ => ⟨S1024x128, .f32⟩
  | .local _ .vmem, ⟨14, _⟩ => ⟨S1024x4096, .bf16⟩
  | .local _ .vmem, ⟨15, _⟩ => ⟨S1024x4096, .bf16⟩
  | .local _ .vmem, ⟨16, _⟩ => ⟨S1x4096x1024, .bf16⟩
  | .local _ .vmem, ⟨17, _⟩ => ⟨S1x4096x1024, .bf16⟩
  | .local _ .vmem, ⟨18, _⟩ => ⟨S1024x128, .f32⟩
  | .local _ .vmem, ⟨19, _⟩ => ⟨S1024x128, .f32⟩
  | .local _ .vmem, ⟨20, _⟩ => ⟨S1024x1024, .bf16⟩
  | .local _ .vmem, ⟨21, _⟩ => ⟨S1024x1024, .bf16⟩
  | .local _ .vmem, ⟨22, _⟩ => ⟨S2048x1024, .bf16⟩
  | .local _ .vmem, ⟨23, _⟩ => ⟨S2048x1024, .bf16⟩
  | .local _ .vmem, ⟨24, _⟩ => ⟨S1x1024x1024, .bf16⟩
  | .local _ .vmem, ⟨25, _⟩ => ⟨S1x1024x1024, .bf16⟩
  | .local _ .vmem, ⟨26, _⟩ => ⟨S2048x1024, .f32⟩
  | .local _ .vmem, ⟨27, _⟩ => ⟨S2048x1024, .f32⟩
  | .local _ .vmem, ⟨28, _⟩ => ⟨S2048x1024, .f32⟩
  | .local _ .vmem, ⟨29, _⟩ => ⟨S2048x1024, .f32⟩
  | .local _ .vmem, ⟨30, _⟩ => ⟨S512x4096, .f32⟩
  | .local _ .vmem, ⟨31, _⟩ => ⟨S512x4096, .f32⟩
  | .local _ .vmem, ⟨32, _⟩ => ⟨S1x4096, .f32⟩
  | .local _ .vmem, ⟨33, _⟩ => ⟨S512x4096, .bf16⟩
  | .local _ .vmem, ⟨34, _⟩ => ⟨S512x4096, .bf16⟩
  | .local _ .vmem, ⟨35, _⟩ => ⟨S1024x4096, .bf16⟩
  | .local _ .vmem, ⟨36, _⟩ => ⟨S1024x4096, .bf16⟩
  | .local _ .vmem, ⟨37, _⟩ => ⟨S1x4096x1024, .bf16⟩
  | .local _ .vmem, ⟨38, _⟩ => ⟨S1x4096x1024, .bf16⟩
  | .local _ .vmem, ⟨39, _⟩ => ⟨S1024x1024, .f32⟩
  | .local _ .vmem, ⟨40, _⟩ => ⟨S1024x1024, .f32⟩
  | _, _ => ⟨S24576x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg3_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg2_0 : Ref sig .tc := ⟨.vmem, 33, rfl⟩
abbrev cc3_stg2_1 : Ref sig .tc := ⟨.vmem, 34, rfl⟩
abbrev cc4_stg0_0 : Ref sig .tc := ⟨.vmem, 35, rfl⟩
abbrev cc4_stg0_1 : Ref sig .tc := ⟨.vmem, 36, rfl⟩
abbrev cc4_stg1_0 : Ref sig .tc := ⟨.vmem, 37, rfl⟩
abbrev cc4_stg1_1 : Ref sig .tc := ⟨.vmem, 38, rfl⟩
abbrev cc4_stg2_0 : Ref sig .tc := ⟨.vmem, 39, rfl⟩
abbrev cc4_stg2_1 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem3_1 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem2_1 : DmaSem sig := 34
abbrev cc4_sem0_0 : DmaSem sig := 35
abbrev cc4_sem0_1 : DmaSem sig := 36
abbrev cc4_sem1_0 : DmaSem sig := 37
abbrev cc4_sem1_1 : DmaSem sig := 38
abbrev cc4_sem2_0 : DmaSem sig := 39
abbrev cc4_sem2_1 : DmaSem sig := 40

abbrev nD : Nat := 1
abbrev τ : Topo := Topo.v7x

variable {F : FTy → Type} [FloatOps F]

abbrev grid0 : Pipeline.Grid := ⟨2, ![24, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![v0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![v0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev grid1 : Pipeline.Grid := ⟨2, ![24, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x4096x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨3, ![12, 4, 16], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![c2_i32.toNat, arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S2048x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1x1024x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S2048x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S2048x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev grid3 : Pipeline.Grid := ⟨1, ![48], ![false]⟩

def cc3_transform_0 (i : grid3.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage3_0 : Fin 2 → Memref sig .tc .vmem S512x4096 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x4096 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S512x4096 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨2, ![24, 20], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S1024x4096 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S1x4096x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S1024x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]
-- ==== MidRefIdeal.lean ====
abbrev S24576x4096 : Shape := ⟨2, ![24576, 4096]⟩
abbrev S2x4096x4096 : Shape := ⟨3, ![2, 4096, 4096]⟩
abbrev S4096 : Shape := ⟨1, ![4096]⟩
abbrev S4x4096x16384 : Shape := ⟨3, ![4, 4096, 16384]⟩
abbrev S4x16384x4096 : Shape := ⟨3, ![4, 16384, 4096]⟩
abbrev S2x4096x20480 : Shape := ⟨3, ![2, 4096, 20480]⟩
abbrev S1x4096x4096 : Shape := ⟨3, ![1, 4096, 4096]⟩
abbrev S4096x4096 : Shape := ⟨2, ![4096, 4096]⟩
abbrev S_ : Shape := ⟨0, ![]⟩
abbrev S24576 : Shape := ⟨1, ![24576]⟩
abbrev S24576x1 : Shape := ⟨2, ![24576, 1]⟩
abbrev S1x4096 : Shape := ⟨2, ![1, 4096]⟩
abbrev S1x4096x16384 : Shape := ⟨3, ![1, 4096, 16384]⟩
abbrev S4096x16384 : Shape := ⟨2, ![4096, 16384]⟩
abbrev S24576x16384 : Shape := ⟨2, ![24576, 16384]⟩
abbrev S1x16384x4096 : Shape := ⟨3, ![1, 16384, 4096]⟩
abbrev S16384x4096 : Shape := ⟨2, ![16384, 4096]⟩
abbrev S1x4096x20480 : Shape := ⟨3, ![1, 4096, 20480]⟩
abbrev S4096x20480 : Shape := ⟨2, ![4096, 20480]⟩
abbrev S24576x20480 : Shape := ⟨2, ![24576, 20480]⟩

abbrev nBuf : Space → Nat
  | .hbm => 63
  | .vmem => 0
  | .smem => 0
  | _ => 0

abbrev bufTy : (tb : Table) → Fin (tcTables nBuf tb) → BufTy
  | .hbm, ⟨0, _⟩ => ⟨S24576x4096, .bf16⟩
  | .hbm, ⟨1, _⟩ => ⟨S2x4096x4096, .bf16⟩
  | .hbm, ⟨2, _⟩ => ⟨S24576x4096, .f32⟩
  | .hbm, ⟨3, _⟩ => ⟨S4096, .f32⟩
  | .hbm, ⟨4, _⟩ => ⟨S4x4096x16384, .bf16⟩
  | .hbm, ⟨5, _⟩ => ⟨S4x16384x4096, .bf16⟩
  | .hbm, ⟨6, _⟩ => ⟨S4096, .f32⟩
  | .hbm, ⟨7, _⟩ => ⟨S2x4096x20480, .bf16⟩
  | .hbm, ⟨8, _⟩ => ⟨S24576x4096, .f32⟩
  | .hbm, ⟨9, _⟩ => ⟨S1x4096x4096, .bf16⟩
  | .hbm, ⟨10, _⟩ => ⟨S4096x4096, .bf16⟩
  | .hbm, ⟨11, _⟩ => ⟨S4096x4096, .f32⟩
  | .hbm, ⟨12, _⟩ => ⟨S24576x4096, .f32⟩
  | .hbm, ⟨13, _⟩ => ⟨S24576x4096, .f32⟩
  | .hbm, ⟨14, _⟩ => ⟨S24576x4096, .f32⟩
  | .hbm, ⟨15, _⟩ => ⟨S_, .f32⟩
  | .hbm, ⟨16, _⟩ => ⟨S24576, .f32⟩
  | .hbm, ⟨17, _⟩ => ⟨S24576x1, .f32⟩
  | .hbm, ⟨18, _⟩ => ⟨S_, .f32⟩
  | .hbm, ⟨19, _⟩ => ⟨S24576x1, .f32⟩
  | .hbm, ⟨20, _⟩ => ⟨S24576x1, .f32⟩
  | .hbm, ⟨21, _⟩ => ⟨S_, .f32⟩
  | .hbm, ⟨22, _⟩ => ⟨S24576x1, .f32⟩
  | .hbm, ⟨23, _⟩ => ⟨S24576x1, .f32⟩
  | .hbm, ⟨24, _⟩ => ⟨S24576x1, .f32⟩
  | .hbm, ⟨25, _⟩ => ⟨S24576x4096, .f32⟩
  | .hbm, ⟨26, _⟩ => ⟨S24576x4096, .f32⟩
  | .hbm, ⟨27, _⟩ => ⟨S1x4096, .f32⟩
  | .hbm, ⟨28, _⟩ => ⟨S24576x4096, .f32⟩
  | .hbm, ⟨29, _⟩ => ⟨S24576x4096, .f32⟩
  | .hbm, ⟨30, _⟩ => ⟨S1x4096x16384, .bf16⟩
  | .hbm, ⟨31, _⟩ => ⟨S4096x16384, .bf16⟩
  | .hbm, ⟨32, _⟩ => ⟨S4096x16384, .f32⟩
  | .hbm, ⟨33, _⟩ => ⟨S24576x16384, .f32⟩
  | .hbm, ⟨34, _⟩ => ⟨S_, .f32⟩
  | .hbm, ⟨35, _⟩ => ⟨S24576x16384, .f32⟩
  | .hbm, ⟨36, _⟩ => ⟨S24576x16384, .f32⟩
  | .hbm, ⟨37, _⟩ => ⟨S24576x16384, .f32⟩
  | .hbm, ⟨38, _⟩ => ⟨S1x16384x4096, .bf16⟩
  | .hbm, ⟨39, _⟩ => ⟨S16384x4096, .bf16⟩
  | .hbm, ⟨40, _⟩ => ⟨S16384x4096, .f32⟩
  | .hbm, ⟨41, _⟩ => ⟨S24576x4096, .f32⟩
  | .hbm, ⟨42, _⟩ => ⟨S24576x4096, .f32⟩
  | .hbm, ⟨43, _⟩ => ⟨S24576x4096, .f32⟩
  | .hbm, ⟨44, _⟩ => ⟨S_, .f32⟩
  | .hbm, ⟨45, _⟩ => ⟨S24576, .f32⟩
  | .hbm, ⟨46, _⟩ => ⟨S24576x1, .f32⟩
  | .hbm, ⟨47, _⟩ => ⟨S_, .f32⟩
  | .hbm, ⟨48, _⟩ => ⟨S24576x1, .f32⟩
  | .hbm, ⟨49, _⟩ => ⟨S24576x1, .f32⟩
  | .hbm, ⟨50, _⟩ => ⟨S_, .f32⟩
  | .hbm, ⟨51, _⟩ => ⟨S24576x1, .f32⟩
  | .hbm, ⟨52, _⟩ => ⟨S24576x1, .f32⟩
  | .hbm, ⟨53, _⟩ => ⟨S24576x1, .f32⟩
  | .hbm, ⟨54, _⟩ => ⟨S24576x4096, .f32⟩
  | .hbm, ⟨55, _⟩ => ⟨S24576x4096, .f32⟩
  | .hbm, ⟨56, _⟩ => ⟨S1x4096, .f32⟩
  | .hbm, ⟨57, _⟩ => ⟨S24576x4096, .f32⟩
  | .hbm, ⟨58, _⟩ => ⟨S24576x4096, .f32⟩
  | .hbm, ⟨59, _⟩ => ⟨S1x4096x20480, .bf16⟩
  | .hbm, ⟨60, _⟩ => ⟨S4096x20480, .bf16⟩
  | .hbm, ⟨61, _⟩ => ⟨S4096x20480, .f32⟩
  | .hbm, ⟨62, _⟩ => ⟨S24576x20480, .f32⟩
  | _, _ => ⟨S24576x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_call0_cst : Ref sig .tc := ⟨.hbm, 34, rfl⟩
abbrev main_call0_v0 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_2 : Ref sig .tc := ⟨.hbm, 44, rfl⟩
abbrev main_v31 : Ref sig .tc := ⟨.hbm, 45, rfl⟩
abbrev main_v32 : Ref sig .tc := ⟨.hbm, 46, rfl⟩
abbrev main_cst_3 : Ref sig .tc := ⟨.hbm, 47, rfl⟩
abbrev main_v33 : Ref sig .tc := ⟨.hbm, 48, rfl⟩
abbrev main_v34 : Ref sig .tc := ⟨.hbm, 49, rfl⟩
abbrev main_cst_4 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩

abbrev nD : Nat := 1
abbrev τ : Topo := Topo.v7x

variable {F : FTy → Type} [FloatOps F]
-- ==== Second.lean ====
abbrev S24576x4096 : Shape := ⟨2, ![24576, 4096]⟩
abbrev S2x4096x4096 : Shape := ⟨3, ![2, 4096, 4096]⟩
abbrev S4096 : Shape := ⟨1, ![4096]⟩
abbrev S4x4096x16384 : Shape := ⟨3, ![4, 4096, 16384]⟩
abbrev S4x16384x4096 : Shape := ⟨3, ![4, 16384, 4096]⟩
abbrev S2x4096x12288 : Shape := ⟨3, ![2, 4096, 12288]⟩
abbrev S1x4096 : Shape := ⟨2, ![1, 4096]⟩
abbrev S24576x128 : Shape := ⟨2, ![24576, 128]⟩
abbrev S1024x4096 : Shape := ⟨2, ![1024, 4096]⟩
abbrev S1x4096x512 : Shape := ⟨3, ![1, 4096, 512]⟩
abbrev S1024x512 : Shape := ⟨2, ![1024, 512]⟩
abbrev S1x512 : Shape := ⟨2, ![1, 512]⟩
abbrev S1024x128 : Shape := ⟨2, ![1024, 128]⟩
abbrev S4096x512 : Shape := ⟨2, ![4096, 512]⟩
abbrev S1024 : Shape := ⟨1, ![1024]⟩
abbrev S1024x1 : Shape := ⟨2, ![1024, 1]⟩
abbrev S24576x16384 : Shape := ⟨2, ![24576, 16384]⟩
abbrev S1x4096x1024 : Shape := ⟨3, ![1, 4096, 1024]⟩
abbrev S1024x1024 : Shape := ⟨2, ![1024, 1024]⟩
abbrev S4096x1024 : Shape := ⟨2, ![4096, 1024]⟩
abbrev S2048x1024 : Shape := ⟨2, ![2048, 1024]⟩
abbrev S1x1024x1024 : Shape := ⟨3, ![1, 1024, 1024]⟩
abbrev S512x4096 : Shape := ⟨2, ![512, 4096]⟩
abbrev S512 : Shape := ⟨1, ![512]⟩
abbrev S512x1 : Shape := ⟨2, ![512, 1]⟩
abbrev S24576x12288 : Shape := ⟨2, ![24576, 12288]⟩

abbrev nBuf : Space → Nat
  | .hbm => 17
  | .vmem => 41
  | .smem => 0
  | _ => 0

abbrev bufTy : (tb : Table) → Fin (tcTables nBuf tb) → BufTy
  | .hbm, ⟨0, _⟩ => ⟨S24576x4096, .bf16⟩
  | .hbm, ⟨1, _⟩ => ⟨S2x4096x4096, .bf16⟩
  | .hbm, ⟨2, _⟩ => ⟨S24576x4096, .f32⟩
  | .hbm, ⟨3, _⟩ => ⟨S4096, .f32⟩
  | .hbm, ⟨4, _⟩ => ⟨S4x4096x16384, .bf16⟩
  | .hbm, ⟨5, _⟩ => ⟨S4x16384x4096, .bf16⟩
  | .hbm, ⟨6, _⟩ => ⟨S4096, .f32⟩
  | .hbm, ⟨7, _⟩ => ⟨S2x4096x12288, .bf16⟩
  | .hbm, ⟨8, _⟩ => ⟨S1x4096, .f32⟩
  | .hbm, ⟨9, _⟩ => ⟨S24576x4096, .f32⟩
  | .hbm, ⟨10, _⟩ => ⟨S24576x4096, .bf16⟩
  | .hbm, ⟨11, _⟩ => ⟨S24576x128, .f32⟩
  | .hbm, ⟨12, _⟩ => ⟨S24576x16384, .bf16⟩
  | .hbm, ⟨13, _⟩ => ⟨S24576x4096, .f32⟩
  | .hbm, ⟨14, _⟩ => ⟨S1x4096, .f32⟩
  | .hbm, ⟨15, _⟩ => ⟨S24576x4096, .bf16⟩
  | .hbm, ⟨16, _⟩ => ⟨S24576x12288, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1024x512, .f32⟩
  | .local _ .vmem, ⟨5, _⟩ => ⟨S1024x512, .f32⟩
  | .local _ .vmem, ⟨6, _⟩ => ⟨S1x512, .f32⟩
  | .local _ .vmem, ⟨7, _⟩ => ⟨S1x512, .f32⟩
  | .local _ .vmem, ⟨8, _⟩ => ⟨S1024x512, .f32⟩
  | .local _ .vmem, ⟨9, _⟩ => ⟨S1024x512, .f32⟩
  | .local _ .vmem, ⟨10, _⟩ => ⟨S1024x512, .bf16⟩
  | .local _ .vmem, ⟨11, _⟩ => ⟨S1024x512, .bf16⟩
  | .local _ .vmem, ⟨12, _⟩ => ⟨S1024x128, .f32⟩
  | .local _ .vmem, ⟨13, _⟩ => ⟨S1024x128, .f32⟩
  | .local _ .vmem, ⟨14, _⟩ => ⟨S1024x4096, .bf16⟩
  | .local _ .vmem, ⟨15, _⟩ => ⟨S1024x4096, .bf16⟩
  | .local _ .vmem, ⟨16, _⟩ => ⟨S1x4096x1024, .bf16⟩
  | .local _ .vmem, ⟨17, _⟩ => ⟨S1x4096x1024, .bf16⟩
  | .local _ .vmem, ⟨18, _⟩ => ⟨S1024x128, .f32⟩
  | .local _ .vmem, ⟨19, _⟩ => ⟨S1024x128, .f32⟩
  | .local _ .vmem, ⟨20, _⟩ => ⟨S1024x1024, .bf16⟩
  | .local _ .vmem, ⟨21, _⟩ => ⟨S1024x1024, .bf16⟩
  | .local _ .vmem, ⟨22, _⟩ => ⟨S2048x1024, .bf16⟩
  | .local _ .vmem, ⟨23, _⟩ => ⟨S2048x1024, .bf16⟩
  | .local _ .vmem, ⟨24, _⟩ => ⟨S1x1024x1024, .bf16⟩
  | .local _ .vmem, ⟨25, _⟩ => ⟨S1x1024x1024, .bf16⟩
  | .local _ .vmem, ⟨26, _⟩ => ⟨S2048x1024, .f32⟩
  | .local _ .vmem, ⟨27, _⟩ => ⟨S2048x1024, .f32⟩
  | .local _ .vmem, ⟨28, _⟩ => ⟨S2048x1024, .f32⟩
  | .local _ .vmem, ⟨29, _⟩ => ⟨S2048x1024, .f32⟩
  | .local _ .vmem, ⟨30, _⟩ => ⟨S512x4096, .f32⟩
  | .local _ .vmem, ⟨31, _⟩ => ⟨S512x4096, .f32⟩
  | .local _ .vmem, ⟨32, _⟩ => ⟨S1x4096, .f32⟩
  | .local _ .vmem, ⟨33, _⟩ => ⟨S512x4096, .bf16⟩
  | .local _ .vmem, ⟨34, _⟩ => ⟨S512x4096, .bf16⟩
  | .local _ .vmem, ⟨35, _⟩ => ⟨S1024x4096, .bf16⟩
  | .local _ .vmem, ⟨36, _⟩ => ⟨S1024x4096, .bf16⟩
  | .local _ .vmem, ⟨37, _⟩ => ⟨S1x4096x1024, .bf16⟩
  | .local _ .vmem, ⟨38, _⟩ => ⟨S1x4096x1024, .bf16⟩
  | .local _ .vmem, ⟨39, _⟩ => ⟨S1024x1024, .bf16⟩
  | .local _ .vmem, ⟨40, _⟩ => ⟨S1024x1024, .bf16⟩
  | _, _ => ⟨S24576x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg3_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg2_0 : Ref sig .tc := ⟨.vmem, 33, rfl⟩
abbrev cc3_stg2_1 : Ref sig .tc := ⟨.vmem, 34, rfl⟩
abbrev cc4_stg0_0 : Ref sig .tc := ⟨.vmem, 35, rfl⟩
abbrev cc4_stg0_1 : Ref sig .tc := ⟨.vmem, 36, rfl⟩
abbrev cc4_stg1_0 : Ref sig .tc := ⟨.vmem, 37, rfl⟩
abbrev cc4_stg1_1 : Ref sig .tc := ⟨.vmem, 38, rfl⟩
abbrev cc4_stg2_0 : Ref sig .tc := ⟨.vmem, 39, rfl⟩
abbrev cc4_stg2_1 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem3_1 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem2_1 : DmaSem sig := 34
abbrev cc4_sem0_0 : DmaSem sig := 35
abbrev cc4_sem0_1 : DmaSem sig := 36
abbrev cc4_sem1_0 : DmaSem sig := 37
abbrev cc4_sem1_1 : DmaSem sig := 38
abbrev cc4_sem2_0 : DmaSem sig := 39
abbrev cc4_sem2_1 : DmaSem sig := 40

abbrev nD : Nat := 1
abbrev τ : Topo := Topo.v7x

variable {F : FTy → Type} [FloatOps F]

abbrev grid0 : Pipeline.Grid := ⟨2, ![24, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![v0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![v0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev grid1 : Pipeline.Grid := ⟨2, ![24, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x4096x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨3, ![12, 4, 16], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S2048x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1x1024x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S2048x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S2048x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev grid3 : Pipeline.Grid := ⟨1, ![48], ![false]⟩

def cc3_transform_0 (i : grid3.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage3_0 : Fin 2 → Memref sig .tc .vmem S512x4096 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x4096 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S512x4096 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨2, ![24, 12], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S1024x4096 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S1x4096x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S1024x1024 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]
-- ==== SecondRefIdeal.lean ====
abbrev S24576x4096 : Shape := ⟨2, ![24576, 4096]⟩
abbrev S2x4096x4096 : Shape := ⟨3, ![2, 4096, 4096]⟩
abbrev S4096 : Shape := ⟨1, ![4096]⟩
abbrev S4x4096x16384 : Shape := ⟨3, ![4, 4096, 16384]⟩
abbrev S4x16384x4096 : Shape := ⟨3, ![4, 16384, 4096]⟩
abbrev S2x4096x12288 : Shape := ⟨3, ![2, 4096, 12288]⟩
abbrev S1x4096x4096 : Shape := ⟨3, ![1, 4096, 4096]⟩
abbrev S4096x4096 : Shape := ⟨2, ![4096, 4096]⟩
abbrev S_ : Shape := ⟨0, ![]⟩
abbrev S24576 : Shape := ⟨1, ![24576]⟩
abbrev S24576x1 : Shape := ⟨2, ![24576, 1]⟩
abbrev S1x4096 : Shape := ⟨2, ![1, 4096]⟩
abbrev S1x4096x16384 : Shape := ⟨3, ![1, 4096, 16384]⟩
abbrev S4096x16384 : Shape := ⟨2, ![4096, 16384]⟩
abbrev S24576x16384 : Shape := ⟨2, ![24576, 16384]⟩
abbrev S1x16384x4096 : Shape := ⟨3, ![1, 16384, 4096]⟩
abbrev S16384x4096 : Shape := ⟨2, ![16384, 4096]⟩
abbrev S1x4096x12288 : Shape := ⟨3, ![1, 4096, 12288]⟩
abbrev S4096x12288 : Shape := ⟨2, ![4096, 12288]⟩
abbrev S24576x12288 : Shape := ⟨2, ![24576, 12288]⟩

abbrev nBuf : Space → Nat
  | .hbm => 64
  | .vmem => 0
  | .smem => 0
  | _ => 0

abbrev bufTy : (tb : Table) → Fin (tcTables nBuf tb) → BufTy
  | .hbm, ⟨0, _⟩ => ⟨S24576x4096, .bf16⟩
  | .hbm, ⟨1, _⟩ => ⟨S2x4096x4096, .bf16⟩
  | .hbm, ⟨2, _⟩ => ⟨S24576x4096, .f32⟩
  | .hbm, ⟨3, _⟩ => ⟨S4096, .f32⟩
  | .hbm, ⟨4, _⟩ => ⟨S4x4096x16384, .bf16⟩
  | .hbm, ⟨5, _⟩ => ⟨S4x16384x4096, .bf16⟩
  | .hbm, ⟨6, _⟩ => ⟨S4096, .f32⟩
  | .hbm, ⟨7, _⟩ => ⟨S2x4096x12288, .bf16⟩
  | .hbm, ⟨8, _⟩ => ⟨S24576x4096, .f32⟩
  | .hbm, ⟨9, _⟩ => ⟨S1x4096x4096, .bf16⟩
  | .hbm, ⟨10, _⟩ => ⟨S4096x4096, .bf16⟩
  | .hbm, ⟨11, _⟩ => ⟨S4096x4096, .f32⟩
  | .hbm, ⟨12, _⟩ => ⟨S24576x4096, .f32⟩
  | .hbm, ⟨13, _⟩ => ⟨S24576x4096, .f32⟩
  | .hbm, ⟨14, _⟩ => ⟨S24576x4096, .f32⟩
  | .hbm, ⟨15, _⟩ => ⟨S_, .f32⟩
  | .hbm, ⟨16, _⟩ => ⟨S24576, .f32⟩
  | .hbm, ⟨17, _⟩ => ⟨S24576x1, .f32⟩
  | .hbm, ⟨18, _⟩ => ⟨S_, .f32⟩
  | .hbm, ⟨19, _⟩ => ⟨S24576x1, .f32⟩
  | .hbm, ⟨20, _⟩ => ⟨S24576x1, .f32⟩
  | .hbm, ⟨21, _⟩ => ⟨S_, .f32⟩
  | .hbm, ⟨22, _⟩ => ⟨S24576x1, .f32⟩
  | .hbm, ⟨23, _⟩ => ⟨S24576x1, .f32⟩
  | .hbm, ⟨24, _⟩ => ⟨S24576x1, .f32⟩
  | .hbm, ⟨25, _⟩ => ⟨S24576x4096, .f32⟩
  | .hbm, ⟨26, _⟩ => ⟨S24576x4096, .f32⟩
  | .hbm, ⟨27, _⟩ => ⟨S1x4096, .f32⟩
  | .hbm, ⟨28, _⟩ => ⟨S24576x4096, .f32⟩
  | .hbm, ⟨29, _⟩ => ⟨S24576x4096, .f32⟩
  | .hbm, ⟨30, _⟩ => ⟨S1x4096x16384, .bf16⟩
  | .hbm, ⟨31, _⟩ => ⟨S4096x16384, .bf16⟩
  | .hbm, ⟨32, _⟩ => ⟨S4096x16384, .f32⟩
  | .hbm, ⟨33, _⟩ => ⟨S24576x16384, .f32⟩
  | .hbm, ⟨34, _⟩ => ⟨S_, .f32⟩
  | .hbm, ⟨35, _⟩ => ⟨S24576x16384, .f32⟩
  | .hbm, ⟨36, _⟩ => ⟨S24576x16384, .f32⟩
  | .hbm, ⟨37, _⟩ => ⟨S24576x16384, .f32⟩
  | .hbm, ⟨38, _⟩ => ⟨S1x16384x4096, .bf16⟩
  | .hbm, ⟨39, _⟩ => ⟨S16384x4096, .bf16⟩
  | .hbm, ⟨40, _⟩ => ⟨S16384x4096, .f32⟩
  | .hbm, ⟨41, _⟩ => ⟨S24576x4096, .f32⟩
  | .hbm, ⟨42, _⟩ => ⟨S24576x4096, .f32⟩
  | .hbm, ⟨43, _⟩ => ⟨S24576x4096, .f32⟩
  | .hbm, ⟨44, _⟩ => ⟨S_, .f32⟩
  | .hbm, ⟨45, _⟩ => ⟨S24576, .f32⟩
  | .hbm, ⟨46, _⟩ => ⟨S24576x1, .f32⟩
  | .hbm, ⟨47, _⟩ => ⟨S_, .f32⟩
  | .hbm, ⟨48, _⟩ => ⟨S24576x1, .f32⟩
  | .hbm, ⟨49, _⟩ => ⟨S24576x1, .f32⟩
  | .hbm, ⟨50, _⟩ => ⟨S_, .f32⟩
  | .hbm, ⟨51, _⟩ => ⟨S24576x1, .f32⟩
  | .hbm, ⟨52, _⟩ => ⟨S24576x1, .f32⟩
  | .hbm, ⟨53, _⟩ => ⟨S24576x1, .f32⟩
  | .hbm, ⟨54, _⟩ => ⟨S24576x4096, .f32⟩
  | .hbm, ⟨55, _⟩ => ⟨S24576x4096, .f32⟩
  | .hbm, ⟨56, _⟩ => ⟨S1x4096, .f32⟩
  | .hbm, ⟨57, _⟩ => ⟨S24576x4096, .f32⟩
  | .hbm, ⟨58, _⟩ => ⟨S24576x4096, .f32⟩
  | .hbm, ⟨59, _⟩ => ⟨S1x4096x12288, .bf16⟩
  | .hbm, ⟨60, _⟩ => ⟨S4096x12288, .bf16⟩
  | .hbm, ⟨61, _⟩ => ⟨S4096x12288, .f32⟩
  | .hbm, ⟨62, _⟩ => ⟨S24576x12288, .f32⟩
  | .hbm, ⟨63, _⟩ => ⟨S24576x12288, .bf16⟩
  | _, _ => ⟨S24576x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_call0_cst : Ref sig .tc := ⟨.hbm, 34, rfl⟩
abbrev main_call0_v0 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_2 : Ref sig .tc := ⟨.hbm, 44, rfl⟩
abbrev main_v31 : Ref sig .tc := ⟨.hbm, 45, rfl⟩
abbrev main_v32 : Ref sig .tc := ⟨.hbm, 46, rfl⟩
abbrev main_cst_3 : Ref sig .tc := ⟨.hbm, 47, rfl⟩
abbrev main_v33 : Ref sig .tc := ⟨.hbm, 48, rfl⟩
abbrev main_v34 : Ref sig .tc := ⟨.hbm, 49, rfl⟩
abbrev main_cst_4 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩

abbrev nD : Nat := 1
abbrev τ : Topo := Topo.v7x

variable {F : FTy → Type} [FloatOps F]
-- ==== Begin.lean ====
abbrev S16384x4096 : Shape := ⟨2, ![16384, 4096]⟩
abbrev S8192x4096 : Shape := ⟨2, ![8192, 4096]⟩
abbrev S4096 : Shape := ⟨1, ![4096]⟩
abbrev S2x4096x12288 : Shape := ⟨3, ![2, 4096, 12288]⟩
abbrev S1x4096 : Shape := ⟨2, ![1, 4096]⟩
abbrev S24576x4096 : Shape := ⟨2, ![24576, 4096]⟩
abbrev S512x4096 : Shape := ⟨2, ![512, 4096]⟩
abbrev S512 : Shape := ⟨1, ![512]⟩
abbrev S512x1 : Shape := ⟨2, ![512, 1]⟩
abbrev S24576x12288 : Shape := ⟨2, ![24576, 12288]⟩
abbrev S1024x4096 : Shape := ⟨2, ![1024, 4096]⟩
abbrev S1x4096x1024 : Shape := ⟨3, ![1, 4096, 1024]⟩
abbrev S1024x1024 : Shape := ⟨2, ![1024, 1024]⟩
abbrev S4096x1024 : Shape := ⟨2, ![4096, 1024]⟩

abbrev nBuf : Space → Nat
  | .hbm => 9
  | .vmem => 16
  | .smem => 0
  | _ => 0

abbrev bufTy : (tb : Table) → Fin (tcTables nBuf tb) → BufTy
  | .hbm, ⟨0, _⟩ => ⟨S16384x4096, .f32⟩
  | .hbm, ⟨1, _⟩ => ⟨S8192x4096, .f32⟩
  | .hbm, ⟨2, _⟩ => ⟨S4096, .f32⟩
  | .hbm, ⟨3, _⟩ => ⟨S2x4096x12288, .bf16⟩
  | .hbm, ⟨4, _⟩ => ⟨S1x4096, .f32⟩
  | .hbm, ⟨5, _⟩ => ⟨S24576x4096, .bf16⟩
  | .hbm, ⟨6, _⟩ => ⟨S1x4096, .f32⟩
  | .hbm, ⟨7, _⟩ => ⟨S24576x4096, .bf16⟩
  | .hbm, ⟨8, _⟩ => ⟨S24576x12288, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .bf16⟩
  | .local _ .vmem, ⟨4, _⟩ => ⟨S512x4096, .bf16⟩
  | .local _ .vmem, ⟨5, _⟩ => ⟨S512x4096, .f32⟩
  | .local _ .vmem, ⟨6, _⟩ => ⟨S512x4096, .f32⟩
  | .local _ .vmem, ⟨7, _⟩ => ⟨S1x4096, .f32⟩
  | .local _ .vmem, ⟨8, _⟩ => ⟨S512x4096, .bf16⟩
  | .local _ .vmem, ⟨9, _⟩ => ⟨S512x4096, .bf16⟩
  | .local _ .vmem, ⟨10, _⟩ => ⟨S1024x4096, .bf16⟩
  | .local _ .vmem, ⟨11, _⟩ => ⟨S1024x4096, .bf16⟩
  | .local _ .vmem, ⟨12, _⟩ => ⟨S1x4096x1024, .bf16⟩
  | .local _ .vmem, ⟨13, _⟩ => ⟨S1x4096x1024, .bf16⟩
  | .local _ .vmem, ⟨14, _⟩ => ⟨S1024x1024, .bf16⟩
  | .local _ .vmem, ⟨15, _⟩ => ⟨S1024x1024, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c32_i32 : BitVec 32 := 32#32
  let v0 : BitVec 32 := Scalar.addi arg0 c32_i32
  let c0_i32 : BitVec 32 := 0#32
  let c0_i32_0 : BitVec 32 := 0#32
  ![v0.toNat, c0_i32.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x4096 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![24, 12], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1x4096x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]
-- ==== BeginRefIdeal.lean ====
abbrev S16384x4096 : Shape := ⟨2, ![16384, 4096]⟩
abbrev S8192x4096 : Shape := ⟨2, ![8192, 4096]⟩
abbrev S4096 : Shape := ⟨1, ![4096]⟩
abbrev S2x4096x12288 : Shape := ⟨3, ![2, 4096, 12288]⟩
abbrev S24576x4096 : Shape := ⟨2, ![24576, 4096]⟩
abbrev S_ : Shape := ⟨0, ![]⟩
abbrev S24576 : Shape := ⟨1, ![24576]⟩
abbrev S24576x1 : Shape := ⟨2, ![24576, 1]⟩
abbrev S1x4096 : Shape := ⟨2, ![1, 4096]⟩
abbrev S1x4096x12288 : Shape := ⟨3, ![1, 4096, 12288]⟩
abbrev S4096x12288 : Shape := ⟨2, ![4096, 12288]⟩
abbrev S24576x12288 : Shape := ⟨2, ![24576, 12288]⟩

abbrev nBuf : Space → Nat
  | .hbm => 26
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S8192x4096, .f32⟩
  | .hbm, ⟨2, _⟩ => ⟨S4096, .f32⟩
  | .hbm, ⟨3, _⟩ => ⟨S2x4096x12288, .bf16⟩
  | .hbm, ⟨4, _⟩ => ⟨S24576x4096, .f32⟩
  | .hbm, ⟨5, _⟩ => ⟨S24576x4096, .f32⟩
  | .hbm, ⟨6, _⟩ => ⟨S_, .f32⟩
  | .hbm, ⟨7, _⟩ => ⟨S24576, .f32⟩
  | .hbm, ⟨8, _⟩ => ⟨S24576x1, .f32⟩
  | .hbm, ⟨9, _⟩ => ⟨S_, .f32⟩
  | .hbm, ⟨10, _⟩ => ⟨S24576x1, .f32⟩
  | .hbm, ⟨11, _⟩ => ⟨S24576x1, .f32⟩
  | .hbm, ⟨12, _⟩ => ⟨S_, .f32⟩
  | .hbm, ⟨13, _⟩ => ⟨S24576x1, .f32⟩
  | .hbm, ⟨14, _⟩ => ⟨S24576x1, .f32⟩
  | .hbm, ⟨15, _⟩ => ⟨S24576x1, .f32⟩
  | .hbm, ⟨16, _⟩ => ⟨S24576x4096, .f32⟩
  | .hbm, ⟨17, _⟩ => ⟨S24576x4096, .f32⟩
  | .hbm, ⟨18, _⟩ => ⟨S1x4096, .f32⟩
  | .hbm, ⟨19, _⟩ => ⟨S24576x4096, .f32⟩
  | .hbm, ⟨20, _⟩ => ⟨S24576x4096, .f32⟩
  | .hbm, ⟨21, _⟩ => ⟨S1x4096x12288, .bf16⟩
  | .hbm, ⟨22, _⟩ => ⟨S4096x12288, .bf16⟩
  | .hbm, ⟨23, _⟩ => ⟨S4096x12288, .f32⟩
  | .hbm, ⟨24, _⟩ => ⟨S24576x12288, .f32⟩
  | .hbm, ⟨25, _⟩ => ⟨S24576x12288, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== First.lean ====
abbrev S24576x4096 : Shape := ⟨2, ![24576, 4096]⟩
abbrev S2x4096x4096 : Shape := ⟨3, ![2, 4096, 4096]⟩
abbrev S16384x4096 : Shape := ⟨2, ![16384, 4096]⟩
abbrev S8192x4096 : Shape := ⟨2, ![8192, 4096]⟩
abbrev S4096 : Shape := ⟨1, ![4096]⟩
abbrev S4x4096x16384 : Shape := ⟨3, ![4, 4096, 16384]⟩
abbrev S4x16384x4096 : Shape := ⟨3, ![4, 16384, 4096]⟩
abbrev S2x4096x20480 : Shape := ⟨3, ![2, 4096, 20480]⟩
abbrev S1x4096 : Shape := ⟨2, ![1, 4096]⟩
abbrev S24576x128 : Shape := ⟨2, ![24576, 128]⟩
abbrev S1024x4096 : Shape := ⟨2, ![1024, 4096]⟩
abbrev S1x4096x512 : Shape := ⟨3, ![1, 4096, 512]⟩
abbrev S1024x512 : Shape := ⟨2, ![1024, 512]⟩
abbrev S1x512 : Shape := ⟨2, ![1, 512]⟩
abbrev S1024x128 : Shape := ⟨2, ![1024, 128]⟩
abbrev S4096x512 : Shape := ⟨2, ![4096, 512]⟩
abbrev S1024 : Shape := ⟨1, ![1024]⟩
abbrev S1024x1 : Shape := ⟨2, ![1024, 1]⟩
abbrev S24576x16384 : Shape := ⟨2, ![24576, 16384]⟩
abbrev S1x4096x1024 : Shape := ⟨3, ![1, 4096, 1024]⟩
abbrev S1024x1024 : Shape := ⟨2, ![1024, 1024]⟩
abbrev S4096x1024 : Shape := ⟨2, ![4096, 1024]⟩
abbrev S2048x1024 : Shape := ⟨2, ![2048, 1024]⟩
abbrev S1x1024x1024 : Shape := ⟨3, ![1, 1024, 1024]⟩
abbrev S512x4096 : Shape := ⟨2, ![512, 4096]⟩
abbrev S512 : Shape := ⟨1, ![512]⟩
abbrev S512x1 : Shape := ⟨2, ![512, 1]⟩
abbrev S24576x20480 : Shape := ⟨2, ![24576, 20480]⟩

abbrev nBuf : Space → Nat
  | .hbm => 22
  | .vmem => 55
  | .smem => 0
  | _ => 0

abbrev bufTy : (tb : Table) → Fin (tcTables nBuf tb) → BufTy
  | .hbm, ⟨0, _⟩ => ⟨S24576x4096, .bf16⟩
  | .hbm, ⟨1, _⟩ => ⟨S2x4096x4096, .bf16⟩
  | .hbm, ⟨2, _⟩ => ⟨S16384x4096, .f32⟩
  | .hbm, ⟨3, _⟩ => ⟨S8192x4096, .f32⟩
  | .hbm, ⟨4, _⟩ => ⟨S4096, .f32⟩
  | .hbm, ⟨5, _⟩ => ⟨S4x4096x16384, .bf16⟩
  | .hbm, ⟨6, _⟩ => ⟨S4x16384x4096, .bf16⟩
  | .hbm, ⟨7, _⟩ => ⟨S4096, .f32⟩
  | .hbm, ⟨8, _⟩ => ⟨S2x4096x20480, .bf16⟩
  | .hbm, ⟨9, _⟩ => ⟨S1x4096, .f32⟩
  | .hbm, ⟨10, _⟩ => ⟨S24576x4096, .f32⟩
  | .hbm, ⟨11, _⟩ => ⟨S24576x4096, .bf16⟩
  | .hbm, ⟨12, _⟩ => ⟨S24576x128, .f32⟩
  | .hbm, ⟨13, _⟩ => ⟨S1x4096, .f32⟩
  | .hbm, ⟨14, _⟩ => ⟨S24576x4096, .f32⟩
  | .hbm, ⟨15, _⟩ => ⟨S24576x4096, .bf16⟩
  | .hbm, ⟨16, _⟩ => ⟨S24576x128, .f32⟩
  | .hbm, ⟨17, _⟩ => ⟨S24576x16384, .bf16⟩
  | .hbm, ⟨18, _⟩ => ⟨S24576x4096, .f32⟩
  | .hbm, ⟨19, _⟩ => ⟨S1x4096, .f32⟩
  | .hbm, ⟨20, _⟩ => ⟨S24576x4096, .bf16⟩
  | .hbm, ⟨21, _⟩ => ⟨S24576x20480, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1024x512, .f32⟩
  | .local _ .vmem, ⟨5, _⟩ => ⟨S1024x512, .f32⟩
  | .local _ .vmem, ⟨6, _⟩ => ⟨S1x512, .f32⟩
  | .local _ .vmem, ⟨7, _⟩ => ⟨S1x512, .f32⟩
  | .local _ .vmem, ⟨8, _⟩ => ⟨S1024x512, .f32⟩
  | .local _ .vmem, ⟨9, _⟩ => ⟨S1024x512, .f32⟩
  | .local _ .vmem, ⟨10, _⟩ => ⟨S1024x512, .bf16⟩
  | .local _ .vmem, ⟨11, _⟩ => ⟨S1024x512, .bf16⟩
  | .local _ .vmem, ⟨12, _⟩ => ⟨S1024x128, .f32⟩
  | .local _ .vmem, ⟨13, _⟩ => ⟨S1024x128, .f32⟩
  | .local _ .vmem, ⟨14, _⟩ => ⟨S1024x4096, .bf16⟩
  | .local _ .vmem, ⟨15, _⟩ => ⟨S1024x4096, .bf16⟩
  | .local _ .vmem, ⟨16, _⟩ => ⟨S1x4096x512, .bf16⟩
  | .local _ .vmem, ⟨17, _⟩ => ⟨S1x4096x512, .bf16⟩
  | .local _ .vmem, ⟨18, _⟩ => ⟨S1024x512, .f32⟩
  | .local _ .vmem, ⟨19, _⟩ => ⟨S1024x512, .f32⟩
  | .local _ .vmem, ⟨20, _⟩ => ⟨S1x512, .f32⟩
  | .local _ .vmem, ⟨21, _⟩ => ⟨S1x512, .f32⟩
  | .local _ .vmem, ⟨22, _⟩ => ⟨S1024x512, .f32⟩
  | .local _ .vmem, ⟨23, _⟩ => ⟨S1024x512, .f32⟩
  | .local _ .vmem, ⟨24, _⟩ => ⟨S1024x512, .bf16⟩
  | .local _ .vmem, ⟨25, _⟩ => ⟨S1024x512, .bf16⟩
  | .local _ .vmem, ⟨26, _⟩ => ⟨S1024x128, .f32⟩
  | .local _ .vmem, ⟨27, _⟩ => ⟨S1024x128, .f32⟩
  | .local _ .vmem, ⟨28, _⟩ => ⟨S1024x4096, .bf16⟩
  | .local _ .vmem, ⟨29, _⟩ => ⟨S1024x4096, .bf16⟩
  | .local _ .vmem, ⟨30, _⟩ => ⟨S1x4096x1024, .bf16⟩
  | .local _ .vmem, ⟨31, _⟩ => ⟨S1x4096x1024, .bf16⟩
  | .local _ .vmem, ⟨32, _⟩ => ⟨S1024x128, .f32⟩
  | .local _ .vmem, ⟨33, _⟩ => ⟨S1024x128, .f32⟩
  | .local _ .vmem, ⟨34, _⟩ => ⟨S1024x1024, .bf16⟩
  | .local _ .vmem, ⟨35, _⟩ => ⟨S1024x1024, .bf16⟩
  | .local _ .vmem, ⟨36, _⟩ => ⟨S2048x1024, .bf16⟩
  | .local _ .vmem, ⟨37, _⟩ => ⟨S2048x1024, .bf16⟩
  | .local _ .vmem, ⟨38, _⟩ => ⟨S1x1024x1024, .bf16⟩
  | .local _ .vmem, ⟨39, _⟩ => ⟨S1x1024x1024, .bf16⟩
  | .local _ .vmem, ⟨40, _⟩ => ⟨S2048x1024, .f32⟩
  | .local _ .vmem, ⟨41, _⟩ => ⟨S2048x1024, .f32⟩
  | .local _ .vmem, ⟨42, _⟩ => ⟨S2048x1024, .f32⟩
  | .local _ .vmem, ⟨43, _⟩ => ⟨S2048x1024, .f32⟩
  | .local _ .vmem, ⟨44, _⟩ => ⟨S512x4096, .f32⟩
  | .local _ .vmem, ⟨45, _⟩ => ⟨S512x4096, .f32⟩
  | .local _ .vmem, ⟨46, _⟩ => ⟨S1x4096, .f32⟩
  | .local _ .vmem, ⟨47, _⟩ => ⟨S512x4096, .bf16⟩
  | .local _ .vmem, ⟨48, _⟩ => ⟨S512x4096, .bf16⟩
  | .local _ .vmem, ⟨49, _⟩ => ⟨S1024x4096, .bf16⟩
  | .local _ .vmem, ⟨50, _⟩ => ⟨S1024x4096, .bf16⟩
  | .local _ .vmem, ⟨51, _⟩ => ⟨S1x4096x1024, .bf16⟩
  | .local _ .vmem, ⟨52, _⟩ => ⟨S1x4096x1024, .bf16⟩
  | .local _ .vmem, ⟨53, _⟩ => ⟨S1024x1024, .f32⟩
  | .local _ .vmem, ⟨54, _⟩ => ⟨S1024x1024, .f32⟩
  | _, _ => ⟨S24576x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | _, _ => false

abbrev semScoped : Fin 0 → Bool
  | ⟨_, h⟩ => absurd h (Nat.not_lt_zero _)

abbrev dmaSemScoped : Fin 55 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | _ => false

abbrev sig : RefSig :=
  ofTc nBuf bufTy 0 55 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v2 : Ref sig .tc := ⟨.hbm, 13, rfl⟩
abbrev main_v3_0 : Ref sig .tc := ⟨.hbm, 14, rfl⟩
abbrev main_v3_1 : Ref sig .tc := ⟨.hbm, 15, rfl⟩
abbrev main_v3_2 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_stg6_0 : Ref sig .tc := ⟨.vmem, 26, rfl⟩
abbrev cc1_stg6_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg2_1 : Ref sig .tc := ⟨.vmem, 33, rfl⟩
abbrev cc2_stg3_0 : Ref sig .tc := ⟨.vmem, 34, rfl⟩
abbrev cc2_stg3_1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg1_1 : Ref sig .tc := ⟨.vmem, 39, rfl⟩
abbrev cc3_stg2_0 : Ref sig .tc := ⟨.vmem, 40, rfl⟩
abbrev cc3_stg2_1 : Ref sig .tc := ⟨.vmem, 41, rfl⟩
abbrev cc3_stg3_0 : Ref sig .tc := ⟨.vmem, 42, rfl⟩
abbrev cc3_stg3_1 : Ref sig .tc := ⟨.vmem, 43, rfl⟩
abbrev cc4_stg0_0 : Ref sig .tc := ⟨.vmem, 44, rfl⟩
abbrev cc4_stg0_1 : Ref sig .tc := ⟨.vmem, 45, rfl⟩
abbrev cc4_stg1_0 : Ref sig .tc := ⟨.vmem, 46, rfl⟩
abbrev cc4_stg2_0 : Ref sig .tc := ⟨.vmem, 47, rfl⟩
abbrev cc4_stg2_1 : Ref sig .tc := ⟨.vmem, 48, rfl⟩
abbrev cc5_stg0_0 : Ref sig .tc := ⟨.vmem, 49, rfl⟩
abbrev cc5_stg0_1 : Ref sig .tc := ⟨.vmem, 50, rfl⟩
abbrev cc5_stg1_0 : Ref sig .tc := ⟨.vmem, 51, rfl⟩
abbrev cc5_stg1_1 : Ref sig .tc := ⟨.vmem, 52, rfl⟩
abbrev cc5_stg2_0 : Ref sig .tc := ⟨.vmem, 53, rfl⟩
abbrev cc5_stg2_1 : Ref sig .tc := ⟨.vmem, 54, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem6_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem2_1 : DmaSem sig := 33
abbrev cc2_sem3_0 : DmaSem sig := 34
abbrev cc2_sem3_1 : DmaSem sig := 35
abbrev cc3_sem0_0 : DmaSem sig := 36
abbrev cc3_sem0_1 : DmaSem sig := 37
abbrev cc3_sem1_0 : DmaSem sig := 38
abbrev cc3_sem1_1 : DmaSem sig := 39
abbrev cc3_sem2_0 : DmaSem sig := 40
abbrev cc3_sem2_1 : DmaSem sig := 41
abbrev cc3_sem3_0 : DmaSem sig := 42
abbrev cc3_sem3_1 : DmaSem sig := 43
abbrev cc4_sem0_0 : DmaSem sig := 44
abbrev cc4_sem0_1 : DmaSem sig := 45
abbrev cc4_sem1_0 : DmaSem sig := 46
abbrev cc4_sem2_0 : DmaSem sig := 47
abbrev cc4_sem2_1 : DmaSem sig := 48
abbrev cc5_sem0_0 : DmaSem sig := 49
abbrev cc5_sem0_1 : DmaSem sig := 50
abbrev cc5_sem1_0 : DmaSem sig := 51
abbrev cc5_sem1_1 : DmaSem sig := 52
abbrev cc5_sem2_0 : DmaSem sig := 53
abbrev cc5_sem2_1 : DmaSem sig := 54

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![v0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![v0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev grid1 : Pipeline.Grid := ⟨2, ![8, 8], ![false, false]⟩

def cc1_transform_0 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi arg0 c16_i32
  let c0_i32 : BitVec 32 := 0#32
  let c0_i32_0 : BitVec 32 := 0#32
  ![v0.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_7 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi arg0 c16_i32
  let c0_i32 : BitVec 32 := 0#32
  ![v0.toNat, arg1.toNat]

def cc1_transform_8 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi arg0 c16_i32
  let c0_i32 : BitVec 32 := 0#32
  ![v0.toNat, arg1.toNat]

def cc1_transform_9 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi arg0 c16_i32
  let c0_i32 : BitVec 32 := 0#32
  let c0_i32_0 : BitVec 32 := 0#32
  ![v0.toNat, c0_i32.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x4096x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1024x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1024x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1024x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev grid2 : Pipeline.Grid := ⟨2, ![24, 16], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1x4096x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1024x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev grid3 : Pipeline.Grid := ⟨3, ![12, 4, 16], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S2048x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S1x1024x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S2048x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev stage3_3 : Fin 2 → Memref sig .tc .vmem S2048x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]

abbrev grid4 : Pipeline.Grid := ⟨1, ![48], ![false]⟩

def cc4_transform_0 (i : grid4.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage4_0 : Fin 2 → Memref sig .tc .vmem S512x4096 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x4096 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S512x4096 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨2, ![24, 20], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 2 → Memref sig .tc .vmem S1024x4096 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 2 → Memref sig .tc .vmem S1x4096x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S1024x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]
-- ==== FirstRefIdeal.lean ====
abbrev S24576x4096 : Shape := ⟨2, ![24576, 4096]⟩
abbrev S2x4096x4096 : Shape := ⟨3, ![2, 4096, 4096]⟩
abbrev S16384x4096 : Shape := ⟨2, ![16384, 4096]⟩
abbrev S8192x4096 : Shape := ⟨2, ![8192, 4096]⟩
abbrev S4096 : Shape := ⟨1, ![4096]⟩
abbrev S4x4096x16384 : Shape := ⟨3, ![4, 4096, 16384]⟩
abbrev S4x16384x4096 : Shape := ⟨3, ![4, 16384, 4096]⟩
abbrev S2x4096x20480 : Shape := ⟨3, ![2, 4096, 20480]⟩
abbrev S1x4096x4096 : Shape := ⟨3, ![1, 4096, 4096]⟩
abbrev S4096x4096 : Shape := ⟨2, ![4096, 4096]⟩
abbrev S_ : Shape := ⟨0, ![]⟩
abbrev S24576 : Shape := ⟨1, ![24576]⟩
abbrev S24576x1 : Shape := ⟨2, ![24576, 1]⟩
abbrev S1x4096 : Shape := ⟨2, ![1, 4096]⟩
abbrev S1x4096x16384 : Shape := ⟨3, ![1, 4096, 16384]⟩
abbrev S4096x16384 : Shape := ⟨2, ![4096, 16384]⟩
abbrev S24576x16384 : Shape := ⟨2, ![24576, 16384]⟩
abbrev S1x16384x4096 : Shape := ⟨3, ![1, 16384, 4096]⟩
abbrev S1x4096x20480 : Shape := ⟨3, ![1, 4096, 20480]⟩
abbrev S4096x20480 : Shape := ⟨2, ![4096, 20480]⟩
abbrev S24576x20480 : Shape := ⟨2, ![24576, 20480]⟩

abbrev nBuf : Space → Nat
  | .hbm => 65
  | .vmem => 0
  | .smem => 0
  | _ => 0

abbrev bufTy : (tb : Table) → Fin (tcTables nBuf tb) → BufTy
  | .hbm, ⟨0, _⟩ => ⟨S24576x4096, .bf16⟩
  | .hbm, ⟨1, _⟩ => ⟨S2x4096x4096, .bf16⟩
  | .hbm, ⟨2, _⟩ => ⟨S16384x4096, .f32⟩
  | .hbm, ⟨3, _⟩ => ⟨S8192x4096, .f32⟩
  | .hbm, ⟨4, _⟩ => ⟨S4096, .f32⟩
  | .hbm, ⟨5, _⟩ => ⟨S4x4096x16384, .bf16⟩
  | .hbm, ⟨6, _⟩ => ⟨S4x16384x4096, .bf16⟩
  | .hbm, ⟨7, _⟩ => ⟨S4096, .f32⟩
  | .hbm, ⟨8, _⟩ => ⟨S2x4096x20480, .bf16⟩
  | .hbm, ⟨9, _⟩ => ⟨S24576x4096, .f32⟩
  | .hbm, ⟨10, _⟩ => ⟨S24576x4096, .f32⟩
  | .hbm, ⟨11, _⟩ => ⟨S1x4096x4096, .bf16⟩
  | .hbm, ⟨12, _⟩ => ⟨S4096x4096, .bf16⟩
  | .hbm, ⟨13, _⟩ => ⟨S4096x4096, .f32⟩
  | .hbm, ⟨14, _⟩ => ⟨S24576x4096, .f32⟩
  | .hbm, ⟨15, _⟩ => ⟨S24576x4096, .f32⟩
  | .hbm, ⟨16, _⟩ => ⟨S24576x4096, .f32⟩
  | .hbm, ⟨17, _⟩ => ⟨S_, .f32⟩
  | .hbm, ⟨18, _⟩ => ⟨S24576, .f32⟩
  | .hbm, ⟨19, _⟩ => ⟨S24576x1, .f32⟩
  | .hbm, ⟨20, _⟩ => ⟨S_, .f32⟩
  | .hbm, ⟨21, _⟩ => ⟨S24576x1, .f32⟩
  | .hbm, ⟨22, _⟩ => ⟨S24576x1, .f32⟩
  | .hbm, ⟨23, _⟩ => ⟨S_, .f32⟩
  | .hbm, ⟨24, _⟩ => ⟨S24576x1, .f32⟩
  | .hbm, ⟨25, _⟩ => ⟨S24576x1, .f32⟩
  | .hbm, ⟨26, _⟩ => ⟨S24576x1, .f32⟩
  | .hbm, ⟨27, _⟩ => ⟨S24576x4096, .f32⟩
  | .hbm, ⟨28, _⟩ => ⟨S24576x4096, .f32⟩
  | .hbm, ⟨29, _⟩ => ⟨S1x4096, .f32⟩
  | .hbm, ⟨30, _⟩ => ⟨S24576x4096, .f32⟩
  | .hbm, ⟨31, _⟩ => ⟨S24576x4096, .f32⟩
  | .hbm, ⟨32, _⟩ => ⟨S1x4096x16384, .bf16⟩
  | .hbm, ⟨33, _⟩ => ⟨S4096x16384, .bf16⟩
  | .hbm, ⟨34, _⟩ => ⟨S4096x16384, .f32⟩
  | .hbm, ⟨35, _⟩ => ⟨S24576x16384, .f32⟩
  | .hbm, ⟨36, _⟩ => ⟨S_, .f32⟩
  | .hbm, ⟨37, _⟩ => ⟨S24576x16384, .f32⟩
  | .hbm, ⟨38, _⟩ => ⟨S24576x16384, .f32⟩
  | .hbm, ⟨39, _⟩ => ⟨S24576x16384, .f32⟩
  | .hbm, ⟨40, _⟩ => ⟨S1x16384x4096, .bf16⟩
  | .hbm, ⟨41, _⟩ => ⟨S16384x4096, .bf16⟩
  | .hbm, ⟨42, _⟩ => ⟨S16384x4096, .f32⟩
  | .hbm, ⟨43, _⟩ => ⟨S24576x4096, .f32⟩
  | .hbm, ⟨44, _⟩ => ⟨S24576x4096, .f32⟩
  | .hbm, ⟨45, _⟩ => ⟨S24576x4096, .f32⟩
  | .hbm, ⟨46, _⟩ => ⟨S_, .f32⟩
  | .hbm, ⟨47, _⟩ => ⟨S24576, .f32⟩
  | .hbm, ⟨48, _⟩ => ⟨S24576x1, .f32⟩
  | .hbm, ⟨49, _⟩ => ⟨S_, .f32⟩
  | .hbm, ⟨50, _⟩ => ⟨S24576x1, .f32⟩
  | .hbm, ⟨51, _⟩ => ⟨S24576x1, .f32⟩
  | .hbm, ⟨52, _⟩ => ⟨S_, .f32⟩
  | .hbm, ⟨53, _⟩ => ⟨S24576x1, .f32⟩
  | .hbm, ⟨54, _⟩ => ⟨S24576x1, .f32⟩
  | .hbm, ⟨55, _⟩ => ⟨S24576x1, .f32⟩
  | .hbm, ⟨56, _⟩ => ⟨S24576x4096, .f32⟩
  | .hbm, ⟨57, _⟩ => ⟨S24576x4096, .f32⟩
  | .hbm, ⟨58, _⟩ => ⟨S1x4096, .f32⟩
  | .hbm, ⟨59, _⟩ => ⟨S24576x4096, .f32⟩
  | .hbm, ⟨60, _⟩ => ⟨S24576x4096, .f32⟩
  | .hbm, ⟨61, _⟩ => ⟨S1x4096x20480, .bf16⟩
  | .hbm, ⟨62, _⟩ => ⟨S4096x20480, .bf16⟩
  | .hbm, ⟨63, _⟩ => ⟨S4096x20480, .f32⟩
  | .hbm, ⟨64, _⟩ => ⟨S24576x20480, .f32⟩
  | _, _ => ⟨S24576x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_call0_cst : Ref sig .tc := ⟨.hbm, 36, rfl⟩
abbrev main_call0_v0 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_2 : Ref sig .tc := ⟨.hbm, 46, rfl⟩
abbrev main_v32 : Ref sig .tc := ⟨.hbm, 47, rfl⟩
abbrev main_v33 : Ref sig .tc := ⟨.hbm, 48, rfl⟩
abbrev main_cst_3 : Ref sig .tc := ⟨.hbm, 49, rfl⟩
abbrev main_v34 : Ref sig .tc := ⟨.hbm, 50, rfl⟩
abbrev main_v35 : Ref sig .tc := ⟨.hbm, 51, rfl⟩
abbrev main_cst_4 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩

abbrev nD : Nat := 1
abbrev τ : Topo := Topo.v7x

variable {F : FTy → Type} [FloatOps F]
-- ==== Proof.QkvValue.lean ====
/-
  The query/key/value projection: the tiled product is the plain product `h @ w_qkv[1]`.
-/
module

public import proofs.«01_k».proof.Defs
public import proofs.«01_k».proof.Proof.Gen.QkvIdeal.Value
public import proofs.«01_k».proof.Proof.Gen.QkvRefIdeal.Run
public import proofs.«01_k».proof.Proof.Gen.QkvRefIdeal.Read
public import Idealize.ShloMosaic.Lib.Pipeline.ValueKit
public import Idealize.ShloMosaic.Lib.Pointwise.Contract
public import Idealize.ShloMosaic.Lib.Claim

@[expose] public section

noncomputable section

namespace Cert.Proof.QkvValue

open Idealize.ShloMosaic Idealize.ShloMosaic.TcCoe Idealize.SL.Sem
open Cert.QkvIdeal Cert.QkvIdeal.Gen

/-- One block's product, entry by entry. -/
theorem block_apply (x : Vec Ideal S1024x4096 .bf16) (w : Vec Ideal S1x4096x1024 .bf16) (y : S1024x1024.Idx) :
    k0_pay1 (F := Ideal) x w y = ∑ k : Fin 4096, x (ix2 (y 0) k) * w (ix3 0 k (y 1)) := by
  unfold k0_pay1
  show FloatOps.matmul (F := Ideal) (φ₁ := .bf16) (φ₂ := .bf16) _ none x _ (constant S1024x1024 .f32 0x00000000#32) y = _
  rw [Ideal.matmul_constant_zero_apply, DotDims.sum_contr₁ _ rfl (K := 4096) rfl]
  refine Finset.sum_congr rfl fun k _ => ?_
  congr 1
  · congr 1
    funext a; match a with | ⟨0, _⟩ => rfl | ⟨1, _⟩ => rfl
  · refine shapeCast_apply w _ _ (ix3 0 k (y 1)) ?_
    rw [Shape.rowMajor_val_three, Shape.rowMajor_val_two]
    show (0 * 4096 + k.val) * 1024 + (y 1).val = k.val * 1024 + (y 1).val
    omega

variable (m : (ℓ : Loc nD τ sig) → Buf (Elt Ideal) ℓ)

theorem idx0 : ∀ t : Fin cfg0.N, win0_0.index t = ![(grid0.coords t 0).val, 0] := by decide +kernel
theorem idx1 : ∀ t : Fin cfg0.N, win0_1.index t = ![1, 0, (grid0.coords t 1).val] := by decide +kernel
theorem idx2 : ∀ t : Fin cfg0.N, win0_2.index t = ![(grid0.coords t 0).val, (grid0.coords t 1).val] := by decide +kernel

/-- The product as one function of the two argument arrays. -/
def spec (h : S24576x4096.Idx → EReal) (w : S2x4096x12288.Idx → EReal) : S24576x12288.Idx → EReal :=
  fun i => ∑ k : Fin 4096, h (ix2 (i 0) k) * w (ix3 1 k (i 1))

/-- A sum of products is `spec` at an index once its terms are. -/
theorem sum_eq_spec (h : S24576x4096.Idx → EReal) (w : S2x4096x12288.Idx → EReal) (i : S24576x12288.Idx) (f : Fin 4096 → EReal)
    (hf : ∀ k, f k = h (ix2 (i 0) k) * w (ix3 1 k (i 1))) : ∑ k : Fin 4096, f k = spec h w i :=
  Finset.sum_congr rfl fun k _ => hf k

/-- The array the launch leaves. -/
theorem final (c : Dev nD) :
    (dats m 0 c).arrAt 2 cfg0.N
      = spec (m ((c : Thread nD τ).loc main_arg0)) (m ((c : Thread nD τ).loc main_arg1)) := by
  refine (dats m 0 c).arrAt_eq_of_covers 2 _ (by decide +kernel) fun t hf y => ?_
  blk_simp
  rw [after0_2]
  frame_out
  refine (block_apply _ _ _).trans (sum_eq_spec _ _ _ _ fun k => ?_)
  blk_simp [iblk]
  congr 1
  · show m _ _ = m _ _
    congr 1
    blk_ext [idx0, idx2]
  · show m _ _ = m _ _
    congr 1
    blk_ext [idx1, idx2]

/-- The reference's result is the same function of its arguments. -/
theorem ref_eq (h : S24576x4096.Idx → EReal) (w : S2x4096x12288.Idx → EReal) :
    Cert.QkvRefIdeal.Read.val_main_v5 (F := Ideal) h w = spec h w := by
  funext i
  rw [Cert.QkvRefIdeal.Read.val_main_v5_apply, Cert.QkvRefIdeal.Read.val_main_v4_apply]
  refine sum_eq_spec _ _ _ _ fun k => ?_
  rw [Cert.QkvRefIdeal.Read.val_main_v0_apply, Cert.QkvRefIdeal.Read.val_main_v3_apply,
    Cert.QkvRefIdeal.Read.val_main_v2_apply, Cert.QkvRefIdeal.Read.val_main_v1_apply]
  have hk := k.isLt
  have hi : (i 1).val < 12288 := (i 1).isLt
  show h _ * w _ = _
  congr 2
  · funext a; match a with | ⟨0, _⟩ => rfl | ⟨1, _⟩ => rfl
  · funext a
    match a with
    | ⟨0, _⟩ => rfl
    | ⟨1, _⟩ => exact Fin.ext (show (k.val * 12288 + (i 1).val) / 12288 % 4096 = k.val by omega)
    | ⟨2, _⟩ => exact Fin.ext (show (k.val * 12288 + (i 1).val) % 12288 = (i 1).val by omega)

/-- The projection's algebraic claim. -/
theorem algebraic : Cert.algebraic_QkvIdeal_QkvRefIdeal := by
  intro m g m' g' _ hargs
  refine ⟨fun c => spec (m ((c : Thread nD τ).loc main_arg0)) (m ((c : Thread nD τ).loc main_arg1)), ?_, ?_⟩
  · refine (θ_run defs _ _).mono (fun r h c => ⟨(h c).1.trans (final m c), (h c).2⟩) (Cert.QkvIdeal.Value.run_blocks m g)
  · refine (θ_run Cert.QkvRefIdeal.defs _ _).mono (fun r h c => ⟨(h c).1.trans ?_, (h c).2⟩) (Cert.QkvRefIdeal.Value.run m' g')
    rw [(hargs c).1, (hargs c).2]
    exact (Cert.QkvRefIdeal.Read.val_main_v5_eq _ _).trans (ref_eq _ _)

end Cert.Proof.QkvValue

end
-- ==== Proof.ProjValue.lean ====
/-
  The feed-forward input projection: the tiled product is the plain product `h @ w_in[1]`.
-/
module

public import proofs.«01_k».proof.Defs
public import proofs.«01_k».proof.Proof.Gen.ProjIdeal.Value
public import proofs.«01_k».proof.Proof.Gen.ProjRefIdeal.Run
public import proofs.«01_k».proof.Proof.Gen.ProjRefIdeal.Read
public import Idealize.ShloMosaic.Lib.Pipeline.ValueKit
public import Idealize.ShloMosaic.Lib.Pointwise.Contract
public import Idealize.ShloMosaic.Lib.Claim

@[expose] public section

noncomputable section

namespace Cert.Proof.ProjValue

open Idealize.ShloMosaic Idealize.ShloMosaic.TcCoe Idealize.SL.Sem
open Cert.ProjIdeal Cert.ProjIdeal.Gen

/-- One block's product, entry by entry. -/
theorem block_apply (x : Vec Ideal S1024x4096 .bf16) (w : Vec Ideal S1x4096x1024 .bf16) (y : S1024x1024.Idx) :
    k0_pay1 (F := Ideal) x w y = ∑ k : Fin 4096, x (ix2 (y 0) k) * w (ix3 0 k (y 1)) := by
  unfold k0_pay1
  show FloatOps.matmul (F := Ideal) (φ₁ := .bf16) (φ₂ := .bf16) _ none x _ (constant S1024x1024 .f32 0x00000000#32) y = _
  rw [Ideal.matmul_constant_zero_apply, DotDims.sum_contr₁ _ rfl (K := 4096) rfl]
  refine Finset.sum_congr rfl fun k _ => ?_
  congr 1
  · congr 1
    funext a; match a with | ⟨0, _⟩ => rfl | ⟨1, _⟩ => rfl
  · refine shapeCast_apply w _ _ (ix3 0 k (y 1)) ?_
    rw [Shape.rowMajor_val_three, Shape.rowMajor_val_two]
    show (0 * 4096 + k.val) * 1024 + (y 1).val = k.val * 1024 + (y 1).val
    omega

variable (m : (ℓ : Loc nD τ sig) → Buf (Elt Ideal) ℓ)

theorem idx0 : ∀ t : Fin cfg0.N, win0_0.index t = ![(grid0.coords t 0).val, 0] := by decide +kernel
theorem idx1 : ∀ t : Fin cfg0.N, win0_1.index t = ![1, 0, (grid0.coords t 1).val] := by decide +kernel
theorem idx2 : ∀ t : Fin cfg0.N, win0_2.index t = ![(grid0.coords t 0).val, (grid0.coords t 1).val] := by decide +kernel

/-- The product as one function of the two argument arrays. -/
def spec (h : S24576x4096.Idx → EReal) (w : S2x4096x20480.Idx → EReal) : S24576x20480.Idx → EReal :=
  fun i => ∑ k : Fin 4096, h (ix2 (i 0) k) * w (ix3 1 k (i 1))

/-- A sum of products is `spec` at an index once its terms are. -/
theorem sum_eq_spec (h : S24576x4096.Idx → EReal) (w : S2x4096x20480.Idx → EReal) (i : S24576x20480.Idx) (f : Fin 4096 → EReal)
    (hf : ∀ k, f k = h (ix2 (i 0) k) * w (ix3 1 k (i 1))) : ∑ k : Fin 4096, f k = spec h w i :=
  Finset.sum_congr rfl fun k _ => hf k

/-- The array the launch leaves. -/
theorem final (c : Dev nD) :
    (dats m 0 c).arrAt 2 cfg0.N
      = spec (m ((c : Thread nD τ).loc main_arg0)) (m ((c : Thread nD τ).loc main_arg1)) := by
  refine (dats m 0 c).arrAt_eq_of_covers 2 _ (by decide +kernel) fun t hf y => ?_
  blk_simp
  rw [after0_2]
  frame_out
  refine (block_apply _ _ _).trans (sum_eq_spec _ _ _ _ fun k => ?_)
  blk_simp [iblk]
  congr 1
  · show m _ _ = m _ _
    congr 1
    blk_ext [idx0, idx2]
  · show m _ _ = m _ _
    congr 1
    blk_ext [idx1, idx2]

/-- The reference's result is the same function of its arguments. -/
theorem ref_eq (h : S24576x4096.Idx → EReal) (w : S2x4096x20480.Idx → EReal) :
    Cert.ProjRefIdeal.Read.val_main_v4 (F := Ideal) h w = spec h w := by
  funext i
  rw [Cert.ProjRefIdeal.Read.val_main_v4_apply]
  refine sum_eq_spec _ _ _ _ fun k => ?_
  rw [Cert.ProjRefIdeal.Read.val_main_v0_apply, Cert.ProjRefIdeal.Read.val_main_v3_apply,
    Cert.ProjRefIdeal.Read.val_main_v2_apply, Cert.ProjRefIdeal.Read.val_main_v1_apply]
  have hk := k.isLt
  have hi : (i 1).val < 20480 := (i 1).isLt
  show h _ * w _ = _
  congr 2
  · funext a; match a with | ⟨0, _⟩ => rfl | ⟨1, _⟩ => rfl
  · funext a
    match a with
    | ⟨0, _⟩ => rfl
    | ⟨1, _⟩ => exact Fin.ext (show (k.val * 20480 + (i 1).val) / 20480 % 4096 = k.val by omega)
    | ⟨2, _⟩ => exact Fin.ext (show (k.val * 20480 + (i 1).val) % 20480 = (i 1).val by omega)

/-- The projection's algebraic claim. -/
theorem algebraic : Cert.algebraic_ProjIdeal_ProjRefIdeal := by
  intro m g m' g' _ hargs
  refine ⟨fun c => spec (m ((c : Thread nD τ).loc main_arg0)) (m ((c : Thread nD τ).loc main_arg1)), ?_, ?_⟩
  · refine (θ_run defs _ _).mono (fun r h c => ⟨(h c).1.trans (final m c), (h c).2⟩) (Cert.ProjIdeal.Value.run_blocks m g)
  · refine (θ_run Cert.ProjRefIdeal.defs _ _).mono (fun r h c => ⟨(h c).1.trans ?_, (h c).2⟩) (Cert.ProjRefIdeal.Value.run m' g')
    rw [(hargs c).1, (hargs c).2]
    exact (Cert.ProjRefIdeal.Read.val_main_v4_eq _ _).trans (ref_eq _ _)

end Cert.Proof.ProjValue

end
-- ==== Proof.Scalars.lean ====
/-
  Facts about extended reals and the literals of the programs, shared by the value modules.
-/
module

public import Idealize.ShloMosaic.PureOps.Ideal.Laws

@[expose] public section

noncomputable section

namespace Cert.Proof.Scalars

open Idealize.ShloMosaic

/-- The literal 2⁻¹². -/
theorem lit_inv4096 : Ideal.ofBits .f32 0x39800000#32 = ((1 / 4096 : ℝ) : EReal) := by
  simp only [Ideal.ofBits, Ideal.ieee]
  rw [if_neg (by decide), if_neg (by decide)]
  congr 1
  simp
  norm_num

/-- The literal 4096. -/
theorem lit_4096 : Ideal.ofBits .f32 0x45800000#32 = ((4096 : ℝ) : EReal) := by
  simp only [Ideal.ofBits, Ideal.ieee]
  rw [if_neg (by decide), if_neg (by decide)]
  congr 1
  simp
  norm_num

/-- The norm's epsilon is a positive real. -/
theorem lit_eps : ∃ e : ℝ, 0 < e ∧ Ideal.ofBits .f32 0x358637BD#32 = (e : EReal) := by
  refine ⟨_, ?_, by simp only [Ideal.ofBits, Ideal.ieee]; rw [if_neg (by decide), if_neg (by decide)]⟩
  simp

/-- Dividing by 4096 is multiplying by the literal 2⁻¹². -/
theorem div_4096 (x : EReal) : Ideal.div x (Ideal.ofBits .f32 0x45800000#32) = x * Ideal.ofBits .f32 0x39800000#32 := by
  rw [lit_4096, lit_inv4096, Ideal.div_coe (by norm_num)]

/-- A nonnegative finite factor moves through a finite sum. -/
theorem sum_mul_of_nonneg {ι : Type} (s : Finset ι) (f : ι → EReal) {r : EReal} (h0 : 0 ≤ r) (ht : r ≠ ⊤) :
    (∑ k ∈ s, f k) * r = ∑ k ∈ s, f k * r := by
  classical
  induction s using Finset.induction_on with
  | empty => simp
  | insert a s ha ih => rw [Finset.sum_insert ha, Finset.sum_insert ha, EReal.right_distrib_of_nonneg_of_ne_top h0 ht, ih]

/-- The reciprocal root of a nonnegative number plus epsilon is a nonnegative finite factor. -/
theorem rsqrt_eps {x : EReal} (hx : 0 ≤ x) :
    0 ≤ Ideal.rsqrt (x * Ideal.ofBits .f32 0x39800000#32 + Ideal.ofBits .f32 0x358637BD#32)
      ∧ Ideal.rsqrt (x * Ideal.ofBits .f32 0x39800000#32 + Ideal.ofBits .f32 0x358637BD#32) ≠ ⊤ := by
  obtain ⟨e, he, hE⟩ := lit_eps
  rw [hE, lit_inv4096]
  induction x using EReal.rec with
  | bot => simp at hx
  | top =>
    rw [EReal.top_mul_coe_of_pos (by norm_num), EReal.top_add_coe]
    exact ⟨le_refl _, EReal.zero_ne_top⟩
  | coe x =>
    have hx' : 0 ≤ x := by exact_mod_cast hx
    have hp : 0 < x * (1 / 4096) + e := by positivity
    rw [← EReal.coe_mul, ← EReal.coe_add]
    show 0 ≤ (if x * (1 / 4096) + e < 0 then (⊥ : EReal) else if x * (1 / 4096) + e = 0 then ⊤ else ((Real.sqrt (x * (1 / 4096) + e))⁻¹ : ℝ))
      ∧ (if x * (1 / 4096) + e < 0 then (⊥ : EReal) else if x * (1 / 4096) + e = 0 then ⊤ else ((Real.sqrt (x * (1 / 4096) + e))⁻¹ : ℝ)) ≠ ⊤
    rw [if_neg (not_lt.2 hp.le), if_neg hp.ne']
    exact ⟨by exact_mod_cast (inv_nonneg.2 (Real.sqrt_nonneg _)), EReal.coe_ne_top _⟩

end Cert.Proof.Scalars

end
-- ==== Proof.UpValue.lean ====
/-
  The feed-forward's first product: scaling the rows after the product is scaling them before it, since the scale is a
  nonnegative finite number; then the squared `relu`.
-/
module

public import proofs.«01_k».proof.Defs
public import proofs.«01_k».proof.Proof.Gen.UpIdeal.Value
public import proofs.«01_k».proof.Proof.Gen.UpRefIdeal.Run
public import proofs.«01_k».proof.Proof.Gen.UpRefIdeal.Read
public import Idealize.ShloMosaic.Lib.Pipeline.ValueKit
public import Idealize.ShloMosaic.Lib.Pointwise
public import Idealize.ShloMosaic.Lib.ReduceAll
public import proofs.«01_k».proof.Proof.Scalars
public import proofs.«01_k».proof.Proof.Gen.Pre_sum_of_squares
public import Idealize.ShloMosaic.Lib.Claim

@[expose] public section

noncomputable section

namespace Cert.Proof.UpValue

open Idealize.ShloMosaic Idealize.ShloMosaic.TcCoe Idealize.SL.Sem
open Cert.UpIdeal Cert.UpIdeal.Gen

/-- The scale of a row from its sum of squares, as the kernel writes it. -/
abbrev scale (s : EReal) : EReal :=
  Ideal.rsqrt (s * Ideal.ofBits .f32 0x39800000#32 + Ideal.ofBits .f32 0x358637BD#32)

/-- The squared `relu` of an extended real. -/
abbrev relu2 (x : EReal) : EReal := max x 0 * max x 0

/-- One block of the kernel, entry by entry: the product, scaled by the row's reciprocal root, clipped and squared. -/
theorem block_apply (x : Vec Ideal S1024x4096 .bf16) (w : Vec Ideal S1x4096x1024 .bf16) (s : Vec Ideal S1024x1 .f32)
    (y : S1024x1024.Idx) :
    k0_pay1 (F := Ideal) x w s y
      = relu2 ((∑ k : Fin 4096, x (ix2 (y 0) k) * w (ix3 0 k (y 1))) * scale (s (ix2 (y 0) 0))) := by
  pointwise [k0_pay1]

/-- The layer's formula: the rows scaled first, then the product. -/
def spec (h : S24576x4096.Idx → EReal) (w : S4x4096x16384.Idx → EReal) (s : S24576x128.Idx → EReal) :
    S24576x16384.Idx → EReal :=
  fun i => relu2 (∑ k : Fin 4096, h (ix2 (i 0) k) * scale (s (ix2 (i 0) 0)) * w (ix3 1 k (i 1)))

/-- The reference's result is that formula of its arguments. -/
theorem ref_eq (h : S24576x4096.Idx → EReal) (w : S4x4096x16384.Idx → EReal) (s : S24576x128.Idx → EReal) :
    Cert.UpRefIdeal.Read.val_main_v15 (F := Ideal) h w s = spec h w s := by
  funext i
  open Cert.UpRefIdeal.Read in
  pointwise [val_main_v15, val_main_v14, val_main_v13, val_main_v12, val_main_v11, val_main_v10, val_main_v9, val_main_v8,
    val_main_v7, val_main_v6, val_main_v5, val_main_v4, val_main_v3, val_main_v2, val_main_v1, val_main_v0, val_main_cst,
    val_main_cst_0, val_main_call0_cst, val_main_call0_v0]
  rw [Scalars.div_4096]
  rfl

/-- Scaling after the product is scaling before it. -/
theorem scale_sum {f g : Fin 4096 → EReal} {s : EReal} (hs : 0 ≤ s) :
    (∑ k, f k * g k) * scale s = ∑ k, f k * scale s * g k := by
  rw [Scalars.sum_mul_of_nonneg _ _ (Scalars.rsqrt_eps hs).1 (Scalars.rsqrt_eps hs).2]
  exact Finset.sum_congr rfl fun k _ => by rw [mul_right_comm]

variable (m : (ℓ : Loc nD τ sig) → Buf (Elt Ideal) ℓ)

theorem idx0 : ∀ t : Fin cfg0.N, win0_0.index t = ![(grid0.coords t 0).val, 0] := by decide +kernel
theorem idx1 : ∀ t : Fin cfg0.N, win0_1.index t = ![1, 0, (grid0.coords t 1).val] := by decide +kernel
theorem idx2 : ∀ t : Fin cfg0.N, win0_2.index t = ![(grid0.coords t 0).val, 0] := by decide +kernel
theorem idx3 : ∀ t : Fin cfg0.N, win0_3.index t = ![(grid0.coords t 0).val, (grid0.coords t 1).val] := by decide +kernel

/-- A block's entry is `spec` at an index once its factors are. -/
theorem entry_eq_spec (h : S24576x4096.Idx → EReal) (w : S4x4096x16384.Idx → EReal) (s : S24576x128.Idx → EReal)
    (i : S24576x16384.Idx) (f g : Fin 4096 → EReal) (r : EReal) (hs : 0 ≤ s (ix2 (i 0) 0))
    (hf : ∀ k, f k = h (ix2 (i 0) k)) (hg : ∀ k, g k = w (ix3 1 k (i 1))) (hr : r = s (ix2 (i 0) 0)) :
    relu2 ((∑ k, f k * g k) * scale r) = spec h w s i := by
  subst hr
  rw [scale_sum hs, funext hf, funext hg]
  rfl

/-- The array the launch leaves, where every sum of squares is nonnegative. -/
theorem final (c : Dev nD) (hs : ∀ i, (0 : EReal) ≤ m ((c : Thread nD τ).loc main_arg2) i) :
    (dats m 0 c).arrAt 3 cfg0.N
      = spec (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  refine (block_apply _ _ _ _).trans (entry_eq_spec _ _ _ _ _ _ _ (hs _) (fun k => ?_) (fun k => ?_) ?_)
  · blk_simp [iblk]
    show m _ _ = m _ _
    congr 1
    blk_ext [idx0, idx3]
  · blk_simp [iblk]
    show m _ _ = m _ _
    congr 1
    blk_ext [idx1, idx3]
  · blk_simp [iblk]
    show m _ _ = m _ _
    congr 1
    blk_ext [idx2, idx3]
    · congr 1
      show 0 + 1 * (y 0).val = (y 0).val
      omega
    · rfl

/-- What the precondition says: no sum of squares is negative. -/
theorem nonneg_of_pre (h : Cert.Pre_UpIdeal_sum_of_squares m) (c : Dev nD) (i : S24576x128.Idx) :
    (0 : EReal) ≤ m ((c : Thread nD τ).loc main_arg2) i := by
  have e := congrFun (h c) (fun a => a.elim0)
  have e1 := Host.reduce_andi_all _ _ _ _ _ e i
  have e2 : BitVec.ofBool (decide (Ideal.ofBits .f32 0x00000000#32 ≤ (m ((c : Thread nD τ).loc main_arg2) i : EReal))) = 1#1 := e1
  rw [Ideal.ofBits_zero_f32] at e2
  by_contra hn
  rw [decide_eq_false hn] at e2
  exact absurd e2 (by decide)

/-- The first product's algebraic claim. -/
theorem algebraic : Cert.algebraic_UpIdeal_UpRefIdeal_pre_sum_of_squares := by
  intro m g m' g' hpre hargs
  refine ⟨fun c => spec (m ((c : Thread nD τ).loc main_arg0)) (m ((c : Thread nD τ).loc main_arg1))
    (m ((c : Thread nD τ).loc main_arg2)), ?_, ?_⟩
  · exact (θ_run defs _ _).mono (fun r h c => ⟨(h c).1.trans (final m c (nonneg_of_pre m hpre c)), (h c).2⟩)
      (Cert.UpIdeal.Value.run_blocks m g)
  · refine (θ_run Cert.UpRefIdeal.defs _ _).mono (fun r h c => ⟨(h c).1.trans ?_, (h c).2⟩) (Cert.UpRefIdeal.Value.run m' g')
    rw [(hargs c).1, (hargs c).2.1, (hargs c).2.2]
    exact (Cert.UpRefIdeal.Read.val_main_v15_eq _ _ _).trans (ref_eq _ _ _)

end Cert.Proof.UpValue

end
-- ==== Proof.DownValue.lean ====
/-
  The second feed-forward product: the product added to the residual block by block is the plain residual plus
  product `x + u @ w_down[1]`.
-/
module

public import proofs.«01_k».proof.Defs
public import proofs.«01_k».proof.Proof.Gen.DownIdeal.Value
public import proofs.«01_k».proof.Proof.Gen.DownRefIdeal.Run
public import proofs.«01_k».proof.Proof.Gen.DownRefIdeal.Read
public import Idealize.ShloMosaic.Lib.Pipeline.ValueKit
public import Idealize.ShloMosaic.Lib.Pointwise

@[expose] public section

noncomputable section

namespace Cert.Proof.DownValue

open Idealize.ShloMosaic Idealize.ShloMosaic.TcCoe Idealize.SL.Sem
open Cert.DownIdeal Cert.DownIdeal.Gen

/-- What one grid point adds to its block, entry by entry. -/
theorem block_apply (a : Vec Ideal S2048x1024 .f32) (u : Vec Ideal S2048x1024 .bf16) (w : Vec Ideal S1x1024x1024 .bf16)
    (y : S2048x1024.Idx) :
    k0_pay1 (F := Ideal) a u w y = a y + ∑ k : Fin 1024, u (ix2 (y 0) k) * w (ix3 0 k (y 1)) := by
  pointwise [k0_pay1]

/-- One product of a block's row with a block's column. -/
def term (u : Vec Ideal S2048x1024 .bf16) (w : Vec Ideal S1x1024x1024 .bf16) (y : S2048x1024.Idx) (k : Fin 1024) : EReal :=
  u (ix2 (y 0) k) * w (ix3 0 k (y 1))

/-- The residual plus the product, as one function of the three arguments. -/
def spec (u : S24576x16384.Idx → EReal) (w : S4x16384x4096.Idx → EReal) (x : S24576x4096.Idx → EReal) :
    S24576x4096.Idx → EReal :=
  fun i => x i + ∑ k : Fin 16384, u (ix2 (i 0) k) * w (ix3 1 k (i 1))

/-- The sum cut in sixteen tiles is `spec` at an index once its terms are. -/
theorem tiles_eq_spec (u : S24576x16384.Idx → EReal) (w : S4x16384x4096.Idx → EReal) (x : S24576x4096.Idx → EReal)
    (i : S24576x4096.Idx) (a : EReal) (f : ℕ → EReal) (g : Fin 16 → Fin 1024 → EReal) (ha : a = x i)
    (hf : ∀ s : Fin 16, f s.val = ∑ k : Fin 1024, g s k)
    (hg : ∀ (s : Fin 16) (k : Fin 1024), g s k = u (ix2 (i 0) ⟨s.val * 1024 + k.val, by omega⟩)
      * w (ix3 1 ⟨s.val * 1024 + k.val, by omega⟩ (i 1))) :
    a + ∑ s ∈ Finset.range 16, f s = spec u w x i := by
  unfold spec
  rw [ha, Fin.sum_univ_tiles 16 1024 (by norm_num), Finset.sum_range]
  congr 1
  refine Finset.sum_congr rfl fun s _ => (hf s).trans (Finset.sum_congr rfl fun k _ => hg s k)

/-- The reference's result is the same function of its arguments. -/
theorem ref_eq (u : S24576x16384.Idx → EReal) (w : S4x16384x4096.Idx → EReal) (x : S24576x4096.Idx → EReal) :
    Cert.DownRefIdeal.Read.val_main_v5 (F := Ideal) u w x = spec u w x := by
  funext i
  open Cert.DownRefIdeal.Read in
  pointwise [spec, val_main_v5, val_main_v4, val_main_v3, val_main_v2, val_main_v1, val_main_v0]

variable (m : (ℓ : Loc nD τ sig) → Buf (Elt Ideal) ℓ)

theorem idx0 : ∀ t : Fin cfg0.N, win0_0.index t = ![t.val / 64, t.val % 16] :=
  (by decide +kernel : ∀ t : Fin grid0.N, _)
theorem idx1 : ∀ t : Fin cfg0.N, win0_1.index t = ![1, t.val % 16, t.val / 16 % 4] :=
  (by decide +kernel : ∀ t : Fin grid0.N, _)
theorem idx2 : ∀ t : Fin cfg0.N, win0_2.index t = ![t.val / 64, t.val / 16 % 4] :=
  (by decide +kernel : ∀ t : Fin grid0.N, _)
theorem idx3 : ∀ t : Fin cfg0.N, win0_3.index t = ![t.val / 64, t.val / 16 % 4] :=
  (by decide +kernel : ∀ t : Fin grid0.N, _)

/-- What point `n` adds to its block. -/
def addend (c : Dev nD) (n : ℕ) (y : S2048x1024.Idx) : EReal :=
  if h : n < cfg0.N then
    ∑ k : Fin 1024, term (iblk m c 0 ⟨n, h⟩) (iblk m c 1 ⟨n, h⟩) y k
  else 0

/-- The array the launch leaves. -/
theorem final (c : Dev nD) :
    (dats m 0 c).arrAt 3 cfg0.N
      = spec (m ((c : Thread nD τ).loc main_arg0)) (m ((c : Thread nD τ).loc main_arg1))
          (m ((c : Thread nD τ).loc main_arg2)) := by
  refine (dats m 0 c).arrAt_eq_of_covers 3 _ (by decide +kernel) fun t hf y => ?_
  have hm := (flush0_3 t).mp hf
  have hN : cfg0.N = 768 := N_0
  have ht := t.isLt
  blk_simp
  rw [after0_3, Value.outsAt_3_eq]
  have hb : 16 * (t.val / 16) < cfg0.N := by omega
  refine (Pipeline.accAt_add_apply (β := EReal) (Value.reset3 m c) (Value.step3 m c) (iblk m c 2 ⟨16 * (t.val / 16), hb⟩)
    (addend m c) (16 * (t.val / 16)) 15 (fun h i => ?_) (fun n h acc i _ _ => ?_) (t.val % 16) (by omega) _ y).trans ?_
  · unfold Value.reset3 addend
    rw [dif_pos h]
    exact block_apply _ _ _ _
  · unfold Value.step3 addend
    rw [dif_pos h]
    exact block_apply _ _ _ _
  · rw [hm]
    refine tiles_eq_spec _ _ _ _ _ _ (fun s k => term (iblk m c 0 ⟨16 * (t.val / 16) + s.val, by omega⟩)
      (iblk m c 1 ⟨16 * (t.val / 16) + s.val, by omega⟩) y k) ?_ (fun s => ?_) (fun s k => ?_)
    · blk_simp [iblk]
      show m _ _ = m _ _
      congr 1
      blk_ext [idx2, idx3]
    · unfold addend
      rw [dif_pos (by omega)]
    · unfold term
      blk_simp [iblk]
      congr 1
      · show m _ _ = m _ _
        congr 1
        blk_ext [idx0, idx3]
      · show m _ _ = m _ _
        congr 1
        blk_ext [idx1, idx3]

/-- The product's algebraic claim. -/
theorem algebraic : Cert.algebraic_DownIdeal_DownRefIdeal := by
  intro m g m' g' _ hargs
  refine ⟨fun c => spec (m ((c : Thread nD τ).loc main_arg0)) (m ((c : Thread nD τ).loc main_arg1))
    (m ((c : Thread nD τ).loc main_arg2)), ?_, ?_⟩
  · exact (θ_run defs _ _).mono (fun r h c => ⟨((h c).1.trans (Value.final3 m c).symm).trans (final m c), (h c).2⟩)
      (Cert.DownIdeal.Value.run m g)
  · refine (θ_run Cert.DownRefIdeal.defs _ _).mono (fun r h c => ⟨(h c).1.trans ?_, (h c).2⟩)
      (Cert.DownRefIdeal.Value.run m' g')
    rw [(hargs c).1, (hargs c).2.1, (hargs c).2.2]
    exact (Cert.DownRefIdeal.Read.val_main_v5_eq _ _ _).trans (ref_eq _ _ _)

end Cert.Proof.DownValue

end
-- ==== Proof.OutValue.lean ====
/-
  The output projection of the attention: its three results are the residual plus the product, that residual under
  the next norm's gain, and the residual's sums of squares, gathered over the column blocks of each row.
-/
module

public import proofs.«01_k».proof.Defs
public import proofs.«01_k».proof.Proof.Gen.OutIdeal.Value
public import proofs.«01_k».proof.Proof.Gen.OutRefIdeal.Run
public import proofs.«01_k».proof.Proof.Gen.OutRefIdeal.Read
public import Idealize.ShloMosaic.Lib.Pipeline.ValueKit
public import Idealize.ShloMosaic.Lib.Pointwise

@[expose] public section

noncomputable section

namespace Cert.Proof.OutValue

open Idealize.ShloMosaic Idealize.ShloMosaic.TcCoe Idealize.SL.Sem
open Cert.OutIdeal Cert.OutIdeal.Gen

/-! ### One block -/

/-- The block of the new residual, entry by entry. -/
theorem pay2_apply (a : Vec Ideal S1024x512 .f32) (u : Vec Ideal S1024x4096 .bf16) (w : Vec Ideal S1x4096x512 .bf16)
    (y : S1024x512.Idx) :
    k0_pay2 (F := Ideal) a u w y = a y + ∑ k : Fin 4096, u (ix2 (y 0) k) * w (ix3 0 k (y 1)) := by
  pointwise [k0_pay2]

/-- The block under the gain, entry by entry. -/
theorem pay3_apply (a : Vec Ideal S1024x512 .f32) (u : Vec Ideal S1024x4096 .bf16) (w : Vec Ideal S1x4096x512 .bf16)
    (g : Vec Ideal S1x512 .f32) (y : S1024x512.Idx) :
    k0_pay3 (F := Ideal) a u w g y = k0_pay2 (F := Ideal) a u w y * g (ix2 0 (y 1)) := by
  pointwise [k0_pay3]

/-- What a block adds to its rows' sums of squares. -/
def squares (a : Vec Ideal S1024x512 .f32) (u : Vec Ideal S1024x4096 .bf16) (w : Vec Ideal S1x4096x512 .bf16)
    (y : S1024x128.Idx) : EReal :=
  ∑ j : Fin 512, k0_pay2 (F := Ideal) a u w (ix2 (y 0) j) * k0_pay2 (F := Ideal) a u w (ix2 (y 0) j)

theorem pay4_apply (a : Vec Ideal S1024x512 .f32) (u : Vec Ideal S1024x4096 .bf16) (w : Vec Ideal S1x4096x512 .bf16)
    (s : Vec Ideal S1024x128 .f32) (y : S1024x128.Idx) :
    k0_pay4 (F := Ideal) a u w s y = s y + squares a u w y := by
  pointwise [k0_pay4, squares]

theorem pay1_apply (y : S1024x128.Idx) : k0_pay1 (F := Ideal) y = (0 : EReal) := by
  pointwise [k0_pay1]

/-! ### The three results -/

/-- The new residual. -/
def specX (o : S24576x4096.Idx → EReal) (w : S2x4096x4096.Idx → EReal) (x : S24576x4096.Idx → EReal) :
    S24576x4096.Idx → EReal :=
  fun i => x i + ∑ k : Fin 4096, o (ix2 (i 0) k) * w (ix3 1 k (i 1))

/-- The new residual under the gain. -/
def specH (o : S24576x4096.Idx → EReal) (w : S2x4096x4096.Idx → EReal) (x : S24576x4096.Idx → EReal)
    (g : S4096.Idx → EReal) : S24576x4096.Idx → EReal :=
  fun i => specX o w x i * g (ix1 (i 1))

/-- The sums of squares of the new residual's rows, repeated over the lanes. -/
def specS (o : S24576x4096.Idx → EReal) (w : S2x4096x4096.Idx → EReal) (x : S24576x4096.Idx → EReal) :
    S24576x128.Idx → EReal :=
  fun i => ∑ j : Fin 4096, specX o w x (ix2 (i 0) j) * specX o w x (ix2 (i 0) j)

theorem refX_eq (o : S24576x4096.Idx → EReal) (w : S2x4096x4096.Idx → EReal) (x : S24576x4096.Idx → EReal) :
    Cert.OutRefIdeal.Read.val_main_v5 (F := Ideal) o w x = specX o w x := by
  funext i
  open Cert.OutRefIdeal.Read in
  pointwise [specX, val_main_v5, val_main_v4, val_main_v3, val_main_v2, val_main_v1, val_main_v0]

theorem refH_eq (o : S24576x4096.Idx → EReal) (w : S2x4096x4096.Idx → EReal) (x : S24576x4096.Idx → EReal)
    (g : S4096.Idx → EReal) :
    Cert.OutRefIdeal.Read.val_main_v9 (F := Ideal) o w x g = specH o w x g := by
  funext i
  open Cert.OutRefIdeal.Read in
  pointwise [specH, specX, val_main_v9, val_main_v8, val_main_v7, val_main_v6, val_main_v5, val_main_v4, val_main_v3,
    val_main_v2, val_main_v1, val_main_v0]

theorem refS_eq (o : S24576x4096.Idx → EReal) (w : S2x4096x4096.Idx → EReal) (x : S24576x4096.Idx → EReal) :
    Cert.OutRefIdeal.Read.val_main_v13 (F := Ideal) o w x = specS o w x := by
  funext i
  open Cert.OutRefIdeal.Read in
  pointwise [specS, specX, val_main_v13, val_main_v12, val_main_v11, val_main_v10, val_main_cst, val_main_v5, val_main_v4,
    val_main_v3, val_main_v2, val_main_v1, val_main_v0]

/-! ### The launch -/

variable (m : (ℓ : Loc nD τ sig) → Buf (Elt Ideal) ℓ)

theorem idx0 : ∀ t : Fin cfg0.N, win0_0.index t = ![t.val / 8, 0] := (by decide +kernel : ∀ t : Fin grid0.N, _)
theorem idx1 : ∀ t : Fin cfg0.N, win0_1.index t = ![1, 0, t.val % 8] := (by decide +kernel : ∀ t : Fin grid0.N, _)
theorem idx2 : ∀ t : Fin cfg0.N, win0_2.index t = ![t.val / 8, t.val % 8] := (by decide +kernel : ∀ t : Fin grid0.N, _)
theorem idx3 : ∀ t : Fin cfg0.N, win0_3.index t = ![0, t.val % 8] := (by decide +kernel : ∀ t : Fin grid0.N, _)
theorem idx4 : ∀ t : Fin cfg0.N, win0_4.index t = ![t.val / 8, t.val % 8] := (by decide +kernel : ∀ t : Fin grid0.N, _)
theorem idx5 : ∀ t : Fin cfg0.N, win0_5.index t = ![t.val / 8, t.val % 8] := (by decide +kernel : ∀ t : Fin grid0.N, _)
theorem idx6 : ∀ t : Fin cfg0.N, win0_6.index t = ![t.val / 8, 0] := (by decide +kernel : ∀ t : Fin grid0.N, _)

/-- The argument arrays, as arrays of extended reals. -/
abbrev argO (c : Dev nD) : S24576x4096.Idx → EReal := m ((c : Thread nD τ).loc main_arg0)
abbrev argW (c : Dev nD) : S2x4096x4096.Idx → EReal := m ((c : Thread nD τ).loc main_arg1)
abbrev argX (c : Dev nD) : S24576x4096.Idx → EReal := m ((c : Thread nD τ).loc main_arg2)
abbrev argG (c : Dev nD) : S4096.Idx → EReal := m ((c : Thread nD τ).loc main_arg3)

/-- A row laid out as a one-row matrix, entry by entry. -/
theorem row_apply (x : Vec Ideal S4096 .f32) (j : Fin 4096) :
    shapeCast S1x4096 x shapeCasts_S4096_S1x4096 (ix2 0 j) = x (ix1 j) := by
  pointwise

/-- The gain as the launch finds it. -/
theorem gain_eq (c : Dev nD) (j : Fin 4096) : V m c main_v0 (ix2 0 j) = argG m c (ix1 j) := by
  have h : V m c main_v0 = shapeCast S1x4096 (m ((c : Thread nD τ).loc main_arg3)) shapeCasts_S4096_S1x4096 := by
    simp only [V, hostOps0, List.flatten_cons, List.flatten_nil, List.append_nil, List.cons_append, List.nil_append]
    after_results
    rfl
  rw [h]
  exact row_apply _ _

theorem entry_eq_specX (o : S24576x4096.Idx → EReal) (w : S2x4096x4096.Idx → EReal) (x : S24576x4096.Idx → EReal)
    (i : S24576x4096.Idx) (a : EReal) (f g : Fin 4096 → EReal) (ha : a = x i) (hf : ∀ k, f k = o (ix2 (i 0) k))
    (hg : ∀ k, g k = w (ix3 1 k (i 1))) : a + ∑ k : Fin 4096, f k * g k = specX o w x i := by
  rw [ha, funext hf, funext hg]
  rfl

/-- The block point `t` computes of the new residual, at the entry that lands at `i`. -/
theorem blockX (c : Dev nD) (t : Fin cfg0.N) (y : S1024x512.Idx) (i : S24576x4096.Idx)
    (h0 : (i 0).val = t.val / 8 * 1024 + (y 0).val) (h1 : (i 1).val = t.val % 8 * 512 + (y 1).val) :
    k0_pay2 (F := Ideal) (iblk m c 2 t) (iblk m c 0 t) (iblk m c 1 t) y = specX (argO m c) (argW m c) (argX m c) i := by
  refine (pay2_apply _ _ _ _).trans (entry_eq_specX _ _ _ _ _ _ _ ?_ (fun k => ?_) (fun k => ?_))
  · blk_simp [iblk]
    rw [V_main_arg2]
    congr 1
    blk_ext [idx2]
  · blk_simp [iblk]
    rw [V_main_arg0]
    congr 1
    blk_ext [idx0]
  · blk_simp [iblk]
    rw [V_main_arg1]
    congr 1
    blk_ext [idx1]

theorem finalX (c : Dev nD) : (dats m 0 c).arrAt 4 cfg0.N = specX (argO m c) (argW m c) (argX m c) := by
  refine (dats m 0 c).arrAt_eq_of_covers 4 _ (by decide +kernel) fun t hf y => ?_
  have hy : ∀ y : S1024x512.Idx, (outsAt0 m c t.val t.isLt).1 y
      = k0_pay2 (F := Ideal) (iblk m c 2 t) (iblk m c 0 t) (iblk m c 1 t) y := by
    intro y
    by_cases h : t.val % 8 = 0
    · rw [outsAt0_A m c t h]; frame_out
    · rw [outsAt0_B m c t h]; frame_out
  blk_simp
  rw [after0_4]
  refine (hy _).trans (blockX m c t _ _ ?_ ?_)
  · blk_simp [idx4]
  · blk_simp [idx4]

theorem entry_eq_specH (o : S24576x4096.Idx → EReal) (w : S2x4096x4096.Idx → EReal) (x : S24576x4096.Idx → EReal)
    (g : S4096.Idx → EReal) (i : S24576x4096.Idx) (a b : EReal) (ha : a = specX o w x i) (hb : b = g (ix1 (i 1))) :
    a * b = specH o w x g i := by
  rw [ha, hb]
  rfl

theorem finalH (c : Dev nD) : (dats m 0 c).arrAt 5 cfg0.N = specH (argO m c) (argW m c) (argX m c) (argG m c) := by
  refine (dats m 0 c).arrAt_eq_of_covers 5 _ (by decide +kernel) fun t hf y => ?_
  have hy : ∀ y : S1024x512.Idx, (outsAt0 m c t.val t.isLt).2.1 y
      = k0_pay3 (F := Ideal) (iblk m c 2 t) (iblk m c 0 t) (iblk m c 1 t) (iblk m c 3 t) y := by
    intro y
    by_cases h : t.val % 8 = 0
    · rw [outsAt0_A m c t h]; frame_out
    · rw [outsAt0_B m c t h]; frame_out
  blk_simp
  rw [after0_5]
  refine (hy _).trans ((pay3_apply _ _ _ _ _).trans (entry_eq_specH _ _ _ _ _ _ _ (blockX m c t _ _ ?_ ?_) ?_))
  · blk_simp [idx5]
  · blk_simp [idx5]
  · blk_simp [iblk]
    refine Eq.trans ?_ (gain_eq m c _)
    congr 1
    blk_ext [idx3, idx5]

theorem sum_eq_specS (o : S24576x4096.Idx → EReal) (w : S2x4096x4096.Idx → EReal) (x : S24576x4096.Idx → EReal)
    (i : S24576x128.Idx) (f : Fin 8 → EReal) (g : Fin 8 → Fin 512 → EReal) (hf : ∀ s, f s = ∑ j : Fin 512, g s j * g s j)
    (hg : ∀ (s : Fin 8) (j : Fin 512), g s j = specX o w x (ix2 (i 0) ⟨s.val * 512 + j.val, by omega⟩)) :
    0 + ∑ s : Fin 8, f s = specS o w x i := by
  unfold specS
  rw [Fin.sum_univ_tiles (N := 4096) 8 512 (by norm_num), zero_add]
  refine Finset.sum_congr rfl fun s _ => (hf s).trans (Finset.sum_congr rfl fun j _ => ?_)
  rw [hg s j]

theorem finalS (c : Dev nD) : (dats m 0 c).arrAt 6 cfg0.N = specS (argO m c) (argW m c) (argX m c) := by
  refine (dats m 0 c).arrAt_eq_of_covers 6 _ (by decide +kernel) fun t hf y => ?_
  have hN : cfg0.N = 192 := N_0
  have ht := t.isLt
  have hm := (flush0_6 t).mp hf
  blk_simp
  rw [after0_6]
  refine (Pipeline.eq_sum_fin_of_reset_step_apply_of_flush (M := EReal) (fun n h => (outsAt0 m c n h).2.2) 8 (fun _ => 0)
    (fun t => squares (iblk m c 2 t) (iblk m c 0 t) (iblk m c 1 t)) (fun t h i => ?_) (fun t h i => ?_) t hm _).trans ?_
  · rw [outsAt0_A m c t h]
    frame_out
    refine (pay4_apply _ _ _ _ _).trans ?_
    rw [pay1_apply]
  · rw [outsAt0_B m c t h]
    frame_out
    exact pay4_apply _ _ _ _ _
  · refine sum_eq_specS _ _ _ _ _ _ (fun s => rfl) (fun s j => blockX m c _ _ _ ?_ ?_)
    · blk_simp [idx6]
      have hs := s.isLt
      show t.val / 8 * 1024 + (y 0).val = (8 * (t.val / 8) + s.val) / 8 * 1024 + (y 0).val
      omega
    · have hs := s.isLt
      show s.val * 512 + j.val = (8 * (t.val / 8) + s.val) % 8 * 512 + j.val
      omega

/-- The projection's algebraic claim. -/
theorem algebraic : Cert.algebraic_OutIdeal_OutRefIdeal := by
  intro m g m' g' _ hargs
  refine ⟨fun c => specX (argO m c) (argW m c) (argX m c), fun c => specH (argO m c) (argW m c) (argX m c) (argG m c),
    fun c => specS (argO m c) (argW m c) (argX m c), ?_, ?_⟩
  · exact (θ_run defs _ _).mono (fun r h c => ⟨(h c).1.trans (finalX m c), (h c).2.1.trans (finalH m c),
      (h c).2.2.1.trans (finalS m c), (h c).2.2.2⟩) (Cert.OutIdeal.Value.run_blocks m g)
  · refine (θ_run Cert.OutRefIdeal.defs _ _).mono (fun r h c => ⟨(h c).1.trans ?_, (h c).2.1.trans ?_,
      (h c).2.2.1.trans ?_, (h c).2.2.2⟩) (Cert.OutRefIdeal.Value.run m' g')
    all_goals rw [(hargs c).1, (hargs c).2.1, (hargs c).2.2.1]
    · exact (Cert.OutRefIdeal.Read.val_main_v5_eq _ _ _).trans (refX_eq _ _ _)
    · rw [(hargs c).2.2.2]
      exact (Cert.OutRefIdeal.Read.val_main_v9_eq _ _ _ _).trans (refH_eq _ _ _ _)
    · exact (Cert.OutRefIdeal.Read.val_main_v13_eq _ _ _).trans (refS_eq _ _ _)

end Cert.Proof.OutValue

end
-- ==== Proof.NormPromptValue.lean ====
/-
  The final norm of the prompt rows: every block of rows holds its rows' norm.
-/
module

public import proofs.«01_k».proof.Defs
public import proofs.«01_k».proof.Proof.Gen.NormPromptIdeal.Value
public import proofs.«01_k».proof.Proof.Gen.NormPromptRefIdeal.Run
public import proofs.«01_k».proof.Proof.Gen.NormPromptRefIdeal.Read
public import Idealize.ShloMosaic.Lib.Pipeline.ValueKit
public import Idealize.ShloMosaic.Lib.Pointwise

@[expose] public section

noncomputable section

namespace Cert.Proof.NormPromptValue

open Idealize.ShloMosaic Idealize.ShloMosaic.TcCoe Idealize.SL.Sem
open Cert.NormPromptIdeal Cert.NormPromptIdeal.Gen

/-- The scale of a row. -/
abbrev rowScale (x : Fin 4096 → EReal) : EReal :=
  Ideal.rsqrt (Ideal.div (∑ k : Fin 4096, x k * x k) (Ideal.ofBits .f32 0x45800000#32) + Ideal.ofBits .f32 0x358637BD#32)

/-- One block of the kernel, entry by entry. -/
theorem block_apply (x : Vec Ideal S512x4096 .f32) (g : Vec Ideal S1x4096 .f32) (y : S512x4096.Idx) :
    k0_pay1 (F := Ideal) x g y = x y * rowScale (fun k => x (ix2 (y 0) k)) * g (ix2 0 (y 1)) := by
  pointwise [k0_pay1]

/-- The norm of row `i + 0` under its gain. -/
def spec (x : S24576x4096.Idx → EReal) (g : S4096.Idx → EReal) : S16384x4096.Idx → EReal :=
  fun i => x (ix2 ⟨0 + (i 0).val, by have : (i 0).val < 16384 := (i 0).isLt; omega⟩ (i 1))
    * rowScale (fun k => x (ix2 ⟨0 + (i 0).val, by have : (i 0).val < 16384 := (i 0).isLt; omega⟩ k)) * g (ix1 (i 1))

/-- The reference's result is that norm of its arguments. -/
theorem ref_eq (x : S24576x4096.Idx → EReal) (g : S4096.Idx → EReal) :
    Cert.NormPromptRefIdeal.Read.val_main_v13 (F := Ideal) x g = spec x g := by
  funext i
  open Cert.NormPromptRefIdeal.Read in
  pointwise [spec, val_main_v13, val_main_v12, val_main_v11, val_main_v10, val_main_v9, val_main_v8,
    val_main_v7, val_main_v6, val_main_v5, val_main_v4, val_main_v3, val_main_v2, val_main_v1, val_main_v0, val_main_cst,
    val_main_cst_0, val_main_cst_1]

variable (m : (ℓ : Loc nD τ sig) → Buf (Elt Ideal) ℓ)

theorem idx0 : ∀ t : Fin cfg0.N, win0_0.index t = ![0 + (grid0.coords t 0).val, 0] := by decide +kernel
theorem idx1 : ∀ t : Fin cfg0.N, win0_1.index t = ![0, 0] := by decide +kernel
theorem idx2 : ∀ t : Fin cfg0.N, win0_2.index t = ![(grid0.coords t 0).val, 0] := by decide +kernel

/-- A row laid out as a one-row matrix, entry by entry. -/
theorem row_apply (x : Vec Ideal S4096 .f32) (j : Fin 4096) :
    shapeCast S1x4096 x shapeCasts_S4096_S1x4096 (ix2 0 j) = x (ix1 j) := by
  pointwise

/-- The gain as the launch finds it. -/
theorem gain_eq (c : Dev nD) (j : Fin 4096) :
    V m c main_v0 (ix2 0 j) = (m ((c : Thread nD τ).loc main_arg1) (ix1 j) : EReal) := by
  have h : V m c main_v0 = shapeCast S1x4096 (m ((c : Thread nD τ).loc main_arg1)) shapeCasts_S4096_S1x4096 := by
    simp only [V, hostOps0, List.flatten_cons, List.flatten_nil, List.append_nil, List.cons_append, List.nil_append]
    after_results
    rfl
  rw [h]
  exact row_apply _ _

/-- An entry is `spec` at an index once its parts are. -/
theorem entry_eq_spec (x : S24576x4096.Idx → EReal) (g : S4096.Idx → EReal) (i : S16384x4096.Idx) (f : Fin 4096 → EReal)
    (a b : EReal) (ha : a = x (ix2 ⟨0 + (i 0).val, by have : (i 0).val < 16384 := (i 0).isLt; omega⟩ (i 1)))
    (hf : ∀ k, f k = x (ix2 ⟨0 + (i 0).val, by have : (i 0).val < 16384 := (i 0).isLt; omega⟩ k)) (hb : b = g (ix1 (i 1))) :
    a * rowScale f * b = spec x g i := by
  rw [funext hf, ha, hb]
  rfl

/-- The array the launch leaves. -/
theorem final (c : Dev nD) :
    (dats m 0 c).arrAt 2 cfg0.N
      = spec (m ((c : Thread nD τ).loc main_arg0)) (m ((c : Thread nD τ).loc main_arg1)) := by
  refine (dats m 0 c).arrAt_eq_of_covers 2 _ (by decide +kernel) fun t hf y => ?_
  blk_simp
  rw [after0_2]
  frame_out
  refine (block_apply _ _ _).trans (entry_eq_spec _ _ _ _ _ _ ?_ (fun k => ?_) ?_)
  · blk_simp [iblk]
    rw [V_main_arg0]
    congr 1
    blk_ext [idx0, idx2]
  · blk_simp [iblk]
    rw [V_main_arg0]
    congr 1
    blk_ext [idx0, idx2]
  · blk_simp [iblk]
    refine Eq.trans ?_ (gain_eq m c _)
    congr 1
    blk_ext [idx1, idx2]

/-- The norm's algebraic claim. -/
theorem algebraic : Cert.algebraic_NormPromptIdeal_NormPromptRefIdeal := by
  intro m g m' g' _ hargs
  refine ⟨fun c => spec (m ((c : Thread nD τ).loc main_arg0)) (m ((c : Thread nD τ).loc main_arg1)), ?_, ?_⟩
  · exact (θ_run defs _ _).mono (fun r h c => ⟨(h c).1.trans (final m c), (h c).2⟩) (Cert.NormPromptIdeal.Value.run_blocks m g)
  · refine (θ_run Cert.NormPromptRefIdeal.defs _ _).mono (fun r h c => ⟨(h c).1.trans ?_, (h c).2⟩)
      (Cert.NormPromptRefIdeal.Value.run m' g')
    rw [(hargs c).1, (hargs c).2]
    exact (Cert.NormPromptRefIdeal.Read.val_main_v13_eq _ _).trans (ref_eq _ _)

end Cert.Proof.NormPromptValue

end
-- ==== Proof.NormSampleValue.lean ====
/-
  The final norm of the sample rows: every block of rows holds its rows' norm.
-/
module

public import proofs.«01_k».proof.Defs
public import proofs.«01_k».proof.Proof.Gen.NormSampleIdeal.Value
public import proofs.«01_k».proof.Proof.Gen.NormSampleRefIdeal.Run
public import proofs.«01_k».proof.Proof.Gen.NormSampleRefIdeal.Read
public import Idealize.ShloMosaic.Lib.Pipeline.ValueKit
public import Idealize.ShloMosaic.Lib.Pointwise

@[expose] public section

noncomputable section

namespace Cert.Proof.NormSampleValue

open Idealize.ShloMosaic Idealize.ShloMosaic.TcCoe Idealize.SL.Sem
open Cert.NormSampleIdeal Cert.NormSampleIdeal.Gen

/-- The scale of a row. -/
abbrev rowScale (x : Fin 4096 → EReal) : EReal :=
  Ideal.rsqrt (Ideal.div (∑ k : Fin 4096, x k * x k) (Ideal.ofBits .f32 0x45800000#32) + Ideal.ofBits .f32 0x358637BD#32)

/-- One block of the kernel, entry by entry. -/
theorem block_apply (x : Vec Ideal S512x4096 .f32) (g : Vec Ideal S1x4096 .f32) (y : S512x4096.Idx) :
    k0_pay1 (F := Ideal) x g y = x y * rowScale (fun k => x (ix2 (y 0) k)) * g (ix2 0 (y 1)) := by
  pointwise [k0_pay1]

/-- The norm of row `16384 + i` under its gain. -/
def spec (x : S24576x4096.Idx → EReal) (g : S4096.Idx → EReal) : S8192x4096.Idx → EReal :=
  fun i => x (ix2 ⟨16384 + (i 0).val, by have : (i 0).val < 8192 := (i 0).isLt; omega⟩ (i 1))
    * rowScale (fun k => x (ix2 ⟨16384 + (i 0).val, by have : (i 0).val < 8192 := (i 0).isLt; omega⟩ k)) * g (ix1 (i 1))

/-- The reference's result is that norm of its arguments. -/
theorem ref_eq (x : S24576x4096.Idx → EReal) (g : S4096.Idx → EReal) :
    Cert.NormSampleRefIdeal.Read.val_main_v13 (F := Ideal) x g = spec x g := by
  funext i
  open Cert.NormSampleRefIdeal.Read in
  pointwise [spec, val_main_v13, val_main_v12, val_main_v11, val_main_v10, val_main_v9, val_main_v8,
    val_main_v7, val_main_v6, val_main_v5, val_main_v4, val_main_v3, val_main_v2, val_main_v1, val_main_v0, val_main_cst,
    val_main_cst_0, val_main_cst_1]

variable (m : (ℓ : Loc nD τ sig) → Buf (Elt Ideal) ℓ)

theorem idx0 : ∀ t : Fin cfg0.N, win0_0.index t = ![32 + (grid0.coords t 0).val, 0] := by decide +kernel
theorem idx1 : ∀ t : Fin cfg0.N, win0_1.index t = ![0, 0] := by decide +kernel
theorem idx2 : ∀ t : Fin cfg0.N, win0_2.index t = ![(grid0.coords t 0).val, 0] := by decide +kernel

/-- A row laid out as a one-row matrix, entry by entry. -/
theorem row_apply (x : Vec Ideal S4096 .f32) (j : Fin 4096) :
    shapeCast S1x4096 x shapeCasts_S4096_S1x4096 (ix2 0 j) = x (ix1 j) := by
  pointwise

/-- The gain as the launch finds it. -/
theorem gain_eq (c : Dev nD) (j : Fin 4096) :
    V m c main_v0 (ix2 0 j) = (m ((c : Thread nD τ).loc main_arg1) (ix1 j) : EReal) := by
  have h : V m c main_v0 = shapeCast S1x4096 (m ((c : Thread nD τ).loc main_arg1)) shapeCasts_S4096_S1x4096 := by
    simp only [V, hostOps0, List.flatten_cons, List.flatten_nil, List.append_nil, List.cons_append, List.nil_append]
    after_results
    rfl
  rw [h]
  exact row_apply _ _

/-- An entry is `spec` at an index once its parts are. -/
theorem entry_eq_spec (x : S24576x4096.Idx → EReal) (g : S4096.Idx → EReal) (i : S8192x4096.Idx) (f : Fin 4096 → EReal)
    (a b : EReal) (ha : a = x (ix2 ⟨16384 + (i 0).val, by have : (i 0).val < 8192 := (i 0).isLt; omega⟩ (i 1)))
    (hf : ∀ k, f k = x (ix2 ⟨16384 + (i 0).val, by have : (i 0).val < 8192 := (i 0).isLt; omega⟩ k)) (hb : b = g (ix1 (i 1))) :
    a * rowScale f * b = spec x g i := by
  rw [funext hf, ha, hb]
  rfl

/-- The array the launch leaves. -/
theorem final (c : Dev nD) :
    (dats m 0 c).arrAt 2 cfg0.N
      = spec (m ((c : Thread nD τ).loc main_arg0)) (m ((c : Thread nD τ).loc main_arg1)) := by
  refine (dats m 0 c).arrAt_eq_of_covers 2 _ (by decide +kernel) fun t hf y => ?_
  blk_simp
  rw [after0_2]
  frame_out
  refine (block_apply _ _ _).trans (entry_eq_spec _ _ _ _ _ _ ?_ (fun k => ?_) ?_)
  · blk_simp [iblk]
    rw [V_main_arg0]
    congr 1
    blk_ext [idx0, idx2]
  · blk_simp [iblk]
    rw [V_main_arg0]
    congr 1
    blk_ext [idx0, idx2]
  · blk_simp [iblk]
    refine Eq.trans ?_ (gain_eq m c _)
    congr 1
    blk_ext [idx1, idx2]

/-- The norm's algebraic claim. -/
theorem algebraic : Cert.algebraic_NormSampleIdeal_NormSampleRefIdeal := by
  intro m g m' g' _ hargs
  refine ⟨fun c => spec (m ((c : Thread nD τ).loc main_arg0)) (m ((c : Thread nD τ).loc main_arg1)), ?_, ?_⟩
  · exact (θ_run defs _ _).mono (fun r h c => ⟨(h c).1.trans (final m c), (h c).2⟩) (Cert.NormSampleIdeal.Value.run_blocks m g)
  · refine (θ_run Cert.NormSampleRefIdeal.defs _ _).mono (fun r h c => ⟨(h c).1.trans ?_, (h c).2⟩)
      (Cert.NormSampleRefIdeal.Value.run m' g')
    rw [(hargs c).1, (hargs c).2]
    exact (Cert.NormSampleRefIdeal.Read.val_main_v13_eq _ _).trans (ref_eq _ _)

end Cert.Proof.NormSampleValue

end
-- ==== Proof.NormValue.lean ====
/-
  The norm ahead of a layer's mixer: every block of rows holds its rows' norm.
-/
module

public import proofs.«01_k».proof.Defs
public import proofs.«01_k».proof.Proof.Gen.NormIdeal.Value
public import proofs.«01_k».proof.Proof.Gen.NormRefIdeal.Run
public import proofs.«01_k».proof.Proof.Gen.NormRefIdeal.Read
public import Idealize.ShloMosaic.Lib.Pipeline.ValueKit
public import Idealize.ShloMosaic.Lib.Pointwise

@[expose] public section

noncomputable section

namespace Cert.Proof.NormValue

open Idealize.ShloMosaic Idealize.ShloMosaic.TcCoe Idealize.SL.Sem
open Cert.NormIdeal Cert.NormIdeal.Gen

/-- The scale of a row. -/
abbrev rowScale (x : Fin 4096 → EReal) : EReal :=
  Ideal.rsqrt (Ideal.div (∑ k : Fin 4096, x k * x k) (Ideal.ofBits .f32 0x45800000#32) + Ideal.ofBits .f32 0x358637BD#32)

/-- One block of the kernel, entry by entry. -/
theorem block_apply (x : Vec Ideal S512x4096 .f32) (g : Vec Ideal S1x4096 .f32) (y : S512x4096.Idx) :
    k0_pay1 (F := Ideal) x g y = x y * rowScale (fun k => x (ix2 (y 0) k)) * g (ix2 0 (y 1)) := by
  pointwise [k0_pay1]

/-- The norm of a row under its gain. -/
def spec (x : S24576x4096.Idx → EReal) (g : S4096.Idx → EReal) : S24576x4096.Idx → EReal :=
  fun i => x i
    * rowScale (fun k => x (ix2 (i 0) k)) * g (ix1 (i 1))

/-- The reference's result is that norm of its arguments. -/
theorem ref_eq (x : S24576x4096.Idx → EReal) (g : S4096.Idx → EReal) :
    Cert.NormRefIdeal.Read.val_main_v13 (F := Ideal) x g = spec x g := by
  funext i
  open Cert.NormRefIdeal.Read in
  pointwise [spec, val_main_v13, val_main_v12, val_main_v11, val_main_v10, val_main_v9, val_main_v8,
    val_main_v7, val_main_v6, val_main_v5, val_main_v4, val_main_v3, val_main_v2, val_main_v1, val_main_v0, val_main_cst,
    val_main_cst_0, val_main_cst_1]

variable (m : (ℓ : Loc nD τ sig) → Buf (Elt Ideal) ℓ)

theorem idx0 : ∀ t : Fin cfg0.N, win0_0.index t = ![(grid0.coords t 0).val, 0] := by decide +kernel
theorem idx1 : ∀ t : Fin cfg0.N, win0_1.index t = ![0, 0] := by decide +kernel
theorem idx2 : ∀ t : Fin cfg0.N, win0_2.index t = ![(grid0.coords t 0).val, 0] := by decide +kernel

/-- A row laid out as a one-row matrix, entry by entry. -/
theorem row_apply (x : Vec Ideal S4096 .f32) (j : Fin 4096) :
    shapeCast S1x4096 x shapeCasts_S4096_S1x4096 (ix2 0 j) = x (ix1 j) := by
  pointwise

/-- The gain as the launch finds it. -/
theorem gain_eq (c : Dev nD) (j : Fin 4096) :
    V m c main_v0 (ix2 0 j) = (m ((c : Thread nD τ).loc main_arg1) (ix1 j) : EReal) := by
  have h : V m c main_v0 = shapeCast S1x4096 (m ((c : Thread nD τ).loc main_arg1)) shapeCasts_S4096_S1x4096 := by
    simp only [V, hostOps0, List.flatten_cons, List.flatten_nil, List.append_nil, List.cons_append, List.nil_append]
    after_results
    rfl
  rw [h]
  exact row_apply _ _

/-- An entry is `spec` at an index once its parts are. -/
theorem entry_eq_spec (x : S24576x4096.Idx → EReal) (g : S4096.Idx → EReal) (i : S24576x4096.Idx) (f : Fin 4096 → EReal)
    (a b : EReal) (ha : a = x i)
    (hf : ∀ k, f k = x (ix2 (i 0) k)) (hb : b = g (ix1 (i 1))) :
    a * rowScale f * b = spec x g i := by
  rw [funext hf, ha, hb]
  rfl

/-- The array the launch leaves. -/
theorem final (c : Dev nD) :
    (dats m 0 c).arrAt 2 cfg0.N
      = spec (m ((c : Thread nD τ).loc main_arg0)) (m ((c : Thread nD τ).loc main_arg1)) := by
  refine (dats m 0 c).arrAt_eq_of_covers 2 _ (by decide +kernel) fun t hf y => ?_
  blk_simp
  rw [after0_2]
  frame_out
  refine (block_apply _ _ _).trans (entry_eq_spec _ _ _ _ _ _ ?_ (fun k => ?_) ?_)
  · blk_simp [iblk]
    rw [V_main_arg0]
    congr 1
    blk_ext [idx0, idx2]
  · blk_simp [iblk]
    rw [V_main_arg0]
    congr 1
    blk_ext [idx0, idx2]
  · blk_simp [iblk]
    refine Eq.trans ?_ (gain_eq m c _)
    congr 1
    blk_ext [idx1, idx2]

/-- The norm's algebraic claim. -/
theorem algebraic : Cert.algebraic_NormIdeal_NormRefIdeal := by
  intro m g m' g' _ hargs
  refine ⟨fun c => spec (m ((c : Thread nD τ).loc main_arg0)) (m ((c : Thread nD τ).loc main_arg1)), ?_, ?_⟩
  · exact (θ_run defs _ _).mono (fun r h c => ⟨(h c).1.trans (final m c), (h c).2⟩) (Cert.NormIdeal.Value.run_blocks m g)
  · refine (θ_run Cert.NormRefIdeal.defs _ _).mono (fun r h c => ⟨(h c).1.trans ?_, (h c).2⟩)
      (Cert.NormRefIdeal.Value.run m' g')
    rw [(hargs c).1, (hargs c).2]
    exact (Cert.NormRefIdeal.Read.val_main_v13_eq _ _).trans (ref_eq _ _)

end Cert.Proof.NormValue

end
-- ==== Proof.BoundsValue.lean ====
/-
  The schedule of the lower bounds: the running sums of a softmax over the four layers, less the first layer's, and their
  complements.
-/
module

public import proofs.«01_k».proof.Defs
public import proofs.«01_k».proof.Proof.Gen.BoundsIdeal.Value
public import proofs.«01_k».proof.Proof.Gen.BoundsRefIdeal.Run
public import proofs.«01_k».proof.Proof.Gen.BoundsRefIdeal.Read
public import Idealize.ShloMosaic.Lib.Pipeline.ValueKit
public import Idealize.ShloMosaic.Lib.Pointwise

@[expose] public section

noncomputable section

namespace Cert.Proof.BoundsValue

open Idealize.ShloMosaic Idealize.ShloMosaic.TcCoe Idealize.SL.Sem
open Cert.BoundsIdeal Cert.BoundsIdeal.Gen

/-- The running sums of four numbers. -/
def cum (s : Fin 4 → EReal) : Fin 4 → EReal
  | 0 => s 0
  | 1 => s 0 + s 1
  | 2 => s 0 + s 1 + s 2
  | 3 => s 0 + s 1 + s 2 + s 3

/-- The softmax of four numbers. -/
def soft (x : Fin 4 → EReal) (r : Fin 4) : EReal :=
  Ideal.div (Ideal.exp (x r - Finset.univ.fold max ⊥ x)) (∑ k : Fin 4, Ideal.exp (x k - Finset.univ.fold max ⊥ x))

/-- A layer's lower bounds. -/
def bound (x : S4x4096.Idx → EReal) : S4x4096.Idx → EReal :=
  fun i => cum (soft fun r => x (ix2 r (i 1))) (i 0) - soft (fun r => x (ix2 r (i 1))) 0

/-- Their complements. -/
def rest (x : S4x4096.Idx → EReal) : S4x4096.Idx → EReal := fun i => Ideal.ofBits .f32 0x3F800000#32 - bound x i

/-- The shape of a window of the running sum. -/
abbrev W : Shape := ⟨2, ![4, 1]⟩

theorem window_coords : ∀ n : Fin W.numel, (W.rowMajor.symm n 0).val = n.val ∧ (W.rowMajor.symm n 1).val = 0 := by decide +kernel

/-- The window's element at position `k`: a row of the array, or the padding. -/
def pick (x : S4x4096.Idx → EReal) (r : Fin 4) (j : Fin 4096) (k : ℕ) : EReal :=
  if h : 3 ≤ r.val + k ∧ r.val + k < 7 then x (ix2 ⟨r.val + k - 3, by omega⟩ j) else 0

/-- The sum over the window is the running sum. -/
theorem window_sum (x : S4x4096.Idx → EReal) (h : S4x4096.ReduceWindows ![4, 1] ![1, 1] ![3, 0] ![0, 0] S4x4096) (r : Fin 4) (j : Fin 4096) :
    Ideal.hostReduceWindowAdd ![4, 1] ![1, 1] ![3, 0] ![0, 0] h x 0 (ix2 r j) = cum (fun r => x (ix2 r j)) r := by
  have hk : Ideal.hostReduceWindowAdd ![4, 1] ![1, 1] ![3, 0] ![0, 0] h x 0 (ix2 r j)
      = (List.finRange W.numel).foldl (fun a n => a + pick x r j n.val) 0 := by
    unfold Ideal.hostReduceWindowAdd Host.reduceWindow
    refine congrArg (fun f => List.foldl f (0 : EReal) (List.finRange W.numel)) ?_
    funext a n
    refine congrArg (a + ·) ?_
    obtain ⟨h0, h1⟩ := window_coords n
    have hn : n.val < 4 := n.isLt
    have hj := j.isLt
    unfold pick
    by_cases hr : 3 ≤ r.val + n.val ∧ r.val + n.val < 7
    · rw [dif_pos hr, dif_pos]
      · refine congrArg x (funext fun a => Fin.ext ?_)
        match a with
        | 0 => show r.val * 1 + (W.rowMajor.symm n 0).val - 3 = r.val + n.val - 3; omega
        | 1 => show j.val * 1 + (W.rowMajor.symm n 1).val - 0 = j.val; omega
      · intro a
        match a with
        | 0 => show 3 ≤ r.val * 1 + (W.rowMajor.symm n 0).val ∧ r.val * 1 + (W.rowMajor.symm n 0).val - 3 < 4; omega
        | 1 => show 0 ≤ j.val * 1 + (W.rowMajor.symm n 1).val ∧ j.val * 1 + (W.rowMajor.symm n 1).val - 0 < 4096; omega
    · rw [dif_neg hr, dif_neg]
      intro hin
      have := hin 0
      replace this : 3 ≤ r.val * 1 + (W.rowMajor.symm n 0).val ∧ r.val * 1 + (W.rowMajor.symm n 0).val - 3 < 4 := this
      omega
  rw [hk]
  have hl : List.finRange W.numel = [⟨0, by decide⟩, ⟨1, by decide⟩, ⟨2, by decide⟩, ⟨3, by decide⟩] := by decide
  rw [hl]
  simp only [List.foldl_cons, List.foldl_nil]
  match r with
  | 0 => simp [pick, cum]
  | 1 => simp [pick, cum]
  | 2 => simp [pick, cum]
  | 3 => simp [pick, cum]

/-- The bits of −∞. -/
theorem neg_inf : Ideal.ofBits .f32 0xFF800000#32 = ⊥ := by
  simp only [Ideal.ofBits, Ideal.ieee]
  rfl

/-- The reference's softmax, entry by entry. -/
theorem ref_soft (x : S4x4096.Idx → EReal) (r : Fin 4) (j : Fin 4096) :
    Cert.BoundsRefIdeal.Read.val_main_v10 (F := Ideal) x (ix2 r j) = soft (fun r => x (ix2 r j)) r := by
  open Cert.BoundsRefIdeal.Read in
  pointwise [soft, val_main_v10, val_main_v9, val_main_v8, val_main_v7, val_main_v6, val_main_v5, val_main_v4, val_main_v3,
    val_main_v2, val_main_v1, val_main_v0, val_main_cst, val_main_cst_0, val_main_cst_1]
  simp only [neg_inf, max_eq_right bot_le]

/-- The kernel's softmax, entry by entry. -/
theorem kernel_soft (x : Vec Ideal S4x4096 .f32) (r : Fin 4) (j : Fin 4096) :
    k0_pay2 (F := Ideal) x (ix2 r j) = soft (fun r => x (ix2 r j)) r := by
  pointwise [soft, k0_pay2]
  simp only [neg_inf]

/-- The kernel's four rows of lower bounds. -/
theorem row0 (x : Vec Ideal S4x4096 .f32) (j : Fin 4096) : k0_pay4 (F := Ideal) x (ix2 0 j) = bound x (ix2 0 j) := by
  pointwise [k0_pay4, k0_pay3, bound, cum]
  simp only [kernel_soft]
theorem row1 (x : Vec Ideal S4x4096 .f32) (j : Fin 4096) : k0_pay7 (F := Ideal) x (ix2 0 j) = bound x (ix2 1 j) := by
  pointwise [k0_pay7, k0_pay6, k0_pay3, bound, cum]
  simp only [kernel_soft]
theorem row2 (x : Vec Ideal S4x4096 .f32) (j : Fin 4096) : k0_pay10 (F := Ideal) x (ix2 0 j) = bound x (ix2 2 j) := by
  pointwise [k0_pay10, k0_pay9, k0_pay6, k0_pay3, bound, cum]
  simp only [kernel_soft]
theorem row3 (x : Vec Ideal S4x4096 .f32) (j : Fin 4096) : k0_pay13 (F := Ideal) x (ix2 0 j) = bound x (ix2 3 j) := by
  unfold k0_pay13
  rw [View.ld_unit_zero (S := S4x4096) Cert.BoundsIdeal.Value.hz0 _ x]
  pointwise [k0_pay12, k0_pay9, k0_pay6, k0_pay3, bound, cum]
  simp only [kernel_soft]

/-- An index of a one-row block, in its column. -/
theorem idx_row (y : S1x4096.Idx) : y = ix2 0 (y 1) := by
  funext a
  match a with
  | 0 => exact Fin.ext (by have : (y 0).val < 1 := (y 0).isLt; show (y 0).val = 0; omega)
  | 1 => rfl

/-- An index of the array, by its row and its column. -/
theorem idx_at {i : S4x4096.Idx} {r : Fin 4} {j : Fin 4096} (h0 : (i 0).val = r.val) (h1 : (i 1).val = j.val) : i = ix2 r j := by
  funext a
  match a with
  | 0 => exact Fin.ext h0
  | 1 => exact Fin.ext h1

/-- The first array of the kernel. -/
theorem first_eq (x : Vec Ideal S4x4096 .f32) : Cert.BoundsIdeal.Value.G1 (F := Ideal) x = bound x := by
  funext i
  unfold Cert.BoundsIdeal.Value.G1
  canon_tiles y h
  · rw [idx_row y, idx_at (r := 3) (j := y 1) (by show _ = 3; omega) h1]; exact row3 x _
  · rw [idx_row y, idx_at (r := 2) (j := y 1) (by show _ = 2; omega) h1]; exact row2 x _
  · rw [idx_row y, idx_at (r := 1) (j := y 1) (by show _ = 1; omega) h1]; exact row1 x _
  · rw [idx_row y, idx_at (r := 0) (j := y 1) (by show _ = 0; omega) h1]; exact row0 x _

/-- The second array of the kernel. -/
theorem second_eq (x : Vec Ideal S4x4096 .f32) : Cert.BoundsIdeal.Value.G2 (F := Ideal) x = rest x := by
  funext i
  unfold Cert.BoundsIdeal.Value.G2
  canon_tiles y h
  · rw [idx_row y, idx_at (r := 3) (j := y 1) (by show _ = 3; omega) h1]; exact congrArg (_ - ·) (row3 x _)
  · rw [idx_row y, idx_at (r := 2) (j := y 1) (by show _ = 2; omega) h1]; exact congrArg (_ - ·) (row2 x _)
  · rw [idx_row y, idx_at (r := 1) (j := y 1) (by show _ = 1; omega) h1]; exact congrArg (_ - ·) (row1 x _)
  · rw [idx_row y, idx_at (r := 0) (j := y 1) (by show _ = 0; omega) h1]; exact congrArg (_ - ·) (row0 x _)

/-- The reference's running sum, entry by entry. -/
theorem ref_cum (x : S4x4096.Idx → EReal) (r : Fin 4) (j : Fin 4096) :
    Cert.BoundsRefIdeal.Read.val_main_v11 (F := Ideal) x (ix2 r j) = cum (soft fun r => x (ix2 r j)) r := by
  have hz : (Cert.BoundsRefIdeal.Read.val_main_call0_call0_v0 (F := Ideal)) (Shape.Idx.first Cert.BoundsRefIdeal.Gen.facts.h_S_) = (0 : EReal) :=
    Ideal.ofBits_zero .f32
  unfold Cert.BoundsRefIdeal.Read.val_main_v11 Host.reduceWindowAdd
  rw [Ideal.hostReduceWindowAdd_def, hz, window_sum]
  exact congrFun (congrArg cum (funext fun k => ref_soft x k j)) r

/-- The reference's first result. -/
theorem ref_first (x : S4x4096.Idx → EReal) : Cert.BoundsRefIdeal.Read.val_main_v16 (F := Ideal) x = bound x := by
  funext i
  obtain ⟨r, j, rfl⟩ : ∃ (r : Fin 4) (j : Fin 4096), i = ix2 r j := ⟨i 0, i 1, idx_at rfl rfl⟩
  open Cert.BoundsRefIdeal.Read in
  pointwise [val_main_v16, val_main_v15, val_main_v14, val_main_v13, val_main_v12, bound]
  simp only [ref_cum]
  rfl

/-- The reference's second result. -/
theorem ref_second (x : S4x4096.Idx → EReal) : Cert.BoundsRefIdeal.Read.val_main_v18 (F := Ideal) x = rest x := by
  funext i
  exact congrArg (_ - ·) (congrFun (ref_first x) i)

/-- The schedule's algebraic claim. -/
theorem algebraic : Cert.algebraic_BoundsIdeal_BoundsRefIdeal := by
  intro m g m' g' _ hargs
  refine ⟨fun c => bound (m ((c : Thread nD τ).loc main_arg0)), fun c => rest (m ((c : Thread nD τ).loc main_arg0)), ?_, ?_⟩
  · exact (θ_run defs _ _).mono (fun r h c => ⟨(h c).1.trans (first_eq _), (h c).2.1.trans (second_eq _), (h c).2.2⟩)
      (Cert.BoundsIdeal.Value.run m g)
  · refine (θ_run Cert.BoundsRefIdeal.defs _ _).mono (fun r h c => ⟨(h c).1.trans ?_, (h c).2.1.trans ?_, (h c).2.2⟩)
      (Cert.BoundsRefIdeal.Value.run m' g')
    · rw [hargs c]
      exact (Cert.BoundsRefIdeal.Read.val_main_v16_eq _).trans (ref_first _)
    · rw [hargs c]
      exact (Cert.BoundsRefIdeal.Read.val_main_v18_eq _).trans (ref_second _)

end Cert.Proof.BoundsValue

end
-- ==== Proof.TailOut.lean ====
/-
  The output projection as one launch among others: what it leaves in its three result arrays, from whatever contents its
  operand arrays had when it began.
-/
module

public import proofs.«01_k».proof.Proof.Gen.TailIdeal.Frame
public import Idealize.ShloMosaic.Lib.Pipeline.ValueKit
public import Idealize.ShloMosaic.Lib.Pointwise

@[expose] public section

noncomputable section

namespace Cert.Proof.TailOut

open Idealize.ShloMosaic Idealize.ShloMosaic.TcCoe Idealize.SL.Sem
open Cert.TailIdeal Cert.TailIdeal.Gen

/-! ### One block -/

/-- The block of the new residual, entry by entry. -/
theorem pay2_apply (a : Vec Ideal S1024x512 .f32) (u : Vec Ideal S1024x4096 .bf16) (w : Vec Ideal S1x4096x512 .bf16)
    (y : S1024x512.Idx) :
    k0_pay2 (F := Ideal) a u w y = a y + ∑ k : Fin 4096, u (ix2 (y 0) k) * w (ix3 0 k (y 1)) := by
  pointwise [k0_pay2]

/-- The block under the gain, entry by entry. -/
theorem pay3_apply (a : Vec Ideal S1024x512 .f32) (u : Vec Ideal S1024x4096 .bf16) (w : Vec Ideal S1x4096x512 .bf16)
    (g : Vec Ideal S1x512 .f32) (y : S1024x512.Idx) :
    k0_pay3 (F := Ideal) a u w g y = k0_pay2 (F := Ideal) a u w y * g (ix2 0 (y 1)) := by
  pointwise [k0_pay3]

/-- What a block adds to its rows' sums of squares. -/
def squares (a : Vec Ideal S1024x512 .f32) (u : Vec Ideal S1024x4096 .bf16) (w : Vec Ideal S1x4096x512 .bf16)
    (y : S1024x128.Idx) : EReal :=
  ∑ j : Fin 512, k0_pay2 (F := Ideal) a u w (ix2 (y 0) j) * k0_pay2 (F := Ideal) a u w (ix2 (y 0) j)

theorem pay4_apply (a : Vec Ideal S1024x512 .f32) (u : Vec Ideal S1024x4096 .bf16) (w : Vec Ideal S1x4096x512 .bf16)
    (s : Vec Ideal S1024x128 .f32) (y : S1024x128.Idx) :
    k0_pay4 (F := Ideal) a u w s y = s y + squares a u w y := by
  pointwise [k0_pay4, squares]

theorem pay1_apply (y : S1024x128.Idx) : k0_pay1 (F := Ideal) y = (0 : EReal) := by
  pointwise [k0_pay1]

/-! ### The three results -/

/-- The new residual. -/
def specX (o : S24576x4096.Idx → EReal) (w : S2x4096x4096.Idx → EReal) (x : S24576x4096.Idx → EReal) :
    S24576x4096.Idx → EReal :=
  fun i => x i + ∑ k : Fin 4096, o (ix2 (i 0) k) * w (ix3 1 k (i 1))

/-- The new residual under the gain. -/
def specH (o : S24576x4096.Idx → EReal) (w : S2x4096x4096.Idx → EReal) (x : S24576x4096.Idx → EReal)
    (g : S1x4096.Idx → EReal) : S24576x4096.Idx → EReal :=
  fun i => specX o w x i * g (ix2 0 (i 1))

/-- The sums of squares of the new residual's rows, repeated over the lanes. -/
def specS (o : S24576x4096.Idx → EReal) (w : S2x4096x4096.Idx → EReal) (x : S24576x4096.Idx → EReal) :
    S24576x128.Idx → EReal :=
  fun i => ∑ j : Fin 4096, specX o w x (ix2 (i 0) j) * specX o w x (ix2 (i 0) j)

/-! ### The launch -/

variable (V : (c : Dev nD) → (b : Ref sig .tc) → Buf (Elt Ideal) ((c : Thread nD τ).loc b))

theorem idx0 : ∀ t : Fin cfg0.N, win0_0.index t = ![t.val / 8, 0] := (by decide +kernel : ∀ t : Fin grid0.N, _)
theorem idx1 : ∀ t : Fin cfg0.N, win0_1.index t = ![1, 0, t.val % 8] := (by decide +kernel : ∀ t : Fin grid0.N, _)
theorem idx2 : ∀ t : Fin cfg0.N, win0_2.index t = ![t.val / 8, t.val % 8] := (by decide +kernel : ∀ t : Fin grid0.N, _)
theorem idx3 : ∀ t : Fin cfg0.N, win0_3.index t = ![0, t.val % 8] := (by decide +kernel : ∀ t : Fin grid0.N, _)
theorem idx4 : ∀ t : Fin cfg0.N, win0_4.index t = ![t.val / 8, t.val % 8] := (by decide +kernel : ∀ t : Fin grid0.N, _)
theorem idx5 : ∀ t : Fin cfg0.N, win0_5.index t = ![t.val / 8, t.val % 8] := (by decide +kernel : ∀ t : Fin grid0.N, _)
theorem idx6 : ∀ t : Fin cfg0.N, win0_6.index t = ![t.val / 8, 0] := (by decide +kernel : ∀ t : Fin grid0.N, _)

/-- The arrays of the launch as it finds them, as arrays of extended reals. -/
abbrev argO (c : Dev nD) : S24576x4096.Idx → EReal := V c main_arg0
abbrev argW (c : Dev nD) : S2x4096x4096.Idx → EReal := V c main_arg1
abbrev argX (c : Dev nD) : S24576x4096.Idx → EReal := V c main_arg2
abbrev argG (c : Dev nD) : S1x4096.Idx → EReal := V c main_v0

theorem entry_eq_specX (o : S24576x4096.Idx → EReal) (w : S2x4096x4096.Idx → EReal) (x : S24576x4096.Idx → EReal)
    (i : S24576x4096.Idx) (a : EReal) (f g : Fin 4096 → EReal) (ha : a = x i) (hf : ∀ k, f k = o (ix2 (i 0) k))
    (hg : ∀ k, g k = w (ix3 1 k (i 1))) : a + ∑ k : Fin 4096, f k * g k = specX o w x i := by
  rw [ha, funext hf, funext hg]
  rfl

/-- The block point `t` computes of the new residual, at the entry that lands at `i`. -/
theorem blockX (c : Dev nD) (t : Fin cfg0.N) (y : S1024x512.Idx) (i : S24576x4096.Idx)
    (h0 : (i 0).val = t.val / 8 * 1024 + (y 0).val) (h1 : (i 1).val = t.val % 8 * 512 + (y 1).val) :
    k0_pay2 (F := Ideal) (iblk0 V c 2 t) (iblk0 V c 0 t) (iblk0 V c 1 t) y = specX (argO V c) (argW V c) (argX V c) i := by
  refine (pay2_apply _ _ _ _).trans (entry_eq_specX _ _ _ _ _ _ _ ?_ (fun k => ?_) (fun k => ?_))
  · blk_simp [iblk0]
    show V _ _ _ = V _ _ _
    congr 1
    blk_ext [idx2]
  · blk_simp [iblk0]
    show V _ _ _ = V _ _ _
    congr 1
    blk_ext [idx0]
  · blk_simp [iblk0]
    show V _ _ _ = V _ _ _
    congr 1
    blk_ext [idx1]

theorem finalX (c : Dev nD) : (dat0 V c).arrAt 4 cfg0.N = specX (argO V c) (argW V c) (argX V c) := by
  refine (dat0 V c).arrAt_eq_of_covers 4 _ (by decide +kernel) fun t hf y => ?_
  have hy : ∀ y : S1024x512.Idx, (outsAt0 V c t.val t.isLt).1 y
      = k0_pay2 (F := Ideal) (iblk0 V c 2 t) (iblk0 V c 0 t) (iblk0 V c 1 t) y := by
    intro y
    by_cases h : t.val % 8 = 0
    · rw [outsAt0_A V c t h]; frame_out
    · rw [outsAt0_B V c t h]; frame_out
  blk_simp
  rw [after0_4]
  refine (hy _).trans (blockX V c t _ _ ?_ ?_)
  · blk_simp [idx4]
  · blk_simp [idx4]

theorem entry_eq_specH (o : S24576x4096.Idx → EReal) (w : S2x4096x4096.Idx → EReal) (x : S24576x4096.Idx → EReal)
    (g : S1x4096.Idx → EReal) (i : S24576x4096.Idx) (a b : EReal) (ha : a = specX o w x i) (hb : b = g (ix2 0 (i 1))) :
    a * b = specH o w x g i := by
  rw [ha, hb]
  rfl

theorem finalH (c : Dev nD) : (dat0 V c).arrAt 5 cfg0.N = specH (argO V c) (argW V c) (argX V c) (argG V c) := by
  refine (dat0 V c).arrAt_eq_of_covers 5 _ (by decide +kernel) fun t hf y => ?_
  have hy : ∀ y : S1024x512.Idx, (outsAt0 V c t.val t.isLt).2.1 y
      = k0_pay3 (F := Ideal) (iblk0 V c 2 t) (iblk0 V c 0 t) (iblk0 V c 1 t) (iblk0 V c 3 t) y := by
    intro y
    by_cases h : t.val % 8 = 0
    · rw [outsAt0_A V c t h]; frame_out
    · rw [outsAt0_B V c t h]; frame_out
  blk_simp
  rw [after0_5]
  refine (hy _).trans ((pay3_apply _ _ _ _ _).trans (entry_eq_specH _ _ _ _ _ _ _ (blockX V c t _ _ ?_ ?_) ?_))
  · blk_simp [idx5]
  · blk_simp [idx5]
  · blk_simp [iblk0]
    show V _ _ _ = V _ _ _
    congr 1
    blk_ext [idx3, idx5]

theorem sum_eq_specS (o : S24576x4096.Idx → EReal) (w : S2x4096x4096.Idx → EReal) (x : S24576x4096.Idx → EReal)
    (i : S24576x128.Idx) (f : Fin 8 → EReal) (g : Fin 8 → Fin 512 → EReal) (hf : ∀ s, f s = ∑ j : Fin 512, g s j * g s j)
    (hg : ∀ (s : Fin 8) (j : Fin 512), g s j = specX o w x (ix2 (i 0) ⟨s.val * 512 + j.val, by omega⟩)) :
    0 + ∑ s : Fin 8, f s = specS o w x i := by
  unfold specS
  rw [Fin.sum_univ_tiles (N := 4096) 8 512 (by norm_num), zero_add]
  refine Finset.sum_congr rfl fun s _ => (hf s).trans (Finset.sum_congr rfl fun j _ => ?_)
  rw [hg s j]

theorem finalS (c : Dev nD) : (dat0 V c).arrAt 6 cfg0.N = specS (argO V c) (argW V c) (argX V c) := by
  refine (dat0 V c).arrAt_eq_of_covers 6 _ (by decide +kernel) fun t hf y => ?_
  have hN : cfg0.N = 192 := N_0
  have ht := t.isLt
  have hm := (flush0_6 t).mp hf
  blk_simp
  rw [after0_6]
  refine (Pipeline.eq_sum_fin_of_reset_step_apply_of_flush (M := EReal) (fun n h => (outsAt0 V c n h).2.2) 8 (fun _ => 0)
    (fun t => squares (iblk0 V c 2 t) (iblk0 V c 0 t) (iblk0 V c 1 t)) (fun t h i => ?_) (fun t h i => ?_) t hm _).trans ?_
  · rw [outsAt0_A V c t h]
    frame_out
    refine (pay4_apply _ _ _ _ _).trans ?_
    rw [pay1_apply]
  · rw [outsAt0_B V c t h]
    frame_out
    exact pay4_apply _ _ _ _ _
  · refine sum_eq_specS _ _ _ _ _ _ (fun s => rfl) (fun s j => blockX V c _ _ _ ?_ ?_)
    · blk_simp [idx6]
      have hs := s.isLt
      show t.val / 8 * 1024 + (y 0).val = (8 * (t.val / 8) + s.val) / 8 * 1024 + (y 0).val
      omega
    · have hs := s.isLt
      show s.val * 512 + j.val = (8 * (t.val / 8) + s.val) % 8 * 512 + j.val
      omega

end Cert.Proof.TailOut

end
-- ==== Proof.TailUp.lean ====
/-
  The first feed-forward product as one launch among others, with the last layer's weights: what it leaves in its result
  array from nonnegative sums of squares.
-/
module

public import proofs.«01_k».proof.Proof.Gen.TailIdeal.Frame
public import Idealize.ShloMosaic.Lib.Pipeline.ValueKit
public import Idealize.ShloMosaic.Lib.Pointwise
public import proofs.«01_k».proof.Proof.Scalars

@[expose] public section

noncomputable section

namespace Cert.Proof.TailUp

open Idealize.ShloMosaic Idealize.ShloMosaic.TcCoe Idealize.SL.Sem
open Cert.TailIdeal Cert.TailIdeal.Gen

/-- The scale of a row from its sum of squares, as the kernel writes it. -/
abbrev scale (s : EReal) : EReal :=
  Ideal.rsqrt (s * Ideal.ofBits .f32 0x39800000#32 + Ideal.ofBits .f32 0x358637BD#32)

/-- The squared `relu` of an extended real. -/
abbrev relu2 (x : EReal) : EReal := max x 0 * max x 0

/-- One block of the kernel, entry by entry: the product, scaled by the row's reciprocal root, clipped and squared. -/
theorem block_apply (x : Vec Ideal S1024x4096 .bf16) (w : Vec Ideal S1x4096x1024 .bf16) (s : Vec Ideal S1024x1 .f32)
    (y : S1024x1024.Idx) :
    k1_pay1 (F := Ideal) x w s y
      = relu2 ((∑ k : Fin 4096, x (ix2 (y 0) k) * w (ix3 0 k (y 1))) * scale (s (ix2 (y 0) 0))) := by
  pointwise [k1_pay1]

/-- The layer's formula: the rows scaled first, then the product. -/
def spec (h : S24576x4096.Idx → EReal) (w : S4x4096x16384.Idx → EReal) (s : S24576x128.Idx → EReal) :
    S24576x16384.Idx → EReal :=
  fun i => relu2 (∑ k : Fin 4096, h (ix2 (i 0) k) * scale (s (ix2 (i 0) 0)) * w (ix3 3 k (i 1)))

/-- Scaling after the product is scaling before it. -/
theorem scale_sum {f g : Fin 4096 → EReal} {s : EReal} (hs : 0 ≤ s) :
    (∑ k, f k * g k) * scale s = ∑ k, f k * scale s * g k := by
  rw [Scalars.sum_mul_of_nonneg _ _ (Scalars.rsqrt_eps hs).1 (Scalars.rsqrt_eps hs).2]
  exact Finset.sum_congr rfl fun k _ => by rw [mul_right_comm]

variable (V : (c : Dev nD) → (b : Ref sig .tc) → Buf (Elt Ideal) ((c : Thread nD τ).loc b))

theorem idx0 : ∀ t : Fin cfg1.N, win1_0.index t = ![(grid1.coords t 0).val, 0] := by decide +kernel
theorem idx1 : ∀ t : Fin cfg1.N, win1_1.index t = ![3, 0, (grid1.coords t 1).val] := by decide +kernel
theorem idx2 : ∀ t : Fin cfg1.N, win1_2.index t = ![(grid1.coords t 0).val, 0] := by decide +kernel
theorem idx3 : ∀ t : Fin cfg1.N, win1_3.index t = ![(grid1.coords t 0).val, (grid1.coords t 1).val] := by decide +kernel

/-- A block's entry is `spec` at an index once its factors are. -/
theorem entry_eq_spec (h : S24576x4096.Idx → EReal) (w : S4x4096x16384.Idx → EReal) (s : S24576x128.Idx → EReal)
    (i : S24576x16384.Idx) (f g : Fin 4096 → EReal) (r : EReal) (hs : 0 ≤ s (ix2 (i 0) 0))
    (hf : ∀ k, f k = h (ix2 (i 0) k)) (hg : ∀ k, g k = w (ix3 3 k (i 1))) (hr : r = s (ix2 (i 0) 0)) :
    relu2 ((∑ k, f k * g k) * scale r) = spec h w s i := by
  subst hr
  rw [scale_sum hs, funext hf, funext hg]
  rfl

/-- The array the launch leaves, where every sum of squares is nonnegative. -/
theorem final (c : Dev nD) (hs : ∀ i, (0 : EReal) ≤ V c main_v1_2 i) :
    (dat1 V c).arrAt 3 cfg1.N
      = spec (V c main_v1_1) (V c main_arg4) (V c main_v1_2) := by
  refine (dat1 V c).arrAt_eq_of_covers 3 _ (by decide +kernel) fun t hf y => ?_
  blk_simp
  rw [after1_3]
  frame_out
  refine (block_apply _ _ _ _).trans (entry_eq_spec _ _ _ _ _ _ _ (hs _) (fun k => ?_) (fun k => ?_) ?_)
  · blk_simp [iblk1]
    show V _ _ _ = V _ _ _
    congr 1
    blk_ext [idx0, idx3]
  · blk_simp [iblk1]
    show V _ _ _ = V _ _ _
    congr 1
    blk_ext [idx1, idx3]
  · blk_simp [iblk1]
    show V _ _ _ = V _ _ _
    congr 1
    blk_ext [idx2, idx3]
    · congr 1
      show 0 + 1 * (y 0).val = (y 0).val
      omega
    · rfl

end Cert.Proof.TailUp

end
-- ==== Proof.TailDown.lean ====
/-
  The second feed-forward product as one launch among others, with the last layer's weights: what it leaves in its result
  array.
-/
module

public import proofs.«01_k».proof.Proof.Gen.TailIdeal.Frame
public import Idealize.ShloMosaic.Lib.Pipeline.ValueKit
public import Idealize.ShloMosaic.Lib.Pointwise

@[expose] public section

noncomputable section

namespace Cert.Proof.TailDown

open Idealize.ShloMosaic Idealize.ShloMosaic.TcCoe Idealize.SL.Sem
open Cert.TailIdeal Cert.TailIdeal.Gen

/-- What one grid point adds to its block, entry by entry. -/
theorem block_apply (a : Vec Ideal S2048x1024 .f32) (u : Vec Ideal S2048x1024 .bf16) (w : Vec Ideal S1x1024x1024 .bf16)
    (y : S2048x1024.Idx) :
    k2_pay1 (F := Ideal) a u w y = a y + ∑ k : Fin 1024, u (ix2 (y 0) k) * w (ix3 0 k (y 1)) := by
  pointwise [k2_pay1]

/-- One product of a block's row with a block's column. -/
def term (u : Vec Ideal S2048x1024 .bf16) (w : Vec Ideal S1x1024x1024 .bf16) (y : S2048x1024.Idx) (k : Fin 1024) : EReal :=
  u (ix2 (y 0) k) * w (ix3 0 k (y 1))

/-- The residual plus the product, as one function of the three arguments. -/
def spec (u : S24576x16384.Idx → EReal) (w : S4x16384x4096.Idx → EReal) (x : S24576x4096.Idx → EReal) :
    S24576x4096.Idx → EReal :=
  fun i => x i + ∑ k : Fin 16384, u (ix2 (i 0) k) * w (ix3 3 k (i 1))

/-- The sum cut in sixteen tiles is `spec` at an index once its terms are. -/
theorem tiles_eq_spec (u : S24576x16384.Idx → EReal) (w : S4x16384x4096.Idx → EReal) (x : S24576x4096.Idx → EReal)
    (i : S24576x4096.Idx) (a : EReal) (f : ℕ → EReal) (g : Fin 16 → Fin 1024 → EReal) (ha : a = x i)
    (hf : ∀ s : Fin 16, f s.val = ∑ k : Fin 1024, g s k)
    (hg : ∀ (s : Fin 16) (k : Fin 1024), g s k = u (ix2 (i 0) ⟨s.val * 1024 + k.val, by omega⟩)
      * w (ix3 3 ⟨s.val * 1024 + k.val, by omega⟩ (i 1))) :
    a + ∑ s ∈ Finset.range 16, f s = spec u w x i := by
  unfold spec
  rw [ha, Fin.sum_univ_tiles 16 1024 (by norm_num), Finset.sum_range]
  congr 1
  refine Finset.sum_congr rfl fun s _ => (hf s).trans (Finset.sum_congr rfl fun k _ => hg s k)

variable (V : (c : Dev nD) → (b : Ref sig .tc) → Buf (Elt Ideal) ((c : Thread nD τ).loc b))

theorem idx0 : ∀ t : Fin cfg2.N, win2_0.index t = ![t.val / 64, t.val % 16] :=
  (by decide +kernel : ∀ t : Fin grid2.N, _)
theorem idx1 : ∀ t : Fin cfg2.N, win2_1.index t = ![3, t.val % 16, t.val / 16 % 4] :=
  (by decide +kernel : ∀ t : Fin grid2.N, _)
theorem idx2 : ∀ t : Fin cfg2.N, win2_2.index t = ![t.val / 64, t.val / 16 % 4] :=
  (by decide +kernel : ∀ t : Fin grid2.N, _)
theorem idx3 : ∀ t : Fin cfg2.N, win2_3.index t = ![t.val / 64, t.val / 16 % 4] :=
  (by decide +kernel : ∀ t : Fin grid2.N, _)

/-- What point `n` adds to its block. -/
def addend (c : Dev nD) (n : ℕ) (y : S2048x1024.Idx) : EReal :=
  if h : n < cfg2.N then
    ∑ k : Fin 1024, term (iblk2 V c 0 ⟨n, h⟩) (iblk2 V c 1 ⟨n, h⟩) y k
  else 0

/-- A run's first point starts from the residual's block; each later point adds its products to what is there. -/
def reset (c : Dev nD) (n : ℕ) (h : n < cfg2.N) : Vec Ideal S2048x1024 .f32 :=
  k2_pay1 (F := Ideal) (iblk2 V c 2 ⟨n, h⟩) (iblk2 V c 0 ⟨n, h⟩) (iblk2 V c 1 ⟨n, h⟩)

def step (c : Dev nD) (n : ℕ) (h : n < cfg2.N) (acc : Vec Ideal S2048x1024 .f32) : Vec Ideal S2048x1024 .f32 :=
  k2_pay1 (F := Ideal) acc (iblk2 V c 0 ⟨n, h⟩) (iblk2 V c 1 ⟨n, h⟩)

theorem reset_eq (c : Dev nD) (t : Fin cfg2.N) (h0 : t.val % 16 = 0) :
    outsAt2 V c t.val t.isLt = reset V c t.val t.isLt := by
  funext y
  rw [outsAt2_A V c t h0]
  unfold reset
  frame_out

theorem step_eq (c : Dev nD) (t : Fin cfg2.N) (h0 : ¬t.val % 16 = 0) :
    outsAt2 V c t.val t.isLt
      = step V c t.val t.isLt (outsAt2 V c (t.val - 1) (Nat.lt_of_le_of_lt (Nat.sub_le _ _) t.isLt)) := by
  funext y
  rw [outsAt2_B V c t h0]
  unfold step
  frame_out

/-- The array the launch leaves. -/
theorem final (c : Dev nD) :
    (dat2 V c).arrAt 3 cfg2.N
      = spec (V c main_v2) (V c main_arg5)
          (V c main_v1_0) := by
  refine (dat2 V c).arrAt_eq_of_covers 3 _ (by decide +kernel) fun t hf y => ?_
  have hm := (flush2_3 t).mp hf
  have hN : cfg2.N = 768 := N_2
  have ht := t.isLt
  blk_simp
  rw [after2_3]
  have hb : 16 * (t.val / 16) < cfg2.N := by omega
  have hacc : outsAt2 V c t.val t.isLt
      = Pipeline.accAt (reset V c) (step V c) (16 * (t.val / 16)) (t.val % 16) (by omega) :=
    Pipeline.eq_accAt_of_mod (fun n h => outsAt2 V c n h) 16 (reset V c) (step V c)
      (fun n h hn => reset_eq V c ⟨n, h⟩ (by try dsimp only
                                             omega))
      (fun n h hn => step_eq V c ⟨n + 1, h⟩ (by try dsimp only
                                                omega))
      (by decide) t.val t.isLt _
  rw [hacc]
  refine (Pipeline.accAt_add_apply (β := EReal) (reset V c) (step V c) (iblk2 V c 2 ⟨16 * (t.val / 16), hb⟩)
    (addend V c) (16 * (t.val / 16)) 15 (fun h i => ?_) (fun n h acc i _ _ => ?_) (t.val % 16) (by omega) _ y).trans ?_
  · unfold reset addend
    rw [dif_pos h]
    exact block_apply _ _ _ _
  · unfold step addend
    rw [dif_pos h]
    exact block_apply _ _ _ _
  · rw [hm]
    refine tiles_eq_spec _ _ _ _ _ _ (fun s k => term (iblk2 V c 0 ⟨16 * (t.val / 16) + s.val, by omega⟩)
      (iblk2 V c 1 ⟨16 * (t.val / 16) + s.val, by omega⟩) y k) ?_ (fun s => ?_) (fun s k => ?_)
    · blk_simp [iblk2]
      show V _ _ _ = V _ _ _
      congr 1
      blk_ext [idx2, idx3]
    · unfold addend
      rw [dif_pos (by omega)]
    · unfold term
      blk_simp [iblk2]
      congr 1
      · show V _ _ _ = V _ _ _
        congr 1
        blk_ext [idx0, idx3]
      · show V _ _ _ = V _ _ _
        congr 1
        blk_ext [idx1, idx3]

end Cert.Proof.TailDown

end
-- ==== Proof.TailPrompt.lean ====
/-
  The final norm of the prompt rows as one launch among others: what it leaves in its result array.
-/
module

public import proofs.«01_k».proof.Proof.Gen.TailIdeal.Frame
public import Idealize.ShloMosaic.Lib.Pipeline.ValueKit
public import Idealize.ShloMosaic.Lib.Pointwise

@[expose] public section

noncomputable section

namespace Cert.Proof.TailPrompt

open Idealize.ShloMosaic Idealize.ShloMosaic.TcCoe Idealize.SL.Sem
open Cert.TailIdeal Cert.TailIdeal.Gen

/-- The scale of a row. -/
abbrev rowScale (x : Fin 4096 → EReal) : EReal :=
  Ideal.rsqrt (Ideal.div (∑ k : Fin 4096, x k * x k) (Ideal.ofBits .f32 0x45800000#32) + Ideal.ofBits .f32 0x358637BD#32)

/-- One block of the kernel, entry by entry. -/
theorem block_apply (x : Vec Ideal S512x4096 .f32) (g : Vec Ideal S1x4096 .f32) (y : S512x4096.Idx) :
    k3_pay1 (F := Ideal) x g y = x y * rowScale (fun k => x (ix2 (y 0) k)) * g (ix2 0 (y 1)) := by
  pointwise [k3_pay1]

/-- The norm of row `i + 0` under its gain. -/
def spec (x : S24576x4096.Idx → EReal) (g : S1x4096.Idx → EReal) : S16384x4096.Idx → EReal :=
  fun i => x (ix2 ⟨0 + (i 0).val, by have : (i 0).val < 16384 := (i 0).isLt; omega⟩ (i 1))
    * rowScale (fun k => x (ix2 ⟨0 + (i 0).val, by have : (i 0).val < 16384 := (i 0).isLt; omega⟩ k)) * g (ix2 0 (i 1))

variable (V : (c : Dev nD) → (b : Ref sig .tc) → Buf (Elt Ideal) ((c : Thread nD τ).loc b))

theorem idx0 : ∀ t : Fin cfg3.N, win3_0.index t = ![0 + (grid3.coords t 0).val, 0] := by decide +kernel
theorem idx1 : ∀ t : Fin cfg3.N, win3_1.index t = ![0, 0] := by decide +kernel
theorem idx2 : ∀ t : Fin cfg3.N, win3_2.index t = ![(grid3.coords t 0).val, 0] := by decide +kernel

/-- An entry is `spec` at an index once its parts are. -/
theorem entry_eq_spec (x : S24576x4096.Idx → EReal) (g : S1x4096.Idx → EReal) (i : S16384x4096.Idx) (f : Fin 4096 → EReal)
    (a b : EReal) (ha : a = x (ix2 ⟨0 + (i 0).val, by have : (i 0).val < 16384 := (i 0).isLt; omega⟩ (i 1)))
    (hf : ∀ k, f k = x (ix2 ⟨0 + (i 0).val, by have : (i 0).val < 16384 := (i 0).isLt; omega⟩ k)) (hb : b = g (ix2 0 (i 1))) :
    a * rowScale f * b = spec x g i := by
  rw [funext hf, ha, hb]
  rfl

/-- The array the launch leaves. -/
theorem final (c : Dev nD) :
    (dat3 V c).arrAt 2 cfg3.N
      = spec (V c main_v3) (V c main_v4) := by
  refine (dat3 V c).arrAt_eq_of_covers 2 _ (by decide +kernel) fun t hf y => ?_
  blk_simp
  rw [after3_2]
  frame_out
  refine (block_apply _ _ _).trans (entry_eq_spec _ _ _ _ _ _ ?_ (fun k => ?_) ?_)
  · blk_simp [iblk3]
    show V _ _ _ = V _ _ _
    congr 1
    blk_ext [idx0, idx2]
  · blk_simp [iblk3]
    show V _ _ _ = V _ _ _
    congr 1
    blk_ext [idx0, idx2]
  · blk_simp [iblk3]
    show V _ _ _ = V _ _ _
    congr 1
    blk_ext [idx1, idx2]

end Cert.Proof.TailPrompt

end
-- ==== Proof.TailSample.lean ====
/-
  The final norm of the sample rows as one launch among others: what it leaves in its result array.
-/
module

public import proofs.«01_k».proof.Proof.Gen.TailIdeal.Frame
public import Idealize.ShloMosaic.Lib.Pipeline.ValueKit
public import Idealize.ShloMosaic.Lib.Pointwise

@[expose] public section

noncomputable section

namespace Cert.Proof.TailSample

open Idealize.ShloMosaic Idealize.ShloMosaic.TcCoe Idealize.SL.Sem
open Cert.TailIdeal Cert.TailIdeal.Gen

/-- The scale of a row. -/
abbrev rowScale (x : Fin 4096 → EReal) : EReal :=
  Ideal.rsqrt (Ideal.div (∑ k : Fin 4096, x k * x k) (Ideal.ofBits .f32 0x45800000#32) + Ideal.ofBits .f32 0x358637BD#32)

/-- One block of the kernel, entry by entry. -/
theorem block_apply (x : Vec Ideal S512x4096 .f32) (g : Vec Ideal S1x4096 .f32) (y : S512x4096.Idx) :
    k4_pay1 (F := Ideal) x g y = x y * rowScale (fun k => x (ix2 (y 0) k)) * g (ix2 0 (y 1)) := by
  pointwise [k4_pay1]

/-- The norm of row `16384 + i` under its gain. -/
def spec (x : S24576x4096.Idx → EReal) (g : S1x4096.Idx → EReal) : S8192x4096.Idx → EReal :=
  fun i => x (ix2 ⟨16384 + (i 0).val, by have : (i 0).val < 8192 := (i 0).isLt; omega⟩ (i 1))
    * rowScale (fun k => x (ix2 ⟨16384 + (i 0).val, by have : (i 0).val < 8192 := (i 0).isLt; omega⟩ k)) * g (ix2 0 (i 1))

variable (V : (c : Dev nD) → (b : Ref sig .tc) → Buf (Elt Ideal) ((c : Thread nD τ).loc b))

theorem idx0 : ∀ t : Fin cfg4.N, win4_0.index t = ![32 + (grid4.coords t 0).val, 0] := by decide +kernel
theorem idx1 : ∀ t : Fin cfg4.N, win4_1.index t = ![0, 0] := by decide +kernel
theorem idx2 : ∀ t : Fin cfg4.N, win4_2.index t = ![(grid4.coords t 0).val, 0] := by decide +kernel

/-- An entry is `spec` at an index once its parts are. -/
theorem entry_eq_spec (x : S24576x4096.Idx → EReal) (g : S1x4096.Idx → EReal) (i : S8192x4096.Idx) (f : Fin 4096 → EReal)
    (a b : EReal) (ha : a = x (ix2 ⟨16384 + (i 0).val, by have : (i 0).val < 8192 := (i 0).isLt; omega⟩ (i 1)))
    (hf : ∀ k, f k = x (ix2 ⟨16384 + (i 0).val, by have : (i 0).val < 8192 := (i 0).isLt; omega⟩ k)) (hb : b = g (ix2 0 (i 1))) :
    a * rowScale f * b = spec x g i := by
  rw [funext hf, ha, hb]
  rfl

/-- The array the launch leaves. -/
theorem final (c : Dev nD) :
    (dat4 V c).arrAt 2 cfg4.N
      = spec (V c main_v3) (V c main_v6) := by
  refine (dat4 V c).arrAt_eq_of_covers 2 _ (by decide +kernel) fun t hf y => ?_
  blk_simp
  rw [after4_2]
  frame_out
  refine (block_apply _ _ _).trans (entry_eq_spec _ _ _ _ _ _ ?_ (fun k => ?_) ?_)
  · blk_simp [iblk4]
    show V _ _ _ = V _ _ _
    congr 1
    blk_ext [idx0, idx2]
  · blk_simp [iblk4]
    show V _ _ _ = V _ _ _
    congr 1
    blk_ext [idx0, idx2]
  · blk_simp [iblk4]
    show V _ _ _ = V _ _ _
    congr 1
    blk_ext [idx1, idx2]

end Cert.Proof.TailSample

end
-- ==== Proof.TailRun.lean ====
/-
  The tail's five launches in order: the contents of each launch's arrays when it begins, so that the two results are
  the last two launches' results, whatever came before written out.
-/
module

public import proofs.«01_k».proof.Proof.TailOut
public import proofs.«01_k».proof.Proof.TailUp
public import proofs.«01_k».proof.Proof.TailDown
public import proofs.«01_k».proof.Proof.TailPrompt
public import proofs.«01_k».proof.Proof.TailSample

@[expose] public section

noncomputable section

namespace Cert.Proof.TailRun

open Idealize.ShloMosaic Idealize.ShloMosaic.TcCoe Idealize.SL.Sem
open Cert.TailIdeal Cert.TailIdeal.Gen

variable (m : (ℓ : Loc nD τ sig) → Buf (Elt Ideal) ℓ) (ρ : Dev nD → PrngReg)

/-- The arguments, as arrays of extended reals. -/
abbrev argO (c : Dev nD) : S24576x4096.Idx → EReal := m ((c : Thread nD τ).loc main_arg0)
abbrev argWo (c : Dev nD) : S2x4096x4096.Idx → EReal := m ((c : Thread nD τ).loc main_arg1)
abbrev argX (c : Dev nD) : S24576x4096.Idx → EReal := m ((c : Thread nD τ).loc main_arg2)
abbrev argG (c : Dev nD) : S4096.Idx → EReal := m ((c : Thread nD τ).loc main_arg3)
abbrev argWu (c : Dev nD) : S4x4096x16384.Idx → EReal := m ((c : Thread nD τ).loc main_arg4)
abbrev argWd (c : Dev nD) : S4x16384x4096.Idx → EReal := m ((c : Thread nD τ).loc main_arg5)
abbrev argGf (c : Dev nD) : S4096.Idx → EReal := m ((c : Thread nD τ).loc main_arg6)

/-- A gain laid out as a one-row matrix. -/
abbrev asRow (g : Vec Ideal S4096 .f32) : Vec Ideal S1x4096 .f32 := shapeCast S1x4096 g shapeCasts_S4096_S1x4096

theorem asRow_apply (g : Vec Ideal S4096 .f32) (j : Fin 4096) : asRow g (ix2 0 j) = g (ix1 j) := by
  pointwise

/-! ### The gains as the launches find them -/

theorem gain1 (c : Dev nD) : V1 m ρ c main_v0 = asRow (argG m c) := by
  show StableHlo.after hostOps0 (W0 m ρ c) (Proc.devRef .tc main_v0) = _
  after_results
  rfl

theorem gain3 (c : Dev nD) : V6 m ρ c main_v4 = asRow (argGf m c) := by
  rw [show argGf m c = W5 m ρ c (Proc.devRef .tc main_arg6) from (W5_args m ρ c main_arg6 (by decide)).symm]
  show StableHlo.after hostOps3 (W5 m ρ c) (Proc.devRef .tc main_v4) = _
  after_results
  rfl

theorem gain4 (c : Dev nD) : V8 m ρ c main_v6 = asRow (argGf m c) := by
  rw [show argGf m c = W7 m ρ c (Proc.devRef .tc main_arg6) from (W7_args m ρ c main_arg6 (by decide)).symm]
  show StableHlo.after hostOps4 (W7 m ρ c) (Proc.devRef .tc main_v6) = _
  after_results
  rfl

/-! ### What each launch leaves -/

abbrev resX (c : Dev nD) : S24576x4096.Idx → EReal := TailOut.specX (argO m c) (argWo m c) (argX m c)
abbrev resH (c : Dev nD) : S24576x4096.Idx → EReal :=
  TailOut.specH (argO m c) (argWo m c) (argX m c) (asRow (argG m c))
abbrev resS (c : Dev nD) : S24576x128.Idx → EReal := TailOut.specS (argO m c) (argWo m c) (argX m c)
abbrev resU (c : Dev nD) : S24576x16384.Idx → EReal := TailUp.spec (resH m c) (argWu m c) (resS m c)
abbrev resY (c : Dev nD) : S24576x4096.Idx → EReal := TailDown.spec (resU m c) (argWd m c) (resX m c)

theorem entry1 (c : Dev nD) : TailOut.argO (V1 m ρ) c = argO m c ∧ TailOut.argW (V1 m ρ) c = argWo m c
    ∧ TailOut.argX (V1 m ρ) c = argX m c :=
  ⟨W1_args m ρ c main_arg0 (by decide), W1_args m ρ c main_arg1 (by decide), W1_args m ρ c main_arg2 (by decide)⟩

theorem leftX (c : Dev nD) : V2 m ρ c main_v1_0 = resX m c := by
  refine (W2_arr m ρ c 4).trans ((TailOut.finalX (V1 m ρ) c).trans ?_)
  rw [(entry1 m ρ c).1, (entry1 m ρ c).2.1, (entry1 m ρ c).2.2]

theorem leftH (c : Dev nD) : V2 m ρ c main_v1_1 = resH m c := by
  refine (W2_arr m ρ c 5).trans ((TailOut.finalH (V1 m ρ) c).trans ?_)
  rw [(entry1 m ρ c).1, (entry1 m ρ c).2.1, (entry1 m ρ c).2.2]
  exact congrArg _ (gain1 m ρ c)

theorem leftS (c : Dev nD) : V2 m ρ c main_v1_2 = resS m c := by
  refine (W2_arr m ρ c 6).trans ((TailOut.finalS (V1 m ρ) c).trans ?_)
  rw [(entry1 m ρ c).1, (entry1 m ρ c).2.1, (entry1 m ρ c).2.2]

/-- A square is nonnegative. -/
theorem square_nonneg (a : EReal) : 0 ≤ a * a := by
  rcases le_total 0 a with h | h
  · exact mul_nonneg h h
  · have : 0 ≤ -a * -a := mul_nonneg (EReal.neg_nonneg.2 h) (EReal.neg_nonneg.2 h)
    rwa [neg_mul_neg] at this

theorem resS_nonneg (c : Dev nD) (i : S24576x128.Idx) : 0 ≤ resS m c i :=
  Finset.sum_nonneg fun _ _ => square_nonneg _

theorem leftU (c : Dev nD) : V3 m ρ c main_v2 = resU m c := by
  have hS := leftS m ρ c
  refine (W3_arr m ρ c 3).trans ((TailUp.final (V2 m ρ) c fun i => ?_).trans ?_)
  · rw [hS]
    exact resS_nonneg m c i
  · rw [hS, leftH m ρ c, show V2 m ρ c main_arg4 = argWu m c from W2_args m ρ c main_arg4 (by decide)]

theorem leftY (c : Dev nD) : V5 m ρ c main_v3 = resY m c := by
  refine (W5_arr m ρ c 3).trans ((TailDown.final (V4 m ρ) c).trans ?_)
  rw [show V4 m ρ c main_v2 = resU m c from (W4_of m ρ c main_v2 (by decide)).trans (leftU m ρ c),
    show V4 m ρ c main_arg5 = argWd m c from W4_args m ρ c main_arg5 (by decide),
    show V4 m ρ c main_v1_0 = resX m c from
      (W4_of m ρ c main_v1_0 (by decide)).trans ((W3_of m ρ c main_v1_0 (by decide)).trans (leftX m ρ c))]

theorem leftPrompt (c : Dev nD) : W9 m ρ c (Proc.devRef .tc main_v5) = TailPrompt.spec (resY m c) (asRow (argGf m c)) := by
  refine (W9_of m ρ c main_v5 (by decide)).trans ((W8_of m ρ c main_v5 (by decide)).trans
    ((W7_arr m ρ c 2).trans ((TailPrompt.final (V6 m ρ) c).trans ?_)))
  rw [gain3, show V6 m ρ c main_v3 = resY m c from (W6_of m ρ c main_v3 (by decide)).trans (leftY m ρ c)]

theorem leftSample (c : Dev nD) : W9 m ρ c (Proc.devRef .tc main_v7) = TailSample.spec (resY m c) (asRow (argGf m c)) := by
  refine (W9_arr m ρ c 2).trans ((TailSample.final (V8 m ρ) c).trans ?_)
  rw [gain4, show V8 m ρ c main_v3 = resY m c from (W8_of m ρ c main_v3 (by decide)).trans
    ((W7_of m ρ c main_v3 (by decide)).trans ((W6_of m ρ c main_v3 (by decide)).trans (leftY m ρ c)))]

end Cert.Proof.TailRun

end
-- ==== Proof.TailRef.lean ====
/-
  The last layer's tail as a formula — residual, norm, the two feed-forward products, residual, final norm — and the
  reference's two results as that formula.
-/
module

public import proofs.«01_k».proof.Defs
public import proofs.«01_k».proof.Proof.Gen.TailRefIdeal.Read
public import Idealize.ShloMosaic.Lib.Pointwise

@[expose] public section

noncomputable section

namespace Cert.Proof.TailRef

open Idealize.ShloMosaic Idealize.ShloMosaic.TcCoe Idealize.SL.Sem
open Cert.TailRefIdeal Cert.TailRefIdeal.Gen Cert.TailRefIdeal.Read

/-- The reciprocal root of a row's mean square plus epsilon. -/
abbrev rowScale (x : Fin 4096 → EReal) : EReal :=
  Ideal.rsqrt (Ideal.div (∑ k : Fin 4096, x k * x k) (Ideal.ofBits .f32 0x45800000#32) + Ideal.ofBits .f32 0x358637BD#32)

/-- The norm of every row under a gain. -/
def normed (x : S24576x4096.Idx → EReal) (g : S4096.Idx → EReal) : S24576x4096.Idx → EReal :=
  fun i => x i * rowScale (fun k => x (ix2 (i 0) k)) * g (ix1 (i 1))

/-- The stream after the attention's output projection. -/
def stream (o : S24576x4096.Idx → EReal) (w : S2x4096x4096.Idx → EReal) (x : S24576x4096.Idx → EReal) :
    S24576x4096.Idx → EReal :=
  fun i => x i + ∑ k : Fin 4096, o (ix2 (i 0) k) * w (ix3 1 k (i 1))

/-- The hidden layer: the squared `relu` of a product. -/
def hidden (h : S24576x4096.Idx → EReal) (w : S4x4096x16384.Idx → EReal) : S24576x16384.Idx → EReal :=
  fun i => max (∑ k : Fin 4096, h (ix2 (i 0) k) * w (ix3 3 k (i 1))) 0
    * max (∑ k : Fin 4096, h (ix2 (i 0) k) * w (ix3 3 k (i 1))) 0

/-- The stream after the feed-forward layer. -/
def after (u : S24576x16384.Idx → EReal) (w : S4x16384x4096.Idx → EReal) (x : S24576x4096.Idx → EReal) :
    S24576x4096.Idx → EReal :=
  fun i => x i + ∑ k : Fin 16384, u (ix2 (i 0) k) * w (ix3 3 k (i 1))

/-- The stream the tail ends with, of the seven arguments but the last gain. -/
def ended (o : S24576x4096.Idx → EReal) (wo : S2x4096x4096.Idx → EReal) (x : S24576x4096.Idx → EReal)
    (g : S4096.Idx → EReal) (wu : S4x4096x16384.Idx → EReal) (wd : S4x16384x4096.Idx → EReal) : S24576x4096.Idx → EReal :=
  after (hidden (normed (stream o wo x) g) wu) wd (stream o wo x)

/-- The prompt rows' result. -/
def prompt (y : S24576x4096.Idx → EReal) (g : S4096.Idx → EReal) : S16384x4096.Idx → EReal :=
  fun i => normed y g (ix2 ⟨(i 0).val, by have : (i 0).val < 16384 := (i 0).isLt; omega⟩ (i 1))

/-- The sample rows' result. -/
def sample (y : S24576x4096.Idx → EReal) (g : S4096.Idx → EReal) : S8192x4096.Idx → EReal :=
  fun i => normed y g (ix2 ⟨16384 + (i 0).val, by have : (i 0).val < 8192 := (i 0).isLt; omega⟩ (i 1))

variable (o : S24576x4096.Idx → EReal) (wo : S2x4096x4096.Idx → EReal) (x : S24576x4096.Idx → EReal)
  (g : S4096.Idx → EReal) (wu : S4x4096x16384.Idx → EReal) (wd : S4x16384x4096.Idx → EReal) (gf : S4096.Idx → EReal)

theorem stream_eq : val_main_v5 (F := Ideal) o wo x = stream o wo x := by
  funext i
  pointwise [stream, val_main_v5, val_main_v4, val_main_v3, val_main_v2, val_main_v1, val_main_v0]

theorem normed_eq : val_main_v18 (F := Ideal) o wo x g = normed (stream o wo x) g := by
  rw [← stream_eq]
  funext i
  pointwise [normed, val_main_v18, val_main_v17, val_main_v16, val_main_v15, val_main_v14, val_main_v13, val_main_v12,
    val_main_v11, val_main_v10, val_main_v9, val_main_v8, val_main_v7, val_main_v6, val_main_cst, val_main_cst_0,
    val_main_cst_1]

theorem hidden_eq : val_main_v24 (F := Ideal) o wo x g wu = hidden (normed (stream o wo x) g) wu := by
  rw [← normed_eq]
  funext i
  pointwise [hidden, val_main_v24, val_main_v23, val_main_v22, val_main_v21, val_main_v20, val_main_v19,
    val_main_call0_cst, val_main_call0_v0]

theorem ended_eq : val_main_v29 (F := Ideal) o wo x g wu wd = ended o wo x g wu wd := by
  unfold ended
  rw [← hidden_eq, ← stream_eq]
  funext i
  pointwise [after, val_main_v29, val_main_v28, val_main_v27, val_main_v26, val_main_v25]

theorem last_eq : val_main_v42 (F := Ideal) o wo x g wu wd gf = normed (ended o wo x g wu wd) gf := by
  rw [← ended_eq]
  funext i
  pointwise [normed, val_main_v42, val_main_v41, val_main_v40, val_main_v39, val_main_v38, val_main_v37, val_main_v36,
    val_main_v35, val_main_v34, val_main_v33, val_main_v32, val_main_v31, val_main_v30, val_main_cst_2, val_main_cst_3,
    val_main_cst_4]

theorem prompt_eq : val_main_v43 (F := Ideal) o wo x g wu wd gf = prompt (ended o wo x g wu wd) gf := by
  funext i
  unfold prompt
  rw [← last_eq, val_main_v43_apply]
  congr 1
  funext a
  apply Fin.ext
  match a with
  | ⟨0, _⟩ => rfl
  | ⟨1, _⟩ => rfl

theorem sample_eq : val_main_v44 (F := Ideal) o wo x g wu wd gf = sample (ended o wo x g wu wd) gf := by
  funext i
  unfold sample
  rw [← last_eq, val_main_v44_apply]
  congr 1
  funext a
  apply Fin.ext
  match a with
  | ⟨0, _⟩ => rfl
  | ⟨1, _⟩ => rfl

end Cert.Proof.TailRef

end
-- ==== Proof.TailEnd.lean ====
/-
  A run of the tail's program, read at its end: every array holds the last contents of the chain of launches.
-/
module

public import proofs.«01_k».proof.Proof.Gen.TailIdeal.Frame

@[expose] public section

noncomputable section

namespace Cert.Proof.TailEnd

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.TailIdeal Cert.TailIdeal.Gen

variable {F : FTy → Type} [FloatOps F] (m : (ℓ : Loc nD τ sig) → Buf (Elt F) ℓ) (ρ : Dev nD → PrngReg)

set_option backward.isDefEq.respectTransparency.types false in
/-- Every run ends with each array at the last contents of the chain. -/
theorem run : θ_run defs (onTc (τ := τ) (main (F := F))) ⟨m, fun _ => 0, ρ⟩ (fun r => (∀ c : Dev nD,
      ∀ b ∈ Pipeline.ucRefs τ sig, r.2.mem (((c : Thread nD τ)).1, b) = W9 m ρ c b)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ))
        ⊢ bigSep Finset.univ (fun _ : Dev nD => BI.emp) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl⟩)
    (hinit := by
      refine Pipeline.initEach L lv fun c => ?_
      rw [show unscopedBufs c (fun b => m ((c : Thread nD τ).loc b))
          = StableHlo.held (c : Thread nD τ) (Pipeline.ucRefs τ sig) (W0 m ρ c) from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h _ c => h c)

end Cert.Proof.TailEnd

end
-- ==== Proof.TailValue.lean ====
/-
  The tail of the last layer in one program: the output projection, both feed-forward products and the two final norms,
  run one after another, leave the plain formula's two results.
-/
module

public import proofs.«01_k».proof.Defs
public import proofs.«01_k».proof.Proof.TailRun
public import proofs.«01_k».proof.Proof.TailRef
public import proofs.«01_k».proof.Proof.TailEnd
public import proofs.«01_k».proof.Proof.Gen.TailRefIdeal.Run

@[expose] public section

noncomputable section

namespace Cert.Proof.TailValue

open Idealize.ShloMosaic Idealize.ShloMosaic.TcCoe Idealize.SL.Sem
open Cert.TailIdeal Cert.TailIdeal.Gen
open Cert.Proof.TailRun Cert.Proof.TailRef

/-! ### The launches' formulas and the plain one -/

/-- Gain first and the row's scale after it is the norm under the gain. -/
theorem term_eq (o : S24576x4096.Idx → EReal) (wo : S2x4096x4096.Idx → EReal) (x : S24576x4096.Idx → EReal)
    (g : S4096.Idx → EReal) (r : Fin 24576) (k : Fin 4096) :
    TailOut.specH o wo x (asRow g) (ix2 r k) * TailUp.scale (TailOut.specS o wo x (ix2 r 0))
      = normed (stream o wo x) g (ix2 r k) := by
  have h1 : TailOut.specH o wo x (asRow g) (ix2 r k) = stream o wo x (ix2 r k) * g (ix1 k) :=
    congrArg (stream o wo x (ix2 r k) * ·) (asRow_apply g k)
  have h2 : TailUp.scale (TailOut.specS o wo x (ix2 r 0)) = rowScale (fun j => stream o wo x (ix2 r j)) := by
    unfold TailUp.scale rowScale
    rw [Scalars.div_4096]
    rfl
  rw [h1, h2, mul_right_comm]
  rfl

theorem hidden_eq (o : S24576x4096.Idx → EReal) (wo : S2x4096x4096.Idx → EReal) (x : S24576x4096.Idx → EReal)
    (g : S4096.Idx → EReal) (wu : S4x4096x16384.Idx → EReal) :
    TailUp.spec (TailOut.specH o wo x (asRow g)) wu (TailOut.specS o wo x) = TailRef.hidden (normed (stream o wo x) g) wu := by
  funext i
  have h : ∀ k : Fin 4096, TailOut.specH o wo x (asRow g) (ix2 (i 0) k) * TailUp.scale (TailOut.specS o wo x (ix2 (i 0) 0))
      * wu (ix3 3 k (i 1)) = normed (stream o wo x) g (ix2 (i 0) k) * wu (ix3 3 k (i 1)) :=
    fun k => congrArg (· * wu (ix3 3 k (i 1))) (term_eq o wo x g (i 0) k)
  unfold TailUp.spec TailUp.relu2 TailRef.hidden
  rw [Finset.sum_congr rfl fun k _ => h k]

theorem prompt_spec (y : S24576x4096.Idx → EReal) (g : S4096.Idx → EReal) :
    TailPrompt.spec y (asRow g) = prompt y g := by
  funext i
  have e : ∀ h h', (⟨0 + (i 0).val, h⟩ : Fin 24576) = ⟨(i 0).val, h'⟩ := fun _ _ => Fin.ext (Nat.zero_add _)
  unfold TailPrompt.spec
  rw [asRow_apply g (i 1), e]
  rfl

theorem sample_spec (y : S24576x4096.Idx → EReal) (g : S4096.Idx → EReal) :
    TailSample.spec y (asRow g) = sample y g := by
  funext i
  unfold TailSample.spec
  rw [asRow_apply g (i 1)]
  rfl

variable (m : (ℓ : Loc nD τ sig) → Buf (Elt Ideal) ℓ) (ρ : Dev nD → PrngReg)

/-- The stream the launches end with is the plain formula's. -/
theorem resY_eq (c : Dev nD) :
    resY m c = ended (argO m c) (argWo m c) (argX m c) (argG m c) (argWu m c) (argWd m c) := by
  show TailDown.spec (TailUp.spec _ _ _) _ _ = _
  rw [hidden_eq]
  rfl

/-- The tail's algebraic claim. -/
theorem algebraic : Cert.algebraic_TailIdeal_TailRefIdeal := by
  intro m g m' g' _ hargs
  refine ⟨fun c => prompt (ended (argO m c) (argWo m c) (argX m c) (argG m c) (argWu m c) (argWd m c)) (argGf m c),
    fun c => sample (ended (argO m c) (argWo m c) (argX m c) (argG m c) (argWu m c) (argWd m c)) (argGf m c), ?_, ?_⟩
  · refine (θ_run defs _ _).mono (fun r h c => ⟨?_, ?_, ?_, ?_, ?_, ?_, ?_, ?_, ?_⟩) (TailEnd.run m g)
    · refine (h c _ (mem_uc main_v5 (by decide))).trans ((leftPrompt m g c).trans ?_)
      rw [prompt_spec, resY_eq]
    · refine (h c _ (mem_uc main_v7 (by decide))).trans ((leftSample m g c).trans ?_)
      rw [sample_spec, resY_eq]
    · exact (h c _ (mem_uc main_arg0 (by decide))).trans (W9_main_arg0 m g c)
    · exact (h c _ (mem_uc main_arg1 (by decide))).trans (W9_main_arg1 m g c)
    · exact (h c _ (mem_uc main_arg2 (by decide))).trans (W9_main_arg2 m g c)
    · exact (h c _ (mem_uc main_arg3 (by decide))).trans (W9_main_arg3 m g c)
    · exact (h c _ (mem_uc main_arg4 (by decide))).trans (W9_main_arg4 m g c)
    · exact (h c _ (mem_uc main_arg5 (by decide))).trans (W9_main_arg5 m g c)
    · exact (h c _ (mem_uc main_arg6 (by decide))).trans (W9_main_arg6 m g c)
  · refine (θ_run Cert.TailRefIdeal.defs _ _).mono (fun r h c => ⟨(h c).1.trans ?_, (h c).2.1.trans ?_, (h c).2.2⟩)
      (Cert.TailRefIdeal.Value.run m' g')
    · rw [Cert.TailRefIdeal.Read.val_main_v43_eq, (hargs c).1, (hargs c).2.1, (hargs c).2.2.1, (hargs c).2.2.2.1,
        (hargs c).2.2.2.2.1, (hargs c).2.2.2.2.2.1, (hargs c).2.2.2.2.2.2]
      exact prompt_eq _ _ _ _ _ _ _
    · rw [Cert.TailRefIdeal.Read.val_main_v44_eq, (hargs c).1, (hargs c).2.1, (hargs c).2.2.1, (hargs c).2.2.2.1,
        (hargs c).2.2.2.2.1, (hargs c).2.2.2.2.2.1, (hargs c).2.2.2.2.2.2]
      exact sample_eq _ _ _ _ _ _ _

end Cert.Proof.TailValue

end
-- ==== Proof.CastValue.lean ====
/-
  The conversion of the weights to the short format: over the extended reals every entry is carried over unchanged, so
  what is shown is that the blocks visit the whole array, each at its own place.
-/
module

public import proofs.«01_k».proof.Defs
public import proofs.«01_k».proof.Proof.Gen.CastIdeal.Value
public import proofs.«01_k».proof.Proof.Gen.CastRefIdeal.Run
public import proofs.«01_k».proof.Proof.Gen.CastRefIdeal.Read

@[expose] public section

noncomputable section

namespace Cert.Proof.CastValue

open Idealize.ShloMosaic Idealize.ShloMosaic.TcCoe Idealize.SL.Sem
open Cert.CastIdeal Cert.CastIdeal.Gen

/-- The reference converts the array in one piece; the launch's blocks leave the same array. -/
theorem ref_eq (w : S2x4096x12288.Idx → EReal) :
    Cert.CastRefIdeal.Read.val_main_v0 (F := Ideal) w = Cert.CastIdeal.Value.G1 (F := Ideal) w := by
  funext i
  rfl

/-- The conversion's algebraic claim. -/
theorem algebraic : Cert.algebraic_CastIdeal_CastRefIdeal := by
  intro m g m' g' _ hargs
  refine ⟨fun c => Cert.CastIdeal.Value.G1 (F := Ideal) (m ((c : Thread nD τ).loc main_arg0)),
    Cert.CastIdeal.Value.run m g, ?_⟩
  refine (θ_run Cert.CastRefIdeal.defs _ _).mono (fun r h c => ⟨(h c).1.trans ?_, (h c).2⟩)
    (Cert.CastRefIdeal.Value.run m' g')
  rw [hargs c]
  exact (Cert.CastRefIdeal.Read.val_main_v0_eq _).trans (ref_eq _)

end Cert.Proof.CastValue

end
-- ==== Proof.MidOut.lean ====
/-
  The attention's output projection as one launch of the middle section: what it leaves in its three result arrays, from whatever contents its
  operand arrays had when it began.
-/
module

public import proofs.«01_k».proof.Proof.Gen.MidIdeal.Frame
public import Idealize.ShloMosaic.Lib.Pipeline.ValueKit
public import Idealize.ShloMosaic.Lib.Pointwise

@[expose] public section

noncomputable section

namespace Cert.Proof.MidOut

open Idealize.ShloMosaic Idealize.ShloMosaic.TcCoe Idealize.SL.Sem
open Cert.MidIdeal Cert.MidIdeal.Gen

/-! ### One block -/

/-- The block of the new residual, entry by entry. -/
theorem pay2_apply (a : Vec Ideal S1024x512 .f32) (u : Vec Ideal S1024x4096 .bf16) (w : Vec Ideal S1x4096x512 .bf16)
    (y : S1024x512.Idx) :
    k0_pay2 (F := Ideal) a u w y = a y + ∑ k : Fin 4096, u (ix2 (y 0) k) * w (ix3 0 k (y 1)) := by
  pointwise [k0_pay2]

/-- The block under the gain, entry by entry. -/
theorem pay3_apply (a : Vec Ideal S1024x512 .f32) (u : Vec Ideal S1024x4096 .bf16) (w : Vec Ideal S1x4096x512 .bf16)
    (g : Vec Ideal S1x512 .f32) (y : S1024x512.Idx) :
    k0_pay3 (F := Ideal) a u w g y = k0_pay2 (F := Ideal) a u w y * g (ix2 0 (y 1)) := by
  pointwise [k0_pay3]

/-- What a block adds to its rows' sums of squares. -/
def squares (a : Vec Ideal S1024x512 .f32) (u : Vec Ideal S1024x4096 .bf16) (w : Vec Ideal S1x4096x512 .bf16)
    (y : S1024x128.Idx) : EReal :=
  ∑ j : Fin 512, k0_pay2 (F := Ideal) a u w (ix2 (y 0) j) * k0_pay2 (F := Ideal) a u w (ix2 (y 0) j)

theorem pay4_apply (a : Vec Ideal S1024x512 .f32) (u : Vec Ideal S1024x4096 .bf16) (w : Vec Ideal S1x4096x512 .bf16)
    (s : Vec Ideal S1024x128 .f32) (y : S1024x128.Idx) :
    k0_pay4 (F := Ideal) a u w s y = s y + squares a u w y := by
  pointwise [k0_pay4, squares]

theorem pay1_apply (y : S1024x128.Idx) : k0_pay1 (F := Ideal) y = (0 : EReal) := by
  pointwise [k0_pay1]

/-! ### The three results -/

/-- The new residual. -/
def specX (o : S24576x4096.Idx → EReal) (w : S2x4096x4096.Idx → EReal) (x : S24576x4096.Idx → EReal) :
    S24576x4096.Idx → EReal :=
  fun i => x i + ∑ k : Fin 4096, o (ix2 (i 0) k) * w (ix3 1 k (i 1))

/-- The new residual under the gain. -/
def specH (o : S24576x4096.Idx → EReal) (w : S2x4096x4096.Idx → EReal) (x : S24576x4096.Idx → EReal)
    (g : S1x4096.Idx → EReal) : S24576x4096.Idx → EReal :=
  fun i => specX o w x i * g (ix2 0 (i 1))

/-- The sums of squares of the new residual's rows, repeated over the lanes. -/
def specS (o : S24576x4096.Idx → EReal) (w : S2x4096x4096.Idx → EReal) (x : S24576x4096.Idx → EReal) :
    S24576x128.Idx → EReal :=
  fun i => ∑ j : Fin 4096, specX o w x (ix2 (i 0) j) * specX o w x (ix2 (i 0) j)

/-! ### The launch -/

variable (V : (c : Dev nD) → (b : Ref sig .tc) → Buf (Elt Ideal) ((c : Thread nD τ).loc b))

theorem idx0 : ∀ t : Fin cfg0.N, win0_0.index t = ![t.val / 8, 0] := (by decide +kernel : ∀ t : Fin grid0.N, _)
theorem idx1 : ∀ t : Fin cfg0.N, win0_1.index t = ![1, 0, t.val % 8] := (by decide +kernel : ∀ t : Fin grid0.N, _)
theorem idx2 : ∀ t : Fin cfg0.N, win0_2.index t = ![t.val / 8, t.val % 8] := (by decide +kernel : ∀ t : Fin grid0.N, _)
theorem idx3 : ∀ t : Fin cfg0.N, win0_3.index t = ![0, t.val % 8] := (by decide +kernel : ∀ t : Fin grid0.N, _)
theorem idx4 : ∀ t : Fin cfg0.N, win0_4.index t = ![t.val / 8, t.val % 8] := (by decide +kernel : ∀ t : Fin grid0.N, _)
theorem idx5 : ∀ t : Fin cfg0.N, win0_5.index t = ![t.val / 8, t.val % 8] := (by decide +kernel : ∀ t : Fin grid0.N, _)
theorem idx6 : ∀ t : Fin cfg0.N, win0_6.index t = ![t.val / 8, 0] := (by decide +kernel : ∀ t : Fin grid0.N, _)

/-- The arrays of the launch as it finds them, as arrays of extended reals. -/
abbrev argO (c : Dev nD) : S24576x4096.Idx → EReal := V c main_arg0
abbrev argW (c : Dev nD) : S2x4096x4096.Idx → EReal := V c main_arg1
abbrev argX (c : Dev nD) : S24576x4096.Idx → EReal := V c main_arg2
abbrev argG (c : Dev nD) : S1x4096.Idx → EReal := V c main_v0

theorem entry_eq_specX (o : S24576x4096.Idx → EReal) (w : S2x4096x4096.Idx → EReal) (x : S24576x4096.Idx → EReal)
    (i : S24576x4096.Idx) (a : EReal) (f g : Fin 4096 → EReal) (ha : a = x i) (hf : ∀ k, f k = o (ix2 (i 0) k))
    (hg : ∀ k, g k = w (ix3 1 k (i 1))) : a + ∑ k : Fin 4096, f k * g k = specX o w x i := by
  rw [ha, funext hf, funext hg]
  rfl

/-- The block point `t` computes of the new residual, at the entry that lands at `i`. -/
theorem blockX (c : Dev nD) (t : Fin cfg0.N) (y : S1024x512.Idx) (i : S24576x4096.Idx)
    (h0 : (i 0).val = t.val / 8 * 1024 + (y 0).val) (h1 : (i 1).val = t.val % 8 * 512 + (y 1).val) :
    k0_pay2 (F := Ideal) (iblk0 V c 2 t) (iblk0 V c 0 t) (iblk0 V c 1 t) y = specX (argO V c) (argW V c) (argX V c) i := by
  refine (pay2_apply _ _ _ _).trans (entry_eq_specX _ _ _ _ _ _ _ ?_ (fun k => ?_) (fun k => ?_))
  · blk_simp [iblk0]
    show V _ _ _ = V _ _ _
    congr 1
    blk_ext [idx2]
  · blk_simp [iblk0]
    show V _ _ _ = V _ _ _
    congr 1
    blk_ext [idx0]
  · blk_simp [iblk0]
    show V _ _ _ = V _ _ _
    congr 1
    blk_ext [idx1]

theorem finalX (c : Dev nD) : (dat0 V c).arrAt 4 cfg0.N = specX (argO V c) (argW V c) (argX V c) := by
  refine (dat0 V c).arrAt_eq_of_covers 4 _ (by decide +kernel) fun t hf y => ?_
  have hy : ∀ y : S1024x512.Idx, (outsAt0 V c t.val t.isLt).1 y
      = k0_pay2 (F := Ideal) (iblk0 V c 2 t) (iblk0 V c 0 t) (iblk0 V c 1 t) y := by
    intro y
    by_cases h : t.val % 8 = 0
    · rw [outsAt0_A V c t h]; frame_out
    · rw [outsAt0_B V c t h]; frame_out
  blk_simp
  rw [after0_4]
  refine (hy _).trans (blockX V c t _ _ ?_ ?_)
  · blk_simp [idx4]
  · blk_simp [idx4]

theorem entry_eq_specH (o : S24576x4096.Idx → EReal) (w : S2x4096x4096.Idx → EReal) (x : S24576x4096.Idx → EReal)
    (g : S1x4096.Idx → EReal) (i : S24576x4096.Idx) (a b : EReal) (ha : a = specX o w x i) (hb : b = g (ix2 0 (i 1))) :
    a * b = specH o w x g i := by
  rw [ha, hb]
  rfl

theorem finalH (c : Dev nD) : (dat0 V c).arrAt 5 cfg0.N = specH (argO V c) (argW V c) (argX V c) (argG V c) := by
  refine (dat0 V c).arrAt_eq_of_covers 5 _ (by decide +kernel) fun t hf y => ?_
  have hy : ∀ y : S1024x512.Idx, (outsAt0 V c t.val t.isLt).2.1 y
      = k0_pay3 (F := Ideal) (iblk0 V c 2 t) (iblk0 V c 0 t) (iblk0 V c 1 t) (iblk0 V c 3 t) y := by
    intro y
    by_cases h : t.val % 8 = 0
    · rw [outsAt0_A V c t h]; frame_out
    · rw [outsAt0_B V c t h]; frame_out
  blk_simp
  rw [after0_5]
  refine (hy _).trans ((pay3_apply _ _ _ _ _).trans (entry_eq_specH _ _ _ _ _ _ _ (blockX V c t _ _ ?_ ?_) ?_))
  · blk_simp [idx5]
  · blk_simp [idx5]
  · blk_simp [iblk0]
    show V _ _ _ = V _ _ _
    congr 1
    blk_ext [idx3, idx5]

theorem sum_eq_specS (o : S24576x4096.Idx → EReal) (w : S2x4096x4096.Idx → EReal) (x : S24576x4096.Idx → EReal)
    (i : S24576x128.Idx) (f : Fin 8 → EReal) (g : Fin 8 → Fin 512 → EReal) (hf : ∀ s, f s = ∑ j : Fin 512, g s j * g s j)
    (hg : ∀ (s : Fin 8) (j : Fin 512), g s j = specX o w x (ix2 (i 0) ⟨s.val * 512 + j.val, by omega⟩)) :
    0 + ∑ s : Fin 8, f s = specS o w x i := by
  unfold specS
  rw [Fin.sum_univ_tiles (N := 4096) 8 512 (by norm_num), zero_add]
  refine Finset.sum_congr rfl fun s _ => (hf s).trans (Finset.sum_congr rfl fun j _ => ?_)
  rw [hg s j]

theorem finalS (c : Dev nD) : (dat0 V c).arrAt 6 cfg0.N = specS (argO V c) (argW V c) (argX V c) := by
  refine (dat0 V c).arrAt_eq_of_covers 6 _ (by decide +kernel) fun t hf y => ?_
  have hN : cfg0.N = 192 := N_0
  have ht := t.isLt
  have hm := (flush0_6 t).mp hf
  blk_simp
  rw [after0_6]
  refine (Pipeline.eq_sum_fin_of_reset_step_apply_of_flush (M := EReal) (fun n h => (outsAt0 V c n h).2.2) 8 (fun _ => 0)
    (fun t => squares (iblk0 V c 2 t) (iblk0 V c 0 t) (iblk0 V c 1 t)) (fun t h i => ?_) (fun t h i => ?_) t hm _).trans ?_
  · rw [outsAt0_A V c t h]
    frame_out
    refine (pay4_apply _ _ _ _ _).trans ?_
    rw [pay1_apply]
  · rw [outsAt0_B V c t h]
    frame_out
    exact pay4_apply _ _ _ _ _
  · refine sum_eq_specS _ _ _ _ _ _ (fun s => rfl) (fun s j => blockX V c _ _ _ ?_ ?_)
    · blk_simp [idx6]
      have hs := s.isLt
      show t.val / 8 * 1024 + (y 0).val = (8 * (t.val / 8) + s.val) / 8 * 1024 + (y 0).val
      omega
    · have hs := s.isLt
      show s.val * 512 + j.val = (8 * (t.val / 8) + s.val) % 8 * 512 + j.val
      omega

end Cert.Proof.MidOut

end
-- ==== Proof.MidUp.lean ====
/-
  The first feed-forward product as one launch of the middle section, with the third layer's weights: what it leaves in its result
  array from nonnegative sums of squares.
-/
module

public import proofs.«01_k».proof.Proof.Gen.MidIdeal.Frame
public import Idealize.ShloMosaic.Lib.Pipeline.ValueKit
public import Idealize.ShloMosaic.Lib.Pointwise
public import proofs.«01_k».proof.Proof.Scalars

@[expose] public section

noncomputable section

namespace Cert.Proof.MidUp

open Idealize.ShloMosaic Idealize.ShloMosaic.TcCoe Idealize.SL.Sem
open Cert.MidIdeal Cert.MidIdeal.Gen

/-- The scale of a row from its sum of squares, as the kernel writes it. -/
abbrev scale (s : EReal) : EReal :=
  Ideal.rsqrt (s * Ideal.ofBits .f32 0x39800000#32 + Ideal.ofBits .f32 0x358637BD#32)

/-- The squared `relu` of an extended real. -/
abbrev relu2 (x : EReal) : EReal := max x 0 * max x 0

/-- One block of the kernel, entry by entry: the product, scaled by the row's reciprocal root, clipped and squared. -/
theorem block_apply (x : Vec Ideal S1024x4096 .bf16) (w : Vec Ideal S1x4096x1024 .bf16) (s : Vec Ideal S1024x1 .f32)
    (y : S1024x1024.Idx) :
    k1_pay1 (F := Ideal) x w s y
      = relu2 ((∑ k : Fin 4096, x (ix2 (y 0) k) * w (ix3 0 k (y 1))) * scale (s (ix2 (y 0) 0))) := by
  pointwise [k1_pay1]

/-- The layer's formula: the rows scaled first, then the product. -/
def spec (h : S24576x4096.Idx → EReal) (w : S4x4096x16384.Idx → EReal) (s : S24576x128.Idx → EReal) :
    S24576x16384.Idx → EReal :=
  fun i => relu2 (∑ k : Fin 4096, h (ix2 (i 0) k) * scale (s (ix2 (i 0) 0)) * w (ix3 2 k (i 1)))

/-- Scaling after the product is scaling before it. -/
theorem scale_sum {f g : Fin 4096 → EReal} {s : EReal} (hs : 0 ≤ s) :
    (∑ k, f k * g k) * scale s = ∑ k, f k * scale s * g k := by
  rw [Scalars.sum_mul_of_nonneg _ _ (Scalars.rsqrt_eps hs).1 (Scalars.rsqrt_eps hs).2]
  exact Finset.sum_congr rfl fun k _ => by rw [mul_right_comm]

variable (V : (c : Dev nD) → (b : Ref sig .tc) → Buf (Elt Ideal) ((c : Thread nD τ).loc b))

theorem idx0 : ∀ t : Fin cfg1.N, win1_0.index t = ![(grid1.coords t 0).val, 0] := by decide +kernel
theorem idx1 : ∀ t : Fin cfg1.N, win1_1.index t = ![2, 0, (grid1.coords t 1).val] := by decide +kernel
theorem idx2 : ∀ t : Fin cfg1.N, win1_2.index t = ![(grid1.coords t 0).val, 0] := by decide +kernel
theorem idx3 : ∀ t : Fin cfg1.N, win1_3.index t = ![(grid1.coords t 0).val, (grid1.coords t 1).val] := by decide +kernel

/-- A block's entry is `spec` at an index once its factors are. -/
theorem entry_eq_spec (h : S24576x4096.Idx → EReal) (w : S4x4096x16384.Idx → EReal) (s : S24576x128.Idx → EReal)
    (i : S24576x16384.Idx) (f g : Fin 4096 → EReal) (r : EReal) (hs : 0 ≤ s (ix2 (i 0) 0))
    (hf : ∀ k, f k = h (ix2 (i 0) k)) (hg : ∀ k, g k = w (ix3 2 k (i 1))) (hr : r = s (ix2 (i 0) 0)) :
    relu2 ((∑ k, f k * g k) * scale r) = spec h w s i := by
  subst hr
  rw [scale_sum hs, funext hf, funext hg]
  rfl

/-- The array the launch leaves, where every sum of squares is nonnegative. -/
theorem final (c : Dev nD) (hs : ∀ i, (0 : EReal) ≤ V c main_v1_2 i) :
    (dat1 V c).arrAt 3 cfg1.N
      = spec (V c main_v1_1) (V c main_arg4) (V c main_v1_2) := by
  refine (dat1 V c).arrAt_eq_of_covers 3 _ (by decide +kernel) fun t hf y => ?_
  blk_simp
  rw [after1_3]
  frame_out
  refine (block_apply _ _ _ _).trans (entry_eq_spec _ _ _ _ _ _ _ (hs _) (fun k => ?_) (fun k => ?_) ?_)
  · blk_simp [iblk1]
    show V _ _ _ = V _ _ _
    congr 1
    blk_ext [idx0, idx3]
  · blk_simp [iblk1]
    show V _ _ _ = V _ _ _
    congr 1
    blk_ext [idx1, idx3]
  · blk_simp [iblk1]
    show V _ _ _ = V _ _ _
    congr 1
    blk_ext [idx2, idx3]
    · congr 1
      show 0 + 1 * (y 0).val = (y 0).val
      omega
    · rfl

end Cert.Proof.MidUp

end
-- ==== Proof.MidDown.lean ====
/-
  The second feed-forward product as one launch of the middle section, with the third layer's weights: what it leaves in its result
  array.
-/
module

public import proofs.«01_k».proof.Proof.Gen.MidIdeal.Frame
public import Idealize.ShloMosaic.Lib.Pipeline.ValueKit
public import Idealize.ShloMosaic.Lib.Pointwise

@[expose] public section

noncomputable section

namespace Cert.Proof.MidDown

open Idealize.ShloMosaic Idealize.ShloMosaic.TcCoe Idealize.SL.Sem
open Cert.MidIdeal Cert.MidIdeal.Gen

/-- What one grid point adds to its block, entry by entry. -/
theorem block_apply (a : Vec Ideal S2048x1024 .f32) (u : Vec Ideal S2048x1024 .bf16) (w : Vec Ideal S1x1024x1024 .bf16)
    (y : S2048x1024.Idx) :
    k2_pay1 (F := Ideal) a u w y = a y + ∑ k : Fin 1024, u (ix2 (y 0) k) * w (ix3 0 k (y 1)) := by
  pointwise [k2_pay1]

/-- One product of a block's row with a block's column. -/
def term (u : Vec Ideal S2048x1024 .bf16) (w : Vec Ideal S1x1024x1024 .bf16) (y : S2048x1024.Idx) (k : Fin 1024) : EReal :=
  u (ix2 (y 0) k) * w (ix3 0 k (y 1))

/-- The residual plus the product, as one function of the three arguments. -/
def spec (u : S24576x16384.Idx → EReal) (w : S4x16384x4096.Idx → EReal) (x : S24576x4096.Idx → EReal) :
    S24576x4096.Idx → EReal :=
  fun i => x i + ∑ k : Fin 16384, u (ix2 (i 0) k) * w (ix3 2 k (i 1))

/-- The sum cut in sixteen tiles is `spec` at an index once its terms are. -/
theorem tiles_eq_spec (u : S24576x16384.Idx → EReal) (w : S4x16384x4096.Idx → EReal) (x : S24576x4096.Idx → EReal)
    (i : S24576x4096.Idx) (a : EReal) (f : ℕ → EReal) (g : Fin 16 → Fin 1024 → EReal) (ha : a = x i)
    (hf : ∀ s : Fin 16, f s.val = ∑ k : Fin 1024, g s k)
    (hg : ∀ (s : Fin 16) (k : Fin 1024), g s k = u (ix2 (i 0) ⟨s.val * 1024 + k.val, by omega⟩)
      * w (ix3 2 ⟨s.val * 1024 + k.val, by omega⟩ (i 1))) :
    a + ∑ s ∈ Finset.range 16, f s = spec u w x i := by
  unfold spec
  rw [ha, Fin.sum_univ_tiles 16 1024 (by norm_num), Finset.sum_range]
  congr 1
  refine Finset.sum_congr rfl fun s _ => (hf s).trans (Finset.sum_congr rfl fun k _ => hg s k)

variable (V : (c : Dev nD) → (b : Ref sig .tc) → Buf (Elt Ideal) ((c : Thread nD τ).loc b))

theorem idx0 : ∀ t : Fin cfg2.N, win2_0.index t = ![t.val / 64, t.val % 16] :=
  (by decide +kernel : ∀ t : Fin grid2.N, _)
theorem idx1 : ∀ t : Fin cfg2.N, win2_1.index t = ![2, t.val % 16, t.val / 16 % 4] :=
  (by decide +kernel : ∀ t : Fin grid2.N, _)
theorem idx2 : ∀ t : Fin cfg2.N, win2_2.index t = ![t.val / 64, t.val / 16 % 4] :=
  (by decide +kernel : ∀ t : Fin grid2.N, _)
theorem idx3 : ∀ t : Fin cfg2.N, win2_3.index t = ![t.val / 64, t.val / 16 % 4] :=
  (by decide +kernel : ∀ t : Fin grid2.N, _)

/-- What point `n` adds to its block. -/
def addend (c : Dev nD) (n : ℕ) (y : S2048x1024.Idx) : EReal :=
  if h : n < cfg2.N then
    ∑ k : Fin 1024, term (iblk2 V c 0 ⟨n, h⟩) (iblk2 V c 1 ⟨n, h⟩) y k
  else 0

/-- A run's first point starts from the residual's block; each later point adds its products to what is there. -/
def reset (c : Dev nD) (n : ℕ) (h : n < cfg2.N) : Vec Ideal S2048x1024 .f32 :=
  k2_pay1 (F := Ideal) (iblk2 V c 2 ⟨n, h⟩) (iblk2 V c 0 ⟨n, h⟩) (iblk2 V c 1 ⟨n, h⟩)

def step (c : Dev nD) (n : ℕ) (h : n < cfg2.N) (acc : Vec Ideal S2048x1024 .f32) : Vec Ideal S2048x1024 .f32 :=
  k2_pay1 (F := Ideal) acc (iblk2 V c 0 ⟨n, h⟩) (iblk2 V c 1 ⟨n, h⟩)

theorem reset_eq (c : Dev nD) (t : Fin cfg2.N) (h0 : t.val % 16 = 0) :
    outsAt2 V c t.val t.isLt = reset V c t.val t.isLt := by
  funext y
  rw [outsAt2_A V c t h0]
  unfold reset
  frame_out

theorem step_eq (c : Dev nD) (t : Fin cfg2.N) (h0 : ¬t.val % 16 = 0) :
    outsAt2 V c t.val t.isLt
      = step V c t.val t.isLt (outsAt2 V c (t.val - 1) (Nat.lt_of_le_of_lt (Nat.sub_le _ _) t.isLt)) := by
  funext y
  rw [outsAt2_B V c t h0]
  unfold step
  frame_out

/-- The array the launch leaves. -/
theorem final (c : Dev nD) :
    (dat2 V c).arrAt 3 cfg2.N
      = spec (V c main_v2) (V c main_arg5)
          (V c main_v1_0) := by
  refine (dat2 V c).arrAt_eq_of_covers 3 _ (by decide +kernel) fun t hf y => ?_
  have hm := (flush2_3 t).mp hf
  have hN : cfg2.N = 768 := N_2
  have ht := t.isLt
  blk_simp
  rw [after2_3]
  have hb : 16 * (t.val / 16) < cfg2.N := by omega
  have hacc : outsAt2 V c t.val t.isLt
      = Pipeline.accAt (reset V c) (step V c) (16 * (t.val / 16)) (t.val % 16) (by omega) :=
    Pipeline.eq_accAt_of_mod (fun n h => outsAt2 V c n h) 16 (reset V c) (step V c)
      (fun n h hn => reset_eq V c ⟨n, h⟩ (by try dsimp only
                                             omega))
      (fun n h hn => step_eq V c ⟨n + 1, h⟩ (by try dsimp only
                                                omega))
      (by decide) t.val t.isLt _
  rw [hacc]
  refine (Pipeline.accAt_add_apply (β := EReal) (reset V c) (step V c) (iblk2 V c 2 ⟨16 * (t.val / 16), hb⟩)
    (addend V c) (16 * (t.val / 16)) 15 (fun h i => ?_) (fun n h acc i _ _ => ?_) (t.val % 16) (by omega) _ y).trans ?_
  · unfold reset addend
    rw [dif_pos h]
    exact block_apply _ _ _ _
  · unfold step addend
    rw [dif_pos h]
    exact block_apply _ _ _ _
  · rw [hm]
    refine tiles_eq_spec _ _ _ _ _ _ (fun s k => term (iblk2 V c 0 ⟨16 * (t.val / 16) + s.val, by omega⟩)
      (iblk2 V c 1 ⟨16 * (t.val / 16) + s.val, by omega⟩) y k) ?_ (fun s => ?_) (fun s k => ?_)
    · blk_simp [iblk2]
      show V _ _ _ = V _ _ _
      congr 1
      blk_ext [idx2, idx3]
    · unfold addend
      rw [dif_pos (by omega)]
    · unfold term
      blk_simp [iblk2]
      congr 1
      · show V _ _ _ = V _ _ _
        congr 1
        blk_ext [idx0, idx3]
      · show V _ _ _ = V _ _ _
        congr 1
        blk_ext [idx1, idx3]

end Cert.Proof.MidDown

end
-- ==== Proof.MidNorm.lean ====
/-
  The norm ahead of the next mixer as one launch of the middle section: what it leaves in its result array.
-/
module

public import proofs.«01_k».proof.Proof.Gen.MidIdeal.Frame
public import Idealize.ShloMosaic.Lib.Pipeline.ValueKit
public import Idealize.ShloMosaic.Lib.Pointwise

@[expose] public section

noncomputable section

namespace Cert.Proof.MidNorm

open Idealize.ShloMosaic Idealize.ShloMosaic.TcCoe Idealize.SL.Sem
open Cert.MidIdeal Cert.MidIdeal.Gen

/-- The scale of a row. -/
abbrev rowScale (x : Fin 4096 → EReal) : EReal :=
  Ideal.rsqrt (Ideal.div (∑ k : Fin 4096, x k * x k) (Ideal.ofBits .f32 0x45800000#32) + Ideal.ofBits .f32 0x358637BD#32)

/-- One block of the kernel, entry by entry. -/
theorem block_apply (x : Vec Ideal S512x4096 .f32) (g : Vec Ideal S1x4096 .f32) (y : S512x4096.Idx) :
    k3_pay1 (F := Ideal) x g y = x y * rowScale (fun k => x (ix2 (y 0) k)) * g (ix2 0 (y 1)) := by
  pointwise [k3_pay1]

/-- The norm of a row under its gain. -/
def spec (x : S24576x4096.Idx → EReal) (g : S1x4096.Idx → EReal) : S24576x4096.Idx → EReal :=
  fun i => x i
    * rowScale (fun k => x (ix2 (i 0) k)) * g (ix2 0 (i 1))

variable (V : (c : Dev nD) → (b : Ref sig .tc) → Buf (Elt Ideal) ((c : Thread nD τ).loc b))

theorem idx0 : ∀ t : Fin cfg3.N, win3_0.index t = ![(grid3.coords t 0).val, 0] := by decide +kernel
theorem idx1 : ∀ t : Fin cfg3.N, win3_1.index t = ![0, 0] := by decide +kernel
theorem idx2 : ∀ t : Fin cfg3.N, win3_2.index t = ![(grid3.coords t 0).val, 0] := by decide +kernel

/-- An entry is `spec` at an index once its parts are. -/
theorem entry_eq_spec (x : S24576x4096.Idx → EReal) (g : S1x4096.Idx → EReal) (i : S24576x4096.Idx) (f : Fin 4096 → EReal)
    (a b : EReal) (ha : a = x i)
    (hf : ∀ k, f k = x (ix2 (i 0) k)) (hb : b = g (ix2 0 (i 1))) :
    a * rowScale f * b = spec x g i := by
  rw [funext hf, ha, hb]
  rfl

/-- The array the launch leaves. -/
theorem final (c : Dev nD) :
    (dat3 V c).arrAt 2 cfg3.N
      = spec (V c main_v3) (V c main_v4) := by
  refine (dat3 V c).arrAt_eq_of_covers 2 _ (by decide +kernel) fun t hf y => ?_
  blk_simp
  rw [after3_2]
  frame_out
  refine (block_apply _ _ _).trans (entry_eq_spec _ _ _ _ _ _ ?_ (fun k => ?_) ?_)
  · blk_simp [iblk3]
    show V _ _ _ = V _ _ _
    congr 1
    blk_ext [idx0, idx2]
  · blk_simp [iblk3]
    show V _ _ _ = V _ _ _
    congr 1
    blk_ext [idx0, idx2]
  · blk_simp [iblk3]
    show V _ _ _ = V _ _ _
    congr 1
    blk_ext [idx1, idx2]

end Cert.Proof.MidNorm

end
-- ==== Proof.MidProj.lean ====
/-
  The input projection of the next mixer as one launch of the middle section: what it leaves in its result array.
-/
module

public import proofs.«01_k».proof.Proof.Gen.MidIdeal.Frame
public import Idealize.ShloMosaic.Lib.Pipeline.ValueKit
public import Idealize.ShloMosaic.Lib.Pointwise

@[expose] public section

noncomputable section

namespace Cert.Proof.MidProj

open Idealize.ShloMosaic Idealize.ShloMosaic.TcCoe Idealize.SL.Sem
open Cert.MidIdeal Cert.MidIdeal.Gen

/-- One block's product, entry by entry. -/
theorem block_apply (x : Vec Ideal S1024x4096 .bf16) (w : Vec Ideal S1x4096x1024 .bf16) (y : S1024x1024.Idx) :
    k4_pay1 (F := Ideal) x w y = ∑ k : Fin 4096, x (ix2 (y 0) k) * w (ix3 0 k (y 1)) := by
  pointwise [k4_pay1]

variable (V : (c : Dev nD) → (b : Ref sig .tc) → Buf (Elt Ideal) ((c : Thread nD τ).loc b))

theorem idx0 : ∀ t : Fin cfg4.N, win4_0.index t = ![(grid4.coords t 0).val, 0] := by decide +kernel
theorem idx1 : ∀ t : Fin cfg4.N, win4_1.index t = ![1, 0, (grid4.coords t 1).val] := by decide +kernel
theorem idx2 : ∀ t : Fin cfg4.N, win4_2.index t = ![(grid4.coords t 0).val, (grid4.coords t 1).val] := by decide +kernel

/-- The product as one function of the two argument arrays. -/
def spec (h : S24576x4096.Idx → EReal) (w : S2x4096x20480.Idx → EReal) : S24576x20480.Idx → EReal :=
  fun i => ∑ k : Fin 4096, h (ix2 (i 0) k) * w (ix3 1 k (i 1))

/-- A sum of products is `spec` at an index once its terms are. -/
theorem sum_eq_spec (h : S24576x4096.Idx → EReal) (w : S2x4096x20480.Idx → EReal) (i : S24576x20480.Idx) (f : Fin 4096 → EReal)
    (hf : ∀ k, f k = h (ix2 (i 0) k) * w (ix3 1 k (i 1))) : ∑ k : Fin 4096, f k = spec h w i :=
  Finset.sum_congr rfl fun k _ => hf k

/-- The array the launch leaves. -/
theorem final (c : Dev nD) :
    (dat4 V c).arrAt 2 cfg4.N
      = spec (V c main_v5) (V c main_arg7) := by
  refine (dat4 V c).arrAt_eq_of_covers 2 _ (by decide +kernel) fun t hf y => ?_
  blk_simp
  rw [after4_2]
  frame_out
  refine (block_apply _ _ _).trans (sum_eq_spec _ _ _ _ fun k => ?_)
  blk_simp [iblk4]
  congr 1
  · show V _ _ _ = V _ _ _
    congr 1
    blk_ext [idx0, idx2]
  · show V _ _ _ = V _ _ _
    congr 1
    blk_ext [idx1, idx2]

end Cert.Proof.MidProj

end
-- ==== Proof.MidRun.lean ====
/-
  The middle section's five launches in order: what each finds in its arrays, up to the two results, the stream and the
  next mixer's input.
-/
module

public import proofs.«01_k».proof.Proof.MidOut
public import proofs.«01_k».proof.Proof.MidUp
public import proofs.«01_k».proof.Proof.MidDown
public import proofs.«01_k».proof.Proof.MidNorm
public import proofs.«01_k».proof.Proof.MidProj

@[expose] public section

noncomputable section

namespace Cert.Proof.MidRun

open Idealize.ShloMosaic Idealize.ShloMosaic.TcCoe Idealize.SL.Sem
open Cert.MidIdeal Cert.MidIdeal.Gen

variable (m : (ℓ : Loc nD τ sig) → Buf (Elt Ideal) ℓ) (ρ : Dev nD → PrngReg)

/-- The arguments, as arrays of extended reals. -/
abbrev argO (c : Dev nD) : S24576x4096.Idx → EReal := m ((c : Thread nD τ).loc main_arg0)
abbrev argWo (c : Dev nD) : S2x4096x4096.Idx → EReal := m ((c : Thread nD τ).loc main_arg1)
abbrev argX (c : Dev nD) : S24576x4096.Idx → EReal := m ((c : Thread nD τ).loc main_arg2)
abbrev argG (c : Dev nD) : S4096.Idx → EReal := m ((c : Thread nD τ).loc main_arg3)
abbrev argWu (c : Dev nD) : S4x4096x16384.Idx → EReal := m ((c : Thread nD τ).loc main_arg4)
abbrev argWd (c : Dev nD) : S4x16384x4096.Idx → EReal := m ((c : Thread nD τ).loc main_arg5)
abbrev argGm (c : Dev nD) : S4096.Idx → EReal := m ((c : Thread nD τ).loc main_arg6)
abbrev argWi (c : Dev nD) : S2x4096x20480.Idx → EReal := m ((c : Thread nD τ).loc main_arg7)

/-- A gain laid out as a one-row matrix. -/
abbrev asRow (g : Vec Ideal S4096 .f32) : Vec Ideal S1x4096 .f32 := shapeCast S1x4096 g shapeCasts_S4096_S1x4096

theorem asRow_apply (g : Vec Ideal S4096 .f32) (j : Fin 4096) : asRow g (ix2 0 j) = g (ix1 j) := by
  pointwise

/-! ### The gains as the launches find them -/

theorem gain1 (c : Dev nD) : V1 m ρ c main_v0 = asRow (argG m c) := by
  show StableHlo.after hostOps0 (W0 m ρ c) (Proc.devRef .tc main_v0) = _
  after_results
  rfl

theorem gain3 (c : Dev nD) : V6 m ρ c main_v4 = asRow (argGm m c) := by
  rw [show argGm m c = W5 m ρ c (Proc.devRef .tc main_arg6) from (W5_args m ρ c main_arg6 (by decide)).symm]
  show StableHlo.after hostOps3 (W5 m ρ c) (Proc.devRef .tc main_v4) = _
  after_results
  rfl

/-! ### What each launch leaves -/

abbrev resX (c : Dev nD) : S24576x4096.Idx → EReal := MidOut.specX (argO m c) (argWo m c) (argX m c)
abbrev resH (c : Dev nD) : S24576x4096.Idx → EReal :=
  MidOut.specH (argO m c) (argWo m c) (argX m c) (asRow (argG m c))
abbrev resS (c : Dev nD) : S24576x128.Idx → EReal := MidOut.specS (argO m c) (argWo m c) (argX m c)
abbrev resU (c : Dev nD) : S24576x16384.Idx → EReal := MidUp.spec (resH m c) (argWu m c) (resS m c)
abbrev resY (c : Dev nD) : S24576x4096.Idx → EReal := MidDown.spec (resU m c) (argWd m c) (resX m c)

theorem entry1 (c : Dev nD) : MidOut.argO (V1 m ρ) c = argO m c ∧ MidOut.argW (V1 m ρ) c = argWo m c
    ∧ MidOut.argX (V1 m ρ) c = argX m c :=
  ⟨W1_args m ρ c main_arg0 (by decide), W1_args m ρ c main_arg1 (by decide), W1_args m ρ c main_arg2 (by decide)⟩

theorem leftX (c : Dev nD) : V2 m ρ c main_v1_0 = resX m c := by
  refine (W2_arr m ρ c 4).trans ((MidOut.finalX (V1 m ρ) c).trans ?_)
  rw [(entry1 m ρ c).1, (entry1 m ρ c).2.1, (entry1 m ρ c).2.2]

theorem leftH (c : Dev nD) : V2 m ρ c main_v1_1 = resH m c := by
  refine (W2_arr m ρ c 5).trans ((MidOut.finalH (V1 m ρ) c).trans ?_)
  rw [(entry1 m ρ c).1, (entry1 m ρ c).2.1, (entry1 m ρ c).2.2]
  exact congrArg _ (gain1 m ρ c)

theorem leftS (c : Dev nD) : V2 m ρ c main_v1_2 = resS m c := by
  refine (W2_arr m ρ c 6).trans ((MidOut.finalS (V1 m ρ) c).trans ?_)
  rw [(entry1 m ρ c).1, (entry1 m ρ c).2.1, (entry1 m ρ c).2.2]

/-- A square is nonnegative. -/
theorem square_nonneg (a : EReal) : 0 ≤ a * a := by
  rcases le_total 0 a with h | h
  · exact mul_nonneg h h
  · have : 0 ≤ -a * -a := mul_nonneg (EReal.neg_nonneg.2 h) (EReal.neg_nonneg.2 h)
    rwa [neg_mul_neg] at this

theorem resS_nonneg (c : Dev nD) (i : S24576x128.Idx) : 0 ≤ resS m c i :=
  Finset.sum_nonneg fun _ _ => square_nonneg _

theorem leftU (c : Dev nD) : V3 m ρ c main_v2 = resU m c := by
  have hS := leftS m ρ c
  refine (W3_arr m ρ c 3).trans ((MidUp.final (V2 m ρ) c fun i => ?_).trans ?_)
  · rw [hS]
    exact resS_nonneg m c i
  · rw [hS, leftH m ρ c, show V2 m ρ c main_arg4 = argWu m c from W2_args m ρ c main_arg4 (by decide)]

theorem leftY (c : Dev nD) : V5 m ρ c main_v3 = resY m c := by
  refine (W5_arr m ρ c 3).trans ((MidDown.final (V4 m ρ) c).trans ?_)
  rw [show V4 m ρ c main_v2 = resU m c from (W4_of m ρ c main_v2 (by decide)).trans (leftU m ρ c),
    show V4 m ρ c main_arg5 = argWd m c from W4_args m ρ c main_arg5 (by decide),
    show V4 m ρ c main_v1_0 = resX m c from
      (W4_of m ρ c main_v1_0 (by decide)).trans ((W3_of m ρ c main_v1_0 (by decide)).trans (leftX m ρ c))]

/-- The norm the last product reads. -/
abbrev resN (c : Dev nD) : S24576x4096.Idx → EReal := MidNorm.spec (resY m c) (asRow (argGm m c))

theorem leftN (c : Dev nD) : V7 m ρ c main_v5 = resN m c := by
  refine (W7_arr m ρ c 2).trans ((MidNorm.final (V6 m ρ) c).trans ?_)
  rw [gain3, show V6 m ρ c main_v3 = resY m c from (W6_of m ρ c main_v3 (by decide)).trans (leftY m ρ c)]

theorem leftStream (c : Dev nD) : W8 m ρ c (Proc.devRef .tc main_v3) = resY m c :=
  (W8_of m ρ c main_v3 (by decide)).trans ((W7_of m ρ c main_v3 (by decide)).trans
    ((W6_of m ρ c main_v3 (by decide)).trans (leftY m ρ c)))

theorem leftProj (c : Dev nD) : W8 m ρ c (Proc.devRef .tc main_v6) = MidProj.spec (resN m c) (argWi m c) := by
  refine (W8_arr m ρ c 2).trans ((MidProj.final (V7 m ρ) c).trans ?_)
  rw [leftN, show V7 m ρ c main_arg7 = argWi m c from W7_args m ρ c main_arg7 (by decide)]

end Cert.Proof.MidRun

end
-- ==== Proof.MidRef.lean ====
/-
  The middle section as a formula: the third layer after its attention, and the norm and the input projection of the fourth
  layer; the reference's two results are that formula's.
-/
module

public import proofs.«01_k».proof.Defs
public import proofs.«01_k».proof.Proof.Gen.MidRefIdeal.Read
public import Idealize.ShloMosaic.Lib.Pointwise

@[expose] public section

noncomputable section

namespace Cert.Proof.MidRef

open Idealize.ShloMosaic Idealize.ShloMosaic.TcCoe Idealize.SL.Sem
open Cert.MidRefIdeal Cert.MidRefIdeal.Gen Cert.MidRefIdeal.Read

/-- The reciprocal root of a row's mean square plus epsilon. -/
abbrev rowScale (x : Fin 4096 → EReal) : EReal :=
  Ideal.rsqrt (Ideal.div (∑ k : Fin 4096, x k * x k) (Ideal.ofBits .f32 0x45800000#32) + Ideal.ofBits .f32 0x358637BD#32)

/-- The norm of every row under a gain. -/
def normed (x : S24576x4096.Idx → EReal) (g : S4096.Idx → EReal) : S24576x4096.Idx → EReal :=
  fun i => x i * rowScale (fun k => x (ix2 (i 0) k)) * g (ix1 (i 1))

/-- The stream after the attention's output projection. -/
def stream (o : S24576x4096.Idx → EReal) (w : S2x4096x4096.Idx → EReal) (x : S24576x4096.Idx → EReal) :
    S24576x4096.Idx → EReal :=
  fun i => x i + ∑ k : Fin 4096, o (ix2 (i 0) k) * w (ix3 1 k (i 1))

/-- The hidden layer: the squared `relu` of a product. -/
def hidden (h : S24576x4096.Idx → EReal) (w : S4x4096x16384.Idx → EReal) : S24576x16384.Idx → EReal :=
  fun i => max (∑ k : Fin 4096, h (ix2 (i 0) k) * w (ix3 2 k (i 1))) 0
    * max (∑ k : Fin 4096, h (ix2 (i 0) k) * w (ix3 2 k (i 1))) 0

/-- The stream after the feed-forward layer. -/
def after (u : S24576x16384.Idx → EReal) (w : S4x16384x4096.Idx → EReal) (x : S24576x4096.Idx → EReal) :
    S24576x4096.Idx → EReal :=
  fun i => x i + ∑ k : Fin 16384, u (ix2 (i 0) k) * w (ix3 2 k (i 1))

/-- The third layer's stream at its end. -/
def ended (o : S24576x4096.Idx → EReal) (wo : S2x4096x4096.Idx → EReal) (x : S24576x4096.Idx → EReal)
    (g : S4096.Idx → EReal) (wu : S4x4096x16384.Idx → EReal) (wd : S4x16384x4096.Idx → EReal) : S24576x4096.Idx → EReal :=
  after (hidden (normed (stream o wo x) g) wu) wd (stream o wo x)

/-- The next mixer's input. -/
def mixed (h : S24576x4096.Idx → EReal) (w : S2x4096x20480.Idx → EReal) : S24576x20480.Idx → EReal :=
  fun i => ∑ k : Fin 4096, h (ix2 (i 0) k) * w (ix3 1 k (i 1))

variable (o : S24576x4096.Idx → EReal) (wo : S2x4096x4096.Idx → EReal) (x : S24576x4096.Idx → EReal)
  (g : S4096.Idx → EReal) (wu : S4x4096x16384.Idx → EReal) (wd : S4x16384x4096.Idx → EReal) (gm : S4096.Idx → EReal)
  (wi : S2x4096x20480.Idx → EReal)

theorem stream_eq : val_main_v5 (F := Ideal) o wo x = stream o wo x := by
  funext i
  pointwise [stream, val_main_v5, val_main_v4, val_main_v3, val_main_v2, val_main_v1, val_main_v0]

theorem normed_eq : val_main_v18 (F := Ideal) o wo x g = normed (stream o wo x) g := by
  rw [← stream_eq]
  funext i
  pointwise [normed, val_main_v18, val_main_v17, val_main_v16, val_main_v15, val_main_v14, val_main_v13, val_main_v12,
    val_main_v11, val_main_v10, val_main_v9, val_main_v8, val_main_v7, val_main_v6, val_main_cst, val_main_cst_0,
    val_main_cst_1]

theorem hidden_eq : val_main_v24 (F := Ideal) o wo x g wu = hidden (normed (stream o wo x) g) wu := by
  rw [← normed_eq]
  funext i
  pointwise [hidden, val_main_v24, val_main_v23, val_main_v22, val_main_v21, val_main_v20, val_main_v19,
    val_main_call0_cst, val_main_call0_v0]

theorem ended_eq : val_main_v29 (F := Ideal) o wo x g wu wd = ended o wo x g wu wd := by
  unfold ended
  rw [← hidden_eq, ← stream_eq]
  funext i
  pointwise [after, val_main_v29, val_main_v28, val_main_v27, val_main_v26, val_main_v25]

theorem last_eq : val_main_v42 (F := Ideal) o wo x g wu wd gm = normed (ended o wo x g wu wd) gm := by
  rw [← ended_eq]
  funext i
  pointwise [normed, val_main_v42, val_main_v41, val_main_v40, val_main_v39, val_main_v38, val_main_v37, val_main_v36,
    val_main_v35, val_main_v34, val_main_v33, val_main_v32, val_main_v31, val_main_v30, val_main_cst_2, val_main_cst_3,
    val_main_cst_4]

theorem mixed_eq : val_main_v46 (F := Ideal) o wo x g wu wd gm wi = mixed (normed (ended o wo x g wu wd) gm) wi := by
  rw [← last_eq]
  funext i
  pointwise [mixed, val_main_v46, val_main_v45, val_main_v44, val_main_v43]

end Cert.Proof.MidRef

end
-- ==== Proof.MidEnd.lean ====
/-
  A run of the middle section's program, read at its end: every array holds the last contents of the chain of launches.
-/
module

public import proofs.«01_k».proof.Proof.Gen.MidIdeal.Frame

@[expose] public section

noncomputable section

namespace Cert.Proof.MidEnd

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.MidIdeal Cert.MidIdeal.Gen

variable {F : FTy → Type} [FloatOps F] (m : (ℓ : Loc nD τ sig) → Buf (Elt F) ℓ) (ρ : Dev nD → PrngReg)

set_option backward.isDefEq.respectTransparency.types false in
/-- Every run ends with each array at the last contents of the chain. -/
theorem run : θ_run defs (onTc (τ := τ) (main (F := F))) ⟨m, fun _ => 0, ρ⟩ (fun r => (∀ c : Dev nD,
      ∀ b ∈ Pipeline.ucRefs τ sig, r.2.mem (((c : Thread nD τ)).1, b) = W8 m ρ c b)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ))
        ⊢ bigSep Finset.univ (fun _ : Dev nD => BI.emp) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl,
      fun _ => .rfl, fun _ => .rfl, fun _ => .rfl⟩)
    (hinit := by
      refine Pipeline.initEach L lv fun c => ?_
      rw [show unscopedBufs c (fun b => m ((c : Thread nD τ).loc b))
          = StableHlo.held (c : Thread nD τ) (Pipeline.ucRefs τ sig) (W0 m ρ c) from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h _ c => h c)

end Cert.Proof.MidEnd

end
-- ==== Proof.MidValue.lean ====
/-
  From the second attention's output to the second recurrence's input in one program: five launches run one after another
  leave the plain formula's stream and projection.
-/
module

public import proofs.«01_k».proof.Defs
public import proofs.«01_k».proof.Proof.MidRun
public import proofs.«01_k».proof.Proof.MidRef
public import proofs.«01_k».proof.Proof.MidEnd
public import proofs.«01_k».proof.Proof.Gen.MidRefIdeal.Run

@[expose] public section

noncomputable section

namespace Cert.Proof.MidValue

open Idealize.ShloMosaic Idealize.ShloMosaic.TcCoe Idealize.SL.Sem
open Cert.MidIdeal Cert.MidIdeal.Gen
open Cert.Proof.MidRun Cert.Proof.MidRef

/-! ### The launches' formulas and the plain one -/

/-- Gain first and the row's scale after it is the norm under the gain. -/
theorem term_eq (o : S24576x4096.Idx → EReal) (wo : S2x4096x4096.Idx → EReal) (x : S24576x4096.Idx → EReal)
    (g : S4096.Idx → EReal) (r : Fin 24576) (k : Fin 4096) :
    MidOut.specH o wo x (asRow g) (ix2 r k) * MidUp.scale (MidOut.specS o wo x (ix2 r 0))
      = normed (stream o wo x) g (ix2 r k) := by
  have h1 : MidOut.specH o wo x (asRow g) (ix2 r k) = stream o wo x (ix2 r k) * g (ix1 k) :=
    congrArg (stream o wo x (ix2 r k) * ·) (asRow_apply g k)
  have h2 : MidUp.scale (MidOut.specS o wo x (ix2 r 0)) = rowScale (fun j => stream o wo x (ix2 r j)) := by
    unfold MidUp.scale rowScale
    rw [Scalars.div_4096]
    rfl
  rw [h1, h2, mul_right_comm]
  rfl

theorem hidden_eq (o : S24576x4096.Idx → EReal) (wo : S2x4096x4096.Idx → EReal) (x : S24576x4096.Idx → EReal)
    (g : S4096.Idx → EReal) (wu : S4x4096x16384.Idx → EReal) :
    MidUp.spec (MidOut.specH o wo x (asRow g)) wu (MidOut.specS o wo x) = MidRef.hidden (normed (stream o wo x) g) wu := by
  funext i
  have h : ∀ k : Fin 4096, MidOut.specH o wo x (asRow g) (ix2 (i 0) k) * MidUp.scale (MidOut.specS o wo x (ix2 (i 0) 0))
      * wu (ix3 2 k (i 1)) = normed (stream o wo x) g (ix2 (i 0) k) * wu (ix3 2 k (i 1)) :=
    fun k => congrArg (· * wu (ix3 2 k (i 1))) (term_eq o wo x g (i 0) k)
  unfold MidUp.spec MidUp.relu2 MidRef.hidden
  rw [Finset.sum_congr rfl fun k _ => h k]

theorem norm_spec (y : S24576x4096.Idx → EReal) (g : S4096.Idx → EReal) : MidNorm.spec y (asRow g) = normed y g := by
  funext i
  unfold MidNorm.spec
  rw [asRow_apply g (i 1)]
  rfl

variable (m : (ℓ : Loc nD τ sig) → Buf (Elt Ideal) ℓ) (ρ : Dev nD → PrngReg)

/-- The stream the launches end with is the plain formula's. -/
theorem resY_eq (c : Dev nD) :
    resY m c = ended (argO m c) (argWo m c) (argX m c) (argG m c) (argWu m c) (argWd m c) := by
  show MidDown.spec (MidUp.spec _ _ _) _ _ = _
  rw [hidden_eq]
  rfl

/-- The middle section's algebraic claim. -/
theorem algebraic : Cert.algebraic_MidIdeal_MidRefIdeal := by
  intro m g m' g' _ hargs
  refine ⟨fun c => ended (argO m c) (argWo m c) (argX m c) (argG m c) (argWu m c) (argWd m c),
    fun c => mixed (normed (ended (argO m c) (argWo m c) (argX m c) (argG m c) (argWu m c) (argWd m c)) (argGm m c))
      (argWi m c), ?_, ?_⟩
  · refine (θ_run defs _ _).mono (fun r h c => ⟨?_, ?_, ?_, ?_, ?_, ?_, ?_, ?_, ?_, ?_⟩) (MidEnd.run m g)
    · refine (h c _ (mem_uc main_v3 (by decide))).trans ((leftStream m g c).trans ?_)
      rw [resY_eq]
    · refine (h c _ (mem_uc main_v6 (by decide))).trans ((leftProj m g c).trans ?_)
      show MidProj.spec (MidNorm.spec _ _) _ = _
      rw [norm_spec, resY_eq]
      rfl
    · exact (h c _ (mem_uc main_arg0 (by decide))).trans (W8_main_arg0 m g c)
    · exact (h c _ (mem_uc main_arg1 (by decide))).trans (W8_main_arg1 m g c)
    · exact (h c _ (mem_uc main_arg2 (by decide))).trans (W8_main_arg2 m g c)
    · exact (h c _ (mem_uc main_arg3 (by decide))).trans (W8_main_arg3 m g c)
    · exact (h c _ (mem_uc main_arg4 (by decide))).trans (W8_main_arg4 m g c)
    · exact (h c _ (mem_uc main_arg5 (by decide))).trans (W8_main_arg5 m g c)
    · exact (h c _ (mem_uc main_arg6 (by decide))).trans (W8_main_arg6 m g c)
    · exact (h c _ (mem_uc main_arg7 (by decide))).trans (W8_main_arg7 m g c)
  · refine (θ_run Cert.MidRefIdeal.defs _ _).mono (fun r h c => ⟨(h c).1.trans ?_, (h c).2.1.trans ?_, (h c).2.2⟩)
      (Cert.MidRefIdeal.Value.run m' g')
    · rw [Cert.MidRefIdeal.Read.val_main_v29_eq, (hargs c).1, (hargs c).2.1, (hargs c).2.2.1, (hargs c).2.2.2.1,
        (hargs c).2.2.2.2.1, (hargs c).2.2.2.2.2.1]
      exact ended_eq _ _ _ _ _ _
    · rw [Cert.MidRefIdeal.Read.val_main_v46_eq, (hargs c).1, (hargs c).2.1, (hargs c).2.2.1, (hargs c).2.2.2.1,
        (hargs c).2.2.2.2.1, (hargs c).2.2.2.2.2.1, (hargs c).2.2.2.2.2.2.1,
        (hargs c).2.2.2.2.2.2.2]
      exact mixed_eq _ _ _ _ _ _ _ _

end Cert.Proof.MidValue

end
-- ==== Proof.SecondOut.lean ====
/-
  The recurrence's output projection as one launch of the second section: what it leaves in its three result arrays, from whatever contents its
  operand arrays had when it began.
-/
module

public import proofs.«01_k».proof.Proof.Gen.SecondIdeal.Frame
public import Idealize.ShloMosaic.Lib.Pipeline.ValueKit
public import Idealize.ShloMosaic.Lib.Pointwise

@[expose] public section

noncomputable section

namespace Cert.Proof.SecondOut

open Idealize.ShloMosaic Idealize.ShloMosaic.TcCoe Idealize.SL.Sem
open Cert.SecondIdeal Cert.SecondIdeal.Gen

/-! ### One block -/

/-- The block of the new residual, entry by entry. -/
theorem pay2_apply (a : Vec Ideal S1024x512 .f32) (u : Vec Ideal S1024x4096 .bf16) (w : Vec Ideal S1x4096x512 .bf16)
    (y : S1024x512.Idx) :
    k0_pay2 (F := Ideal) a u w y = a y + ∑ k : Fin 4096, u (ix2 (y 0) k) * w (ix3 0 k (y 1)) := by
  pointwise [k0_pay2]

/-- The block under the gain, entry by entry. -/
theorem pay3_apply (a : Vec Ideal S1024x512 .f32) (u : Vec Ideal S1024x4096 .bf16) (w : Vec Ideal S1x4096x512 .bf16)
    (g : Vec Ideal S1x512 .f32) (y : S1024x512.Idx) :
    k0_pay3 (F := Ideal) a u w g y = k0_pay2 (F := Ideal) a u w y * g (ix2 0 (y 1)) := by
  pointwise [k0_pay3]

/-- What a block adds to its rows' sums of squares. -/
def squares (a : Vec Ideal S1024x512 .f32) (u : Vec Ideal S1024x4096 .bf16) (w : Vec Ideal S1x4096x512 .bf16)
    (y : S1024x128.Idx) : EReal :=
  ∑ j : Fin 512, k0_pay2 (F := Ideal) a u w (ix2 (y 0) j) * k0_pay2 (F := Ideal) a u w (ix2 (y 0) j)

theorem pay4_apply (a : Vec Ideal S1024x512 .f32) (u : Vec Ideal S1024x4096 .bf16) (w : Vec Ideal S1x4096x512 .bf16)
    (s : Vec Ideal S1024x128 .f32) (y : S1024x128.Idx) :
    k0_pay4 (F := Ideal) a u w s y = s y + squares a u w y := by
  pointwise [k0_pay4, squares]

theorem pay1_apply (y : S1024x128.Idx) : k0_pay1 (F := Ideal) y = (0 : EReal) := by
  pointwise [k0_pay1]

/-! ### The three results -/

/-- The new residual. -/
def specX (o : S24576x4096.Idx → EReal) (w : S2x4096x4096.Idx → EReal) (x : S24576x4096.Idx → EReal) :
    S24576x4096.Idx → EReal :=
  fun i => x i + ∑ k : Fin 4096, o (ix2 (i 0) k) * w (ix3 0 k (i 1))

/-- The new residual under the gain. -/
def specH (o : S24576x4096.Idx → EReal) (w : S2x4096x4096.Idx → EReal) (x : S24576x4096.Idx → EReal)
    (g : S1x4096.Idx → EReal) : S24576x4096.Idx → EReal :=
  fun i => specX o w x i * g (ix2 0 (i 1))

/-- The sums of squares of the new residual's rows, repeated over the lanes. -/
def specS (o : S24576x4096.Idx → EReal) (w : S2x4096x4096.Idx → EReal) (x : S24576x4096.Idx → EReal) :
    S24576x128.Idx → EReal :=
  fun i => ∑ j : Fin 4096, specX o w x (ix2 (i 0) j) * specX o w x (ix2 (i 0) j)

/-! ### The launch -/

variable (V : (c : Dev nD) → (b : Ref sig .tc) → Buf (Elt Ideal) ((c : Thread nD τ).loc b))

theorem idx0 : ∀ t : Fin cfg0.N, win0_0.index t = ![t.val / 8, 0] := (by decide +kernel : ∀ t : Fin grid0.N, _)
theorem idx1 : ∀ t : Fin cfg0.N, win0_1.index t = ![0, 0, t.val % 8] := (by decide +kernel : ∀ t : Fin grid0.N, _)
theorem idx2 : ∀ t : Fin cfg0.N, win0_2.index t = ![t.val / 8, t.val % 8] := (by decide +kernel : ∀ t : Fin grid0.N, _)
theorem idx3 : ∀ t : Fin cfg0.N, win0_3.index t = ![0, t.val % 8] := (by decide +kernel : ∀ t : Fin grid0.N, _)
theorem idx4 : ∀ t : Fin cfg0.N, win0_4.index t = ![t.val / 8, t.val % 8] := (by decide +kernel : ∀ t : Fin grid0.N, _)
theorem idx5 : ∀ t : Fin cfg0.N, win0_5.index t = ![t.val / 8, t.val % 8] := (by decide +kernel : ∀ t : Fin grid0.N, _)
theorem idx6 : ∀ t : Fin cfg0.N, win0_6.index t = ![t.val / 8, 0] := (by decide +kernel : ∀ t : Fin grid0.N, _)

/-- The arrays of the launch as it finds them, as arrays of extended reals. -/
abbrev argO (c : Dev nD) : S24576x4096.Idx → EReal := V c main_arg0
abbrev argW (c : Dev nD) : S2x4096x4096.Idx → EReal := V c main_arg1
abbrev argX (c : Dev nD) : S24576x4096.Idx → EReal := V c main_arg2
abbrev argG (c : Dev nD) : S1x4096.Idx → EReal := V c main_v0

theorem entry_eq_specX (o : S24576x4096.Idx → EReal) (w : S2x4096x4096.Idx → EReal) (x : S24576x4096.Idx → EReal)
    (i : S24576x4096.Idx) (a : EReal) (f g : Fin 4096 → EReal) (ha : a = x i) (hf : ∀ k, f k = o (ix2 (i 0) k))
    (hg : ∀ k, g k = w (ix3 0 k (i 1))) : a + ∑ k : Fin 4096, f k * g k = specX o w x i := by
  rw [ha, funext hf, funext hg]
  rfl

/-- The block point `t` computes of the new residual, at the entry that lands at `i`. -/
theorem blockX (c : Dev nD) (t : Fin cfg0.N) (y : S1024x512.Idx) (i : S24576x4096.Idx)
    (h0 : (i 0).val = t.val / 8 * 1024 + (y 0).val) (h1 : (i 1).val = t.val % 8 * 512 + (y 1).val) :
    k0_pay2 (F := Ideal) (iblk0 V c 2 t) (iblk0 V c 0 t) (iblk0 V c 1 t) y = specX (argO V c) (argW V c) (argX V c) i := by
  refine (pay2_apply _ _ _ _).trans (entry_eq_specX _ _ _ _ _ _ _ ?_ (fun k => ?_) (fun k => ?_))
  · blk_simp [iblk0]
    show V _ _ _ = V _ _ _
    congr 1
    blk_ext [idx2]
  · blk_simp [iblk0]
    show V _ _ _ = V _ _ _
    congr 1
    blk_ext [idx0]
  · blk_simp [iblk0]
    show V _ _ _ = V _ _ _
    congr 1
    blk_ext [idx1]

theorem finalX (c : Dev nD) : (dat0 V c).arrAt 4 cfg0.N = specX (argO V c) (argW V c) (argX V c) := by
  refine (dat0 V c).arrAt_eq_of_covers 4 _ (by decide +kernel) fun t hf y => ?_
  have hy : ∀ y : S1024x512.Idx, (outsAt0 V c t.val t.isLt).1 y
      = k0_pay2 (F := Ideal) (iblk0 V c 2 t) (iblk0 V c 0 t) (iblk0 V c 1 t) y := by
    intro y
    by_cases h : t.val % 8 = 0
    · rw [outsAt0_A V c t h]; frame_out
    · rw [outsAt0_B V c t h]; frame_out
  blk_simp
  rw [after0_4]
  refine (hy _).trans (blockX V c t _ _ ?_ ?_)
  · blk_simp [idx4]
  · blk_simp [idx4]

theorem entry_eq_specH (o : S24576x4096.Idx → EReal) (w : S2x4096x4096.Idx → EReal) (x : S24576x4096.Idx → EReal)
    (g : S1x4096.Idx → EReal) (i : S24576x4096.Idx) (a b : EReal) (ha : a = specX o w x i) (hb : b = g (ix2 0 (i 1))) :
    a * b = specH o w x g i := by
  rw [ha, hb]
  rfl

theorem finalH (c : Dev nD) : (dat0 V c).arrAt 5 cfg0.N = specH (argO V c) (argW V c) (argX V c) (argG V c) := by
  refine (dat0 V c).arrAt_eq_of_covers 5 _ (by decide +kernel) fun t hf y => ?_
  have hy : ∀ y : S1024x512.Idx, (outsAt0 V c t.val t.isLt).2.1 y
      = k0_pay3 (F := Ideal) (iblk0 V c 2 t) (iblk0 V c 0 t) (iblk0 V c 1 t) (iblk0 V c 3 t) y := by
    intro y
    by_cases h : t.val % 8 = 0
    · rw [outsAt0_A V c t h]; frame_out
    · rw [outsAt0_B V c t h]; frame_out
  blk_simp
  rw [after0_5]
  refine (hy _).trans ((pay3_apply _ _ _ _ _).trans (entry_eq_specH _ _ _ _ _ _ _ (blockX V c t _ _ ?_ ?_) ?_))
  · blk_simp [idx5]
  · blk_simp [idx5]
  · blk_simp [iblk0]
    show V _ _ _ = V _ _ _
    congr 1
    blk_ext [idx3, idx5]

theorem sum_eq_specS (o : S24576x4096.Idx → EReal) (w : S2x4096x4096.Idx → EReal) (x : S24576x4096.Idx → EReal)
    (i : S24576x128.Idx) (f : Fin 8 → EReal) (g : Fin 8 → Fin 512 → EReal) (hf : ∀ s, f s = ∑ j : Fin 512, g s j * g s j)
    (hg : ∀ (s : Fin 8) (j : Fin 512), g s j = specX o w x (ix2 (i 0) ⟨s.val * 512 + j.val, by omega⟩)) :
    0 + ∑ s : Fin 8, f s = specS o w x i := by
  unfold specS
  rw [Fin.sum_univ_tiles (N := 4096) 8 512 (by norm_num), zero_add]
  refine Finset.sum_congr rfl fun s _ => (hf s).trans (Finset.sum_congr rfl fun j _ => ?_)
  rw [hg s j]

theorem finalS (c : Dev nD) : (dat0 V c).arrAt 6 cfg0.N = specS (argO V c) (argW V c) (argX V c) := by
  refine (dat0 V c).arrAt_eq_of_covers 6 _ (by decide +kernel) fun t hf y => ?_
  have hN : cfg0.N = 192 := N_0
  have ht := t.isLt
  have hm := (flush0_6 t).mp hf
  blk_simp
  rw [after0_6]
  refine (Pipeline.eq_sum_fin_of_reset_step_apply_of_flush (M := EReal) (fun n h => (outsAt0 V c n h).2.2) 8 (fun _ => 0)
    (fun t => squares (iblk0 V c 2 t) (iblk0 V c 0 t) (iblk0 V c 1 t)) (fun t h i => ?_) (fun t h i => ?_) t hm _).trans ?_
  · rw [outsAt0_A V c t h]
    frame_out
    refine (pay4_apply _ _ _ _ _).trans ?_
    rw [pay1_apply]
  · rw [outsAt0_B V c t h]
    frame_out
    exact pay4_apply _ _ _ _ _
  · refine sum_eq_specS _ _ _ _ _ _ (fun s => rfl) (fun s j => blockX V c _ _ _ ?_ ?_)
    · blk_simp [idx6]
      have hs := s.isLt
      show t.val / 8 * 1024 + (y 0).val = (8 * (t.val / 8) + s.val) / 8 * 1024 + (y 0).val
      omega
    · have hs := s.isLt
      show s.val * 512 + j.val = (8 * (t.val / 8) + s.val) % 8 * 512 + j.val
      omega

end Cert.Proof.SecondOut

end
-- ==== Proof.SecondUp.lean ====
/-
  The first feed-forward product as one launch of the second section, with the second layer's weights: what it leaves in its result
  array from nonnegative sums of squares.
-/
module

public import proofs.«01_k».proof.Proof.Gen.SecondIdeal.Frame
public import Idealize.ShloMosaic.Lib.Pipeline.ValueKit
public import Idealize.ShloMosaic.Lib.Pointwise
public import proofs.«01_k».proof.Proof.Scalars

@[expose] public section

noncomputable section

namespace Cert.Proof.SecondUp

open Idealize.ShloMosaic Idealize.ShloMosaic.TcCoe Idealize.SL.Sem
open Cert.SecondIdeal Cert.SecondIdeal.Gen

/-- The scale of a row from its sum of squares, as the kernel writes it. -/
abbrev scale (s : EReal) : EReal :=
  Ideal.rsqrt (s * Ideal.ofBits .f32 0x39800000#32 + Ideal.ofBits .f32 0x358637BD#32)

/-- The squared `relu` of an extended real. -/
abbrev relu2 (x : EReal) : EReal := max x 0 * max x 0

/-- One block of the kernel, entry by entry: the product, scaled by the row's reciprocal root, clipped and squared. -/
theorem block_apply (x : Vec Ideal S1024x4096 .bf16) (w : Vec Ideal S1x4096x1024 .bf16) (s : Vec Ideal S1024x1 .f32)
    (y : S1024x1024.Idx) :
    k1_pay1 (F := Ideal) x w s y
      = relu2 ((∑ k : Fin 4096, x (ix2 (y 0) k) * w (ix3 0 k (y 1))) * scale (s (ix2 (y 0) 0))) := by
  pointwise [k1_pay1]

/-- The layer's formula: the rows scaled first, then the product. -/
def spec (h : S24576x4096.Idx → EReal) (w : S4x4096x16384.Idx → EReal) (s : S24576x128.Idx → EReal) :
    S24576x16384.Idx → EReal :=
  fun i => relu2 (∑ k : Fin 4096, h (ix2 (i 0) k) * scale (s (ix2 (i 0) 0)) * w (ix3 1 k (i 1)))

/-- Scaling after the product is scaling before it. -/
theorem scale_sum {f g : Fin 4096 → EReal} {s : EReal} (hs : 0 ≤ s) :
    (∑ k, f k * g k) * scale s = ∑ k, f k * scale s * g k := by
  rw [Scalars.sum_mul_of_nonneg _ _ (Scalars.rsqrt_eps hs).1 (Scalars.rsqrt_eps hs).2]
  exact Finset.sum_congr rfl fun k _ => by rw [mul_right_comm]

variable (V : (c : Dev nD) → (b : Ref sig .tc) → Buf (Elt Ideal) ((c : Thread nD τ).loc b))

theorem idx0 : ∀ t : Fin cfg1.N, win1_0.index t = ![(grid1.coords t 0).val, 0] := by decide +kernel
theorem idx1 : ∀ t : Fin cfg1.N, win1_1.index t = ![1, 0, (grid1.coords t 1).val] := by decide +kernel
theorem idx2 : ∀ t : Fin cfg1.N, win1_2.index t = ![(grid1.coords t 0).val, 0] := by decide +kernel
theorem idx3 : ∀ t : Fin cfg1.N, win1_3.index t = ![(grid1.coords t 0).val, (grid1.coords t 1).val] := by decide +kernel

/-- A block's entry is `spec` at an index once its factors are. -/
theorem entry_eq_spec (h : S24576x4096.Idx → EReal) (w : S4x4096x16384.Idx → EReal) (s : S24576x128.Idx → EReal)
    (i : S24576x16384.Idx) (f g : Fin 4096 → EReal) (r : EReal) (hs : 0 ≤ s (ix2 (i 0) 0))
    (hf : ∀ k, f k = h (ix2 (i 0) k)) (hg : ∀ k, g k = w (ix3 1 k (i 1))) (hr : r = s (ix2 (i 0) 0)) :
    relu2 ((∑ k, f k * g k) * scale r) = spec h w s i := by
  subst hr
  rw [scale_sum hs, funext hf, funext hg]
  rfl

/-- The array the launch leaves, where every sum of squares is nonnegative. -/
theorem final (c : Dev nD) (hs : ∀ i, (0 : EReal) ≤ V c main_v1_2 i) :
    (dat1 V c).arrAt 3 cfg1.N
      = spec (V c main_v1_1) (V c main_arg4) (V c main_v1_2) := by
  refine (dat1 V c).arrAt_eq_of_covers 3 _ (by decide +kernel) fun t hf y => ?_
  blk_simp
  rw [after1_3]
  frame_out
  refine (block_apply _ _ _ _).trans (entry_eq_spec _ _ _ _ _ _ _ (hs _) (fun k => ?_) (fun k => ?_) ?_)
  · blk_simp [iblk1]
    show V _ _ _ = V _ _ _
    congr 1
    blk_ext [idx0, idx3]
  · blk_simp [iblk1]
    show V _ _ _ = V _ _ _
    congr 1
    blk_ext [idx1, idx3]
  · blk_simp [iblk1]
    show V _ _ _ = V _ _ _
    congr 1
    blk_ext [idx2, idx3]
    · congr 1
      show 0 + 1 * (y 0).val = (y 0).val
      omega
    · rfl

end Cert.Proof.SecondUp

end
-- ==== Proof.SecondDown.lean ====
/-
  The second feed-forward product as one launch of the second section, with the second layer's weights: what it leaves in its result
  array.
-/
module

public import proofs.«01_k».proof.Proof.Gen.SecondIdeal.Frame
public import Idealize.ShloMosaic.Lib.Pipeline.ValueKit
public import Idealize.ShloMosaic.Lib.Pointwise

@[expose] public section

noncomputable section

namespace Cert.Proof.SecondDown

open Idealize.ShloMosaic Idealize.ShloMosaic.TcCoe Idealize.SL.Sem
open Cert.SecondIdeal Cert.SecondIdeal.Gen

/-- What one grid point adds to its block, entry by entry. -/
theorem block_apply (a : Vec Ideal S2048x1024 .f32) (u : Vec Ideal S2048x1024 .bf16) (w : Vec Ideal S1x1024x1024 .bf16)
    (y : S2048x1024.Idx) :
    k2_pay1 (F := Ideal) a u w y = a y + ∑ k : Fin 1024, u (ix2 (y 0) k) * w (ix3 0 k (y 1)) := by
  pointwise [k2_pay1]

/-- One product of a block's row with a block's column. -/
def term (u : Vec Ideal S2048x1024 .bf16) (w : Vec Ideal S1x1024x1024 .bf16) (y : S2048x1024.Idx) (k : Fin 1024) : EReal :=
  u (ix2 (y 0) k) * w (ix3 0 k (y 1))

/-- The residual plus the product, as one function of the three arguments. -/
def spec (u : S24576x16384.Idx → EReal) (w : S4x16384x4096.Idx → EReal) (x : S24576x4096.Idx → EReal) :
    S24576x4096.Idx → EReal :=
  fun i => x i + ∑ k : Fin 16384, u (ix2 (i 0) k) * w (ix3 1 k (i 1))

/-- The sum cut in sixteen tiles is `spec` at an index once its terms are. -/
theorem tiles_eq_spec (u : S24576x16384.Idx → EReal) (w : S4x16384x4096.Idx → EReal) (x : S24576x4096.Idx → EReal)
    (i : S24576x4096.Idx) (a : EReal) (f : ℕ → EReal) (g : Fin 16 → Fin 1024 → EReal) (ha : a = x i)
    (hf : ∀ s : Fin 16, f s.val = ∑ k : Fin 1024, g s k)
    (hg : ∀ (s : Fin 16) (k : Fin 1024), g s k = u (ix2 (i 0) ⟨s.val * 1024 + k.val, by omega⟩)
      * w (ix3 1 ⟨s.val * 1024 + k.val, by omega⟩ (i 1))) :
    a + ∑ s ∈ Finset.range 16, f s = spec u w x i := by
  unfold spec
  rw [ha, Fin.sum_univ_tiles 16 1024 (by norm_num), Finset.sum_range]
  congr 1
  refine Finset.sum_congr rfl fun s _ => (hf s).trans (Finset.sum_congr rfl fun k _ => hg s k)

variable (V : (c : Dev nD) → (b : Ref sig .tc) → Buf (Elt Ideal) ((c : Thread nD τ).loc b))

theorem idx0 : ∀ t : Fin cfg2.N, win2_0.index t = ![t.val / 64, t.val % 16] :=
  (by decide +kernel : ∀ t : Fin grid2.N, _)
theorem idx1 : ∀ t : Fin cfg2.N, win2_1.index t = ![1, t.val % 16, t.val / 16 % 4] :=
  (by decide +kernel : ∀ t : Fin grid2.N, _)
theorem idx2 : ∀ t : Fin cfg2.N, win2_2.index t = ![t.val / 64, t.val / 16 % 4] :=
  (by decide +kernel : ∀ t : Fin grid2.N, _)
theorem idx3 : ∀ t : Fin cfg2.N, win2_3.index t = ![t.val / 64, t.val / 16 % 4] :=
  (by decide +kernel : ∀ t : Fin grid2.N, _)

/-- What point `n` adds to its block. -/
def addend (c : Dev nD) (n : ℕ) (y : S2048x1024.Idx) : EReal :=
  if h : n < cfg2.N then
    ∑ k : Fin 1024, term (iblk2 V c 0 ⟨n, h⟩) (iblk2 V c 1 ⟨n, h⟩) y k
  else 0

/-- A run's first point starts from the residual's block; each later point adds its products to what is there. -/
def reset (c : Dev nD) (n : ℕ) (h : n < cfg2.N) : Vec Ideal S2048x1024 .f32 :=
  k2_pay1 (F := Ideal) (iblk2 V c 2 ⟨n, h⟩) (iblk2 V c 0 ⟨n, h⟩) (iblk2 V c 1 ⟨n, h⟩)

def step (c : Dev nD) (n : ℕ) (h : n < cfg2.N) (acc : Vec Ideal S2048x1024 .f32) : Vec Ideal S2048x1024 .f32 :=
  k2_pay1 (F := Ideal) acc (iblk2 V c 0 ⟨n, h⟩) (iblk2 V c 1 ⟨n, h⟩)

theorem reset_eq (c : Dev nD) (t : Fin cfg2.N) (h0 : t.val % 16 = 0) :
    outsAt2 V c t.val t.isLt = reset V c t.val t.isLt := by
  funext y
  rw [outsAt2_A V c t h0]
  unfold reset
  frame_out

theorem step_eq (c : Dev nD) (t : Fin cfg2.N) (h0 : ¬t.val % 16 = 0) :
    outsAt2 V c t.val t.isLt
      = step V c t.val t.isLt (outsAt2 V c (t.val - 1) (Nat.lt_of_le_of_lt (Nat.sub_le _ _) t.isLt)) := by
  funext y
  rw [outsAt2_B V c t h0]
  unfold step
  frame_out

/-- The array the launch leaves. -/
theorem final (c : Dev nD) :
    (dat2 V c).arrAt 3 cfg2.N
      = spec (V c main_v2) (V c main_arg5)
          (V c main_v1_0) := by
  refine (dat2 V c).arrAt_eq_of_covers 3 _ (by decide +kernel) fun t hf y => ?_
  have hm := (flush2_3 t).mp hf
  have hN : cfg2.N = 768 := N_2
  have ht := t.isLt
  blk_simp
  rw [after2_3]
  have hb : 16 * (t.val / 16) < cfg2.N := by omega
  have hacc : outsAt2 V c t.val t.isLt
      = Pipeline.accAt (reset V c) (step V c) (16 * (t.val / 16)) (t.val % 16) (by omega) :=
    Pipeline.eq_accAt_of_mod (fun n h => outsAt2 V c n h) 16 (reset V c) (step V c)
      (fun n h hn => reset_eq V c ⟨n, h⟩ (by try dsimp only
                                             omega))
      (fun n h hn => step_eq V c ⟨n + 1, h⟩ (by try dsimp only
                                                omega))
      (by decide) t.val t.isLt _
  rw [hacc]
  refine (Pipeline.accAt_add_apply (β := EReal) (reset V c) (step V c) (iblk2 V c 2 ⟨16 * (t.val / 16), hb⟩)
    (addend V c) (16 * (t.val / 16)) 15 (fun h i => ?_) (fun n h acc i _ _ => ?_) (t.val % 16) (by omega) _ y).trans ?_
  · unfold reset addend
    rw [dif_pos h]
    exact block_apply _ _ _ _
  · unfold step addend
    rw [dif_pos h]
    exact block_apply _ _ _ _
  · rw [hm]
    refine tiles_eq_spec _ _ _ _ _ _ (fun s k => term (iblk2 V c 0 ⟨16 * (t.val / 16) + s.val, by omega⟩)
      (iblk2 V c 1 ⟨16 * (t.val / 16) + s.val, by omega⟩) y k) ?_ (fun s => ?_) (fun s k => ?_)
    · blk_simp [iblk2]
      show V _ _ _ = V _ _ _
      congr 1
      blk_ext [idx2, idx3]
    · unfold addend
      rw [dif_pos (by omega)]
    · unfold term
      blk_simp [iblk2]
      congr 1
      · show V _ _ _ = V _ _ _
        congr 1
        blk_ext [idx0, idx3]
      · show V _ _ _ = V _ _ _
        congr 1
        blk_ext [idx1, idx3]

end Cert.Proof.SecondDown

end
-- ==== Proof.SecondNorm.lean ====
/-
  The norm ahead of the next mixer as one launch of the second section: what it leaves in its result array.
-/
module

public import proofs.«01_k».proof.Proof.Gen.SecondIdeal.Frame
public import Idealize.ShloMosaic.Lib.Pipeline.ValueKit
public import Idealize.ShloMosaic.Lib.Pointwise

@[expose] public section

noncomputable section

namespace Cert.Proof.SecondNorm

open Idealize.ShloMosaic Idealize.ShloMosaic.TcCoe Idealize.SL.Sem
open Cert.SecondIdeal Cert.SecondIdeal.Gen

/-- The scale of a row. -/
abbrev rowScale (x : Fin 4096 → EReal) : EReal :=
  Ideal.rsqrt (Ideal.div (∑ k : Fin 4096, x k * x k) (Ideal.ofBits .f32 0x45800000#32) + Ideal.ofBits .f32 0x358637BD#32)

/-- One block of the kernel, entry by entry. -/
theorem block_apply (x : Vec Ideal S512x4096 .f32) (g : Vec Ideal S1x4096 .f32) (y : S512x4096.Idx) :
    k3_pay1 (F := Ideal) x g y = x y * rowScale (fun k => x (ix2 (y 0) k)) * g (ix2 0 (y 1)) := by
  pointwise [k3_pay1]

/-- The norm of a row under its gain. -/
def spec (x : S24576x4096.Idx → EReal) (g : S1x4096.Idx → EReal) : S24576x4096.Idx → EReal :=
  fun i => x i
    * rowScale (fun k => x (ix2 (i 0) k)) * g (ix2 0 (i 1))

variable (V : (c : Dev nD) → (b : Ref sig .tc) → Buf (Elt Ideal) ((c : Thread nD τ).loc b))

theorem idx0 : ∀ t : Fin cfg3.N, win3_0.index t = ![(grid3.coords t 0).val, 0] := by decide +kernel
theorem idx1 : ∀ t : Fin cfg3.N, win3_1.index t = ![0, 0] := by decide +kernel
theorem idx2 : ∀ t : Fin cfg3.N, win3_2.index t = ![(grid3.coords t 0).val, 0] := by decide +kernel

/-- An entry is `spec` at an index once its parts are. -/
theorem entry_eq_spec (x : S24576x4096.Idx → EReal) (g : S1x4096.Idx → EReal) (i : S24576x4096.Idx) (f : Fin 4096 → EReal)
    (a b : EReal) (ha : a = x i)
    (hf : ∀ k, f k = x (ix2 (i 0) k)) (hb : b = g (ix2 0 (i 1))) :
    a * rowScale f * b = spec x g i := by
  rw [funext hf, ha, hb]
  rfl

/-- The array the launch leaves. -/
theorem final (c : Dev nD) :
    (dat3 V c).arrAt 2 cfg3.N
      = spec (V c main_v3) (V c main_v4) := by
  refine (dat3 V c).arrAt_eq_of_covers 2 _ (by decide +kernel) fun t hf y => ?_
  blk_simp
  rw [after3_2]
  frame_out
  refine (block_apply _ _ _).trans (entry_eq_spec _ _ _ _ _ _ ?_ (fun k => ?_) ?_)
  · blk_simp [iblk3]
    show V _ _ _ = V _ _ _
    congr 1
    blk_ext [idx0, idx2]
  · blk_simp [iblk3]
    show V _ _ _ = V _ _ _
    congr 1
    blk_ext [idx0, idx2]
  · blk_simp [iblk3]
    show V _ _ _ = V _ _ _
    congr 1
    blk_ext [idx1, idx2]

end Cert.Proof.SecondNorm

end
-- ==== Proof.SecondProj.lean ====
/-
  The input projection of the next mixer as one launch of the second section: what it leaves in its result array.
-/
module

public import proofs.«01_k».proof.Proof.Gen.SecondIdeal.Frame
public import Idealize.ShloMosaic.Lib.Pipeline.ValueKit
public import Idealize.ShloMosaic.Lib.Pointwise

@[expose] public section

noncomputable section

namespace Cert.Proof.SecondProj

open Idealize.ShloMosaic Idealize.ShloMosaic.TcCoe Idealize.SL.Sem
open Cert.SecondIdeal Cert.SecondIdeal.Gen

/-- One block's product, entry by entry. -/
theorem block_apply (x : Vec Ideal S1024x4096 .bf16) (w : Vec Ideal S1x4096x1024 .bf16) (y : S1024x1024.Idx) :
    k4_pay1 (F := Ideal) x w y = ∑ k : Fin 4096, x (ix2 (y 0) k) * w (ix3 0 k (y 1)) := by
  pointwise [k4_pay1]

variable (V : (c : Dev nD) → (b : Ref sig .tc) → Buf (Elt Ideal) ((c : Thread nD τ).loc b))

theorem idx0 : ∀ t : Fin cfg4.N, win4_0.index t = ![(grid4.coords t 0).val, 0] := by decide +kernel
theorem idx1 : ∀ t : Fin cfg4.N, win4_1.index t = ![1, 0, (grid4.coords t 1).val] := by decide +kernel
theorem idx2 : ∀ t : Fin cfg4.N, win4_2.index t = ![(grid4.coords t 0).val, (grid4.coords t 1).val] := by decide +kernel

/-- The product as one function of the two argument arrays. -/
def spec (h : S24576x4096.Idx → EReal) (w : S2x4096x12288.Idx → EReal) : S24576x12288.Idx → EReal :=
  fun i => ∑ k : Fin 4096, h (ix2 (i 0) k) * w (ix3 1 k (i 1))

/-- A sum of products is `spec` at an index once its terms are. -/
theorem sum_eq_spec (h : S24576x4096.Idx → EReal) (w : S2x4096x12288.Idx → EReal) (i : S24576x12288.Idx) (f : Fin 4096 → EReal)
    (hf : ∀ k, f k = h (ix2 (i 0) k) * w (ix3 1 k (i 1))) : ∑ k : Fin 4096, f k = spec h w i :=
  Finset.sum_congr rfl fun k _ => hf k

/-- The array the launch leaves. -/
theorem final (c : Dev nD) :
    (dat4 V c).arrAt 2 cfg4.N
      = spec (V c main_v5) (V c main_arg7) := by
  refine (dat4 V c).arrAt_eq_of_covers 2 _ (by decide +kernel) fun t hf y => ?_
  blk_simp
  rw [after4_2]
  frame_out
  refine (block_apply _ _ _).trans (sum_eq_spec _ _ _ _ fun k => ?_)
  blk_simp [iblk4]
  congr 1
  · show V _ _ _ = V _ _ _
    congr 1
    blk_ext [idx0, idx2]
  · show V _ _ _ = V _ _ _
    congr 1
    blk_ext [idx1, idx2]

end Cert.Proof.SecondProj

end
-- ==== Proof.SecondRun.lean ====
/-
  The second section's five launches in order: what each finds in its arrays, up to the two results, the stream and the
  next mixer's input.
-/
module

public import proofs.«01_k».proof.Proof.SecondOut
public import proofs.«01_k».proof.Proof.SecondUp
public import proofs.«01_k».proof.Proof.SecondDown
public import proofs.«01_k».proof.Proof.SecondNorm
public import proofs.«01_k».proof.Proof.SecondProj

@[expose] public section

noncomputable section

namespace Cert.Proof.SecondRun

open Idealize.ShloMosaic Idealize.ShloMosaic.TcCoe Idealize.SL.Sem
open Cert.SecondIdeal Cert.SecondIdeal.Gen

variable (m : (ℓ : Loc nD τ sig) → Buf (Elt Ideal) ℓ) (ρ : Dev nD → PrngReg)

/-- The arguments, as arrays of extended reals. -/
abbrev argO (c : Dev nD) : S24576x4096.Idx → EReal := m ((c : Thread nD τ).loc main_arg0)
abbrev argWo (c : Dev nD) : S2x4096x4096.Idx → EReal := m ((c : Thread nD τ).loc main_arg1)
abbrev argX (c : Dev nD) : S24576x4096.Idx → EReal := m ((c : Thread nD τ).loc main_arg2)
abbrev argG (c : Dev nD) : S4096.Idx → EReal := m ((c : Thread nD τ).loc main_arg3)
abbrev argWu (c : Dev nD) : S4x4096x16384.Idx → EReal := m ((c : Thread nD τ).loc main_arg4)
abbrev argWd (c : Dev nD) : S4x16384x4096.Idx → EReal := m ((c : Thread nD τ).loc main_arg5)
abbrev argGm (c : Dev nD) : S4096.Idx → EReal := m ((c : Thread nD τ).loc main_arg6)
abbrev argWi (c : Dev nD) : S2x4096x12288.Idx → EReal := m ((c : Thread nD τ).loc main_arg7)

/-- A gain laid out as a one-row matrix. -/
abbrev asRow (g : Vec Ideal S4096 .f32) : Vec Ideal S1x4096 .f32 := shapeCast S1x4096 g shapeCasts_S4096_S1x4096

theorem asRow_apply (g : Vec Ideal S4096 .f32) (j : Fin 4096) : asRow g (ix2 0 j) = g (ix1 j) := by
  pointwise

/-! ### The gains as the launches find them -/

theorem gain1 (c : Dev nD) : V1 m ρ c main_v0 = asRow (argG m c) := by
  show StableHlo.after hostOps0 (W0 m ρ c) (Proc.devRef .tc main_v0) = _
  after_results
  rfl

theorem gain3 (c : Dev nD) : V6 m ρ c main_v4 = asRow (argGm m c) := by
  rw [show argGm m c = W5 m ρ c (Proc.devRef .tc main_arg6) from (W5_args m ρ c main_arg6 (by decide)).symm]
  show StableHlo.after hostOps3 (W5 m ρ c) (Proc.devRef .tc main_v4) = _
  after_results
  rfl

/-! ### What each launch leaves -/

abbrev resX (c : Dev nD) : S24576x4096.Idx → EReal := SecondOut.specX (argO m c) (argWo m c) (argX m c)
abbrev resH (c : Dev nD) : S24576x4096.Idx → EReal :=
  SecondOut.specH (argO m c) (argWo m c) (argX m c) (asRow (argG m c))
abbrev resS (c : Dev nD) : S24576x128.Idx → EReal := SecondOut.specS (argO m c) (argWo m c) (argX m c)
abbrev resU (c : Dev nD) : S24576x16384.Idx → EReal := SecondUp.spec (resH m c) (argWu m c) (resS m c)
abbrev resY (c : Dev nD) : S24576x4096.Idx → EReal := SecondDown.spec (resU m c) (argWd m c) (resX m c)

theorem entry1 (c : Dev nD) : SecondOut.argO (V1 m ρ) c = argO m c ∧ SecondOut.argW (V1 m ρ) c = argWo m c
    ∧ SecondOut.argX (V1 m ρ) c = argX m c :=
  ⟨W1_args m ρ c main_arg0 (by decide), W1_args m ρ c main_arg1 (by decide), W1_args m ρ c main_arg2 (by decide)⟩

theorem leftX (c : Dev nD) : V2 m ρ c main_v1_0 = resX m c := by
  refine (W2_arr m ρ c 4).trans ((SecondOut.finalX (V1 m ρ) c).trans ?_)
  rw [(entry1 m ρ c).1, (entry1 m ρ c).2.1, (entry1 m ρ c).2.2]

theorem leftH (c : Dev nD) : V2 m ρ c main_v1_1 = resH m c := by
  refine (W2_arr m ρ c 5).trans ((SecondOut.finalH (V1 m ρ) c).trans ?_)
  rw [(entry1 m ρ c).1, (entry1 m ρ c).2.1, (entry1 m ρ c).2.2]
  exact congrArg _ (gain1 m ρ c)

theorem leftS (c : Dev nD) : V2 m ρ c main_v1_2 = resS m c := by
  refine (W2_arr m ρ c 6).trans ((SecondOut.finalS (V1 m ρ) c).trans ?_)
  rw [(entry1 m ρ c).1, (entry1 m ρ c).2.1, (entry1 m ρ c).2.2]

/-- A square is nonnegative. -/
theorem square_nonneg (a : EReal) : 0 ≤ a * a := by
  rcases le_total 0 a with h | h
  · exact mul_nonneg h h
  · have : 0 ≤ -a * -a := mul_nonneg (EReal.neg_nonneg.2 h) (EReal.neg_nonneg.2 h)
    rwa [neg_mul_neg] at this

theorem resS_nonneg (c : Dev nD) (i : S24576x128.Idx) : 0 ≤ resS m c i :=
  Finset.sum_nonneg fun _ _ => square_nonneg _

theorem leftU (c : Dev nD) : V3 m ρ c main_v2 = resU m c := by
  have hS := leftS m ρ c
  refine (W3_arr m ρ c 3).trans ((SecondUp.final (V2 m ρ) c fun i => ?_).trans ?_)
  · rw [hS]
    exact resS_nonneg m c i
  · rw [hS, leftH m ρ c, show V2 m ρ c main_arg4 = argWu m c from W2_args m ρ c main_arg4 (by decide)]

theorem leftY (c : Dev nD) : V5 m ρ c main_v3 = resY m c := by
  refine (W5_arr m ρ c 3).trans ((SecondDown.final (V4 m ρ) c).trans ?_)
  rw [show V4 m ρ c main_v2 = resU m c from (W4_of m ρ c main_v2 (by decide)).trans (leftU m ρ c),
    show V4 m ρ c main_arg5 = argWd m c from W4_args m ρ c main_arg5 (by decide),
    show V4 m ρ c main_v1_0 = resX m c from
      (W4_of m ρ c main_v1_0 (by decide)).trans ((W3_of m ρ c main_v1_0 (by decide)).trans (leftX m ρ c))]

/-- The norm the last product reads. -/
abbrev resN (c : Dev nD) : S24576x4096.Idx → EReal := SecondNorm.spec (resY m c) (asRow (argGm m c))

theorem leftN (c : Dev nD) : V7 m ρ c main_v5 = resN m c := by
  refine (W7_arr m ρ c 2).trans ((SecondNorm.final (V6 m ρ) c).trans ?_)
  rw [gain3, show V6 m ρ c main_v3 = resY m c from (W6_of m ρ c main_v3 (by decide)).trans (leftY m ρ c)]

theorem leftStream (c : Dev nD) : W8 m ρ c (Proc.devRef .tc main_v3) = resY m c :=
  (W8_of m ρ c main_v3 (by decide)).trans ((W7_of m ρ c main_v3 (by decide)).trans
    ((W6_of m ρ c main_v3 (by decide)).trans (leftY m ρ c)))

theorem leftProj (c : Dev nD) : W8 m ρ c (Proc.devRef .tc main_v6) = SecondProj.spec (resN m c) (argWi m c) := by
  refine (W8_arr m ρ c 2).trans ((SecondProj.final (V7 m ρ) c).trans ?_)
  rw [leftN, show V7 m ρ c main_arg7 = argWi m c from W7_args m ρ c main_arg7 (by decide)]

end Cert.Proof.SecondRun

end
-- ==== Proof.SecondRef.lean ====
/-
  The second section as a formula: the second layer after its attention, and the norm and the input projection of the third
  layer; the reference's two results are that formula's.
-/
module

public import proofs.«01_k».proof.Defs
public import proofs.«01_k».proof.Proof.Gen.SecondRefIdeal.Read
public import Idealize.ShloMosaic.Lib.Pointwise

@[expose] public section

noncomputable section

namespace Cert.Proof.SecondRef

open Idealize.ShloMosaic Idealize.ShloMosaic.TcCoe Idealize.SL.Sem
open Cert.SecondRefIdeal Cert.SecondRefIdeal.Gen Cert.SecondRefIdeal.Read

/-- The reciprocal root of a row's mean square plus epsilon. -/
abbrev rowScale (x : Fin 4096 → EReal) : EReal :=
  Ideal.rsqrt (Ideal.div (∑ k : Fin 4096, x k * x k) (Ideal.ofBits .f32 0x45800000#32) + Ideal.ofBits .f32 0x358637BD#32)

/-- The norm of every row under a gain. -/
def normed (x : S24576x4096.Idx → EReal) (g : S4096.Idx → EReal) : S24576x4096.Idx → EReal :=
  fun i => x i * rowScale (fun k => x (ix2 (i 0) k)) * g (ix1 (i 1))

/-- The stream after the recurrence's output projection. -/
def stream (o : S24576x4096.Idx → EReal) (w : S2x4096x4096.Idx → EReal) (x : S24576x4096.Idx → EReal) :
    S24576x4096.Idx → EReal :=
  fun i => x i + ∑ k : Fin 4096, o (ix2 (i 0) k) * w (ix3 0 k (i 1))

/-- The hidden layer: the squared `relu` of a product. -/
def hidden (h : S24576x4096.Idx → EReal) (w : S4x4096x16384.Idx → EReal) : S24576x16384.Idx → EReal :=
  fun i => max (∑ k : Fin 4096, h (ix2 (i 0) k) * w (ix3 1 k (i 1))) 0
    * max (∑ k : Fin 4096, h (ix2 (i 0) k) * w (ix3 1 k (i 1))) 0

/-- The stream after the feed-forward layer. -/
def after (u : S24576x16384.Idx → EReal) (w : S4x16384x4096.Idx → EReal) (x : S24576x4096.Idx → EReal) :
    S24576x4096.Idx → EReal :=
  fun i => x i + ∑ k : Fin 16384, u (ix2 (i 0) k) * w (ix3 1 k (i 1))

/-- The second layer's stream at its end. -/
def ended (o : S24576x4096.Idx → EReal) (wo : S2x4096x4096.Idx → EReal) (x : S24576x4096.Idx → EReal)
    (g : S4096.Idx → EReal) (wu : S4x4096x16384.Idx → EReal) (wd : S4x16384x4096.Idx → EReal) : S24576x4096.Idx → EReal :=
  after (hidden (normed (stream o wo x) g) wu) wd (stream o wo x)

/-- The next mixer's input. -/
def mixed (h : S24576x4096.Idx → EReal) (w : S2x4096x12288.Idx → EReal) : S24576x12288.Idx → EReal :=
  fun i => ∑ k : Fin 4096, h (ix2 (i 0) k) * w (ix3 1 k (i 1))

variable (o : S24576x4096.Idx → EReal) (wo : S2x4096x4096.Idx → EReal) (x : S24576x4096.Idx → EReal)
  (g : S4096.Idx → EReal) (wu : S4x4096x16384.Idx → EReal) (wd : S4x16384x4096.Idx → EReal) (gm : S4096.Idx → EReal)
  (wi : S2x4096x12288.Idx → EReal)

theorem stream_eq : val_main_v5 (F := Ideal) o wo x = stream o wo x := by
  funext i
  pointwise [stream, val_main_v5, val_main_v4, val_main_v3, val_main_v2, val_main_v1, val_main_v0]

theorem normed_eq : val_main_v18 (F := Ideal) o wo x g = normed (stream o wo x) g := by
  rw [← stream_eq]
  funext i
  pointwise [normed, val_main_v18, val_main_v17, val_main_v16, val_main_v15, val_main_v14, val_main_v13, val_main_v12,
    val_main_v11, val_main_v10, val_main_v9, val_main_v8, val_main_v7, val_main_v6, val_main_cst, val_main_cst_0,
    val_main_cst_1]

theorem hidden_eq : val_main_v24 (F := Ideal) o wo x g wu = hidden (normed (stream o wo x) g) wu := by
  rw [← normed_eq]
  funext i
  pointwise [hidden, val_main_v24, val_main_v23, val_main_v22, val_main_v21, val_main_v20, val_main_v19,
    val_main_call0_cst, val_main_call0_v0]

theorem ended_eq : val_main_v29 (F := Ideal) o wo x g wu wd = ended o wo x g wu wd := by
  unfold ended
  rw [← hidden_eq, ← stream_eq]
  funext i
  pointwise [after, val_main_v29, val_main_v28, val_main_v27, val_main_v26, val_main_v25]

theorem last_eq : val_main_v42 (F := Ideal) o wo x g wu wd gm = normed (ended o wo x g wu wd) gm := by
  rw [← ended_eq]
  funext i
  pointwise [normed, val_main_v42, val_main_v41, val_main_v40, val_main_v39, val_main_v38, val_main_v37, val_main_v36,
    val_main_v35, val_main_v34, val_main_v33, val_main_v32, val_main_v31, val_main_v30, val_main_cst_2, val_main_cst_3,
    val_main_cst_4]

theorem mixed_eq : val_main_v47 (F := Ideal) o wo x g wu wd gm wi = mixed (normed (ended o wo x g wu wd) gm) wi := by
  rw [← last_eq]
  funext i
  pointwise [mixed, val_main_v47, val_main_v46, val_main_v45, val_main_v44, val_main_v43]

end Cert.Proof.SecondRef

end
-- ==== Proof.SecondEnd.lean ====
/-
  A run of the second section's program, read at its end: every array holds the last contents of the chain of launches.
-/
module

public import proofs.«01_k».proof.Proof.Gen.SecondIdeal.Frame

@[expose] public section

noncomputable section

namespace Cert.Proof.SecondEnd

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.SecondIdeal Cert.SecondIdeal.Gen

variable {F : FTy → Type} [FloatOps F] (m : (ℓ : Loc nD τ sig) → Buf (Elt F) ℓ) (ρ : Dev nD → PrngReg)

set_option backward.isDefEq.respectTransparency.types false in
/-- Every run ends with each array at the last contents of the chain. -/
theorem run : θ_run defs (onTc (τ := τ) (main (F := F))) ⟨m, fun _ => 0, ρ⟩ (fun r => (∀ c : Dev nD,
      ∀ b ∈ Pipeline.ucRefs τ sig, r.2.mem (((c : Thread nD τ)).1, b) = W8 m ρ c b)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ))
        ⊢ bigSep Finset.univ (fun _ : Dev nD => BI.emp) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl,
      fun _ => .rfl, fun _ => .rfl, fun _ => .rfl⟩)
    (hinit := by
      refine Pipeline.initEach L lv fun c => ?_
      rw [show unscopedBufs c (fun b => m ((c : Thread nD τ).loc b))
          = StableHlo.held (c : Thread nD τ) (Pipeline.ucRefs τ sig) (W0 m ρ c) from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h _ c => h c)

end Cert.Proof.SecondEnd

end
-- ==== Proof.SecondValue.lean ====
/-
  From the first recurrence's output to the second attention's input in one program: five launches run one after another
  leave the plain formula's stream and projection.
-/
module

public import proofs.«01_k».proof.Defs
public import proofs.«01_k».proof.Proof.SecondRun
public import proofs.«01_k».proof.Proof.SecondRef
public import proofs.«01_k».proof.Proof.SecondEnd
public import proofs.«01_k».proof.Proof.Gen.SecondRefIdeal.Run

@[expose] public section

noncomputable section

namespace Cert.Proof.SecondValue

open Idealize.ShloMosaic Idealize.ShloMosaic.TcCoe Idealize.SL.Sem
open Cert.SecondIdeal Cert.SecondIdeal.Gen
open Cert.Proof.SecondRun Cert.Proof.SecondRef

/-! ### The launches' formulas and the plain one -/

/-- Gain first and the row's scale after it is the norm under the gain. -/
theorem term_eq (o : S24576x4096.Idx → EReal) (wo : S2x4096x4096.Idx → EReal) (x : S24576x4096.Idx → EReal)
    (g : S4096.Idx → EReal) (r : Fin 24576) (k : Fin 4096) :
    SecondOut.specH o wo x (asRow g) (ix2 r k) * SecondUp.scale (SecondOut.specS o wo x (ix2 r 0))
      = normed (stream o wo x) g (ix2 r k) := by
  have h1 : SecondOut.specH o wo x (asRow g) (ix2 r k) = stream o wo x (ix2 r k) * g (ix1 k) :=
    congrArg (stream o wo x (ix2 r k) * ·) (asRow_apply g k)
  have h2 : SecondUp.scale (SecondOut.specS o wo x (ix2 r 0)) = rowScale (fun j => stream o wo x (ix2 r j)) := by
    unfold SecondUp.scale rowScale
    rw [Scalars.div_4096]
    rfl
  rw [h1, h2, mul_right_comm]
  rfl

theorem hidden_eq (o : S24576x4096.Idx → EReal) (wo : S2x4096x4096.Idx → EReal) (x : S24576x4096.Idx → EReal)
    (g : S4096.Idx → EReal) (wu : S4x4096x16384.Idx → EReal) :
    SecondUp.spec (SecondOut.specH o wo x (asRow g)) wu (SecondOut.specS o wo x) = SecondRef.hidden (normed (stream o wo x) g) wu := by
  funext i
  have h : ∀ k : Fin 4096, SecondOut.specH o wo x (asRow g) (ix2 (i 0) k) * SecondUp.scale (SecondOut.specS o wo x (ix2 (i 0) 0))
      * wu (ix3 1 k (i 1)) = normed (stream o wo x) g (ix2 (i 0) k) * wu (ix3 1 k (i 1)) :=
    fun k => congrArg (· * wu (ix3 1 k (i 1))) (term_eq o wo x g (i 0) k)
  unfold SecondUp.spec SecondUp.relu2 SecondRef.hidden
  rw [Finset.sum_congr rfl fun k _ => h k]

theorem norm_spec (y : S24576x4096.Idx → EReal) (g : S4096.Idx → EReal) : SecondNorm.spec y (asRow g) = normed y g := by
  funext i
  unfold SecondNorm.spec
  rw [asRow_apply g (i 1)]
  rfl

variable (m : (ℓ : Loc nD τ sig) → Buf (Elt Ideal) ℓ) (ρ : Dev nD → PrngReg)

/-- The stream the launches end with is the plain formula's. -/
theorem resY_eq (c : Dev nD) :
    resY m c = ended (argO m c) (argWo m c) (argX m c) (argG m c) (argWu m c) (argWd m c) := by
  show SecondDown.spec (SecondUp.spec _ _ _) _ _ = _
  rw [hidden_eq]
  rfl

/-- The second section's algebraic claim. -/
theorem algebraic : Cert.algebraic_SecondIdeal_SecondRefIdeal := by
  intro m g m' g' _ hargs
  refine ⟨fun c => ended (argO m c) (argWo m c) (argX m c) (argG m c) (argWu m c) (argWd m c),
    fun c => mixed (normed (ended (argO m c) (argWo m c) (argX m c) (argG m c) (argWu m c) (argWd m c)) (argGm m c))
      (argWi m c), ?_, ?_⟩
  · refine (θ_run defs _ _).mono (fun r h c => ⟨?_, ?_, ?_, ?_, ?_, ?_, ?_, ?_, ?_, ?_⟩) (SecondEnd.run m g)
    · refine (h c _ (mem_uc main_v3 (by decide))).trans ((leftStream m g c).trans ?_)
      rw [resY_eq]
    · refine (h c _ (mem_uc main_v6 (by decide))).trans ((leftProj m g c).trans ?_)
      show SecondProj.spec (SecondNorm.spec _ _) _ = _
      rw [norm_spec, resY_eq]
      rfl
    · exact (h c _ (mem_uc main_arg0 (by decide))).trans (W8_main_arg0 m g c)
    · exact (h c _ (mem_uc main_arg1 (by decide))).trans (W8_main_arg1 m g c)
    · exact (h c _ (mem_uc main_arg2 (by decide))).trans (W8_main_arg2 m g c)
    · exact (h c _ (mem_uc main_arg3 (by decide))).trans (W8_main_arg3 m g c)
    · exact (h c _ (mem_uc main_arg4 (by decide))).trans (W8_main_arg4 m g c)
    · exact (h c _ (mem_uc main_arg5 (by decide))).trans (W8_main_arg5 m g c)
    · exact (h c _ (mem_uc main_arg6 (by decide))).trans (W8_main_arg6 m g c)
    · exact (h c _ (mem_uc main_arg7 (by decide))).trans (W8_main_arg7 m g c)
  · refine (θ_run Cert.SecondRefIdeal.defs _ _).mono (fun r h c => ⟨(h c).1.trans ?_, (h c).2.1.trans ?_, (h c).2.2⟩)
      (Cert.SecondRefIdeal.Value.run m' g')
    · rw [Cert.SecondRefIdeal.Read.val_main_v29_eq, (hargs c).1, (hargs c).2.1, (hargs c).2.2.1, (hargs c).2.2.2.1,
        (hargs c).2.2.2.2.1, (hargs c).2.2.2.2.2.1]
      exact ended_eq _ _ _ _ _ _
    · rw [Cert.SecondRefIdeal.Read.val_main_v47_eq, (hargs c).1, (hargs c).2.1, (hargs c).2.2.1, (hargs c).2.2.2.1,
        (hargs c).2.2.2.2.1, (hargs c).2.2.2.2.2.1, (hargs c).2.2.2.2.2.2.1,
        (hargs c).2.2.2.2.2.2.2]
      exact mixed_eq _ _ _ _ _ _ _ _

end Cert.Proof.SecondValue

end
-- ==== Proof.BeginPrompt.lean ====
/-
  The first norm's prompt rows as one launch: what it leaves in the array both launches share.
-/
module

public import proofs.«01_k».proof.Proof.Gen.BeginIdeal.Frame
public import Idealize.ShloMosaic.Lib.Pipeline.ValueKit
public import Idealize.ShloMosaic.Lib.Pointwise

@[expose] public section

noncomputable section

namespace Cert.Proof.BeginPrompt

open Idealize.ShloMosaic Idealize.ShloMosaic.TcCoe Idealize.SL.Sem
open Cert.BeginIdeal Cert.BeginIdeal.Gen

/-- The scale of a row. -/
abbrev rowScale (x : Fin 4096 → EReal) : EReal :=
  Ideal.rsqrt (Ideal.div (∑ k : Fin 4096, x k * x k) (Ideal.ofBits .f32 0x45800000#32) + Ideal.ofBits .f32 0x358637BD#32)

/-- One block of the kernel, entry by entry. -/
theorem block_apply (x : Vec Ideal S512x4096 .f32) (g : Vec Ideal S1x4096 .f32) (y : S512x4096.Idx) :
    k0_pay1 (F := Ideal) x g y = x y * rowScale (fun k => x (ix2 (y 0) k)) * g (ix2 0 (y 1)) := by
  pointwise [k0_pay1]

/-- The norm of every row under the gain. -/
def spec (x : S24576x4096.Idx → EReal) (g : S1x4096.Idx → EReal) : S24576x4096.Idx → EReal :=
  fun i => x i * rowScale (fun k => x (ix2 (i 0) k)) * g (ix2 0 (i 1))

variable (V : (c : Dev nD) → (b : Ref sig .tc) → Buf (Elt Ideal) ((c : Thread nD τ).loc b))

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

/-- An entry is `spec` at an index once its parts are. -/
theorem entry_eq_spec (x : S24576x4096.Idx → EReal) (g : S1x4096.Idx → EReal) (i : S24576x4096.Idx) (f : Fin 4096 → EReal)
    (a b : EReal) (ha : a = x i) (hf : ∀ k, f k = x (ix2 (i 0) k)) (hb : b = g (ix2 0 (i 1))) :
    a * rowScale f * b = spec x g i := by
  rw [funext hf, ha, hb]
  rfl

/-- The rows the launch reads are the stream's. -/
theorem rows (c : Dev nD) (x : S24576x4096.Idx → EReal)
    (hx : ∀ (i : S24576x4096.Idx) (h : (i 0).val < 16384), x i = V c main_arg0 (ix2 ⟨(i 0).val, h⟩ (i 1)))
    (t : Fin cfg0.N) (y : S512x4096.Idx) (i : S24576x4096.Idx) (h0 : (i 0).val = (t.val) * 512 + (y 0).val)
    (h1 : (i 1).val = (y 1).val) : iblk0 V c 0 t y = x i := by
  have ht : t.val < 32 := by
    have hN : cfg0.N = 32 := N_0
    have := t.isLt
    omega
  have hy : (y 0).val < 512 := (y 0).isLt
  refine Eq.trans ?_ (hx i (by omega)).symm
  blk_simp [iblk0]
  show V _ _ _ = V _ _ _
  congr 1
  blk_ext [idx0]

/-- The array the launch leaves: the norm of its rows, which are the stream's, and the other rows as they were. -/
theorem final (c : Dev nD) (x : S24576x4096.Idx → EReal)
    (hx : ∀ (i : S24576x4096.Idx) (h : (i 0).val < 16384), x i = V c main_arg0 (ix2 ⟨(i 0).val, h⟩ (i 1))) :
    (dat0 V c).arrAt 2 cfg0.N
      = fun i : S24576x4096.Idx => if (i 0 : ℕ) / 512 < 32 then spec x (V c main_v0) i else V c main_v1 i := by
  refine (dat0 V c).arrAt_eq_of_coversWhere 2 _ (fun β => β (0 : Fin _) < 32) (by decide +kernel) (fun t hf y => ?_)
    (fun j => Iff.rfl)
  blk_simp
  rw [after0_2]
  frame_out
  refine (block_apply _ _ _).trans (entry_eq_spec _ _ _ _ _ _ (rows V c x hx t _ _ ?_ ?_)
    (fun k => rows V c x hx t _ _ ?_ ?_) ?_)
  · blk_simp [idx2]
  · blk_simp [idx2]
  · blk_simp [idx2]
  · blk_simp [idx2]
  · blk_simp [iblk0]
    show V _ _ _ = V _ _ _
    congr 1
    blk_ext [idx1, idx2]

end Cert.Proof.BeginPrompt

end
-- ==== Proof.BeginSample.lean ====
/-
  The first norm's sample rows as one launch: what it leaves in the array both launches share.
-/
module

public import proofs.«01_k».proof.Proof.Gen.BeginIdeal.Frame
public import Idealize.ShloMosaic.Lib.Pipeline.ValueKit
public import Idealize.ShloMosaic.Lib.Pointwise

@[expose] public section

noncomputable section

namespace Cert.Proof.BeginSample

open Idealize.ShloMosaic Idealize.ShloMosaic.TcCoe Idealize.SL.Sem
open Cert.BeginIdeal Cert.BeginIdeal.Gen

/-- The scale of a row. -/
abbrev rowScale (x : Fin 4096 → EReal) : EReal :=
  Ideal.rsqrt (Ideal.div (∑ k : Fin 4096, x k * x k) (Ideal.ofBits .f32 0x45800000#32) + Ideal.ofBits .f32 0x358637BD#32)

/-- One block of the kernel, entry by entry. -/
theorem block_apply (x : Vec Ideal S512x4096 .f32) (g : Vec Ideal S1x4096 .f32) (y : S512x4096.Idx) :
    k1_pay1 (F := Ideal) x g y = x y * rowScale (fun k => x (ix2 (y 0) k)) * g (ix2 0 (y 1)) := by
  pointwise [k1_pay1]

/-- The norm of every row under the gain. -/
def spec (x : S24576x4096.Idx → EReal) (g : S1x4096.Idx → EReal) : S24576x4096.Idx → EReal :=
  fun i => x i * rowScale (fun k => x (ix2 (i 0) k)) * g (ix2 0 (i 1))

variable (V : (c : Dev nD) → (b : Ref sig .tc) → Buf (Elt Ideal) ((c : Thread nD τ).loc b))

theorem idx0 : ∀ t : Fin cfg1.N, win1_0.index t = ![t.val, 0] := (by decide +kernel : ∀ t : Fin grid1.N, _)
theorem idx1 : ∀ t : Fin cfg1.N, win1_1.index t = ![0, 0] := (by decide +kernel : ∀ t : Fin grid1.N, _)
theorem idx2 : ∀ t : Fin cfg1.N, win1_2.index t = ![32 + t.val, 0] := (by decide +kernel : ∀ t : Fin grid1.N, _)

/-- An entry is `spec` at an index once its parts are. -/
theorem entry_eq_spec (x : S24576x4096.Idx → EReal) (g : S1x4096.Idx → EReal) (i : S24576x4096.Idx) (f : Fin 4096 → EReal)
    (a b : EReal) (ha : a = x i) (hf : ∀ k, f k = x (ix2 (i 0) k)) (hb : b = g (ix2 0 (i 1))) :
    a * rowScale f * b = spec x g i := by
  rw [funext hf, ha, hb]
  rfl

/-- The rows the launch reads are the stream's. -/
theorem rows (c : Dev nD) (x : S24576x4096.Idx → EReal)
    (hx : ∀ (i : S24576x4096.Idx) (_ : ¬(i 0).val < 16384), x i = V c main_arg1 (ix2 ⟨(i 0).val - 16384, by
      have : (i 0).val < 24576 := (i 0).isLt
      omega⟩ (i 1)))
    (t : Fin cfg1.N) (y : S512x4096.Idx) (i : S24576x4096.Idx) (h0 : (i 0).val = (32 + t.val) * 512 + (y 0).val)
    (h1 : (i 1).val = (y 1).val) : iblk1 V c 0 t y = x i := by
  have ht : t.val < 16 := by
    have hN : cfg1.N = 16 := N_1
    have := t.isLt
    omega
  have hy : (y 0).val < 512 := (y 0).isLt
  refine Eq.trans ?_ (hx i (by omega)).symm
  blk_simp [iblk1]
  show V _ _ _ = V _ _ _
  congr 1
  blk_ext [idx0]

/-- What a point leaves in its block. -/
theorem held (c : Dev nD) (t : Fin cfg1.N) (y : S512x4096.Idx) :
    outsAt1 V c t y = k1_pay1 (F := Ideal) (iblk1 V c 0 t) (iblk1 V c 1 t) y := by
  unfold outsAt1
  frame_out

/-- The array the launch leaves: the norm of its rows, which are the stream's, and the other rows as they were. -/
theorem final (c : Dev nD) (x : S24576x4096.Idx → EReal)
    (hx : ∀ (i : S24576x4096.Idx) (_ : ¬(i 0).val < 16384), x i = V c main_arg1 (ix2 ⟨(i 0).val - 16384, by
      have : (i 0).val < 24576 := (i 0).isLt
      omega⟩ (i 1))) :
    (dat1 V c).arrAt 2 cfg1.N
      = fun i : S24576x4096.Idx => if 32 ≤ (i 0 : ℕ) / 512 then spec x (V c main_v2) i else V c main_v3 i := by
  refine (dat1 V c).arrAt_eq_of_coversWhere 2 _ (fun β => 32 ≤ β (0 : Fin _)) (by decide +kernel) (fun t hf y => ?_)
    (fun j => Iff.rfl)
  blk_simp
  rw [after1_2]
  refine (held V c t _).trans ?_
  refine (block_apply _ _ _).trans (entry_eq_spec _ _ _ _ _ _ (rows V c x hx t _ _ ?_ ?_)
    (fun k => rows V c x hx t _ _ ?_ ?_) ?_)
  · blk_simp [idx2]
  · blk_simp [idx2]
  · blk_simp [idx2]
  · blk_simp [idx2]
  · blk_simp [iblk1]
    show V _ _ _ = V _ _ _
    congr 1
    blk_ext [idx1, idx2]

end Cert.Proof.BeginSample

end
-- ==== Proof.BeginQkv.lean ====
/-
  The first attention's projection as the last of three launches: what it leaves in its result array.
-/
module

public import proofs.«01_k».proof.Proof.Gen.BeginIdeal.Frame
public import Idealize.ShloMosaic.Lib.Pipeline.ValueKit
public import Idealize.ShloMosaic.Lib.Pointwise

@[expose] public section

noncomputable section

namespace Cert.Proof.BeginQkv

open Idealize.ShloMosaic Idealize.ShloMosaic.TcCoe Idealize.SL.Sem
open Cert.BeginIdeal Cert.BeginIdeal.Gen

/-- One block's product, entry by entry. -/
theorem block_apply (x : Vec Ideal S1024x4096 .bf16) (w : Vec Ideal S1x4096x1024 .bf16) (y : S1024x1024.Idx) :
    k2_pay1 (F := Ideal) x w y = ∑ k : Fin 4096, x (ix2 (y 0) k) * w (ix3 0 k (y 1)) := by
  pointwise [k2_pay1]

variable (V : (c : Dev nD) → (b : Ref sig .tc) → Buf (Elt Ideal) ((c : Thread nD τ).loc b))

theorem idx0 : ∀ t : Fin cfg2.N, win2_0.index t = ![(grid2.coords t 0).val, 0] := by decide +kernel
theorem idx1 : ∀ t : Fin cfg2.N, win2_1.index t = ![0, 0, (grid2.coords t 1).val] := by decide +kernel
theorem idx2 : ∀ t : Fin cfg2.N, win2_2.index t = ![(grid2.coords t 0).val, (grid2.coords t 1).val] := by decide +kernel

/-- The product as one function of the two argument arrays. -/
def spec (h : S24576x4096.Idx → EReal) (w : S2x4096x12288.Idx → EReal) : S24576x12288.Idx → EReal :=
  fun i => ∑ k : Fin 4096, h (ix2 (i 0) k) * w (ix3 0 k (i 1))

/-- A sum of products is `spec` at an index once its terms are. -/
theorem sum_eq_spec (h : S24576x4096.Idx → EReal) (w : S2x4096x12288.Idx → EReal) (i : S24576x12288.Idx) (f : Fin 4096 → EReal)
    (hf : ∀ k, f k = h (ix2 (i 0) k) * w (ix3 0 k (i 1))) : ∑ k : Fin 4096, f k = spec h w i :=
  Finset.sum_congr rfl fun k _ => hf k

/-- The array the launch leaves. -/
theorem final (c : Dev nD) :
    (dat2 V c).arrAt 2 cfg2.N
      = spec (V c main_v3) (V c main_arg3) := by
  refine (dat2 V c).arrAt_eq_of_covers 2 _ (by decide +kernel) fun t hf y => ?_
  blk_simp
  rw [after2_2]
  frame_out
  refine (block_apply _ _ _).trans (sum_eq_spec _ _ _ _ fun k => ?_)
  blk_simp [iblk2]
  congr 1
  · show V _ _ _ = V _ _ _
    congr 1
    blk_ext [idx0, idx2]
  · show V _ _ _ = V _ _ _
    congr 1
    blk_ext [idx1, idx2]

end Cert.Proof.BeginQkv

end
-- ==== Proof.BeginRef.lean ====
/-
  The kernel's beginning as a formula: the prompt and the sample rows as one stream, its norm and the first attention's
  projection; the reference's result is that formula's.
-/
module

public import proofs.«01_k».proof.Defs
public import proofs.«01_k».proof.Proof.Gen.BeginRefIdeal.Read
public import Idealize.ShloMosaic.Lib.Pointwise

@[expose] public section

noncomputable section

namespace Cert.Proof.BeginRef

open Idealize.ShloMosaic Idealize.ShloMosaic.TcCoe Idealize.SL.Sem
open Cert.BeginRefIdeal Cert.BeginRefIdeal.Gen Cert.BeginRefIdeal.Read

/-- The stream: the prompt rows, then the sample rows. -/
def joined (xp : S16384x4096.Idx → EReal) (xs : S8192x4096.Idx → EReal) : S24576x4096.Idx → EReal :=
  fun i => if h : (i 0).val < 16384 then xp (ix2 ⟨(i 0).val, h⟩ (i 1))
    else xs (ix2 ⟨(i 0).val - 16384, by
      have : (i 0).val < 24576 := (i 0).isLt
      omega⟩ (i 1))

/-- The reciprocal root of a row's mean square plus epsilon. -/
abbrev rowScale (x : Fin 4096 → EReal) : EReal :=
  Ideal.rsqrt (Ideal.div (∑ k : Fin 4096, x k * x k) (Ideal.ofBits .f32 0x45800000#32) + Ideal.ofBits .f32 0x358637BD#32)

/-- The norm of every row under a gain. -/
def normed (x : S24576x4096.Idx → EReal) (g : S4096.Idx → EReal) : S24576x4096.Idx → EReal :=
  fun i => x i * rowScale (fun k => x (ix2 (i 0) k)) * g (ix1 (i 1))

/-- The attention's queries, keys and values. -/
def mixed (h : S24576x4096.Idx → EReal) (w : S2x4096x12288.Idx → EReal) : S24576x12288.Idx → EReal :=
  fun i => ∑ k : Fin 4096, h (ix2 (i 0) k) * w (ix3 0 k (i 1))

variable (xp : S16384x4096.Idx → EReal) (xs : S8192x4096.Idx → EReal) (g : S4096.Idx → EReal)
  (w : S2x4096x12288.Idx → EReal)

theorem joined_eq : val_main_v0 (F := Ideal) xp xs = joined xp xs := by
  funext i
  pointwise [joined, val_main_v0]

theorem normed_eq : val_main_v13 (F := Ideal) xp xs g = normed (joined xp xs) g := by
  rw [← joined_eq]
  funext i
  pointwise [normed, val_main_v13, val_main_v12, val_main_v11, val_main_v10, val_main_v9, val_main_v8, val_main_v7,
    val_main_v6, val_main_v5, val_main_v4, val_main_v3, val_main_v2, val_main_v1, val_main_cst, val_main_cst_0,
    val_main_cst_1]

theorem mixed_eq : val_main_v18 (F := Ideal) xp xs g w = mixed (normed (joined xp xs) g) w := by
  rw [← normed_eq]
  funext i
  pointwise [mixed, val_main_v18, val_main_v17, val_main_v16, val_main_v15, val_main_v14]

end Cert.Proof.BeginRef

end
-- ==== Proof.BeginEnd.lean ====
/-
  A run of the beginning's program, read at its end: every array holds the last contents of the chain of launches.
-/
module

public import proofs.«01_k».proof.Proof.Gen.BeginIdeal.Frame

@[expose] public section

noncomputable section

namespace Cert.Proof.BeginEnd

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.BeginIdeal Cert.BeginIdeal.Gen

variable {F : FTy → Type} [FloatOps F] (m : (ℓ : Loc nD τ sig) → Buf (Elt F) ℓ) (ρ : Dev nD → PrngReg)

set_option backward.isDefEq.respectTransparency.types false in
/-- Every run ends with each array at the last contents of the chain. -/
theorem run : θ_run defs (onTc (τ := τ) (main (F := F))) ⟨m, fun _ => 0, ρ⟩ (fun r => (∀ c : Dev nD,
      ∀ b ∈ Pipeline.ucRefs τ sig, r.2.mem (((c : Thread nD τ)).1, b) = W5 m ρ c b)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ))
        ⊢ bigSep Finset.univ (fun _ : Dev nD => BI.emp) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b))
          = StableHlo.held (c : Thread nD τ) (Pipeline.ucRefs τ sig) (W0 m ρ c) from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c => h c)

end Cert.Proof.BeginEnd

end
-- ==== Proof.BeginValue.lean ====
/-
  The kernel's beginning in one program: the norm of the prompt rows, that of the sample rows into the same array, and the
  first attention's projection of both leave the plain formula's result.
-/
module

public import proofs.«01_k».proof.Defs
public import proofs.«01_k».proof.Proof.BeginPrompt
public import proofs.«01_k».proof.Proof.BeginSample
public import proofs.«01_k».proof.Proof.BeginQkv
public import proofs.«01_k».proof.Proof.BeginRef
public import proofs.«01_k».proof.Proof.BeginEnd
public import proofs.«01_k».proof.Proof.Gen.BeginRefIdeal.Run

@[expose] public section

noncomputable section

namespace Cert.Proof.BeginValue

open Idealize.ShloMosaic Idealize.ShloMosaic.TcCoe Idealize.SL.Sem
open Cert.BeginIdeal Cert.BeginIdeal.Gen
open Cert.Proof.BeginRef (joined normed mixed)

variable (m : (ℓ : Loc nD τ sig) → Buf (Elt Ideal) ℓ) (ρ : Dev nD → PrngReg)

/-- The arguments, as arrays of extended reals. -/
abbrev argP (c : Dev nD) : S16384x4096.Idx → EReal := m ((c : Thread nD τ).loc main_arg0)
abbrev argS (c : Dev nD) : S8192x4096.Idx → EReal := m ((c : Thread nD τ).loc main_arg1)
abbrev argG (c : Dev nD) : S4096.Idx → EReal := m ((c : Thread nD τ).loc main_arg2)
abbrev argW (c : Dev nD) : S2x4096x12288.Idx → EReal := m ((c : Thread nD τ).loc main_arg3)

/-- A gain laid out as a one-row matrix. -/
abbrev asRow (g : Vec Ideal S4096 .f32) : Vec Ideal S1x4096 .f32 := shapeCast S1x4096 g shapeCasts_S4096_S1x4096

theorem asRow_apply (g : Vec Ideal S4096 .f32) (j : Fin 4096) : asRow g (ix2 0 j) = g (ix1 j) := by
  pointwise

theorem gain1 (c : Dev nD) : V1 m ρ c main_v0 = asRow (argG m c) := by
  show StableHlo.after hostOps0 (W0 m ρ c) (Proc.devRef .tc main_v0) = _
  after_results
  rfl

theorem gain3 (c : Dev nD) : V3 m ρ c main_v2 = asRow (argG m c) := by
  rw [show argG m c = W2 m ρ c (Proc.devRef .tc main_arg2) from (W2_args m ρ c main_arg2 (by decide)).symm]
  show StableHlo.after hostOps1 (W2 m ρ c) (Proc.devRef .tc main_v2) = _
  after_results
  rfl

/-- The second launch starts from what the first left. -/
theorem copied (c : Dev nD) : V3 m ρ c main_v3 = V2 m ρ c main_v1 := by
  show StableHlo.after hostOps1 (W2 m ρ c) (Proc.devRef .tc main_v3) = W2 m ρ c (Proc.devRef .tc main_v1)
  after_results
  rfl

theorem prompt_norm (x : S24576x4096.Idx → EReal) (g : S4096.Idx → EReal) : BeginPrompt.spec x (asRow g) = normed x g := by
  funext i
  unfold BeginPrompt.spec
  rw [asRow_apply g (i 1)]
  rfl

theorem sample_norm (x : S24576x4096.Idx → EReal) (g : S4096.Idx → EReal) : BeginSample.spec x (asRow g) = normed x g := by
  funext i
  unfold BeginSample.spec
  rw [asRow_apply g (i 1)]
  rfl

/-- After the first launch the prompt rows hold their norms. -/
theorem left1 (c : Dev nD) (i : S24576x4096.Idx) (h : (i 0 : ℕ) / 512 < 32) :
    (V2 m ρ c main_v1 : S24576x4096.Idx → EReal) i = normed (joined (argP m c) (argS m c)) (argG m c) i := by
  refine (congrFun ((W2_arr m ρ c 2).trans (BeginPrompt.final (V1 m ρ) c (joined (argP m c) (argS m c)) fun i h => ?_)) i).trans ?_
  · exact (dif_pos h).trans (congrFun (W1_args m ρ c main_arg0 (by decide)).symm _)
  · refine (if_pos h).trans ?_
    rw [gain1, prompt_norm]

/-- After both launches every row holds its norm. -/
theorem left2 (c : Dev nD) :
    V4 m ρ c main_v3 = normed (joined (argP m c) (argS m c)) (argG m c) := by
  refine ((W4_arr m ρ c 2).trans (BeginSample.final (V3 m ρ) c (joined (argP m c) (argS m c)) fun i h => ?_)).trans ?_
  · exact (dif_neg h).trans (congrFun (W3_args m ρ c main_arg1 (by decide)).symm _)
  · funext i
    by_cases h : 32 ≤ (i 0 : ℕ) / 512
    · refine (if_pos h).trans ?_
      rw [gain3, sample_norm]
    · refine (if_neg h).trans ?_
      rw [copied]
      exact left1 m ρ c i (by omega)

theorem left3 (c : Dev nD) : W5 m ρ c (Proc.devRef .tc main_v4)
    = mixed (normed (joined (argP m c) (argS m c)) (argG m c)) (argW m c) := by
  refine (W5_arr m ρ c 2).trans ((BeginQkv.final (V4 m ρ) c).trans ?_)
  rw [left2, show V4 m ρ c main_arg3 = argW m c from W4_args m ρ c main_arg3 (by decide)]
  rfl

/-- The beginning's algebraic claim. -/
theorem algebraic : Cert.algebraic_BeginIdeal_BeginRefIdeal := by
  intro m g m' g' _ hargs
  refine ⟨fun c => mixed (normed (joined (argP m c) (argS m c)) (argG m c)) (argW m c), ?_, ?_⟩
  · refine (θ_run defs _ _).mono (fun r h c => ⟨?_, ?_, ?_, ?_, ?_⟩) (BeginEnd.run m g)
    · exact (h c _ (mem_uc main_v4 (by decide))).trans (left3 m g c)
    · exact (h c _ (mem_uc main_arg0 (by decide))).trans (W5_main_arg0 m g c)
    · exact (h c _ (mem_uc main_arg1 (by decide))).trans (W5_main_arg1 m g c)
    · exact (h c _ (mem_uc main_arg2 (by decide))).trans (W5_main_arg2 m g c)
    · exact (h c _ (mem_uc main_arg3 (by decide))).trans (W5_main_arg3 m g c)
  · refine (θ_run Cert.BeginRefIdeal.defs _ _).mono (fun r h c => ⟨(h c).1.trans ?_, (h c).2⟩)
      (Cert.BeginRefIdeal.Value.run m' g')
    rw [Cert.BeginRefIdeal.Read.val_main_v18_eq, (hargs c).1, (hargs c).2.1, (hargs c).2.2.1, (hargs c).2.2.2]
    exact BeginRef.mixed_eq _ _ _ _

end Cert.Proof.BeginValue

end
-- ==== Proof.FirstPrompt.lean ====
/-
  The first attention's output projection of the prompt rows as one launch: what it leaves in the three arrays both launches
  share, the other rows as it found them.
-/
module

public import proofs.«01_k».proof.Proof.Gen.FirstIdeal.Frame
public import Idealize.ShloMosaic.Lib.Pipeline.ValueKit
public import Idealize.ShloMosaic.Lib.Pointwise

@[expose] public section

noncomputable section

namespace Cert.Proof.FirstPrompt

open Idealize.ShloMosaic Idealize.ShloMosaic.TcCoe Idealize.SL.Sem
open Cert.FirstIdeal Cert.FirstIdeal.Gen

/-! ### One block -/

/-- The block of the new residual, entry by entry. -/
theorem pay2_apply (a : Vec Ideal S1024x512 .f32) (u : Vec Ideal S1024x4096 .bf16) (w : Vec Ideal S1x4096x512 .bf16)
    (y : S1024x512.Idx) :
    k0_pay2 (F := Ideal) a u w y = a y + ∑ k : Fin 4096, u (ix2 (y 0) k) * w (ix3 0 k (y 1)) := by
  pointwise [k0_pay2]

/-- The block under the gain, entry by entry. -/
theorem pay3_apply (a : Vec Ideal S1024x512 .f32) (u : Vec Ideal S1024x4096 .bf16) (w : Vec Ideal S1x4096x512 .bf16)
    (g : Vec Ideal S1x512 .f32) (y : S1024x512.Idx) :
    k0_pay3 (F := Ideal) a u w g y = k0_pay2 (F := Ideal) a u w y * g (ix2 0 (y 1)) := by
  pointwise [k0_pay3]

/-- What a block adds to its rows' sums of squares. -/
def squares (a : Vec Ideal S1024x512 .f32) (u : Vec Ideal S1024x4096 .bf16) (w : Vec Ideal S1x4096x512 .bf16)
    (y : S1024x128.Idx) : EReal :=
  ∑ j : Fin 512, k0_pay2 (F := Ideal) a u w (ix2 (y 0) j) * k0_pay2 (F := Ideal) a u w (ix2 (y 0) j)

theorem pay4_apply (a : Vec Ideal S1024x512 .f32) (u : Vec Ideal S1024x4096 .bf16) (w : Vec Ideal S1x4096x512 .bf16)
    (s : Vec Ideal S1024x128 .f32) (y : S1024x128.Idx) :
    k0_pay4 (F := Ideal) a u w s y = s y + squares a u w y := by
  pointwise [k0_pay4, squares]

theorem pay1_apply (y : S1024x128.Idx) : k0_pay1 (F := Ideal) y = (0 : EReal) := by
  pointwise [k0_pay1]

/-! ### The three results -/

/-- The new residual. -/
def specX (o : S24576x4096.Idx → EReal) (w : S2x4096x4096.Idx → EReal) (x : S24576x4096.Idx → EReal) :
    S24576x4096.Idx → EReal :=
  fun i => x i + ∑ k : Fin 4096, o (ix2 (i 0) k) * w (ix3 0 k (i 1))

/-- The new residual under the gain. -/
def specH (o : S24576x4096.Idx → EReal) (w : S2x4096x4096.Idx → EReal) (x : S24576x4096.Idx → EReal)
    (g : S1x4096.Idx → EReal) : S24576x4096.Idx → EReal :=
  fun i => specX o w x i * g (ix2 0 (i 1))

/-- The sums of squares of the new residual's rows, repeated over the lanes. -/
def specS (o : S24576x4096.Idx → EReal) (w : S2x4096x4096.Idx → EReal) (x : S24576x4096.Idx → EReal) :
    S24576x128.Idx → EReal :=
  fun i => ∑ j : Fin 4096, specX o w x (ix2 (i 0) j) * specX o w x (ix2 (i 0) j)

/-! ### The launch -/

variable (V : (c : Dev nD) → (b : Ref sig .tc) → Buf (Elt Ideal) ((c : Thread nD τ).loc b))

theorem idx0 : ∀ t : Fin cfg0.N, win0_0.index t = ![t.val / 8, 0] := (by decide +kernel : ∀ t : Fin grid0.N, _)
theorem idx1 : ∀ t : Fin cfg0.N, win0_1.index t = ![0, 0, t.val % 8] := (by decide +kernel : ∀ t : Fin grid0.N, _)
theorem idx2 : ∀ t : Fin cfg0.N, win0_2.index t = ![t.val / 8, t.val % 8] := (by decide +kernel : ∀ t : Fin grid0.N, _)
theorem idx3 : ∀ t : Fin cfg0.N, win0_3.index t = ![0, t.val % 8] := (by decide +kernel : ∀ t : Fin grid0.N, _)
theorem idx4 : ∀ t : Fin cfg0.N, win0_4.index t = ![t.val / 8, t.val % 8] := (by decide +kernel : ∀ t : Fin grid0.N, _)
theorem idx5 : ∀ t : Fin cfg0.N, win0_5.index t = ![t.val / 8, t.val % 8] := (by decide +kernel : ∀ t : Fin grid0.N, _)
theorem idx6 : ∀ t : Fin cfg0.N, win0_6.index t = ![t.val / 8, 0] := (by decide +kernel : ∀ t : Fin grid0.N, _)

/-- The arrays of the launch as it finds them, as arrays of extended reals. -/
abbrev argO (c : Dev nD) : S24576x4096.Idx → EReal := V c main_arg0
abbrev argW (c : Dev nD) : S2x4096x4096.Idx → EReal := V c main_arg1
abbrev argG (c : Dev nD) : S1x4096.Idx → EReal := V c main_v0

theorem entry_eq_specX (o : S24576x4096.Idx → EReal) (w : S2x4096x4096.Idx → EReal) (x : S24576x4096.Idx → EReal)
    (i : S24576x4096.Idx) (a : EReal) (f g : Fin 4096 → EReal) (ha : a = x i) (hf : ∀ k, f k = o (ix2 (i 0) k))
    (hg : ∀ k, g k = w (ix3 0 k (i 1))) : a + ∑ k : Fin 4096, f k * g k = specX o w x i := by
  rw [ha, funext hf, funext hg]
  rfl

/-- The block point `t` computes of the new residual, at the entry that lands at `i`. -/
theorem blockX (c : Dev nD) (x : S24576x4096.Idx → EReal)
    (hx : ∀ (i : S24576x4096.Idx) (h : (i 0).val < 16384), x i = V c main_arg2 (ix2 ⟨(i 0).val, h⟩ (i 1)))
    (t : Fin cfg0.N) (y : S1024x512.Idx) (i : S24576x4096.Idx)
    (h0 : (i 0).val = (t.val / 8) * 1024 + (y 0).val) (h1 : (i 1).val = t.val % 8 * 512 + (y 1).val) :
    k0_pay2 (F := Ideal) (iblk0 V c 2 t) (iblk0 V c 0 t) (iblk0 V c 1 t) y = specX (argO V c) (argW V c) x i := by
  have ht : t.val < 128 := by
    have hN : cfg0.N = 128 := N_0
    have := t.isLt
    omega
  have hy : (y 0).val < 1024 := (y 0).isLt
  refine (pay2_apply _ _ _ _).trans (entry_eq_specX _ _ _ _ _ _ _ ?_ (fun k => ?_) (fun k => ?_))
  · refine Eq.trans ?_ (hx i (by omega)).symm
    blk_simp [iblk0]
    show V _ _ _ = V _ _ _
    congr 1
    blk_ext [idx2]
  · blk_simp [iblk0]
    show V _ _ _ = V _ _ _
    congr 1
    blk_ext [idx0]
  · blk_simp [iblk0]
    show V _ _ _ = V _ _ _
    congr 1
    blk_ext [idx1]

theorem finalX (c : Dev nD) (x : S24576x4096.Idx → EReal)
    (hx : ∀ (i : S24576x4096.Idx) (h : (i 0).val < 16384), x i = V c main_arg2 (ix2 ⟨(i 0).val, h⟩ (i 1))) :
    (dat0 V c).arrAt 4 cfg0.N = fun i : S24576x4096.Idx => if (i 0 : ℕ) / 1024 < 16
      then specX (argO V c) (argW V c) x i else V c main_v1_0 i := by
  refine (dat0 V c).arrAt_eq_of_coversWhere 4 _ (fun β => β (0 : Fin _) < 16) (by decide +kernel)
    (fun t hf y => ?_) (fun j => Iff.rfl)
  have hy : ∀ y : S1024x512.Idx, (outsAt0 V c t.val t.isLt).1 y
      = k0_pay2 (F := Ideal) (iblk0 V c 2 t) (iblk0 V c 0 t) (iblk0 V c 1 t) y := by
    intro y
    by_cases h : t.val % 8 = 0
    · rw [outsAt0_A V c t h]; frame_out
    · rw [outsAt0_B V c t h]; frame_out
  blk_simp
  rw [after0_4]
  refine (hy _).trans (blockX V c x hx t _ _ ?_ ?_)
  · blk_simp [idx4]
  · blk_simp [idx4]

theorem entry_eq_specH (o : S24576x4096.Idx → EReal) (w : S2x4096x4096.Idx → EReal) (x : S24576x4096.Idx → EReal)
    (g : S1x4096.Idx → EReal) (i : S24576x4096.Idx) (a b : EReal) (ha : a = specX o w x i) (hb : b = g (ix2 0 (i 1))) :
    a * b = specH o w x g i := by
  rw [ha, hb]
  rfl

theorem finalH (c : Dev nD) (x : S24576x4096.Idx → EReal)
    (hx : ∀ (i : S24576x4096.Idx) (h : (i 0).val < 16384), x i = V c main_arg2 (ix2 ⟨(i 0).val, h⟩ (i 1))) :
    (dat0 V c).arrAt 5 cfg0.N = fun i : S24576x4096.Idx => if (i 0 : ℕ) / 1024 < 16
      then specH (argO V c) (argW V c) x (argG V c) i else V c main_v1_1 i := by
  refine (dat0 V c).arrAt_eq_of_coversWhere 5 _ (fun β => β (0 : Fin _) < 16) (by decide +kernel)
    (fun t hf y => ?_) (fun j => Iff.rfl)
  have hy : ∀ y : S1024x512.Idx, (outsAt0 V c t.val t.isLt).2.1 y
      = k0_pay3 (F := Ideal) (iblk0 V c 2 t) (iblk0 V c 0 t) (iblk0 V c 1 t) (iblk0 V c 3 t) y := by
    intro y
    by_cases h : t.val % 8 = 0
    · rw [outsAt0_A V c t h]; frame_out
    · rw [outsAt0_B V c t h]; frame_out
  blk_simp
  rw [after0_5]
  refine (hy _).trans ((pay3_apply _ _ _ _ _).trans (entry_eq_specH _ _ _ _ _ _ _ (blockX V c x hx t _ _ ?_ ?_) ?_))
  · blk_simp [idx5]
  · blk_simp [idx5]
  · blk_simp [iblk0]
    show V _ _ _ = V _ _ _
    congr 1
    blk_ext [idx3, idx5]

theorem sum_eq_specS (o : S24576x4096.Idx → EReal) (w : S2x4096x4096.Idx → EReal) (x : S24576x4096.Idx → EReal)
    (i : S24576x128.Idx) (f : Fin 8 → EReal) (g : Fin 8 → Fin 512 → EReal) (hf : ∀ s, f s = ∑ j : Fin 512, g s j * g s j)
    (hg : ∀ (s : Fin 8) (j : Fin 512), g s j = specX o w x (ix2 (i 0) ⟨s.val * 512 + j.val, by omega⟩)) :
    0 + ∑ s : Fin 8, f s = specS o w x i := by
  unfold specS
  rw [Fin.sum_univ_tiles (N := 4096) 8 512 (by norm_num), zero_add]
  refine Finset.sum_congr rfl fun s _ => (hf s).trans (Finset.sum_congr rfl fun j _ => ?_)
  rw [hg s j]

theorem finalS (c : Dev nD) (x : S24576x4096.Idx → EReal)
    (hx : ∀ (i : S24576x4096.Idx) (h : (i 0).val < 16384), x i = V c main_arg2 (ix2 ⟨(i 0).val, h⟩ (i 1))) :
    (dat0 V c).arrAt 6 cfg0.N = fun i : S24576x128.Idx => if (i 0 : ℕ) / 1024 < 16
      then specS (argO V c) (argW V c) x i else V c main_v1_2 i := by
  refine (dat0 V c).arrAt_eq_of_coversWhere 6 _ (fun β => β (0 : Fin _) < 16) (by decide +kernel)
    (fun t hf y => ?_) (fun j => Iff.rfl)
  have hN : cfg0.N = 128 := N_0
  have ht := t.isLt
  have hm := (flush0_6 t).mp hf
  blk_simp
  rw [after0_6]
  refine (Pipeline.eq_sum_fin_of_reset_step_apply_of_flush (M := EReal) (fun n h => (outsAt0 V c n h).2.2) 8 (fun _ => 0)
    (fun t => squares (iblk0 V c 2 t) (iblk0 V c 0 t) (iblk0 V c 1 t)) (fun t h i => ?_) (fun t h i => ?_) t hm _).trans ?_
  · rw [outsAt0_A V c t h]
    frame_out
    refine (pay4_apply _ _ _ _ _).trans ?_
    rw [pay1_apply]
  · rw [outsAt0_B V c t h]
    frame_out
    exact pay4_apply _ _ _ _ _
  · refine sum_eq_specS _ _ _ _ _ _ (fun s => rfl) (fun s j => blockX V c x hx _ _ _ ?_ ?_)
    · blk_simp [idx6]
      have hs := s.isLt
      show (t.val / 8) * 1024 + (y 0).val = ((8 * (t.val / 8) + s.val) / 8) * 1024 + (y 0).val
      omega
    · have hs := s.isLt
      show s.val * 512 + j.val = (8 * (t.val / 8) + s.val) % 8 * 512 + j.val
      omega

end Cert.Proof.FirstPrompt

end
-- ==== Proof.FirstSample.lean ====
/-
  The first attention's output projection of the sample rows as one launch: what it leaves in the three arrays both launches
  share, the other rows as it found them.
-/
module

public import proofs.«01_k».proof.Proof.FirstPrompt
public import Idealize.ShloMosaic.Lib.Pipeline.ValueKit
public import Idealize.ShloMosaic.Lib.Pointwise

@[expose] public section

noncomputable section

namespace Cert.Proof.FirstSample

open Idealize.ShloMosaic Idealize.ShloMosaic.TcCoe Idealize.SL.Sem
open Cert.FirstIdeal Cert.FirstIdeal.Gen
open Cert.Proof.FirstPrompt (specX specH specS entry_eq_specX entry_eq_specH sum_eq_specS)

/-! ### One block -/

/-- The block of the new residual, entry by entry. -/
theorem pay2_apply (a : Vec Ideal S1024x512 .f32) (u : Vec Ideal S1024x4096 .bf16) (w : Vec Ideal S1x4096x512 .bf16)
    (y : S1024x512.Idx) :
    k1_pay2 (F := Ideal) a u w y = a y + ∑ k : Fin 4096, u (ix2 (y 0) k) * w (ix3 0 k (y 1)) := by
  pointwise [k1_pay2]

/-- The block under the gain, entry by entry. -/
theorem pay3_apply (a : Vec Ideal S1024x512 .f32) (u : Vec Ideal S1024x4096 .bf16) (w : Vec Ideal S1x4096x512 .bf16)
    (g : Vec Ideal S1x512 .f32) (y : S1024x512.Idx) :
    k1_pay3 (F := Ideal) a u w g y = k1_pay2 (F := Ideal) a u w y * g (ix2 0 (y 1)) := by
  pointwise [k1_pay3]

/-- What a block adds to its rows' sums of squares. -/
def squares (a : Vec Ideal S1024x512 .f32) (u : Vec Ideal S1024x4096 .bf16) (w : Vec Ideal S1x4096x512 .bf16)
    (y : S1024x128.Idx) : EReal :=
  ∑ j : Fin 512, k1_pay2 (F := Ideal) a u w (ix2 (y 0) j) * k1_pay2 (F := Ideal) a u w (ix2 (y 0) j)

theorem pay4_apply (a : Vec Ideal S1024x512 .f32) (u : Vec Ideal S1024x4096 .bf16) (w : Vec Ideal S1x4096x512 .bf16)
    (s : Vec Ideal S1024x128 .f32) (y : S1024x128.Idx) :
    k1_pay4 (F := Ideal) a u w s y = s y + squares a u w y := by
  pointwise [k1_pay4, squares]

theorem pay1_apply (y : S1024x128.Idx) : k1_pay1 (F := Ideal) y = (0 : EReal) := by
  pointwise [k1_pay1]

/-! ### The launch -/

variable (V : (c : Dev nD) → (b : Ref sig .tc) → Buf (Elt Ideal) ((c : Thread nD τ).loc b))

theorem idx0 : ∀ t : Fin cfg1.N, win1_0.index t = ![16 + t.val / 8, 0] := (by decide +kernel : ∀ t : Fin grid1.N, _)
theorem idx1 : ∀ t : Fin cfg1.N, win1_1.index t = ![0, 0, t.val % 8] := (by decide +kernel : ∀ t : Fin grid1.N, _)
theorem idx2 : ∀ t : Fin cfg1.N, win1_2.index t = ![t.val / 8, t.val % 8] := (by decide +kernel : ∀ t : Fin grid1.N, _)
theorem idx3 : ∀ t : Fin cfg1.N, win1_3.index t = ![0, t.val % 8] := (by decide +kernel : ∀ t : Fin grid1.N, _)
theorem idx4 : ∀ t : Fin cfg1.N, win1_4.index t = ![16 + t.val / 8, t.val % 8] := (by decide +kernel : ∀ t : Fin grid1.N, _)
theorem idx5 : ∀ t : Fin cfg1.N, win1_5.index t = ![16 + t.val / 8, t.val % 8] := (by decide +kernel : ∀ t : Fin grid1.N, _)
theorem idx6 : ∀ t : Fin cfg1.N, win1_6.index t = ![16 + t.val / 8, 0] := (by decide +kernel : ∀ t : Fin grid1.N, _)

/-- The arrays of the launch as it finds them, as arrays of extended reals. -/
abbrev argO (c : Dev nD) : S24576x4096.Idx → EReal := V c main_arg0
abbrev argW (c : Dev nD) : S2x4096x4096.Idx → EReal := V c main_arg1
abbrev argG (c : Dev nD) : S1x4096.Idx → EReal := V c main_v2

/-- The block point `t` computes of the new residual, at the entry that lands at `i`. -/
theorem blockX (c : Dev nD) (x : S24576x4096.Idx → EReal)
    (hx : ∀ (i : S24576x4096.Idx) (_ : ¬(i 0).val < 16384), x i = V c main_arg3 (ix2 ⟨(i 0).val - 16384, by
      have : (i 0).val < 24576 := (i 0).isLt
      omega⟩ (i 1)))
    (t : Fin cfg1.N) (y : S1024x512.Idx) (i : S24576x4096.Idx)
    (h0 : (i 0).val = (16 + t.val / 8) * 1024 + (y 0).val) (h1 : (i 1).val = t.val % 8 * 512 + (y 1).val) :
    k1_pay2 (F := Ideal) (iblk1 V c 2 t) (iblk1 V c 0 t) (iblk1 V c 1 t) y = specX (argO V c) (argW V c) x i := by
  have ht : t.val < 64 := by
    have hN : cfg1.N = 64 := N_1
    have := t.isLt
    omega
  have hy : (y 0).val < 1024 := (y 0).isLt
  refine (pay2_apply _ _ _ _).trans (entry_eq_specX _ _ _ _ _ _ _ ?_ (fun k => ?_) (fun k => ?_))
  · refine Eq.trans ?_ (hx i (by omega)).symm
    blk_simp [iblk1]
    show V _ _ _ = V _ _ _
    congr 1
    blk_ext [idx2]
  · blk_simp [iblk1]
    show V _ _ _ = V _ _ _
    congr 1
    blk_ext [idx0]
  · blk_simp [iblk1]
    show V _ _ _ = V _ _ _
    congr 1
    blk_ext [idx1]

theorem finalX (c : Dev nD) (x : S24576x4096.Idx → EReal)
    (hx : ∀ (i : S24576x4096.Idx) (_ : ¬(i 0).val < 16384), x i = V c main_arg3 (ix2 ⟨(i 0).val - 16384, by
      have : (i 0).val < 24576 := (i 0).isLt
      omega⟩ (i 1))) :
    (dat1 V c).arrAt 4 cfg1.N = fun i : S24576x4096.Idx => if 16 ≤ (i 0 : ℕ) / 1024
      then specX (argO V c) (argW V c) x i else V c main_v3_0 i := by
  refine (dat1 V c).arrAt_eq_of_coversWhere 4 _ (fun β => 16 ≤ β (0 : Fin _)) (by decide +kernel)
    (fun t hf y => ?_) (fun j => Iff.rfl)
  have hy : ∀ y : S1024x512.Idx, (outsAt1 V c t.val t.isLt).1 y
      = k1_pay2 (F := Ideal) (iblk1 V c 2 t) (iblk1 V c 0 t) (iblk1 V c 1 t) y := by
    intro y
    by_cases h : t.val % 8 = 0
    · rw [outsAt1_A V c t h]; frame_out
    · rw [outsAt1_B V c t h]; frame_out
  blk_simp
  rw [after1_4]
  refine (hy _).trans (blockX V c x hx t _ _ ?_ ?_)
  · blk_simp [idx4]
  · blk_simp [idx4]

theorem finalH (c : Dev nD) (x : S24576x4096.Idx → EReal)
    (hx : ∀ (i : S24576x4096.Idx) (_ : ¬(i 0).val < 16384), x i = V c main_arg3 (ix2 ⟨(i 0).val - 16384, by
      have : (i 0).val < 24576 := (i 0).isLt
      omega⟩ (i 1))) :
    (dat1 V c).arrAt 5 cfg1.N = fun i : S24576x4096.Idx => if 16 ≤ (i 0 : ℕ) / 1024
      then specH (argO V c) (argW V c) x (argG V c) i else V c main_v3_1 i := by
  refine (dat1 V c).arrAt_eq_of_coversWhere 5 _ (fun β => 16 ≤ β (0 : Fin _)) (by decide +kernel)
    (fun t hf y => ?_) (fun j => Iff.rfl)
  have hy : ∀ y : S1024x512.Idx, (outsAt1 V c t.val t.isLt).2.1 y
      = k1_pay3 (F := Ideal) (iblk1 V c 2 t) (iblk1 V c 0 t) (iblk1 V c 1 t) (iblk1 V c 3 t) y := by
    intro y
    by_cases h : t.val % 8 = 0
    · rw [outsAt1_A V c t h]; frame_out
    · rw [outsAt1_B V c t h]; frame_out
  blk_simp
  rw [after1_5]
  refine (hy _).trans ((pay3_apply _ _ _ _ _).trans (entry_eq_specH _ _ _ _ _ _ _ (blockX V c x hx t _ _ ?_ ?_) ?_))
  · blk_simp [idx5]
  · blk_simp [idx5]
  · blk_simp [iblk1]
    show V _ _ _ = V _ _ _
    congr 1
    blk_ext [idx3, idx5]

theorem finalS (c : Dev nD) (x : S24576x4096.Idx → EReal)
    (hx : ∀ (i : S24576x4096.Idx) (_ : ¬(i 0).val < 16384), x i = V c main_arg3 (ix2 ⟨(i 0).val - 16384, by
      have : (i 0).val < 24576 := (i 0).isLt
      omega⟩ (i 1))) :
    (dat1 V c).arrAt 6 cfg1.N = fun i : S24576x128.Idx => if 16 ≤ (i 0 : ℕ) / 1024
      then specS (argO V c) (argW V c) x i else V c main_v3_2 i := by
  refine (dat1 V c).arrAt_eq_of_coversWhere 6 _ (fun β => 16 ≤ β (0 : Fin _)) (by decide +kernel)
    (fun t hf y => ?_) (fun j => Iff.rfl)
  have hN : cfg1.N = 64 := N_1
  have ht := t.isLt
  have hm := (flush1_6 t).mp hf
  blk_simp
  rw [after1_6]
  refine (Pipeline.eq_sum_fin_of_reset_step_apply_of_flush (M := EReal) (fun n h => (outsAt1 V c n h).2.2) 8 (fun _ => 0)
    (fun t => squares (iblk1 V c 2 t) (iblk1 V c 0 t) (iblk1 V c 1 t)) (fun t h i => ?_) (fun t h i => ?_) t hm _).trans ?_
  · rw [outsAt1_A V c t h]
    frame_out
    refine (pay4_apply _ _ _ _ _).trans ?_
    rw [pay1_apply]
  · rw [outsAt1_B V c t h]
    frame_out
    exact pay4_apply _ _ _ _ _
  · refine sum_eq_specS _ _ _ _ _ _ (fun s => rfl) (fun s j => blockX V c x hx _ _ _ ?_ ?_)
    · blk_simp [idx6]
      have hs := s.isLt
      show (16 + t.val / 8) * 1024 + (y 0).val = (16 + (8 * (t.val / 8) + s.val) / 8) * 1024 + (y 0).val
      omega
    · have hs := s.isLt
      show s.val * 512 + j.val = (8 * (t.val / 8) + s.val) % 8 * 512 + j.val
      omega

end Cert.Proof.FirstSample

end
-- ==== Proof.FirstRef.lean ====
/-
  The first section as a formula: the first layer after its attention, and the norm and the input projection of the second
  layer; the reference's two results are that formula's.
-/
module

public import proofs.«01_k».proof.Defs
public import proofs.«01_k».proof.Proof.Gen.FirstRefIdeal.Read
public import Idealize.ShloMosaic.Lib.Pointwise

@[expose] public section

noncomputable section

namespace Cert.Proof.FirstRef

open Idealize.ShloMosaic Idealize.ShloMosaic.TcCoe Idealize.SL.Sem
open Cert.FirstRefIdeal Cert.FirstRefIdeal.Gen Cert.FirstRefIdeal.Read

/-- The stream on entry: the prompt rows, then the sample rows. -/
def joined (xp : S16384x4096.Idx → EReal) (xs : S8192x4096.Idx → EReal) : S24576x4096.Idx → EReal :=
  fun i => if h : (i 0).val < 16384 then xp (ix2 ⟨(i 0).val, h⟩ (i 1))
    else xs (ix2 ⟨(i 0).val - 16384, by
      have : (i 0).val < 24576 := (i 0).isLt
      omega⟩ (i 1))

/-- The reciprocal root of a row's mean square plus epsilon. -/
abbrev rowScale (x : Fin 4096 → EReal) : EReal :=
  Ideal.rsqrt (Ideal.div (∑ k : Fin 4096, x k * x k) (Ideal.ofBits .f32 0x45800000#32) + Ideal.ofBits .f32 0x358637BD#32)

/-- The norm of every row under a gain. -/
def normed (x : S24576x4096.Idx → EReal) (g : S4096.Idx → EReal) : S24576x4096.Idx → EReal :=
  fun i => x i * rowScale (fun k => x (ix2 (i 0) k)) * g (ix1 (i 1))

/-- The stream after the attention's output projection. -/
def stream (o : S24576x4096.Idx → EReal) (w : S2x4096x4096.Idx → EReal) (x : S24576x4096.Idx → EReal) :
    S24576x4096.Idx → EReal :=
  fun i => x i + ∑ k : Fin 4096, o (ix2 (i 0) k) * w (ix3 0 k (i 1))

/-- The hidden layer: the squared `relu` of a product. -/
def hidden (h : S24576x4096.Idx → EReal) (w : S4x4096x16384.Idx → EReal) : S24576x16384.Idx → EReal :=
  fun i => max (∑ k : Fin 4096, h (ix2 (i 0) k) * w (ix3 0 k (i 1))) 0
    * max (∑ k : Fin 4096, h (ix2 (i 0) k) * w (ix3 0 k (i 1))) 0

/-- The stream after the feed-forward layer. -/
def after (u : S24576x16384.Idx → EReal) (w : S4x16384x4096.Idx → EReal) (x : S24576x4096.Idx → EReal) :
    S24576x4096.Idx → EReal :=
  fun i => x i + ∑ k : Fin 16384, u (ix2 (i 0) k) * w (ix3 0 k (i 1))

/-- The first layer's stream at its end. -/
def ended (o : S24576x4096.Idx → EReal) (wo : S2x4096x4096.Idx → EReal) (x : S24576x4096.Idx → EReal)
    (g : S4096.Idx → EReal) (wu : S4x4096x16384.Idx → EReal) (wd : S4x16384x4096.Idx → EReal) : S24576x4096.Idx → EReal :=
  after (hidden (normed (stream o wo x) g) wu) wd (stream o wo x)

/-- The next mixer's input. -/
def mixed (h : S24576x4096.Idx → EReal) (w : S2x4096x20480.Idx → EReal) : S24576x20480.Idx → EReal :=
  fun i => ∑ k : Fin 4096, h (ix2 (i 0) k) * w (ix3 0 k (i 1))

variable (o : S24576x4096.Idx → EReal) (wo : S2x4096x4096.Idx → EReal)
  (xp : S16384x4096.Idx → EReal) (xs : S8192x4096.Idx → EReal)
  (g : S4096.Idx → EReal) (wu : S4x4096x16384.Idx → EReal) (wd : S4x16384x4096.Idx → EReal) (gm : S4096.Idx → EReal)
  (wi : S2x4096x20480.Idx → EReal)

theorem joined_eq : val_main_v0 (F := Ideal) xp xs = joined xp xs := by
  funext i
  pointwise [joined, val_main_v0]

theorem stream_eq : val_main_v6 (F := Ideal) o wo xp xs = stream o wo (joined xp xs) := by
  rw [← joined_eq]
  funext i
  pointwise [stream, val_main_v6, val_main_v5, val_main_v4, val_main_v3, val_main_v2, val_main_v1]

theorem normed_eq : val_main_v19 (F := Ideal) o wo xp xs g = normed (stream o wo (joined xp xs)) g := by
  rw [← stream_eq]
  funext i
  pointwise [normed, val_main_v19, val_main_v18, val_main_v17, val_main_v16, val_main_v15, val_main_v14, val_main_v13,
    val_main_v12, val_main_v11, val_main_v10, val_main_v9, val_main_v8, val_main_v7, val_main_cst, val_main_cst_0,
    val_main_cst_1]

theorem hidden_eq : val_main_v25 (F := Ideal) o wo xp xs g wu = hidden (normed (stream o wo (joined xp xs)) g) wu := by
  rw [← normed_eq]
  funext i
  pointwise [hidden, val_main_v25, val_main_v24, val_main_v23, val_main_v22, val_main_v21, val_main_v20,
    val_main_call0_cst, val_main_call0_v0]

theorem ended_eq : val_main_v30 (F := Ideal) o wo xp xs g wu wd = ended o wo (joined xp xs) g wu wd := by
  unfold ended
  rw [← hidden_eq, ← stream_eq]
  funext i
  pointwise [after, val_main_v30, val_main_v29, val_main_v28, val_main_v27, val_main_v26]

theorem last_eq : val_main_v43 (F := Ideal) o wo xp xs g wu wd gm = normed (ended o wo (joined xp xs) g wu wd) gm := by
  rw [← ended_eq]
  funext i
  pointwise [normed, val_main_v43, val_main_v42, val_main_v41, val_main_v40, val_main_v39, val_main_v38, val_main_v37,
    val_main_v36, val_main_v35, val_main_v34, val_main_v33, val_main_v32, val_main_v31, val_main_cst_2, val_main_cst_3,
    val_main_cst_4]

theorem mixed_eq : val_main_v47 (F := Ideal) o wo xp xs g wu wd gm wi = mixed (normed (ended o wo (joined xp xs) g wu wd) gm) wi := by
  rw [← last_eq]
  funext i
  pointwise [mixed, val_main_v47, val_main_v46, val_main_v45, val_main_v44]

end Cert.Proof.FirstRef

end
-- ==== Proof.FirstUp.lean ====
/-
  The first feed-forward product as one launch of the first section, with the first layer's weights: what it leaves in its result
  array from nonnegative sums of squares.
-/
module

public import proofs.«01_k».proof.Proof.Gen.FirstIdeal.Frame
public import Idealize.ShloMosaic.Lib.Pipeline.ValueKit
public import Idealize.ShloMosaic.Lib.Pointwise
public import proofs.«01_k».proof.Proof.Scalars

@[expose] public section

noncomputable section

namespace Cert.Proof.FirstUp

open Idealize.ShloMosaic Idealize.ShloMosaic.TcCoe Idealize.SL.Sem
open Cert.FirstIdeal Cert.FirstIdeal.Gen

/-- The scale of a row from its sum of squares, as the kernel writes it. -/
abbrev scale (s : EReal) : EReal :=
  Ideal.rsqrt (s * Ideal.ofBits .f32 0x39800000#32 + Ideal.ofBits .f32 0x358637BD#32)

/-- The squared `relu` of an extended real. -/
abbrev relu2 (x : EReal) : EReal := max x 0 * max x 0

/-- One block of the kernel, entry by entry: the product, scaled by the row's reciprocal root, clipped and squared. -/
theorem block_apply (x : Vec Ideal S1024x4096 .bf16) (w : Vec Ideal S1x4096x1024 .bf16) (s : Vec Ideal S1024x1 .f32)
    (y : S1024x1024.Idx) :
    k2_pay1 (F := Ideal) x w s y
      = relu2 ((∑ k : Fin 4096, x (ix2 (y 0) k) * w (ix3 0 k (y 1))) * scale (s (ix2 (y 0) 0))) := by
  pointwise [k2_pay1]

/-- The layer's formula: the rows scaled first, then the product. -/
def spec (h : S24576x4096.Idx → EReal) (w : S4x4096x16384.Idx → EReal) (s : S24576x128.Idx → EReal) :
    S24576x16384.Idx → EReal :=
  fun i => relu2 (∑ k : Fin 4096, h (ix2 (i 0) k) * scale (s (ix2 (i 0) 0)) * w (ix3 0 k (i 1)))

/-- Scaling after the product is scaling before it. -/
theorem scale_sum {f g : Fin 4096 → EReal} {s : EReal} (hs : 0 ≤ s) :
    (∑ k, f k * g k) * scale s = ∑ k, f k * scale s * g k := by
  rw [Scalars.sum_mul_of_nonneg _ _ (Scalars.rsqrt_eps hs).1 (Scalars.rsqrt_eps hs).2]
  exact Finset.sum_congr rfl fun k _ => by rw [mul_right_comm]

variable (V : (c : Dev nD) → (b : Ref sig .tc) → Buf (Elt Ideal) ((c : Thread nD τ).loc b))

theorem idx0 : ∀ t : Fin cfg2.N, win2_0.index t = ![(grid2.coords t 0).val, 0] := by decide +kernel
theorem idx1 : ∀ t : Fin cfg2.N, win2_1.index t = ![0, 0, (grid2.coords t 1).val] := by decide +kernel
theorem idx2 : ∀ t : Fin cfg2.N, win2_2.index t = ![(grid2.coords t 0).val, 0] := by decide +kernel
theorem idx3 : ∀ t : Fin cfg2.N, win2_3.index t = ![(grid2.coords t 0).val, (grid2.coords t 1).val] := by decide +kernel

/-- A block's entry is `spec` at an index once its factors are. -/
theorem entry_eq_spec (h : S24576x4096.Idx → EReal) (w : S4x4096x16384.Idx → EReal) (s : S24576x128.Idx → EReal)
    (i : S24576x16384.Idx) (f g : Fin 4096 → EReal) (r : EReal) (hs : 0 ≤ s (ix2 (i 0) 0))
    (hf : ∀ k, f k = h (ix2 (i 0) k)) (hg : ∀ k, g k = w (ix3 0 k (i 1))) (hr : r = s (ix2 (i 0) 0)) :
    relu2 ((∑ k, f k * g k) * scale r) = spec h w s i := by
  subst hr
  rw [scale_sum hs, funext hf, funext hg]
  rfl

/-- The array the launch leaves, where every sum of squares is nonnegative. -/
theorem final (c : Dev nD) (hs : ∀ i, (0 : EReal) ≤ V c main_v3_2 i) :
    (dat2 V c).arrAt 3 cfg2.N
      = spec (V c main_v3_1) (V c main_arg5) (V c main_v3_2) := by
  refine (dat2 V c).arrAt_eq_of_covers 3 _ (by decide +kernel) fun t hf y => ?_
  blk_simp
  rw [after2_3]
  frame_out
  refine (block_apply _ _ _ _).trans (entry_eq_spec _ _ _ _ _ _ _ (hs _) (fun k => ?_) (fun k => ?_) ?_)
  · blk_simp [iblk2]
    show V _ _ _ = V _ _ _
    congr 1
    blk_ext [idx0, idx3]
  · blk_simp [iblk2]
    show V _ _ _ = V _ _ _
    congr 1
    blk_ext [idx1, idx3]
  · blk_simp [iblk2]
    show V _ _ _ = V _ _ _
    congr 1
    blk_ext [idx2, idx3]
    · congr 1
      show 0 + 1 * (y 0).val = (y 0).val
      omega
    · rfl

end Cert.Proof.FirstUp

end
-- ==== Proof.FirstDown.lean ====
/-
  The second feed-forward product as one launch of the first section, with the first layer's weights: what it leaves in its result
  array.
-/
module

public import proofs.«01_k».proof.Proof.Gen.FirstIdeal.Frame
public import Idealize.ShloMosaic.Lib.Pipeline.ValueKit
public import Idealize.ShloMosaic.Lib.Pointwise

@[expose] public section

noncomputable section

namespace Cert.Proof.FirstDown

open Idealize.ShloMosaic Idealize.ShloMosaic.TcCoe Idealize.SL.Sem
open Cert.FirstIdeal Cert.FirstIdeal.Gen

/-- What one grid point adds to its block, entry by entry. -/
theorem block_apply (a : Vec Ideal S2048x1024 .f32) (u : Vec Ideal S2048x1024 .bf16) (w : Vec Ideal S1x1024x1024 .bf16)
    (y : S2048x1024.Idx) :
    k3_pay2 (F := Ideal) a u w y = a y + ∑ k : Fin 1024, u (ix2 (y 0) k) * w (ix3 0 k (y 1)) := by
  pointwise [k3_pay2]

/-- Copying a block changes nothing. -/
theorem copy_eq (a : Vec Ideal S2048x1024 .f32) : k3_pay1 (F := Ideal) a = a := by
  funext y
  pointwise [k3_pay1]

/-- One product of a block's row with a block's column. -/
def term (u : Vec Ideal S2048x1024 .bf16) (w : Vec Ideal S1x1024x1024 .bf16) (y : S2048x1024.Idx) (k : Fin 1024) : EReal :=
  u (ix2 (y 0) k) * w (ix3 0 k (y 1))

/-- The residual plus the product, as one function of the three arguments. -/
def spec (u : S24576x16384.Idx → EReal) (w : S4x16384x4096.Idx → EReal) (x : S24576x4096.Idx → EReal) :
    S24576x4096.Idx → EReal :=
  fun i => x i + ∑ k : Fin 16384, u (ix2 (i 0) k) * w (ix3 0 k (i 1))

/-- The sum cut in sixteen tiles is `spec` at an index once its terms are. -/
theorem tiles_eq_spec (u : S24576x16384.Idx → EReal) (w : S4x16384x4096.Idx → EReal) (x : S24576x4096.Idx → EReal)
    (i : S24576x4096.Idx) (a : EReal) (f : ℕ → EReal) (g : Fin 16 → Fin 1024 → EReal) (ha : a = x i)
    (hf : ∀ s : Fin 16, f s.val = ∑ k : Fin 1024, g s k)
    (hg : ∀ (s : Fin 16) (k : Fin 1024), g s k = u (ix2 (i 0) ⟨s.val * 1024 + k.val, by omega⟩)
      * w (ix3 0 ⟨s.val * 1024 + k.val, by omega⟩ (i 1))) :
    a + ∑ s ∈ Finset.range 16, f s = spec u w x i := by
  unfold spec
  rw [ha, Fin.sum_univ_tiles 16 1024 (by norm_num), Finset.sum_range]
  congr 1
  refine Finset.sum_congr rfl fun s _ => (hf s).trans (Finset.sum_congr rfl fun k _ => hg s k)

variable (V : (c : Dev nD) → (b : Ref sig .tc) → Buf (Elt Ideal) ((c : Thread nD τ).loc b))

theorem idx0 : ∀ t : Fin cfg3.N, win3_0.index t = ![t.val / 64, t.val % 16] :=
  (by decide +kernel : ∀ t : Fin grid3.N, _)
theorem idx1 : ∀ t : Fin cfg3.N, win3_1.index t = ![0, t.val % 16, t.val / 16 % 4] :=
  (by decide +kernel : ∀ t : Fin grid3.N, _)
theorem idx2 : ∀ t : Fin cfg3.N, win3_2.index t = ![t.val / 64, t.val / 16 % 4] :=
  (by decide +kernel : ∀ t : Fin grid3.N, _)
theorem idx3 : ∀ t : Fin cfg3.N, win3_3.index t = ![t.val / 64, t.val / 16 % 4] :=
  (by decide +kernel : ∀ t : Fin grid3.N, _)

/-- What point `n` adds to its block. -/
def addend (c : Dev nD) (n : ℕ) (y : S2048x1024.Idx) : EReal :=
  if h : n < cfg3.N then
    ∑ k : Fin 1024, term (iblk3 V c 0 ⟨n, h⟩) (iblk3 V c 1 ⟨n, h⟩) y k
  else 0

/-- A run's first point starts from the residual's block; each later point adds its products to what is there. -/
def reset (c : Dev nD) (n : ℕ) (h : n < cfg3.N) : Vec Ideal S2048x1024 .f32 :=
  k3_pay2 (F := Ideal) (iblk3 V c 2 ⟨n, h⟩) (iblk3 V c 0 ⟨n, h⟩) (iblk3 V c 1 ⟨n, h⟩)

def step (c : Dev nD) (n : ℕ) (h : n < cfg3.N) (acc : Vec Ideal S2048x1024 .f32) : Vec Ideal S2048x1024 .f32 :=
  k3_pay2 (F := Ideal) acc (iblk3 V c 0 ⟨n, h⟩) (iblk3 V c 1 ⟨n, h⟩)

theorem reset_eq (c : Dev nD) (t : Fin cfg3.N) (h0 : t.val % 16 = 0) :
    outsAt3 V c t.val t.isLt = reset V c t.val t.isLt := by
  funext y
  rw [outsAt3_A V c t h0]
  unfold reset
  frame_out
  rw [copy_eq]

theorem step_eq (c : Dev nD) (t : Fin cfg3.N) (h0 : ¬t.val % 16 = 0) :
    outsAt3 V c t.val t.isLt
      = step V c t.val t.isLt (outsAt3 V c (t.val - 1) (Nat.lt_of_le_of_lt (Nat.sub_le _ _) t.isLt)) := by
  funext y
  rw [outsAt3_B V c t h0]
  unfold step
  frame_out

/-- The array the launch leaves. -/
theorem final (c : Dev nD) :
    (dat3 V c).arrAt 3 cfg3.N
      = spec (V c main_v4) (V c main_arg6)
          (V c main_v3_0) := by
  refine (dat3 V c).arrAt_eq_of_covers 3 _ (by decide +kernel) fun t hf y => ?_
  have hm := (flush3_3 t).mp hf
  have hN : cfg3.N = 768 := N_3
  have ht := t.isLt
  blk_simp
  rw [after3_3]
  have hb : 16 * (t.val / 16) < cfg3.N := by omega
  have hacc : outsAt3 V c t.val t.isLt
      = Pipeline.accAt (reset V c) (step V c) (16 * (t.val / 16)) (t.val % 16) (by omega) :=
    Pipeline.eq_accAt_of_mod (fun n h => outsAt3 V c n h) 16 (reset V c) (step V c)
      (fun n h hn => reset_eq V c ⟨n, h⟩ (by try dsimp only
                                             omega))
      (fun n h hn => step_eq V c ⟨n + 1, h⟩ (by try dsimp only
                                                omega))
      (by decide) t.val t.isLt _
  rw [hacc]
  refine (Pipeline.accAt_add_apply (β := EReal) (reset V c) (step V c) (iblk3 V c 2 ⟨16 * (t.val / 16), hb⟩)
    (addend V c) (16 * (t.val / 16)) 15 (fun h i => ?_) (fun n h acc i _ _ => ?_) (t.val % 16) (by omega) _ y).trans ?_
  · unfold reset addend
    rw [dif_pos h]
    exact block_apply _ _ _ _
  · unfold step addend
    rw [dif_pos h]
    exact block_apply _ _ _ _
  · rw [hm]
    refine tiles_eq_spec _ _ _ _ _ _ (fun s k => term (iblk3 V c 0 ⟨16 * (t.val / 16) + s.val, by omega⟩)
      (iblk3 V c 1 ⟨16 * (t.val / 16) + s.val, by omega⟩) y k) ?_ (fun s => ?_) (fun s k => ?_)
    · blk_simp [iblk3]
      show V _ _ _ = V _ _ _
      congr 1
      blk_ext [idx2, idx3]
    · unfold addend
      rw [dif_pos (by omega)]
    · unfold term
      blk_simp [iblk3]
      congr 1
      · show V _ _ _ = V _ _ _
        congr 1
        blk_ext [idx0, idx3]
      · show V _ _ _ = V _ _ _
        congr 1
        blk_ext [idx1, idx3]

end Cert.Proof.FirstDown

end
-- ==== Proof.FirstNorm.lean ====
/-
  The norm ahead of the next mixer as one launch of the first section: what it leaves in its result array.
-/
module

public import proofs.«01_k».proof.Proof.Gen.FirstIdeal.Frame
public import Idealize.ShloMosaic.Lib.Pipeline.ValueKit
public import Idealize.ShloMosaic.Lib.Pointwise

@[expose] public section

noncomputable section

namespace Cert.Proof.FirstNorm

open Idealize.ShloMosaic Idealize.ShloMosaic.TcCoe Idealize.SL.Sem
open Cert.FirstIdeal Cert.FirstIdeal.Gen

/-- The scale of a row. -/
abbrev rowScale (x : Fin 4096 → EReal) : EReal :=
  Ideal.rsqrt (Ideal.div (∑ k : Fin 4096, x k * x k) (Ideal.ofBits .f32 0x45800000#32) + Ideal.ofBits .f32 0x358637BD#32)

/-- One block of the kernel, entry by entry. -/
theorem block_apply (x : Vec Ideal S512x4096 .f32) (g : Vec Ideal S1x4096 .f32) (y : S512x4096.Idx) :
    k4_pay1 (F := Ideal) x g y = x y * rowScale (fun k => x (ix2 (y 0) k)) * g (ix2 0 (y 1)) := by
  pointwise [k4_pay1]

/-- The norm of a row under its gain. -/
def spec (x : S24576x4096.Idx → EReal) (g : S1x4096.Idx → EReal) : S24576x4096.Idx → EReal :=
  fun i => x i
    * rowScale (fun k => x (ix2 (i 0) k)) * g (ix2 0 (i 1))

variable (V : (c : Dev nD) → (b : Ref sig .tc) → Buf (Elt Ideal) ((c : Thread nD τ).loc b))

theorem idx0 : ∀ t : Fin cfg4.N, win4_0.index t = ![(grid4.coords t 0).val, 0] := by decide +kernel
theorem idx1 : ∀ t : Fin cfg4.N, win4_1.index t = ![0, 0] := by decide +kernel
theorem idx2 : ∀ t : Fin cfg4.N, win4_2.index t = ![(grid4.coords t 0).val, 0] := by decide +kernel

/-- An entry is `spec` at an index once its parts are. -/
theorem entry_eq_spec (x : S24576x4096.Idx → EReal) (g : S1x4096.Idx → EReal) (i : S24576x4096.Idx) (f : Fin 4096 → EReal)
    (a b : EReal) (ha : a = x i)
    (hf : ∀ k, f k = x (ix2 (i 0) k)) (hb : b = g (ix2 0 (i 1))) :
    a * rowScale f * b = spec x g i := by
  rw [funext hf, ha, hb]
  rfl

/-- The array the launch leaves. -/
theorem final (c : Dev nD) :
    (dat4 V c).arrAt 2 cfg4.N
      = spec (V c main_v5) (V c main_v6) := by
  refine (dat4 V c).arrAt_eq_of_covers 2 _ (by decide +kernel) fun t hf y => ?_
  blk_simp
  rw [after4_2]
  frame_out
  refine (block_apply _ _ _).trans (entry_eq_spec _ _ _ _ _ _ ?_ (fun k => ?_) ?_)
  · blk_simp [iblk4]
    show V _ _ _ = V _ _ _
    congr 1
    blk_ext [idx0, idx2]
  · blk_simp [iblk4]
    show V _ _ _ = V _ _ _
    congr 1
    blk_ext [idx0, idx2]
  · blk_simp [iblk4]
    show V _ _ _ = V _ _ _
    congr 1
    blk_ext [idx1, idx2]

end Cert.Proof.FirstNorm

end
-- ==== Proof.FirstProj.lean ====
/-
  The input projection of the next mixer as one launch of the first section: what it leaves in its result array.
-/
module

public import proofs.«01_k».proof.Proof.Gen.FirstIdeal.Frame
public import Idealize.ShloMosaic.Lib.Pipeline.ValueKit
public import Idealize.ShloMosaic.Lib.Pointwise

@[expose] public section

noncomputable section

namespace Cert.Proof.FirstProj

open Idealize.ShloMosaic Idealize.ShloMosaic.TcCoe Idealize.SL.Sem
open Cert.FirstIdeal Cert.FirstIdeal.Gen

/-- One block's product, entry by entry. -/
theorem block_apply (x : Vec Ideal S1024x4096 .bf16) (w : Vec Ideal S1x4096x1024 .bf16) (y : S1024x1024.Idx) :
    k5_pay1 (F := Ideal) x w y = ∑ k : Fin 4096, x (ix2 (y 0) k) * w (ix3 0 k (y 1)) := by
  pointwise [k5_pay1]

variable (V : (c : Dev nD) → (b : Ref sig .tc) → Buf (Elt Ideal) ((c : Thread nD τ).loc b))

theorem idx0 : ∀ t : Fin cfg5.N, win5_0.index t = ![(grid5.coords t 0).val, 0] := by decide +kernel
theorem idx1 : ∀ t : Fin cfg5.N, win5_1.index t = ![0, 0, (grid5.coords t 1).val] := by decide +kernel
theorem idx2 : ∀ t : Fin cfg5.N, win5_2.index t = ![(grid5.coords t 0).val, (grid5.coords t 1).val] := by decide +kernel

/-- The product as one function of the two argument arrays. -/
def spec (h : S24576x4096.Idx → EReal) (w : S2x4096x20480.Idx → EReal) : S24576x20480.Idx → EReal :=
  fun i => ∑ k : Fin 4096, h (ix2 (i 0) k) * w (ix3 0 k (i 1))

/-- A sum of products is `spec` at an index once its terms are. -/
theorem sum_eq_spec (h : S24576x4096.Idx → EReal) (w : S2x4096x20480.Idx → EReal) (i : S24576x20480.Idx) (f : Fin 4096 → EReal)
    (hf : ∀ k, f k = h (ix2 (i 0) k) * w (ix3 0 k (i 1))) : ∑ k : Fin 4096, f k = spec h w i :=
  Finset.sum_congr rfl fun k _ => hf k

/-- The array the launch leaves. -/
theorem final (c : Dev nD) :
    (dat5 V c).arrAt 2 cfg5.N
      = spec (V c main_v7) (V c main_arg8) := by
  refine (dat5 V c).arrAt_eq_of_covers 2 _ (by decide +kernel) fun t hf y => ?_
  blk_simp
  rw [after5_2]
  frame_out
  refine (block_apply _ _ _).trans (sum_eq_spec _ _ _ _ fun k => ?_)
  blk_simp [iblk5]
  congr 1
  · show V _ _ _ = V _ _ _
    congr 1
    blk_ext [idx0, idx2]
  · show V _ _ _ = V _ _ _
    congr 1
    blk_ext [idx1, idx2]

end Cert.Proof.FirstProj

end
-- ==== Proof.FirstRun.lean ====
/-
  The first section's six launches in order: what each finds in its arrays, up to the two results, the stream and the
  next mixer's input.
-/
module

public import proofs.«01_k».proof.Proof.FirstPrompt
public import proofs.«01_k».proof.Proof.FirstSample
public import proofs.«01_k».proof.Proof.FirstRef
public import proofs.«01_k».proof.Proof.FirstUp
public import proofs.«01_k».proof.Proof.FirstDown
public import proofs.«01_k».proof.Proof.FirstNorm
public import proofs.«01_k».proof.Proof.FirstProj

@[expose] public section

noncomputable section

namespace Cert.Proof.FirstRun

open Idealize.ShloMosaic Idealize.ShloMosaic.TcCoe Idealize.SL.Sem
open Cert.FirstIdeal Cert.FirstIdeal.Gen
open Cert.Proof.FirstRef (joined)

variable (m : (ℓ : Loc nD τ sig) → Buf (Elt Ideal) ℓ) (ρ : Dev nD → PrngReg)

/-- The arguments, as arrays of extended reals. -/
abbrev argO (c : Dev nD) : S24576x4096.Idx → EReal := m ((c : Thread nD τ).loc main_arg0)
abbrev argWo (c : Dev nD) : S2x4096x4096.Idx → EReal := m ((c : Thread nD τ).loc main_arg1)
abbrev argP (c : Dev nD) : S16384x4096.Idx → EReal := m ((c : Thread nD τ).loc main_arg2)
abbrev argS (c : Dev nD) : S8192x4096.Idx → EReal := m ((c : Thread nD τ).loc main_arg3)
abbrev argX (c : Dev nD) : S24576x4096.Idx → EReal := joined (argP m c) (argS m c)
abbrev argG (c : Dev nD) : S4096.Idx → EReal := m ((c : Thread nD τ).loc main_arg4)
abbrev argWu (c : Dev nD) : S4x4096x16384.Idx → EReal := m ((c : Thread nD τ).loc main_arg5)
abbrev argWd (c : Dev nD) : S4x16384x4096.Idx → EReal := m ((c : Thread nD τ).loc main_arg6)
abbrev argGm (c : Dev nD) : S4096.Idx → EReal := m ((c : Thread nD τ).loc main_arg7)
abbrev argWi (c : Dev nD) : S2x4096x20480.Idx → EReal := m ((c : Thread nD τ).loc main_arg8)

/-- A gain laid out as a one-row matrix. -/
abbrev asRow (g : Vec Ideal S4096 .f32) : Vec Ideal S1x4096 .f32 := shapeCast S1x4096 g shapeCasts_S4096_S1x4096

theorem asRow_apply (g : Vec Ideal S4096 .f32) (j : Fin 4096) : asRow g (ix2 0 j) = g (ix1 j) := by
  pointwise

/-! ### The gains as the launches find them -/

theorem gain1 (c : Dev nD) : V1 m ρ c main_v0 = asRow (argG m c) := by
  show StableHlo.after hostOps0 (W0 m ρ c) (Proc.devRef .tc main_v0) = _
  after_results
  rfl

theorem gain2 (c : Dev nD) : V3 m ρ c main_v2 = asRow (argG m c) := by
  rw [show argG m c = W2 m ρ c (Proc.devRef .tc main_arg4) from (W2_args m ρ c main_arg4 (by decide)).symm]
  show StableHlo.after hostOps1 (W2 m ρ c) (Proc.devRef .tc main_v2) = _
  after_results
  rfl

theorem gain3 (c : Dev nD) : V8 m ρ c main_v6 = asRow (argGm m c) := by
  rw [show argGm m c = W7 m ρ c (Proc.devRef .tc main_arg7) from (W7_args m ρ c main_arg7 (by decide)).symm]
  show StableHlo.after hostOps4 (W7 m ρ c) (Proc.devRef .tc main_v6) = _
  after_results
  rfl

/-! ### The second launch starts from what the first left -/

theorem copiedX (c : Dev nD) : V3 m ρ c main_v3_0 = V2 m ρ c main_v1_0 := by
  show StableHlo.after hostOps1 (W2 m ρ c) (Proc.devRef .tc main_v3_0) = W2 m ρ c (Proc.devRef .tc main_v1_0)
  after_results
  rfl

theorem copiedH (c : Dev nD) : V3 m ρ c main_v3_1 = V2 m ρ c main_v1_1 := by
  show StableHlo.after hostOps1 (W2 m ρ c) (Proc.devRef .tc main_v3_1) = W2 m ρ c (Proc.devRef .tc main_v1_1)
  after_results
  rfl

theorem copiedS (c : Dev nD) : V3 m ρ c main_v3_2 = V2 m ρ c main_v1_2 := by
  show StableHlo.after hostOps1 (W2 m ρ c) (Proc.devRef .tc main_v3_2) = W2 m ρ c (Proc.devRef .tc main_v1_2)
  after_results
  rfl

/-! ### What each launch leaves -/

abbrev resX (c : Dev nD) : S24576x4096.Idx → EReal := FirstPrompt.specX (argO m c) (argWo m c) (argX m c)
abbrev resH (c : Dev nD) : S24576x4096.Idx → EReal :=
  FirstPrompt.specH (argO m c) (argWo m c) (argX m c) (asRow (argG m c))
abbrev resS (c : Dev nD) : S24576x128.Idx → EReal := FirstPrompt.specS (argO m c) (argWo m c) (argX m c)
abbrev resU (c : Dev nD) : S24576x16384.Idx → EReal := FirstUp.spec (resH m c) (argWu m c) (resS m c)
abbrev resY (c : Dev nD) : S24576x4096.Idx → EReal := FirstDown.spec (resU m c) (argWd m c) (resX m c)

theorem entry1 (c : Dev nD) : FirstPrompt.argO (V1 m ρ) c = argO m c ∧ FirstPrompt.argW (V1 m ρ) c = argWo m c
    ∧ FirstPrompt.argG (V1 m ρ) c = asRow (argG m c) :=
  ⟨W1_args m ρ c main_arg0 (by decide), W1_args m ρ c main_arg1 (by decide), gain1 m ρ c⟩

theorem entry2 (c : Dev nD) : FirstSample.argO (V3 m ρ) c = argO m c ∧ FirstSample.argW (V3 m ρ) c = argWo m c
    ∧ FirstSample.argG (V3 m ρ) c = asRow (argG m c) :=
  ⟨W3_args m ρ c main_arg0 (by decide), W3_args m ρ c main_arg1 (by decide), gain2 m ρ c⟩

theorem prompt_rows (c : Dev nD) (i : S24576x4096.Idx) (h : (i 0).val < 16384) :
    argX m c i = V1 m ρ c main_arg2 (ix2 ⟨(i 0).val, h⟩ (i 1)) :=
  (dif_pos h).trans (congrFun (W1_args m ρ c main_arg2 (by decide)).symm _)

theorem sample_rows (c : Dev nD) (i : S24576x4096.Idx) (h : ¬(i 0).val < 16384) :
    argX m c i = V3 m ρ c main_arg3 (ix2 ⟨(i 0).val - 16384, by
      have : (i 0).val < 24576 := (i 0).isLt
      omega⟩ (i 1)) :=
  (dif_neg h).trans (congrFun (W3_args m ρ c main_arg3 (by decide)).symm _)

theorem promptX (c : Dev nD) (i : S24576x4096.Idx) (h : (i 0 : ℕ) / 1024 < 16) :
    (V2 m ρ c main_v1_0 : S24576x4096.Idx → EReal) i = resX m c i := by
  refine (congrFun ((W2_arr m ρ c 4).trans (FirstPrompt.finalX (V1 m ρ) c (argX m c) (prompt_rows m ρ c))) i).trans ?_
  refine (if_pos h).trans ?_
  rw [(entry1 m ρ c).1, (entry1 m ρ c).2.1]

theorem leftX (c : Dev nD) : V4 m ρ c main_v3_0 = resX m c := by
  refine ((W4_arr m ρ c 4).trans (FirstSample.finalX (V3 m ρ) c (argX m c) (sample_rows m ρ c))).trans ?_
  funext i
  by_cases h : 16 ≤ (i 0 : ℕ) / 1024
  · refine (if_pos h).trans ?_
    rw [(entry2 m ρ c).1, (entry2 m ρ c).2.1]
  · refine (if_neg h).trans ?_
    rw [copiedX]
    exact promptX m ρ c i (by omega)

theorem promptH (c : Dev nD) (i : S24576x4096.Idx) (h : (i 0 : ℕ) / 1024 < 16) :
    (V2 m ρ c main_v1_1 : S24576x4096.Idx → EReal) i = resH m c i := by
  refine (congrFun ((W2_arr m ρ c 5).trans (FirstPrompt.finalH (V1 m ρ) c (argX m c) (prompt_rows m ρ c))) i).trans ?_
  refine (if_pos h).trans ?_
  rw [(entry1 m ρ c).1, (entry1 m ρ c).2.1, (entry1 m ρ c).2.2]

theorem leftH (c : Dev nD) : V4 m ρ c main_v3_1 = resH m c := by
  refine ((W4_arr m ρ c 5).trans (FirstSample.finalH (V3 m ρ) c (argX m c) (sample_rows m ρ c))).trans ?_
  funext i
  by_cases h : 16 ≤ (i 0 : ℕ) / 1024
  · refine (if_pos h).trans ?_
    rw [(entry2 m ρ c).1, (entry2 m ρ c).2.1, (entry2 m ρ c).2.2]
  · refine (if_neg h).trans ?_
    rw [copiedH]
    exact promptH m ρ c i (by omega)

theorem promptS (c : Dev nD) (i : S24576x128.Idx) (h : (i 0 : ℕ) / 1024 < 16) :
    (V2 m ρ c main_v1_2 : S24576x128.Idx → EReal) i = resS m c i := by
  refine (congrFun ((W2_arr m ρ c 6).trans (FirstPrompt.finalS (V1 m ρ) c (argX m c) (prompt_rows m ρ c))) i).trans ?_
  refine (if_pos h).trans ?_
  rw [(entry1 m ρ c).1, (entry1 m ρ c).2.1]

theorem leftS (c : Dev nD) : V4 m ρ c main_v3_2 = resS m c := by
  refine ((W4_arr m ρ c 6).trans (FirstSample.finalS (V3 m ρ) c (argX m c) (sample_rows m ρ c))).trans ?_
  funext i
  by_cases h : 16 ≤ (i 0 : ℕ) / 1024
  · refine (if_pos h).trans ?_
    rw [(entry2 m ρ c).1, (entry2 m ρ c).2.1]
  · refine (if_neg h).trans ?_
    rw [copiedS]
    exact promptS m ρ c i (by omega)

/-- A square is nonnegative. -/
theorem square_nonneg (a : EReal) : 0 ≤ a * a := by
  rcases le_total 0 a with h | h
  · exact mul_nonneg h h
  · have : 0 ≤ -a * -a := mul_nonneg (EReal.neg_nonneg.2 h) (EReal.neg_nonneg.2 h)
    rwa [neg_mul_neg] at this

theorem resS_nonneg (c : Dev nD) (i : S24576x128.Idx) : 0 ≤ resS m c i :=
  Finset.sum_nonneg fun _ _ => square_nonneg _

theorem leftU (c : Dev nD) : V5 m ρ c main_v4 = resU m c := by
  have hS := leftS m ρ c
  refine (W5_arr m ρ c 3).trans ((FirstUp.final (V4 m ρ) c fun i => ?_).trans ?_)
  · rw [hS]
    exact resS_nonneg m c i
  · rw [hS, leftH m ρ c, show V4 m ρ c main_arg5 = argWu m c from W4_args m ρ c main_arg5 (by decide)]

theorem leftY (c : Dev nD) : V7 m ρ c main_v5 = resY m c := by
  refine (W7_arr m ρ c 3).trans ((FirstDown.final (V6 m ρ) c).trans ?_)
  rw [show V6 m ρ c main_v4 = resU m c from (W6_of m ρ c main_v4 (by decide)).trans (leftU m ρ c),
    show V6 m ρ c main_arg6 = argWd m c from W6_args m ρ c main_arg6 (by decide),
    show V6 m ρ c main_v3_0 = resX m c from
      (W6_of m ρ c main_v3_0 (by decide)).trans ((W5_of m ρ c main_v3_0 (by decide)).trans (leftX m ρ c))]

/-- The norm the last product reads. -/
abbrev resN (c : Dev nD) : S24576x4096.Idx → EReal := FirstNorm.spec (resY m c) (asRow (argGm m c))

theorem leftN (c : Dev nD) : V9 m ρ c main_v7 = resN m c := by
  refine (W9_arr m ρ c 2).trans ((FirstNorm.final (V8 m ρ) c).trans ?_)
  rw [gain3, show V8 m ρ c main_v5 = resY m c from (W8_of m ρ c main_v5 (by decide)).trans (leftY m ρ c)]

theorem leftStream (c : Dev nD) : W10 m ρ c (Proc.devRef .tc main_v5) = resY m c :=
  (W10_of m ρ c main_v5 (by decide)).trans ((W9_of m ρ c main_v5 (by decide)).trans
    ((W8_of m ρ c main_v5 (by decide)).trans (leftY m ρ c)))

theorem leftProj (c : Dev nD) : W10 m ρ c (Proc.devRef .tc main_v8) = FirstProj.spec (resN m c) (argWi m c) := by
  refine (W10_arr m ρ c 2).trans ((FirstProj.final (V9 m ρ) c).trans ?_)
  rw [leftN, show V9 m ρ c main_arg8 = argWi m c from W9_args m ρ c main_arg8 (by decide)]

end Cert.Proof.FirstRun

end
-- ==== Proof.FirstEnd.lean ====
/-
  A run of the first section's program, read at its end: every array holds the last contents of the chain of launches.
-/
module

public import proofs.«01_k».proof.Proof.Gen.FirstIdeal.Frame

@[expose] public section

noncomputable section

namespace Cert.Proof.FirstEnd

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.FirstIdeal Cert.FirstIdeal.Gen

variable {F : FTy → Type} [FloatOps F] (m : (ℓ : Loc nD τ sig) → Buf (Elt F) ℓ) (ρ : Dev nD → PrngReg)

set_option backward.isDefEq.respectTransparency.types false in
/-- Every run ends with each array at the last contents of the chain. -/
theorem run : θ_run defs (onTc (τ := τ) (main (F := F))) ⟨m, fun _ => 0, ρ⟩ (fun r => (∀ c : Dev nD,
      ∀ b ∈ Pipeline.ucRefs τ sig, r.2.mem (((c : Thread nD τ)).1, b) = W10 m ρ c b)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ))
        ⊢ bigSep Finset.univ (fun _ : Dev nD => BI.emp) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl,
      fun _ => .rfl, fun _ => .rfl, fun _ => .rfl, fun _ => .rfl, fun _ => .rfl⟩)
    (hinit := by
      refine Pipeline.initEach L lv fun c => ?_
      rw [show unscopedBufs c (fun b => m ((c : Thread nD τ).loc b))
          = StableHlo.held (c : Thread nD τ) (Pipeline.ucRefs τ sig) (W0 m ρ c) from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h _ c => h c)

end Cert.Proof.FirstEnd

end
-- ==== Proof.FirstValue.lean ====
/-
  From the first attention's output to the first recurrence's input in one program: six launches run one after another
  leave the plain formula's stream and projection.
-/
module

public import proofs.«01_k».proof.Defs
public import proofs.«01_k».proof.Proof.FirstRun
public import proofs.«01_k».proof.Proof.FirstRef
public import proofs.«01_k».proof.Proof.FirstEnd
public import proofs.«01_k».proof.Proof.Gen.FirstRefIdeal.Run

@[expose] public section

noncomputable section

namespace Cert.Proof.FirstValue

open Idealize.ShloMosaic Idealize.ShloMosaic.TcCoe Idealize.SL.Sem
open Cert.FirstIdeal Cert.FirstIdeal.Gen
open Cert.Proof.FirstRun Cert.Proof.FirstRef

/-! ### The launches' formulas and the plain one -/

/-- Gain first and the row's scale after it is the norm under the gain. -/
theorem term_eq (o : S24576x4096.Idx → EReal) (wo : S2x4096x4096.Idx → EReal) (x : S24576x4096.Idx → EReal)
    (g : S4096.Idx → EReal) (r : Fin 24576) (k : Fin 4096) :
    FirstPrompt.specH o wo x (asRow g) (ix2 r k) * FirstUp.scale (FirstPrompt.specS o wo x (ix2 r 0))
      = normed (stream o wo x) g (ix2 r k) := by
  have h1 : FirstPrompt.specH o wo x (asRow g) (ix2 r k) = stream o wo x (ix2 r k) * g (ix1 k) :=
    congrArg (stream o wo x (ix2 r k) * ·) (asRow_apply g k)
  have h2 : FirstUp.scale (FirstPrompt.specS o wo x (ix2 r 0)) = rowScale (fun j => stream o wo x (ix2 r j)) := by
    unfold FirstUp.scale rowScale
    rw [Scalars.div_4096]
    rfl
  rw [h1, h2, mul_right_comm]
  rfl

theorem hidden_eq (o : S24576x4096.Idx → EReal) (wo : S2x4096x4096.Idx → EReal) (x : S24576x4096.Idx → EReal)
    (g : S4096.Idx → EReal) (wu : S4x4096x16384.Idx → EReal) :
    FirstUp.spec (FirstPrompt.specH o wo x (asRow g)) wu (FirstPrompt.specS o wo x) = FirstRef.hidden (normed (stream o wo x) g) wu := by
  funext i
  have h : ∀ k : Fin 4096, FirstPrompt.specH o wo x (asRow g) (ix2 (i 0) k) * FirstUp.scale (FirstPrompt.specS o wo x (ix2 (i 0) 0))
      * wu (ix3 0 k (i 1)) = normed (stream o wo x) g (ix2 (i 0) k) * wu (ix3 0 k (i 1)) :=
    fun k => congrArg (· * wu (ix3 0 k (i 1))) (term_eq o wo x g (i 0) k)
  unfold FirstUp.spec FirstUp.relu2 FirstRef.hidden
  rw [Finset.sum_congr rfl fun k _ => h k]

theorem norm_spec (y : S24576x4096.Idx → EReal) (g : S4096.Idx → EReal) : FirstNorm.spec y (asRow g) = normed y g := by
  funext i
  unfold FirstNorm.spec
  rw [asRow_apply g (i 1)]
  rfl

variable (m : (ℓ : Loc nD τ sig) → Buf (Elt Ideal) ℓ) (ρ : Dev nD → PrngReg)

/-- The stream the launches end with is the plain formula's. -/
theorem resY_eq (c : Dev nD) :
    resY m c = ended (argO m c) (argWo m c) (argX m c) (argG m c) (argWu m c) (argWd m c) := by
  show FirstDown.spec (FirstUp.spec _ _ _) _ _ = _
  rw [hidden_eq]
  rfl

/-- The first section's algebraic claim. -/
theorem algebraic : Cert.algebraic_FirstIdeal_FirstRefIdeal := by
  intro m g m' g' _ hargs
  refine ⟨fun c => ended (argO m c) (argWo m c) (argX m c) (argG m c) (argWu m c) (argWd m c),
    fun c => mixed (normed (ended (argO m c) (argWo m c) (argX m c) (argG m c) (argWu m c) (argWd m c)) (argGm m c))
      (argWi m c), ?_, ?_⟩
  · refine (θ_run defs _ _).mono (fun r h c => ⟨?_, ?_, ?_, ?_, ?_, ?_, ?_, ?_, ?_, ?_, ?_⟩) (FirstEnd.run m g)
    · refine (h c _ (mem_uc main_v5 (by decide))).trans ((leftStream m g c).trans ?_)
      rw [resY_eq]
    · refine (h c _ (mem_uc main_v8 (by decide))).trans ((leftProj m g c).trans ?_)
      show FirstProj.spec (FirstNorm.spec _ _) _ = _
      rw [norm_spec, resY_eq]
      rfl
    · exact (h c _ (mem_uc main_arg0 (by decide))).trans (W10_main_arg0 m g c)
    · exact (h c _ (mem_uc main_arg1 (by decide))).trans (W10_main_arg1 m g c)
    · exact (h c _ (mem_uc main_arg2 (by decide))).trans (W10_main_arg2 m g c)
    · exact (h c _ (mem_uc main_arg3 (by decide))).trans (W10_main_arg3 m g c)
    · exact (h c _ (mem_uc main_arg4 (by decide))).trans (W10_main_arg4 m g c)
    · exact (h c _ (mem_uc main_arg5 (by decide))).trans (W10_main_arg5 m g c)
    · exact (h c _ (mem_uc main_arg6 (by decide))).trans (W10_main_arg6 m g c)
    · exact (h c _ (mem_uc main_arg7 (by decide))).trans (W10_main_arg7 m g c)
    · exact (h c _ (mem_uc main_arg8 (by decide))).trans (W10_main_arg8 m g c)
  · refine (θ_run Cert.FirstRefIdeal.defs _ _).mono (fun r h c => ⟨(h c).1.trans ?_, (h c).2.1.trans ?_, (h c).2.2⟩)
      (Cert.FirstRefIdeal.Value.run m' g')
    · rw [Cert.FirstRefIdeal.Read.val_main_v30_eq, (hargs c).1, (hargs c).2.1, (hargs c).2.2.1, (hargs c).2.2.2.1,
        (hargs c).2.2.2.2.1, (hargs c).2.2.2.2.2.1, (hargs c).2.2.2.2.2.2.1]
      exact ended_eq _ _ _ _ _ _ _
    · rw [Cert.FirstRefIdeal.Read.val_main_v47_eq, (hargs c).1, (hargs c).2.1, (hargs c).2.2.1, (hargs c).2.2.2.1,
        (hargs c).2.2.2.2.1, (hargs c).2.2.2.2.2.1, (hargs c).2.2.2.2.2.2.1,
        (hargs c).2.2.2.2.2.2.2.1, (hargs c).2.2.2.2.2.2.2.2]
      exact mixed_eq _ _ _ _ _ _ _ _ _

end Cert.Proof.FirstValue

end
-- ==== Proof.NaTiles.lean ====
/-
  The neighbourhood attention's body: the 32 tiles it stores are one function of the row, and an entry of the block it
  leaves is a weighted mean over the 512 keys of the row's window.
-/
module

public import proofs.«01_k».proof.Proof.Gen.KernelIdeal.Value
public import Idealize.ShloMosaic.Lib.Pipeline.ValueKit
public import Idealize.ShloMosaic.Lib.Pointwise

@[expose] public section

noncomputable section

namespace Cert.Proof.NaTiles

open Idealize.ShloMosaic Idealize.ShloMosaic.TcCoe Idealize.SL.Sem
open Cert.KernelIdeal Cert.KernelIdeal.Gen

/-- The score scale over the natural logarithm of two. -/
abbrev base2Scale : EReal := (((11863283 / 134217728) * (Real.log 2)⁻¹ : ℝ) : EReal)

/-- A key's score before the scale: the query against the key, plus the table's entry. -/
def score (q : Fin 128 → EReal) (k : Fin 512 → Fin 128 → EReal) (b : Fin 512 → EReal) (t : Fin 512) : EReal :=
  (∑ d, q d * k t d) + b t

/-- A key's weight: two to the scaled distance from the row's greatest score. -/
def weight (s : Fin 512 → EReal) (t : Fin 512) : EReal :=
  Ideal.exp2 ((s t - Finset.univ.fold max ⊥ s) * base2Scale)

/-- The weighted mean of the values. -/
def attend (s : Fin 512 → EReal) (v : Fin 512 → EReal) : EReal :=
  Ideal.div (∑ t, weight s t * v t) (∑ t, weight s t)

/-- One row of the grid: its 64 queries against the 512 keys of its eight rows. -/
def core (q : Vec Ideal S64x128 .bf16) (k v : Vec Ideal S512x128 .bf16) (b : Vec Ideal S1x1x64x512 .f32) :
    FVec Ideal S64x128 .bf16 :=
  k0_pay1 (k0_pay36 (k0_pay3 q k) b) (k0_pay37 (k0_pay3 q k) b) v

/-- The kernel's constant is the named number. -/
theorem named_scale : Named.named (F := Ideal) κ (φ := .f32) "scale_log2e" 0x3E0293EE#32 = base2Scale := rfl

theorem ofBits_neg_inf : Ideal.ofBits .f32 0xFF800000#32 = ⊥ := by
  simp only [Ideal.ofBits, Ideal.ieee]
  rfl

/-- A row's tile, entry by entry. -/
theorem core_apply (q : Vec Ideal S64x128 .bf16) (k v : Vec Ideal S512x128 .bf16) (b : Vec Ideal S1x1x64x512 .f32)
    (x : S64x128.Idx) :
    core q k v b x = attend (score (fun d => q (ix2 (x 0) d)) (fun t d => k (ix2 t d)) fun t => b (ix4 0 0 (x 0) t))
      fun t => v (ix2 t (x 1)) := by
  pointwise [core, k0_pay1, k0_pay36, k0_pay35, k0_pay37, k0_pay3, attend, weight, score]
  rw [named_scale, ofBits_neg_inf]
  rfl

/-- The first row of the window of grid row `r`. -/
abbrev rowStart (r : ℕ) : ℕ := min (r - 4) 24

theorem keyTok_lt {n : ℕ} (t : Fin 512) : 64 * rowStart (n / 64) + t.val < 2048 := by
  have := t.isLt
  have : rowStart (n / 64) ≤ 24 := min_le_right _ _
  omega

/-- The token of key `t` in the window of token `n`. -/
def keyTok (n : Fin 2048) (t : Fin 512) : Fin 2048 := ⟨64 * rowStart (n.val / 64) + t.val, keyTok_lt t⟩

theorem biasRow_lt (n : Fin 2048) : n.val / 64 - rowStart (n.val / 64) < 8 := by
  have := n.isLt
  simp only [rowStart]
  omega

/-- The row of the table that token `n` reads. -/
def biasRow (n : Fin 2048) : Fin 8 := ⟨n.val / 64 - rowStart (n.val / 64), biasRow_lt n⟩

/-- The grid column of token `n`. -/
def tokCol (n : Fin 2048) : Fin 64 := ⟨n.val % 64, Nat.mod_lt _ (by norm_num)⟩

/-- An entry of the block the body leaves. -/
def blockVal (x0 x1 x2 : Vec Ideal S2048x128 .bf16) (x3 : Vec Ideal S1x8x64x512 .f32) (y : S2048x128.Idx) : EReal :=
  attend (score (fun d => x0 (ix2 (y 0) d)) (fun t d => x1 (ix2 (keyTok (y 0) t) d))
      fun t => x3 (ix4 0 (biasRow (y 0)) (tokCol (y 0)) t))
    fun t => x2 (ix2 (keyTok (y 0) t) (y 1))

/-- A row's tile is the block's entry, wherever its loads start. -/
theorem tile_apply (oq ok ob : ℕ) (hq : ∀ a, (![oq, 0] : Fin 2 → ℕ) a + (![64, 128] : Fin 2 → ℕ) a ≤ S2048x128.size a)
    (hk : ∀ a, (![ok, 0] : Fin 2 → ℕ) a + (![512, 128] : Fin 2 → ℕ) a ≤ S2048x128.size a)
    (hb : ∀ a, (![0, ob, 0, 0] : Fin 4 → ℕ) a + (![1, 1, 64, 512] : Fin 4 → ℕ) a ≤ S1x8x64x512.size a)
    (x0 x1 x2 : Vec Ideal S2048x128 .bf16) (x3 : Vec Ideal S1x8x64x512 .f32)
    (y : S2048x128.Idx) (x : S64x128.Idx) (h0 : (y 0).val = oq + (x 0).val) (h1 : (y 1).val = (x 1).val)
    (hoq : oq = 64 * (oq / 64)) (hok : ok = 64 * rowStart (oq / 64)) (hob : ob = oq / 64 - rowStart (oq / 64)) :
    core (View.ld x0 (Rect.unit ![oq, 0] ![64, 128] hq)) (View.ld x1 (Rect.unit ![ok, 0] ![512, 128] hk))
      (View.ld x2 (Rect.unit ![ok, 0] ![512, 128] hk)) (View.ld x3 (Rect.unit ![0, ob, 0, 0] ![1, 1, 64, 512] hb)) x
      = blockVal x0 x1 x2 x3 y := by
  have hx : (x 0).val < 64 := (x 0).isLt
  have hr : (y 0).val / 64 = oq / 64 := by omega
  have hm : (y 0).val % 64 = (x 0).val := by omega
  refine (core_apply _ _ _ _ x).trans ?_
  have eq : ∀ d : Fin 128, View.ld x0 (Rect.unit ![oq, 0] ![64, 128] hq) (ix2 (x 0) d) = x0 (ix2 (y 0) d) := fun d =>
    View.ld_unit_apply_of x0 _ _ _ _ _ fun a => match a with
      | ⟨0, _⟩ => h0
      | ⟨1, _⟩ => (Nat.zero_add _).symm
  have ek : ∀ (z : Vec Ideal S2048x128 .bf16) (t : Fin 512) (d : Fin 128),
      View.ld z (Rect.unit ![ok, 0] ![512, 128] hk) (ix2 t d) = z (ix2 (keyTok (y 0) t) d) := fun z t d =>
    View.ld_unit_apply_of z _ _ _ _ _ fun a => match a with
      | ⟨0, _⟩ => by show 64 * rowStart ((y 0).val / 64) + t.val = ok + t.val; rw [hr, hok]
      | ⟨1, _⟩ => (Nat.zero_add _).symm
  have eb : ∀ t : Fin 512, View.ld x3 (Rect.unit ![0, ob, 0, 0] ![1, 1, 64, 512] hb) (ix4 0 0 (x 0) t)
      = x3 (ix4 0 (biasRow (y 0)) (tokCol (y 0)) t) := fun t =>
    View.ld_unit_apply_of x3 _ _ _ _ _ fun a => match a with
      | ⟨0, _⟩ => rfl
      | ⟨1, _⟩ => by show (y 0).val / 64 - rowStart ((y 0).val / 64) = ob + 0; rw [hr, hob]; rfl
      | ⟨2, _⟩ => by show (y 0).val % 64 = 0 + (x 0).val; omega
      | ⟨3, _⟩ => (Nat.zero_add _).symm
  have e1 : x 1 = y 1 := Fin.ext h1.symm
  unfold blockVal
  congr 1
  · congr 1
    · exact funext eq
    · exact funext fun t => funext fun d => ek x1 t d
    · exact funext eb
  · exact funext fun t => by rw [e1]; exact ek x2 t (y 1)

end Cert.Proof.NaTiles

end
-- ==== Proof.NaBlock.lean ====
/-
  The block the neighbourhood attention's body leaves: each of its 32 stores is the row's tile.
-/
module

public import proofs.«01_k».proof.Proof.NaTiles

@[expose] public section

noncomputable section

namespace Cert.Proof.NaTiles

open Idealize.ShloMosaic Idealize.ShloMosaic.TcCoe Idealize.SL.Sem
open Cert.KernelIdeal Cert.KernelIdeal.Gen

/-- A tile read through the staging buffers, at the buffers' contents. -/
theorem read_apply (oq ok ob : ℕ) {arg2 arg3 arg4 : Memref sig .tc .vmem S2048x128 .bf16}
    {arg5 : Memref sig .tc .vmem S1x8x64x512 .f32} (harg2 : arg2.IsWhole) (harg3 : arg3.IsWhole) (harg4 : arg4.IsWhole)
    (harg5 : arg5.IsWhole) (hq : ∀ a, (![oq, 0] : Fin 2 → ℕ) a + (![64, 128] : Fin 2 → ℕ) a ≤ S2048x128.size a)
    (hk : ∀ a, (![ok, 0] : Fin 2 → ℕ) a + (![512, 128] : Fin 2 → ℕ) a ≤ S2048x128.size a)
    (hb : ∀ a, (![0, ob, 0, 0] : Fin 4 → ℕ) a + (![1, 1, 64, 512] : Fin 4 → ℕ) a ≤ S1x8x64x512.size a)
    (x0 x1 x2 : Vec Ideal S2048x128 .bf16) (x3 : Vec Ideal S1x8x64x512 .f32)
    (y : S2048x128.Idx) (x : S64x128.Idx) (h0 : (y 0).val = oq + (x 0).val) (h1 : (y 1).val = (x 1).val)
    (hoq : oq = 64 * (oq / 64)) (hok : ok = 64 * rowStart (oq / 64)) (hob : ob = oq / 64 - rowStart (oq / 64)) :
    core (View.readAt (Elt Ideal) arg2.view (Rect.unit (s := S2048x128) ![oq, 0] ![64, 128] hq).toLoadRect (harg2.unread x0))
      (View.readAt (Elt Ideal) arg3.view (Rect.unit (s := S2048x128) ![ok, 0] ![512, 128] hk).toLoadRect (harg3.unread x1))
      (View.readAt (Elt Ideal) arg4.view (Rect.unit (s := S2048x128) ![ok, 0] ![512, 128] hk).toLoadRect (harg4.unread x2))
      (View.readAt (Elt Ideal) arg5.view (Rect.unit (s := S1x8x64x512) ![0, ob, 0, 0] ![1, 1, 64, 512] hb).toLoadRect (harg5.unread x3)) x
      = blockVal x0 x1 x2 x3 y := by
  rw [View.readAt_eq_ld, View.readAt_eq_ld, View.readAt_eq_ld, View.readAt_eq_ld, harg2.read_unread, harg3.read_unread,
    harg4.read_unread, harg5.read_unread]
  exact tile_apply oq ok ob hq hk hb x0 x1 x2 x3 y x h0 h1 hoq hok hob

set_option maxHeartbeats 400000 in
/-- An entry of the block the body leaves. -/
theorem out_apply (c : Dev nD) (i : grid0.Coords)
    (arg2 : Memref sig .tc .vmem S2048x128 .bf16) (harg2 : arg2.IsWhole)
    (arg3 : Memref sig .tc .vmem S2048x128 .bf16) (harg3 : arg3.IsWhole)
    (arg4 : Memref sig .tc .vmem S2048x128 .bf16) (harg4 : arg4.IsWhole)
    (arg5 : Memref sig .tc .vmem S1x8x64x512 .f32) (harg5 : arg5.IsWhole)
    (arg7 : Memref sig .tc .vmem S2048x128 .bf16) (harg7 : arg7.IsWhole)
    (x0 x1 x2 : Vec Ideal S2048x128 .bf16) (x3 : Vec Ideal S1x8x64x512 .f32) (y : S2048x128.Idx) :
    out0_A_4 c i arg2 harg2 arg3 harg3 arg4 harg4 arg5 harg5 arg7 harg7 x0 x1 x2 x3 y = blockVal x0 x1 x2 x3 y := by
  have hc := cover0_A_4 c i arg2 harg2 arg3 harg3 arg4 harg4 arg5 harg5 arg7 harg7 x0 x1 x2 x3 y
  unfold out0_A_4
  rw [View.read_writes_junk_eq_canon]
  generalize hL : (kernelRun0_A c i arg2 harg2 arg3 harg3 arg4 harg4 arg5 harg5 arg7 harg7 x0 x1 x2 x3).1 = L
  unfold kernelRun0_A at hL
  dsimp only at hL
  subst hL
  canon_tiles x h using hc
  case piece0 =>
    exact read_apply 1984 1536 7 harg2 harg3 harg4 harg5 (by decide) (by decide) (by decide) x0 x1 x2 x3 y x h0 h1 (by decide) (by decide) (by decide)
  case piece1 =>
    exact read_apply 1920 1536 6 harg2 harg3 harg4 harg5 (by decide) (by decide) (by decide) x0 x1 x2 x3 y x h0 h1 (by decide) (by decide) (by decide)
  case piece2 =>
    exact read_apply 1856 1536 5 harg2 harg3 harg4 harg5 (by decide) (by decide) (by decide) x0 x1 x2 x3 y x h0 h1 (by decide) (by decide) (by decide)
  case piece3 =>
    exact read_apply 1792 1536 4 harg2 harg3 harg4 harg5 (by decide) (by decide) (by decide) x0 x1 x2 x3 y x h0 h1 (by decide) (by decide) (by decide)
  case piece4 =>
    exact read_apply 1728 1472 4 harg2 harg3 harg4 harg5 (by decide) (by decide) (by decide) x0 x1 x2 x3 y x h0 h1 (by decide) (by decide) (by decide)
  case piece5 =>
    exact read_apply 1664 1408 4 harg2 harg3 harg4 harg5 (by decide) (by decide) (by decide) x0 x1 x2 x3 y x h0 h1 (by decide) (by decide) (by decide)
  case piece6 =>
    exact read_apply 1600 1344 4 harg2 harg3 harg4 harg5 (by decide) (by decide) (by decide) x0 x1 x2 x3 y x h0 h1 (by decide) (by decide) (by decide)
  case piece7 =>
    exact read_apply 1536 1280 4 harg2 harg3 harg4 harg5 (by decide) (by decide) (by decide) x0 x1 x2 x3 y x h0 h1 (by decide) (by decide) (by decide)
  case piece8 =>
    exact read_apply 1472 1216 4 harg2 harg3 harg4 harg5 (by decide) (by decide) (by decide) x0 x1 x2 x3 y x h0 h1 (by decide) (by decide) (by decide)
  case piece9 =>
    exact read_apply 1408 1152 4 harg2 harg3 harg4 harg5 (by decide) (by decide) (by decide) x0 x1 x2 x3 y x h0 h1 (by decide) (by decide) (by decide)
  case piece10 =>
    exact read_apply 1344 1088 4 harg2 harg3 harg4 harg5 (by decide) (by decide) (by decide) x0 x1 x2 x3 y x h0 h1 (by decide) (by decide) (by decide)
  case piece11 =>
    exact read_apply 1280 1024 4 harg2 harg3 harg4 harg5 (by decide) (by decide) (by decide) x0 x1 x2 x3 y x h0 h1 (by decide) (by decide) (by decide)
  case piece12 =>
    exact read_apply 1216 960 4 harg2 harg3 harg4 harg5 (by decide) (by decide) (by decide) x0 x1 x2 x3 y x h0 h1 (by decide) (by decide) (by decide)
  case piece13 =>
    exact read_apply 1152 896 4 harg2 harg3 harg4 harg5 (by decide) (by decide) (by decide) x0 x1 x2 x3 y x h0 h1 (by decide) (by decide) (by decide)
  case piece14 =>
    exact read_apply 1088 832 4 harg2 harg3 harg4 harg5 (by decide) (by decide) (by decide) x0 x1 x2 x3 y x h0 h1 (by decide) (by decide) (by decide)
  case piece15 =>
    exact read_apply 1024 768 4 harg2 harg3 harg4 harg5 (by decide) (by decide) (by decide) x0 x1 x2 x3 y x h0 h1 (by decide) (by decide) (by decide)
  case piece16 =>
    exact read_apply 960 704 4 harg2 harg3 harg4 harg5 (by decide) (by decide) (by decide) x0 x1 x2 x3 y x h0 h1 (by decide) (by decide) (by decide)
  case piece17 =>
    exact read_apply 896 640 4 harg2 harg3 harg4 harg5 (by decide) (by decide) (by decide) x0 x1 x2 x3 y x h0 h1 (by decide) (by decide) (by decide)
  case piece18 =>
    exact read_apply 832 576 4 harg2 harg3 harg4 harg5 (by decide) (by decide) (by decide) x0 x1 x2 x3 y x h0 h1 (by decide) (by decide) (by decide)
  case piece19 =>
    exact read_apply 768 512 4 harg2 harg3 harg4 harg5 (by decide) (by decide) (by decide) x0 x1 x2 x3 y x h0 h1 (by decide) (by decide) (by decide)
  case piece20 =>
    exact read_apply 704 448 4 harg2 harg3 harg4 harg5 (by decide) (by decide) (by decide) x0 x1 x2 x3 y x h0 h1 (by decide) (by decide) (by decide)
  case piece21 =>
    exact read_apply 640 384 4 harg2 harg3 harg4 harg5 (by decide) (by decide) (by decide) x0 x1 x2 x3 y x h0 h1 (by decide) (by decide) (by decide)
  case piece22 =>
    exact read_apply 576 320 4 harg2 harg3 harg4 harg5 (by decide) (by decide) (by decide) x0 x1 x2 x3 y x h0 h1 (by decide) (by decide) (by decide)
  case piece23 =>
    exact read_apply 512 256 4 harg2 harg3 harg4 harg5 (by decide) (by decide) (by decide) x0 x1 x2 x3 y x h0 h1 (by decide) (by decide) (by decide)
  case piece24 =>
    exact read_apply 448 192 4 harg2 harg3 harg4 harg5 (by decide) (by decide) (by decide) x0 x1 x2 x3 y x h0 h1 (by decide) (by decide) (by decide)
  case piece25 =>
    exact read_apply 384 128 4 harg2 harg3 harg4 harg5 (by decide) (by decide) (by decide) x0 x1 x2 x3 y x h0 h1 (by decide) (by decide) (by decide)
  case piece26 =>
    exact read_apply 320 64 4 harg2 harg3 harg4 harg5 (by decide) (by decide) (by decide) x0 x1 x2 x3 y x h0 h1 (by decide) (by decide) (by decide)
  case piece27 =>
    exact read_apply 256 0 4 harg2 harg3 harg4 harg5 (by decide) (by decide) (by decide) x0 x1 x2 x3 y x h0 h1 (by decide) (by decide) (by decide)
  case piece28 =>
    exact read_apply 192 0 3 harg2 harg3 harg4 harg5 (by decide) (by decide) (by decide) x0 x1 x2 x3 y x h0 h1 (by decide) (by decide) (by decide)
  case piece29 =>
    exact read_apply 128 0 2 harg2 harg3 harg4 harg5 (by decide) (by decide) (by decide) x0 x1 x2 x3 y x h0 h1 (by decide) (by decide) (by decide)
  case piece30 =>
    exact read_apply 64 0 1 harg2 harg3 harg4 harg5 (by decide) (by decide) (by decide) x0 x1 x2 x3 y x h0 h1 (by decide) (by decide) (by decide)
  case piece31 =>
    exact read_apply 0 0 0 harg2 harg3 harg4 harg5 (by decide) (by decide) (by decide) x0 x1 x2 x3 y x (h0.trans (Nat.zero_add _).symm) h1 (by decide) (by decide) (by decide)

end Cert.Proof.NaTiles

end
-- ==== Proof.NaMath.lean ====
/-
  The softmax over a window: over all 512 keys of its eight rows, where a key outside the window scores −∞, in powers of
  two, divided at the end; and over the window's 128 keys alone, in exponentials, divided first. On real scores
  the two are one number, for any values.
-/
module

public import proofs.«01_k».proof.Proof.NaTiles
public import proofs.«01_k».proof.Proof.Scalars

@[expose] public section

noncomputable section

namespace Cert.Proof.NaMath

open Idealize.ShloMosaic
open Cert.Proof.NaTiles

/-- A finite sum of reals, read among the extended reals. -/
theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The greatest of finitely many reals. -/
def top (σ : Fin 128 → ℝ) : ℝ := Finset.univ.sup' ⟨0, Finset.mem_univ _⟩ σ

/-- The fold of `max` over values that are those reals or −∞ is the greatest of the reals. -/
theorem fold_max {κ : Type} [Fintype κ] (e : Fin 128 → κ) (σ : Fin 128 → ℝ) (s : κ → EReal) (hin : ∀ u, s (e u) = (σ u : EReal))
    (hout : ∀ t, t ∉ Set.range e → s t = ⊥) : Finset.univ.fold max ⊥ s = (top σ : EReal) := by
  show Finset.univ.sup s = _
  refine le_antisymm (Finset.sup_le fun t _ => ?_) ?_
  · by_cases ht : t ∈ Set.range e
    · obtain ⟨u, rfl⟩ := ht
      rw [hin]
      exact EReal.coe_le_coe_iff.mpr (Finset.le_sup' σ (Finset.mem_univ u))
    · rw [hout t ht]; exact bot_le
  · obtain ⟨u, -, hu⟩ := Finset.exists_mem_eq_sup' (s := Finset.univ) ⟨(0 : Fin 128), Finset.mem_univ _⟩ σ
    have h : (top σ : EReal) = s (e u) := by rw [hin]; exact congrArg _ hu
    rw [h]
    exact Finset.le_sup (Finset.mem_univ _)

/-- The greatest score scales with the scores. -/
theorem top_mul (σ : Fin 128 → ℝ) {c : ℝ} (hc : 0 < c) : top (fun u => σ u * c) = top σ * c := by
  refine le_antisymm (Finset.sup'_le _ _ fun u _ => ?_) ?_
  · exact mul_le_mul_of_nonneg_right (Finset.le_sup' σ (Finset.mem_univ u)) hc.le
  · obtain ⟨u, -, hu⟩ := Finset.exists_mem_eq_sup' (s := Finset.univ) ⟨(0 : Fin 128), Finset.mem_univ _⟩ σ
    have h : top σ * c = (fun u => σ u * c) u := congrArg (· * c) hu
    rw [h]
    exact Finset.le_sup' (fun u => σ u * c) (Finset.mem_univ u)

/-- A power of two of a multiple of the reciprocal logarithm is an exponential. -/
theorem rpow_two (x c : ℝ) : Real.rpow 2 (x * (c * (Real.log 2)⁻¹)) = Real.exp (x * c) := by
  have h : Real.log 2 ≠ 0 := (Real.log_pos (by norm_num)).ne'
  show (2 : ℝ) ^ (x * (c * (Real.log 2)⁻¹)) = _
  rw [Real.rpow_def_of_pos (by norm_num)]
  congr 1
  field_simp

/-- The two softmaxes are one. -/
theorem attend_eq (e : Fin 128 → Fin 512) (he : Function.Injective e) (σ : Fin 128 → ℝ) (ν : Fin 128 → EReal)
    (s v : Fin 512 → EReal) (hin : ∀ u, s (e u) = (σ u : EReal)) (hout : ∀ t, t ∉ Set.range e → s t = ⊥)
    (hv : ∀ u, v (e u) = ν u) (ρ : Fin 128 → EReal) (hρ : ∀ u, ρ u = ((σ u * (11863283 / 134217728) : ℝ) : EReal)) :
    attend s v = ∑ u, Ideal.div (Ideal.exp (ρ u - max ⊥ (Finset.univ.fold max ⊥ ρ)))
      (∑ u', Ideal.exp (ρ u' - max ⊥ (Finset.univ.fold max ⊥ ρ))) * ν u := by
  have hc : (0 : ℝ) < 11863283 / 134217728 := by norm_num
  have hM : max ⊥ (Finset.univ.fold max ⊥ ρ) = ((top σ * (11863283 / 134217728) : ℝ) : EReal) := by
    rw [fold_max id (fun u => σ u * (11863283 / 134217728)) ρ hρ (fun t ht => absurd ⟨t, rfl⟩ ht), top_mul σ hc]
    exact max_eq_right bot_le
  have hE : ∀ u, Ideal.exp (ρ u - max ⊥ (Finset.univ.fold max ⊥ ρ))
      = ((Real.exp ((σ u - top σ) * (11863283 / 134217728)) : ℝ) : EReal) := fun u => by
    rw [hM, hρ, ← EReal.coe_sub, Ideal.exp_coe, sub_mul]
  have hw : ∀ u, weight s (e u) = ((Real.exp ((σ u - top σ) * (11863283 / 134217728)) : ℝ) : EReal) := fun u => by
    unfold weight
    rw [fold_max e σ s hin hout, hin, ← EReal.coe_sub, ← EReal.coe_mul, Ideal.exp2_coe, rpow_two]
  have hw0 : ∀ t, t ∉ Set.range e → weight s t = 0 := fun t ht => by
    unfold weight
    rw [fold_max e σ s hin hout, hout t ht, EReal.bot_sub, EReal.bot_mul_coe_of_pos (mul_pos hc (inv_pos.mpr (Real.log_pos (by norm_num)))),
      Ideal.exp2_bot]
  unfold attend
  rw [← Fintype.sum_of_injective e he (fun u => weight s (e u)) (weight s) hw0 (fun _ => rfl),
    ← Fintype.sum_of_injective e he (fun u => weight s (e u) * v (e u)) (fun t => weight s t * v t)
      (fun t ht => by rw [hw0 t ht, zero_mul]) (fun _ => rfl)]
  simp only [hw, hE, hv, coe_sum]
  have hL : (0 : ℝ) < ∑ u : Fin 128, Real.exp ((σ u - top σ) * (11863283 / 134217728)) :=
    Finset.sum_pos (fun u _ => Real.exp_pos _) ⟨0, Finset.mem_univ _⟩
  rw [Ideal.div_coe hL.ne', Scalars.sum_mul_of_nonneg _ _ (EReal.coe_nonneg.mpr (one_div_pos.mpr hL).le) (EReal.coe_ne_top _)]
  refine Finset.sum_congr rfl fun u _ => ?_
  rw [Ideal.div_coe hL.ne']
  exact mul_right_comm _ _ _

end Cert.Proof.NaMath

end
-- ==== Proof.NaLits.lean ====
/-
  The neighbourhood attention's index tables: the window of a grid column, and what the literal tables of the kernel's
  host code and of the reference hold.
-/
module

public import proofs.«01_k».proof.KernelIdeal
public import proofs.«01_k».proof.ReferenceIdeal
public import proofs.«01_k».proof.Proof.NaTiles

@[expose] public section

noncomputable section

namespace Cert.Proof.NaLits

open Idealize.ShloMosaic
open Cert.Proof.NaTiles (rowStart)

/-- The first column of the window of grid column `w`. -/
abbrev colStart (w : ℕ) : ℕ := min (w - 8) 48

/-- The kernel's mask marks the columns of the window. -/
theorem mask_apply : ∀ w c : Fin 64, Cert.KernelIdeal.lit0 (Cert.KernelIdeal.S64x64.rowMajor (ix2 w c))
    = BitVec.ofBool (decide (colStart w ≤ c.val ∧ c.val < colStart w + 16)) := by
  decide +kernel

/-- The kernel's column table: the distance of the two columns, clipped to the table's columns. -/
theorem colTab_apply : ∀ w c : Fin 64,
    (Cert.KernelIdeal.lit1 (Cert.KernelIdeal.S64x64.rowMajor (ix2 w c))).toInt.toNat = min (c.val + 15 - w.val) 30 := by
  decide +kernel

/-- The kernel's row table: the distance of the two rows. -/
theorem rowTab_apply : ∀ i a : Fin 8,
    (Cert.KernelIdeal.lit2 (Cert.KernelIdeal.S8x8.rowMajor (ix2 i a))).toInt.toNat = a.val + 7 - i.val := by
  decide +kernel

/-- The reference's rows of a window. -/
theorem rows_apply : ∀ (r : Fin 32) (a : Fin 8),
    (Cert.ReferenceIdeal.lit0 (Cert.ReferenceIdeal.S32x8.rowMajor (ix2 r a))).toInt.toNat = rowStart r.val + a.val := by
  decide +kernel

/-- The reference's columns of a window. -/
theorem cols_apply : ∀ (w : Fin 64) (j : Fin 16),
    (Cert.ReferenceIdeal.lit1 (Cert.ReferenceIdeal.S64x16.rowMajor (ix2 w j))).toInt.toNat = colStart w.val + j.val := by
  decide +kernel

/-- The reference's row distances. -/
theorem rowOff_apply : ∀ (r : Fin 32) (a : Fin 8),
    (Cert.ReferenceIdeal.lit2 (Cert.ReferenceIdeal.S32x1x8x1.rowMajor (ix4 r 0 a 0))).toInt.toNat
      = rowStart r.val + a.val + 7 - r.val := by
  decide +kernel

/-- The reference's column distances. -/
theorem colOff_apply : ∀ (w : Fin 64) (j : Fin 16),
    (Cert.ReferenceIdeal.lit3 (Cert.ReferenceIdeal.S1x64x1x16.rowMajor (ix4 0 w 0 j))).toInt.toNat
      = colStart w.val + j.val + 15 - w.val := by
  decide +kernel

end Cert.Proof.NaLits

end
-- ==== Proof.NaBias.lean ====
/-
  The neighbourhood attention's table of relative positions, as the kernel's host code prepares it.
-/
module

public import proofs.«01_k».proof.Proof.NaLits
public import Idealize.ShloMosaic.Lib.Pipeline.ValueKit
public import Idealize.ShloMosaic.Lib.Pointwise

@[expose] public section

noncomputable section

namespace Cert.Proof.NaBias

open Idealize.ShloMosaic Idealize.ShloMosaic.TcCoe Idealize.SL.Sem
open Cert.KernelIdeal Cert.KernelIdeal.Gen
open Cert.Proof.NaLits (colStart)

/-- The gather along the columns, at an index. -/
theorem gatherCol_apply (x : Vec Ideal S32x15x31 .f32) (ind : IVec S64x64x1 32) (h : Fin 32) (p : Fin 15) (w c : Fin 64) (n : Fin 31)
    (hn : (ind (ix3 w c 0)).toInt.toNat = n.val) :
    Host.gather gather_S32x15x31_S64x64x1_S32x15x64x64_01_2_n_n_2_2_32151 x ind (ix4 h p w c) = x (ix3 h p n) := by
  unfold Host.gather
  congr 1
  funext ax
  refine Fin.ext ?_
  show GatherDims.start _ _ _ _ + GatherDims.batchCoord _ _ _ + GatherDims.offCoord _ _ _ = _
  rw [GatherDims.batchCoord_eq_zero _ _ _ List.not_mem_nil]
  match ax with
  | 0 => exact (by omega : ∀ k : ℕ, 0 + 0 + k = k) _
  | 1 => exact (by omega : ∀ k : ℕ, 0 + 0 + k = k) _
  | 2 =>
    rw [GatherDims.offCoord_eq_zero _ _ _ (fun h => ((GatherDims.mem_sKept _ _).mp h).1 (by decide))]
    unfold GatherDims.start
    rw [dif_pos (show (2 : Fin S32x15x31.rank) ∈ GatherDims.startIndexMap gather_S32x15x31_S64x64x1_S32x15x64x64_01_2_n_n_2_2_32151 by decide)]
    have hsi : GatherDims.siIdx gather_S32x15x31_S64x64x1_S32x15x64x64_01_2_n_n_2_2_32151 (ix4 h p w c) ⟨_, List.idxOf_lt_length_iff.2 (show (2 : Fin S32x15x31.rank) ∈ GatherDims.startIndexMap gather_S32x15x31_S64x64x1_S32x15x64x64_01_2_n_n_2_2_32151 by decide)⟩ = ix3 w c 0 := by
      funext b
      match b with
      | 0 => rfl
      | 1 => rfl
      | 2 => rfl
    rw [hsi, hn]
    show min n.val 30 + 0 + 0 = n.val
    omega

/-- The gather along the rows, at an index. -/
theorem gatherRow_apply (x : Vec Ideal S32x15x64x64 .f32) (ind : IVec S8x8x1 32) (h : Fin 32) (i a : Fin 8) (w c : Fin 64) (n : Fin 15)
    (hn : (ind (ix3 i a 0)).toInt.toNat = n.val) :
    Host.gather gather_S32x15x64x64_S8x8x1_S32x8x8x64x64_034_1_n_n_1_2_3216464 x ind (ix5 h i a w c) = x (ix4 h n w c) := by
  unfold Host.gather
  congr 1
  funext ax
  refine Fin.ext ?_
  show GatherDims.start _ _ _ _ + GatherDims.batchCoord _ _ _ + GatherDims.offCoord _ _ _ = _
  rw [GatherDims.batchCoord_eq_zero _ _ _ List.not_mem_nil]
  match ax with
  | 0 => exact (by omega : ∀ k : ℕ, 0 + 0 + k = k) _
  | 1 =>
    rw [GatherDims.offCoord_eq_zero _ _ _ (fun h => ((GatherDims.mem_sKept _ _).mp h).1 (by decide))]
    unfold GatherDims.start
    rw [dif_pos (show (1 : Fin S32x15x64x64.rank) ∈ GatherDims.startIndexMap gather_S32x15x64x64_S8x8x1_S32x8x8x64x64_034_1_n_n_1_2_3216464 by decide)]
    have hsi : GatherDims.siIdx gather_S32x15x64x64_S8x8x1_S32x8x8x64x64_034_1_n_n_1_2_3216464 (ix5 h i a w c) ⟨_, List.idxOf_lt_length_iff.2 (show (1 : Fin S32x15x64x64.rank) ∈ GatherDims.startIndexMap gather_S32x15x64x64_S8x8x1_S32x8x8x64x64_034_1_n_n_1_2_3216464 by decide)⟩ = ix3 i a 0 := by
      funext b
      match b with
      | 0 => rfl
      | 1 => rfl
      | 2 => rfl
    rw [hsi, hn]
    show min n.val 14 + 0 + 0 = n.val
    omega
  | 2 => exact (by omega : ∀ k : ℕ, 0 + 0 + k = k) _
  | 3 => exact (by omega : ∀ k : ℕ, 0 + 0 + k = k) _

/-- The score scale, a positive number. -/
abbrev scale : EReal := ((11863283 / 134217728 : ℝ) : EReal)

theorem ofBits_scale : Ideal.ofBits .f32 0x3DB504F3#32 = scale := by
  simp only [Ideal.ofBits, Ideal.ieee]
  rw [if_neg (by decide), if_neg (by decide)]
  congr 1
  simp
  norm_num

/-- The columns' numbers, as the gather takes them. -/
def colInd : IVec S64x64x1 32 :=
  broadcastInDim S64x64x1 ![0, 1] bcast_S64x64_S64x64x1_0_1 (select (constantI S64x64 1 0#1)
    (addi (fun i => lit1 (S64x64.rowMajor i)) (broadcastInDim S64x64 ![] bcast_S_S64x64 (constantI S_ 32 31#32)))
    fun i => lit1 (S64x64.rowMajor i))

/-- The rows' numbers, as the gather takes them. -/
def rowInd : IVec S8x8x1 32 :=
  broadcastInDim S8x8x1 ![0, 1] bcast_S8x8_S8x8x1_0_1 (select (constantI S8x8 1 0#1)
    (addi (fun i => lit2 (S8x8.rowMajor i)) (broadcastInDim S8x8 ![] bcast_S_S8x8 (constantI S_ 32 15#32)))
    fun i => lit2 (S8x8.rowMajor i))

theorem colInd_apply (w c : Fin 64) : colInd (ix3 w c 0) = lit1 (S64x64.rowMajor (ix2 w c)) := by
  pointwise [colInd]
theorem rowInd_apply (i a : Fin 8) : rowInd (ix3 i a 0) = lit2 (S8x8.rowMajor (ix2 i a)) := by
  pointwise [rowInd]

/-- The masked columns. -/
def perRow (g : FVec Ideal S32x15x64x64 .f32) : FVec Ideal S32x15x64x64 .f32 :=
  select (broadcastInDim S32x15x64x64 ![0, 1, 2, 3] bcast_S1x1x64x64_S32x15x64x64_0_1_2_3
      (broadcastInDim S1x1x64x64 ![2, 3] bcast_S64x64_S1x1x64x64_2_3 fun i => lit0 (S64x64.rowMajor i)))
    (Host.divf g (broadcastInDim S32x15x64x64 ![] bcast_S_S32x15x64x64 (constant S_ .f32 0x3DB504F3#32)))
    (broadcastInDim S32x15x64x64 ![] bcast_S_S32x15x64x64 (constant (F := Ideal) S_ .f32 0xFF800000#32))

theorem perRow_apply (g : FVec Ideal S32x15x64x64 .f32) (h : Fin 32) (p : Fin 15) (w c : Fin 64) :
    perRow g (ix4 h p w c) = if lit0 (S64x64.rowMajor (ix2 w c)) = 1#1
      then Ideal.div (g (ix4 h p w c)) scale else (⊥ : EReal) := by
  rw [← ofBits_scale, ← NaTiles.ofBits_neg_inf]
  pointwise [perRow]
  rfl

/-- The rows laid side by side. -/
def laid (g : Vec Ideal S32x8x8x64x64 .f32) : Vec Ideal S32x8x64x512 .f32 :=
  shapeCast S32x8x64x512 (transpose S32x8x64x8x64 [0, 1, 3, 2, 4] g transposes_S32x8x8x64x64_S32x8x64x8x64_0_1_3_2_4)
    shapeCasts_S32x8x64x8x64_S32x8x64x512

/-- The table of the relative positions `x`. -/
def table (x : Vec Ideal S32x15x31 .f32) : Vec Ideal S32x8x64x512 .f32 :=
  laid (Host.gather gather_S32x15x64x64_S8x8x1_S32x8x8x64x64_034_1_n_n_1_2_3216464
    (perRow (Host.gather gather_S32x15x31_S64x64x1_S32x15x64x64_01_2_n_n_2_2_32151 x colInd)) rowInd)

theorem laid_apply (g : Vec Ideal S32x8x8x64x64 .f32) (h : Fin 32) (i a : Fin 8) (w c : Fin 64) (t : Fin 512)
    (ht : t.val = 64 * a.val + c.val) : laid g (ix4 h i w t) = g (ix5 h i a w c) := by
  have hs : laid g (ix4 h i w t) = g (ix5 h i ⟨t.val / 64, by omega⟩ w ⟨t.val % 64, by omega⟩) := by
    pointwise [laid]
  have ha : (⟨t.val / 64, by omega⟩ : Fin 8) = a := Fin.ext (by show t.val / 64 = a.val; omega)
  have hc : (⟨t.val % 64, by omega⟩ : Fin 64) = c := Fin.ext (by show t.val % 64 = c.val; omega)
  rw [hs, ha, hc]

/-- An entry of the table, inside the window of its column. -/
theorem table_in (x : Vec Ideal S32x15x31 .f32) (h : Fin 32) (i a : Fin 8) (w c : Fin 64) (t : Fin 512)
    (ht : t.val = 64 * a.val + c.val) (hc : colStart w ≤ c.val ∧ c.val < colStart w + 16) (p : Fin 15) (n : Fin 31)
    (hp : p.val = a.val + 7 - i.val) (hn : n.val = c.val + 15 - w.val) :
    table x (ix4 h i w t) = Ideal.div (x (ix3 h p n)) scale := by
  unfold table
  rw [laid_apply _ h i a w c t ht, gatherRow_apply _ _ h i a w c p (by rw [rowInd_apply, NaLits.rowTab_apply, hp]),
    perRow_apply, NaLits.mask_apply, decide_eq_true hc,
    gatherCol_apply _ _ h p w c n (by rw [colInd_apply, NaLits.colTab_apply]; omega)]
  rfl

/-- An entry of the table, outside the window of its column. -/
theorem table_out (x : Vec Ideal S32x15x31 .f32) (h : Fin 32) (i a : Fin 8) (w c : Fin 64) (t : Fin 512)
    (ht : t.val = 64 * a.val + c.val) (hc : ¬ (colStart w ≤ c.val ∧ c.val < colStart w + 16)) :
    table x (ix4 h i w t) = (⊥ : EReal) := by
  unfold table
  rw [laid_apply _ h i a w c t ht, gatherRow_apply _ _ h i a w c ⟨a.val + 7 - i.val, by omega⟩
      (by rw [rowInd_apply, NaLits.rowTab_apply]),
    perRow_apply, NaLits.mask_apply, decide_eq_false hc]
  rfl

variable (m : (ℓ : Loc nD τ sig) → Buf (Elt Ideal) ℓ)

/-- The table the launch reads. -/
theorem V_table (c : Dev nD) : V m c main_v15 = table (m ((c : Thread nD τ).loc main_arg1)) := by
  simp only [V, hostOps0, hostOps0_1, hostOps0_2, List.flatten_cons, List.flatten_nil, List.append_nil, List.cons_append,
    List.nil_append]
  after_results
  simp only [StableHlo.TRef.toBuf, StableHlo.TRef.ofBuf, cast_cast, cast_eq]
  funext i
  rfl

/-- The result the launch starts from is the argument. -/
theorem V_copy (c : Dev nD) : V m c main_v16 = m ((c : Thread nD τ).loc main_arg2) := by
  simp only [V, hostOps0, hostOps0_1, hostOps0_2, List.flatten_cons, List.flatten_nil, List.append_nil, List.cons_append,
    List.nil_append]
  after_results
  rfl

end Cert.Proof.NaBias

end
-- ==== Proof.NaRef.lean ====
/-
  The reference's neighbourhood attention, read entry by entry: what its gathers select, its scores, its softmax over the
  128 keys of a window, and the weighted sum of the values.
-/
module

public import proofs.«01_k».proof.Proof.NaLits
public import proofs.«01_k».proof.Proof.Gen.ReferenceIdeal.Run
public import Idealize.ShloMosaic.Lib.Pointwise

@[expose] public section

noncomputable section

namespace Cert.Proof.NaRef

open Idealize.ShloMosaic Idealize.ShloMosaic.TcCoe Idealize.SL.Sem
open Cert.ReferenceIdeal Cert.ReferenceIdeal.Gen
open Cert.Proof.NaLits (colStart)
open Cert.Proof.NaTiles (rowStart)

/-- The gather of the window's rows, at an index. -/
theorem gatherRows_apply (x : Vec Ideal S4x32x64x32x128 .f32) (ind : IVec S32x8x1 32) (b : Fin 4) (r : Fin 32) (i : Fin 8) (w : Fin 64) (h : Fin 32) (d : Fin 128) (n : Fin 32)
    (hn : (ind (ix3 r i 0)).toInt.toNat = n.val) :
    Host.gather gather_S4x32x64x32x128_S32x8x1_S4x32x8x64x32x128_0345_1_n_n_1_2_416432128 x ind (ix6 b r i w h d) = x (ix5 b n w h d) := by
  unfold Host.gather
  congr 1
  funext ax
  refine Fin.ext ?_
  show GatherDims.start _ _ _ _ + GatherDims.batchCoord _ _ _ + GatherDims.offCoord _ _ _ = _
  rw [GatherDims.batchCoord_eq_zero _ _ _ List.not_mem_nil]
  match ax with
  | 0 => exact (by omega : ∀ k : ℕ, 0 + 0 + k = k) _
  | 1 =>
    rw [GatherDims.offCoord_eq_zero _ _ _ (fun h => ((GatherDims.mem_sKept _ _).mp h).1 (by decide))]
    unfold GatherDims.start
    rw [dif_pos (show (1 : Fin S4x32x64x32x128.rank) ∈ GatherDims.startIndexMap gather_S4x32x64x32x128_S32x8x1_S4x32x8x64x32x128_0345_1_n_n_1_2_416432128 by decide)]
    have hsi : GatherDims.siIdx gather_S4x32x64x32x128_S32x8x1_S4x32x8x64x32x128_0345_1_n_n_1_2_416432128 (ix6 b r i w h d) ⟨_, List.idxOf_lt_length_iff.2 (show (1 : Fin S4x32x64x32x128.rank) ∈ GatherDims.startIndexMap gather_S4x32x64x32x128_S32x8x1_S4x32x8x64x32x128_0345_1_n_n_1_2_416432128 by decide)⟩ = ix3 r i 0 := by
      funext b
      match b with
      | 0 => rfl
      | 1 => rfl
      | 2 => rfl
    rw [hsi, hn]
    show min n.val 31 + 0 + 0 = n.val
    omega
  | 2 => exact (by omega : ∀ k : ℕ, 0 + 0 + k = k) _
  | 3 => exact (by omega : ∀ k : ℕ, 0 + 0 + k = k) _
  | 4 => exact (by omega : ∀ k : ℕ, 0 + 0 + k = k) _

/-- The gather of the window's columns, at an index. -/
theorem gatherCols_apply (x : Vec Ideal S4x32x8x64x32x128 .f32) (ind : IVec S64x16x1 32) (b : Fin 4) (r : Fin 32) (i : Fin 8) (w : Fin 64) (j : Fin 16) (h : Fin 32) (d : Fin 128) (n : Fin 64)
    (hn : (ind (ix3 w j 0)).toInt.toNat = n.val) :
    Host.gather gather_S4x32x8x64x32x128_S64x16x1_S4x32x8x64x16x32x128_01256_3_n_n_3_2_4328132128 x ind (ix7 b r i w j h d) = x (ix6 b r i n h d) := by
  unfold Host.gather
  congr 1
  funext ax
  refine Fin.ext ?_
  show GatherDims.start _ _ _ _ + GatherDims.batchCoord _ _ _ + GatherDims.offCoord _ _ _ = _
  rw [GatherDims.batchCoord_eq_zero _ _ _ List.not_mem_nil]
  match ax with
  | 0 => exact (by omega : ∀ k : ℕ, 0 + 0 + k = k) _
  | 1 => exact (by omega : ∀ k : ℕ, 0 + 0 + k = k) _
  | 2 => exact (by omega : ∀ k : ℕ, 0 + 0 + k = k) _
  | 3 =>
    rw [GatherDims.offCoord_eq_zero _ _ _ (fun h => ((GatherDims.mem_sKept _ _).mp h).1 (by decide))]
    unfold GatherDims.start
    rw [dif_pos (show (3 : Fin S4x32x8x64x32x128.rank) ∈ GatherDims.startIndexMap gather_S4x32x8x64x32x128_S64x16x1_S4x32x8x64x16x32x128_01256_3_n_n_3_2_4328132128 by decide)]
    have hsi : GatherDims.siIdx gather_S4x32x8x64x32x128_S64x16x1_S4x32x8x64x16x32x128_01256_3_n_n_3_2_4328132128 (ix7 b r i w j h d) ⟨_, List.idxOf_lt_length_iff.2 (show (3 : Fin S4x32x8x64x32x128.rank) ∈ GatherDims.startIndexMap gather_S4x32x8x64x32x128_S64x16x1_S4x32x8x64x16x32x128_01256_3_n_n_3_2_4328132128 by decide)⟩ = ix3 w j 0 := by
      funext b
      match b with
      | 0 => rfl
      | 1 => rfl
      | 2 => rfl
    rw [hsi, hn]
    show min n.val 63 + 0 + 0 = n.val
    omega
  | 4 => exact (by omega : ∀ k : ℕ, 0 + 0 + k = k) _
  | 5 => exact (by omega : ∀ k : ℕ, 0 + 0 + k = k) _

/-- The gather of the relative positions, at an index. -/
theorem gatherBias_apply (x : Vec Ideal S32x15x31 .f32) (ind : IVec S32x64x8x16x2 32) (h r : Fin 32) (w : Fin 64) (i : Fin 8) (j : Fin 16) (n : Fin 15) (k : Fin 31)
    (hn : (ind (ix5 r w i j 0)).toInt.toNat = n.val) (hk : (ind (ix5 r w i j 1)).toInt.toNat = k.val) :
    Host.gather gather_S32x15x31_S32x64x8x16x2_S32x32x64x8x16_0_12_n_n_12_4_3211 x ind (ix5 h r w i j) = x (ix3 h n k) := by
  unfold Host.gather
  congr 1
  funext ax
  refine Fin.ext ?_
  show GatherDims.start _ _ _ _ + GatherDims.batchCoord _ _ _ + GatherDims.offCoord _ _ _ = _
  rw [GatherDims.batchCoord_eq_zero _ _ _ List.not_mem_nil]
  match ax with
  | 0 => exact (by omega : ∀ k : ℕ, 0 + 0 + k = k) _
  | 1 =>
    rw [GatherDims.offCoord_eq_zero _ _ _ (fun h => ((GatherDims.mem_sKept _ _).mp h).1 (by decide))]
    unfold GatherDims.start
    rw [dif_pos (show (1 : Fin S32x15x31.rank) ∈ GatherDims.startIndexMap gather_S32x15x31_S32x64x8x16x2_S32x32x64x8x16_0_12_n_n_12_4_3211 by decide)]
    have hsi : GatherDims.siIdx gather_S32x15x31_S32x64x8x16x2_S32x32x64x8x16_0_12_n_n_12_4_3211 (ix5 h r w i j) ⟨_, List.idxOf_lt_length_iff.2 (show (1 : Fin S32x15x31.rank) ∈ GatherDims.startIndexMap gather_S32x15x31_S32x64x8x16x2_S32x32x64x8x16_0_12_n_n_12_4_3211 by decide)⟩ = ix5 r w i j 0 := by
      funext b
      match b with
      | 0 => rfl
      | 1 => rfl
      | 2 => rfl
      | 3 => rfl
      | 4 => rfl
    rw [hsi, hn]
    show min n.val 14 + 0 + 0 = n.val
    omega
  | 2 =>
    rw [GatherDims.offCoord_eq_zero _ _ _ (fun h => ((GatherDims.mem_sKept _ _).mp h).1 (by decide))]
    unfold GatherDims.start
    rw [dif_pos (show (2 : Fin S32x15x31.rank) ∈ GatherDims.startIndexMap gather_S32x15x31_S32x64x8x16x2_S32x32x64x8x16_0_12_n_n_12_4_3211 by decide)]
    have hsi : GatherDims.siIdx gather_S32x15x31_S32x64x8x16x2_S32x32x64x8x16_0_12_n_n_12_4_3211 (ix5 h r w i j) ⟨_, List.idxOf_lt_length_iff.2 (show (2 : Fin S32x15x31.rank) ∈ GatherDims.startIndexMap gather_S32x15x31_S32x64x8x16x2_S32x32x64x8x16_0_12_n_n_12_4_3211 by decide)⟩ = ix5 r w i j 1 := by
      funext b
      match b with
      | 0 => rfl
      | 1 => rfl
      | 2 => rfl
      | 3 => rfl
      | 4 => rfl
    rw [hsi, hk]
    show min k.val 30 + 0 + 0 = k.val
    omega

/-- The rows' numbers, as the gather takes them. -/
def rowsInd : IVec S32x8x1 32 :=
  broadcastInDim S32x8x1 ![0, 1] bcast_S32x8_S32x8x1_0_1 (select (constantI S32x8 1 0#1)
    (addi (fun i => lit0 (S32x8.rowMajor i)) (broadcastInDim S32x8 ![] bcast_S_S32x8 (constantI S_ 32 32#32)))
    fun i => lit0 (S32x8.rowMajor i))

/-- The columns' numbers, as the gather takes them. -/
def colsInd : IVec S64x16x1 32 :=
  broadcastInDim S64x16x1 ![0, 1] bcast_S64x16_S64x16x1_0_1 (select (constantI S64x16 1 0#1)
    (addi (fun i => lit1 (S64x16.rowMajor i)) (broadcastInDim S64x16 ![] bcast_S_S64x16 (constantI S_ 32 64#32)))
    fun i => lit1 (S64x16.rowMajor i))

/-- The row distances. -/
def rowOff : IVec S32x64x8x16x1 32 :=
  broadcastInDim S32x64x8x16x1 ![0, 1, 2, 3] bcast_S32x64x8x16_S32x64x8x16x1_0_1_2_3
    (broadcastInDim S32x64x8x16 ![0, 1, 2, 3] bcast_S32x1x8x1_S32x64x8x16_0_1_2_3
      (select (constantI S32x1x8x1 1 0#1)
        (addi (fun i => lit2 (S32x1x8x1.rowMajor i)) (broadcastInDim S32x1x8x1 ![] bcast_S_S32x1x8x1 (constantI S_ 32 15#32)))
        fun i => lit2 (S32x1x8x1.rowMajor i)))

/-- The column distances. -/
def colOff : IVec S32x64x8x16x1 32 :=
  broadcastInDim S32x64x8x16x1 ![0, 1, 2, 3] bcast_S32x64x8x16_S32x64x8x16x1_0_1_2_3
    (broadcastInDim S32x64x8x16 ![0, 1, 2, 3] bcast_S1x64x1x16_S32x64x8x16_0_1_2_3
      (select (constantI S1x64x1x16 1 0#1)
        (addi (fun i => lit3 (S1x64x1x16.rowMajor i)) (broadcastInDim S1x64x1x16 ![] bcast_S_S1x64x1x16 (constantI S_ 32 31#32)))
        fun i => lit3 (S1x64x1x16.rowMajor i)))

/-- The two distances of every pair. -/
def offs : IVec S32x64x8x16x2 32 :=
  concatenate S32x64x8x16x2 4 [⟨S32x64x8x16x1, rowOff⟩, ⟨S32x64x8x16x1, colOff⟩]
    concatenates_S32x64x8x16x1_S32x64x8x16x1_S32x64x8x16x2_d4

theorem rowsInd_apply (r : Fin 32) (a : Fin 8) : rowsInd (ix3 r a 0) = lit0 (S32x8.rowMajor (ix2 r a)) := by
  pointwise [rowsInd]
theorem colsInd_apply (w : Fin 64) (j : Fin 16) : colsInd (ix3 w j 0) = lit1 (S64x16.rowMajor (ix2 w j)) := by
  pointwise [colsInd]
theorem offs_row (r : Fin 32) (w : Fin 64) (a : Fin 8) (j : Fin 16) :
    offs (ix5 r w a j 0) = lit2 (S32x1x8x1.rowMajor (ix4 r 0 a 0)) := by
  pointwise [offs, rowOff, colOff]
theorem offs_col (r : Fin 32) (w : Fin 64) (a : Fin 8) (j : Fin 16) :
    offs (ix5 r w a j 1) = lit3 (S1x64x1x16.rowMajor (ix4 0 w 0 j)) := by
  pointwise [offs, rowOff, colOff]

/-- The rows of the launch. -/
def part (x : FVec Ideal S24576x12288 .bf16) : FVec Ideal S4x2048x12288 .f32 :=
  shapeCast _ (extractStridedSlice S8192x12288 ![16384, 0] (extf .f32 x bitsLt_bf16_f32)
    slices_S24576x12288_S8192x12288_16384_0) shapeCasts_S8192x12288_S4x2048x12288

/-- The queries, laid on the grid. -/
def qGrid (x : FVec Ideal S24576x12288 .bf16) : FVec Ideal S4x32x64x32x128 .f32 :=
  shapeCast _ (extractStridedSlice S4x2048x4096 ![0, 0, 0] (part x) slices_S4x2048x12288_S4x2048x4096_0_0_0)
    shapeCasts_S4x2048x4096_S4x32x64x32x128
/-- The keys, laid on the grid. -/
def kGrid (x : FVec Ideal S24576x12288 .bf16) : FVec Ideal S4x32x64x32x128 .f32 :=
  shapeCast _ (extractStridedSlice S4x2048x4096 ![0, 0, 4096] (part x) slices_S4x2048x12288_S4x2048x4096_0_0_4096)
    shapeCasts_S4x2048x4096_S4x32x64x32x128
/-- The values, laid on the grid. -/
def vGrid (x : FVec Ideal S24576x12288 .bf16) : FVec Ideal S4x32x64x32x128 .f32 :=
  shapeCast _ (extractStridedSlice S4x2048x4096 ![0, 0, 8192] (part x) slices_S4x2048x12288_S4x2048x4096_0_0_8192)
    shapeCasts_S4x2048x4096_S4x32x64x32x128

/-- The token of column `w` of row `r` of grid `b`. -/
abbrev tok (b : Fin 4) (r : Fin 32) (w : Fin 64) : Fin 24576 := ⟨16384 + 2048 * b.val + 64 * r.val + w.val, by omega⟩
/-- The column of head `h`'s entry `d` in the queries, the keys or the values. -/
abbrev chan (p : Fin 3) (h : Fin 32) (d : Fin 128) : Fin 12288 := ⟨4096 * p.val + 128 * h.val + d.val, by omega⟩

theorem qGrid_apply (x : FVec Ideal S24576x12288 .bf16) (b : Fin 4) (r : Fin 32) (w : Fin 64) (h : Fin 32) (d : Fin 128) :
    qGrid x (ix5 b r w h d) = x (ix2 (tok b r w) (chan 0 h d)) := by
  pointwise [qGrid, part]
  exact congrArg x (congrArg₂ ix2
    (Fin.ext (by show 16384 + (b.val * 2048 + (r.val * 64 + w.val)) = 16384 + 2048 * b.val + 64 * r.val + w.val; omega))
    (Fin.ext (by show h.val * 128 + d.val = 4096 * 0 + 128 * h.val + d.val; omega)))
theorem kGrid_apply (x : FVec Ideal S24576x12288 .bf16) (b : Fin 4) (r : Fin 32) (w : Fin 64) (h : Fin 32) (d : Fin 128) :
    kGrid x (ix5 b r w h d) = x (ix2 (tok b r w) (chan 1 h d)) := by
  pointwise [kGrid, part]
  exact congrArg x (congrArg₂ ix2
    (Fin.ext (by show 16384 + (b.val * 2048 + (r.val * 64 + w.val)) = 16384 + 2048 * b.val + 64 * r.val + w.val; omega))
    (Fin.ext (by show 4096 + (h.val * 128 + d.val) = 4096 * 1 + 128 * h.val + d.val; omega)))
theorem vGrid_apply (x : FVec Ideal S24576x12288 .bf16) (b : Fin 4) (r : Fin 32) (w : Fin 64) (h : Fin 32) (d : Fin 128) :
    vGrid x (ix5 b r w h d) = x (ix2 (tok b r w) (chan 2 h d)) := by
  pointwise [vGrid, part]
  exact congrArg x (congrArg₂ ix2
    (Fin.ext (by show 16384 + (b.val * 2048 + (r.val * 64 + w.val)) = 16384 + 2048 * b.val + 64 * r.val + w.val; omega))
    (Fin.ext (by show 8192 + (h.val * 128 + d.val) = 4096 * 2 + 128 * h.val + d.val; omega)))

/-- What a gather of rows and columns selects. -/
def sel (g : FVec Ideal S4x32x64x32x128 .f32) : FVec Ideal S4x32x8x64x16x32x128 .f32 :=
  Host.gather gather_S4x32x8x64x32x128_S64x16x1_S4x32x8x64x16x32x128_01256_3_n_n_3_2_4328132128
    (Host.gather gather_S4x32x64x32x128_S32x8x1_S4x32x8x64x32x128_0345_1_n_n_1_2_416432128 g rowsInd) colsInd

/-- The row of a window. -/
abbrev winRow (r : Fin 32) (a : Fin 8) : Fin 32 := ⟨rowStart r.val + a.val, by show min _ _ + _ < _; omega⟩
/-- The column of a window. -/
abbrev winCol (w : Fin 64) (j : Fin 16) : Fin 64 := ⟨colStart w.val + j.val, by show min _ _ + _ < _; omega⟩
/-- The row distance of a window's row, as the table counts it. -/
abbrev dRow (r : Fin 32) (a : Fin 8) : Fin 15 := ⟨rowStart r.val + a.val + 7 - r.val, by show min _ _ + _ + _ - _ < _; omega⟩
/-- The column distance of a window's column, as the table counts it. -/
abbrev dCol (w : Fin 64) (j : Fin 16) : Fin 31 := ⟨colStart w.val + j.val + 15 - w.val, by show min _ _ + _ + _ - _ < _; omega⟩

theorem sel_apply (g : FVec Ideal S4x32x64x32x128 .f32) (b : Fin 4) (r : Fin 32) (a : Fin 8) (w : Fin 64) (j : Fin 16)
    (h : Fin 32) (d : Fin 128) : sel g (ix7 b r a w j h d) = g (ix5 b (winRow r a) (winCol w j) h d) := by
  unfold sel
  rw [gatherCols_apply _ _ b r a w j h d (winCol w j) (by rw [colsInd_apply, NaLits.cols_apply]),
    gatherRows_apply _ _ b r a (winCol w j) h d (winRow r a) (by rw [rowsInd_apply, NaLits.rows_apply])]

/-- The bias of every pair. -/
def bias (x : FVec Ideal S32x15x31 .f32) : FVec Ideal S32x32x64x8x16 .f32 :=
  Host.gather gather_S32x15x31_S32x64x8x16x2_S32x32x64x8x16_0_12_n_n_12_4_3211 x offs

theorem bias_apply (x : FVec Ideal S32x15x31 .f32) (h r : Fin 32) (w : Fin 64) (a : Fin 8) (j : Fin 16) :
    bias x (ix5 h r w a j) = x (ix3 h (dRow r a) (dCol w j)) := by
  unfold bias
  rw [gatherBias_apply _ _ h r w a j (dRow r a) (dCol w j) (by rw [offs_row, NaLits.rowOff_apply])
    (by rw [offs_col, NaLits.colOff_apply])]

/-- The scores. -/
def scores (q : FVec Ideal S4x32x64x32x128 .f32) (k : FVec Ideal S4x32x8x64x16x32x128 .f32)
    (b : FVec Ideal S32x32x64x8x16 .f32) : FVec Ideal S4x32x32x64x8x16 .f32 :=
  addf (mulf (Host.dotGeneral dot_S4x32x64x32x128_S4x32x8x64x16x32x128_S4x32x32x64x8x16_4_6_n_24_0312_0513 none q k)
      (broadcastInDim S4x32x32x64x8x16 ![] bcast_S_S4x32x32x64x8x16 (constant S_ .f32 0x3DB504F3#32)))
    (broadcastInDim S4x32x32x64x8x16 ![0, 1, 2, 3, 4, 5] bcast_S1x32x32x64x8x16_S4x32x32x64x8x16_0_1_2_3_4_5
      (broadcastInDim S1x32x32x64x8x16 ![1, 2, 3, 4, 5] bcast_S32x32x64x8x16_S1x32x32x64x8x16_1_2_3_4_5 b))

theorem scores_apply (q : FVec Ideal S4x32x64x32x128 .f32) (k : FVec Ideal S4x32x8x64x16x32x128 .f32)
    (bi : FVec Ideal S32x32x64x8x16 .f32) (b : Fin 4) (h r : Fin 32) (w : Fin 64) (a : Fin 8) (j : Fin 16) :
    scores q k bi (ix6 b h r w a j) = (∑ d : Fin 128, (q (ix5 b r w h d) : EReal) * k (ix7 b r a w j h d))
      * Ideal.ofBits .f32 0x3DB504F3#32 + bi (ix5 h r w a j) := by
  pointwise [scores]

/-- The scores, the keys of a window in one row. -/
def flat (s : FVec Ideal S4x32x32x64x8x16 .f32) : FVec Ideal S4x32x32x64x128 .f32 :=
  shapeCast _ s shapeCasts_S4x32x32x64x8x16_S4x32x32x64x128

/-- The greatest score of a row. -/
def rowMax (f : FVec Ideal S4x32x32x64x128 .f32) : FVec Ideal S4x32x32x64 .f32 :=
  maximumf (broadcastInDim S4x32x32x64 ![] bcast_S_S4x32x32x64 (constant S_ .f32 0xFF800000#32))
    (Host.reduce FloatOps.maximumf f (constant S_ .f32 0xFF800000#32) reducesTo_S4x32x32x64x128_S4x32x32x64_d4 h_S_)

/-- The exponentials of the distances from the greatest score. -/
def expo (f : FVec Ideal S4x32x32x64x128 .f32) : FVec Ideal S4x32x32x64x128 .f32 :=
  Host.exp (subf f (broadcastInDim S4x32x32x64x128 ![0, 1, 2, 3, 4] bcast_S4x32x32x64x1_S4x32x32x64x128_0_1_2_3_4
    (broadcastInDim S4x32x32x64x1 ![0, 1, 2, 3] bcast_S4x32x32x64_S4x32x32x64x1_0_1_2_3 (rowMax f))))

/-- Each row over its sum. -/
def norm (e : FVec Ideal S4x32x32x64x128 .f32) : FVec Ideal S4x32x32x64x128 .f32 :=
  Host.divf e (broadcastInDim S4x32x32x64x128 ![0, 1, 2, 3, 4] bcast_S4x32x32x64x1_S4x32x32x64x128_0_1_2_3_4
    (broadcastInDim S4x32x32x64x1 ![0, 1, 2, 3] bcast_S4x32x32x64_S4x32x32x64x1_0_1_2_3
      (Host.reduceAdd e (constant S_ .f32 0x00000000#32) reducesTo_S4x32x32x64x128_S4x32x32x64_d4 h_S_)))

/-- The softmax over a window's keys. -/
def probs (s : FVec Ideal S4x32x32x64x8x16 .f32) : FVec Ideal S4x32x32x64x8x16 .f32 :=
  shapeCast _ (norm (expo (flat s))) shapeCasts_S4x32x32x64x128_S4x32x32x64x8x16

theorem flat_apply (s : FVec Ideal S4x32x32x64x8x16 .f32) (b : Fin 4) (h r : Fin 32) (w : Fin 64) (t : Fin 128) :
    flat s (ix5 b h r w t) = s (ix6 b h r w ⟨t.val / 16, by omega⟩ ⟨t.val % 16, by omega⟩) := by
  pointwise [flat]

/-- A maximum along the last of five axes, at an index. -/
theorem lastMax_apply {n0 n1 n2 n3 n4 : ℕ} {u : Shape} (f : FVec Ideal ⟨5, ![n0, n1, n2, n3, n4]⟩ .f32) (c : FVec Ideal u .f32)
    (hr : (⟨5, ![n0, n1, n2, n3, n4]⟩ : Shape).ReducesTo [4] ⟨4, ![n0, n1, n2, n3]⟩) (hu : 0 < u.numel)
    (b : Fin n0) (h : Fin n1) (r : Fin n2) (w : Fin n3) :
    Host.reduce FloatOps.maximumf f c hr hu (ix4 b h r w)
      = Finset.univ.fold max (c (Shape.Idx.first hu) : EReal) fun t : Fin n4 => (f (ix5 b h r w t) : EReal) := by
  rw [Host.reduce_eq_fold, Shape.ReducesTo.fold_fiber_r5_a4]
  rfl

theorem max_at (x y : FVec Ideal S4x32x32x64 .f32) (j : S4x32x32x64.Idx) : maximumf x y j = (max (x j) (y j) : EReal) := rfl

theorem rowMax_apply (f : FVec Ideal S4x32x32x64x128 .f32) (b : Fin 4) (h r : Fin 32) (w : Fin 64) :
    rowMax f (ix4 b h r w) = max (Ideal.ofBits .f32 0xFF800000#32)
      (Finset.univ.fold max (Ideal.ofBits .f32 0xFF800000#32) fun t : Fin 128 => (f (ix5 b h r w t) : EReal)) := by
  unfold rowMax
  rw [max_at, lastMax_apply]
  rfl

theorem expo_apply (f : FVec Ideal S4x32x32x64x128 .f32) (b : Fin 4) (h r : Fin 32) (w : Fin 64) (t : Fin 128) :
    expo f (ix5 b h r w t) = Ideal.exp ((f (ix5 b h r w t) : EReal) - rowMax f (ix4 b h r w)) := by
  pointwise [expo]

theorem norm_apply (e : FVec Ideal S4x32x32x64x128 .f32) (b : Fin 4) (h r : Fin 32) (w : Fin 64) (t : Fin 128) :
    norm e (ix5 b h r w t) = Ideal.div (e (ix5 b h r w t)) (∑ u : Fin 128, (e (ix5 b h r w u) : EReal)) := by
  pointwise [norm]

theorem probs_apply (s : FVec Ideal S4x32x32x64x8x16 .f32) (b : Fin 4) (h r : Fin 32) (w : Fin 64) (a : Fin 8) (j : Fin 16) :
    probs s (ix6 b h r w a j) = norm (expo (flat s)) (ix5 b h r w ⟨a.val * 16 + j.val, by omega⟩) := by
  pointwise [probs]

/-- The weighted sums of the values. -/
def mix (p : FVec Ideal S4x32x32x64x8x16 .f32) (v : FVec Ideal S4x32x8x64x16x32x128 .f32) : FVec Ideal S4x32x64x32x128 .f32 :=
  Host.dotGeneral dot_S4x32x32x64x8x16_S4x32x8x64x16x32x128_S4x32x64x32x128_45_24_n_6_0231_0135 none p v

theorem mix_apply (p : FVec Ideal S4x32x32x64x8x16 .f32) (v : FVec Ideal S4x32x8x64x16x32x128 .f32) (b : Fin 4) (r : Fin 32)
    (w : Fin 64) (h : Fin 32) (d : Fin 128) :
    mix p v (ix5 b r w h d) = ∑ a : Fin 8, ∑ j : Fin 16, (p (ix6 b h r w a j) : EReal) * v (ix7 b r a w j h d) := by
  pointwise [mix]

/-- The result: the rows the launch leaves alone, then the attention's. -/
def out (x : FVec Ideal S24576x4096 .bf16) (o : FVec Ideal S4x32x64x32x128 .f32) : FVec Ideal S24576x4096 .bf16 :=
  concatenate S24576x4096 0 [⟨S16384x4096, extractStridedSlice S16384x4096 ![0, 0] x slices_S24576x4096_S16384x4096_0_0⟩,
    ⟨S8192x4096, truncf .bf16 (shapeCast _ o shapeCasts_S4x32x64x32x128_S8192x4096) bitsLt_bf16_f32⟩]
    concatenates_S16384x4096_S8192x4096_S24576x4096_d0

theorem out_low (x : FVec Ideal S24576x4096 .bf16) (o : FVec Ideal S4x32x64x32x128 .f32) (i : S24576x4096.Idx)
    (hi : (i 0 : ℕ) < 16384) : out x o i = x i := by
  pointwise [out]
  rw [dif_pos hi]

theorem out_high (x : FVec Ideal S24576x4096 .bf16) (o : FVec Ideal S4x32x64x32x128 .f32) (b : Fin 4) (r : Fin 32)
    (w : Fin 64) (h : Fin 32) (d : Fin 128) :
    out x o (ix2 (tok b r w) ⟨128 * h.val + d.val, by omega⟩) = o (ix5 b r w h d) := by
  have h1 : (⟨(16384 + 2048 * b.val + 64 * r.val + w.val - 16384) / 2048, by omega⟩ : Fin 4) = b :=
    Fin.ext (by show _ / _ = b.val; omega)
  have h2 : (⟨(16384 + 2048 * b.val + 64 * r.val + w.val - 16384) / 64 % 32, by omega⟩ : Fin 32) = r :=
    Fin.ext (by show _ % _ = r.val; omega)
  have h3 : (⟨(16384 + 2048 * b.val + 64 * r.val + w.val - 16384) % 64, by omega⟩ : Fin 64) = w :=
    Fin.ext (by show _ % _ = w.val; omega)
  pointwise [out]
  rw [dif_neg (by omega), h1, h2, h3]

/-- The reference's function of its arguments. -/
def fn (x0 : FVec Ideal S24576x12288 .bf16) (x1 : FVec Ideal S32x15x31 .f32) (x2 : FVec Ideal S24576x4096 .bf16) :
    FVec Ideal S24576x4096 .bf16 :=
  out x2 (mix (probs (scores (qGrid x0) (sel (kGrid x0)) (bias x1))) (sel (vGrid x0)))

variable (m : (ℓ : Loc nD τ sig) → Buf (Elt Ideal) ℓ)

theorem res_eq (c : Dev nD) : Cert.ReferenceIdeal.Value.res_main_v64 (F := Ideal) m c
    = fn (m ((c.tc : Thread nD τ).loc main_arg0)) (m ((c.tc : Thread nD τ).loc main_arg1))
        (m ((c.tc : Thread nD τ).loc main_arg2)) := by
  unfold Cert.ReferenceIdeal.Value.res_main_v64 fn out mix probs norm expo rowMax flat scores bias sel vGrid kGrid qGrid part rowsInd colsInd offs rowOff colOff
  rfl

end Cert.Proof.NaRef

end
-- ==== Proof.NaEntry.lean ====
/-
  An entry of the kernel's block is the reference's entry at the same place of the result, where the queries, keys and
  relative positions are real.
-/
module

public import proofs.«01_k».proof.Proof.NaMath
public import proofs.«01_k».proof.Proof.NaBias
public import proofs.«01_k».proof.Proof.NaRef
public import Idealize.ShloMosaic.Lib.Pointwise

@[expose] public section

noncomputable section

namespace Cert.Proof.NaEntry

open Idealize.ShloMosaic
open Cert.Proof.NaTiles Cert.Proof.NaRef
open Cert.Proof.NaLits (colStart)

abbrev Sx0 : Shape := Cert.KernelIdeal.S24576x12288
abbrev Sx1 : Shape := Cert.KernelIdeal.S32x15x31

/-- The key of the window's entry `u`, among the 512 of its rows. -/
def key (w : Fin 64) (u : Fin 128) : Fin 512 := ⟨64 * (u.val / 16) + colStart w.val + u.val % 16, by
  have := u.isLt
  have : colStart w.val ≤ 48 := min_le_right _ _
  omega⟩

theorem key_injective (w : Fin 64) : Function.Injective (key w) := fun u u' h => by
  have h1 : 64 * (u.val / 16) + colStart w.val + u.val % 16 = 64 * (u'.val / 16) + colStart w.val + u'.val % 16 :=
    congrArg Fin.val h
  have : colStart w.val ≤ 48 := min_le_right _ _
  exact Fin.ext (by omega)

/-- The row of entry `u` of a window. -/
abbrev kRow (u : Fin 128) : Fin 8 := ⟨u.val / 16, by omega⟩
/-- The column of entry `u` of a window. -/
abbrev kCol (u : Fin 128) : Fin 16 := ⟨u.val % 16, by omega⟩

/-- The queries and keys of the four sequences are the reals of `f0`. -/
def RealQK (x0 : FVec Ideal Sx0 .bf16) (f0 : Sx0.Idx → ℝ) : Prop :=
  ∀ (n : Fin 24576) (k : Fin 12288), 16384 ≤ n.val → k.val < 8192 → x0 (ix2 n k) = (f0 (ix2 n k) : EReal)

variable (x0 : FVec Ideal Sx0 .bf16) (f0 : Sx0.Idx → ℝ) (f1 : Sx1.Idx → ℝ) (b : Fin 4) (h r : Fin 32) (w : Fin 64)

/-- A real score, over the score scale. -/
def sig (u : Fin 128) : ℝ :=
  (∑ d : Fin 128, f0 (ix2 (tok b r w) (chan 0 h d)) * f0 (ix2 (tok b (winRow r (kRow u)) (winCol w (kCol u))) (chan 1 h d)))
    + f1 (ix3 h (dRow r (kRow u)) (dCol w (kCol u))) * (1 / (11863283 / 134217728))

variable {f0} in
/-- A query is real. -/
theorem query_real (hx : RealQK x0 f0) (b : Fin 4) (h r : Fin 32) (w : Fin 64) (d : Fin 128) :
    x0 (ix2 (tok b r w) (chan 0 h d)) = (f0 (ix2 (tok b r w) (chan 0 h d)) : EReal) :=
  hx _ _ (by show 16384 ≤ 16384 + 2048 * b.val + 64 * r.val + w.val; omega)
    (by show 4096 * 0 + 128 * h.val + d.val < 8192; omega)

variable {f0} in
/-- A key is real. -/
theorem key_real (hx : RealQK x0 f0) (b : Fin 4) (h r : Fin 32) (w : Fin 64) (d : Fin 128) :
    x0 (ix2 (tok b r w) (chan 1 h d)) = (f0 (ix2 (tok b r w) (chan 1 h d)) : EReal) :=
  hx _ _ (by show 16384 ≤ 16384 + 2048 * b.val + 64 * r.val + w.val; omega)
    (by show 4096 * 1 + 128 * h.val + d.val < 8192; omega)

/-- The reference's scores, on real arguments. -/
theorem scores_real (hx : RealQK x0 f0) (u : Fin 128) :
    flat (scores (qGrid x0) (sel (kGrid x0)) (bias fun i => (f1 i : EReal))) (ix5 b h r w u)
      = ((sig f0 f1 b h r w u * (11863283 / 134217728) : ℝ) : EReal) := by
  rw [flat_apply, scores_apply, bias_apply, NaBias.ofBits_scale]
  simp only [qGrid_apply, sel_apply, kGrid_apply, query_real x0 hx, key_real x0 hx]
  simp only [← EReal.coe_mul, NaMath.coe_sum, ← EReal.coe_add]
  refine congrArg _ ?_
  rw [sig, add_mul, mul_assoc _ (1 / _ : ℝ), one_div_mul_cancel (by norm_num), mul_one]

/-- The reference's entry, as a sum over the window's keys. -/
theorem ref_entry (x1 : FVec Ideal Sx1 .f32) (x2 : FVec Ideal Cert.KernelIdeal.S24576x4096 .bf16)
    (d : Fin 128) (ρ : Fin 128 → EReal)
    (hρ : ∀ u, flat (scores (qGrid x0) (sel (kGrid x0)) (bias x1)) (ix5 b h r w u) = ρ u) :
    fn x0 x1 x2 (ix2 (tok b r w) ⟨128 * h.val + d.val, by omega⟩)
      = ∑ u, Ideal.div (Ideal.exp (ρ u - max ⊥ (Finset.univ.fold max ⊥ ρ)))
          (∑ u', Ideal.exp (ρ u' - max ⊥ (Finset.univ.fold max ⊥ ρ)))
        * x0 (ix2 (tok b (winRow r (kRow u)) (winCol w (kCol u))) (chan 2 h d)) := by
  unfold fn
  rw [out_high, mix_apply, Fin.sum_univ_tiles (N := 128) 8 16 rfl]
  refine Finset.sum_congr rfl fun a _ => Finset.sum_congr rfl fun j _ => ?_
  have ha : kRow ⟨a.val * 16 + j.val, by omega⟩ = a := Fin.ext (by show (a.val * 16 + j.val) / 16 = a.val; omega)
  have hj : kCol ⟨a.val * 16 + j.val, by omega⟩ = j := Fin.ext (by show (a.val * 16 + j.val) % 16 = j.val; omega)
  rw [probs_apply, norm_apply, sel_apply, vGrid_apply, ha, hj]
  simp only [expo_apply, rowMax_apply, hρ, ofBits_neg_inf]

/-- The kernel's entry is the reference's. -/
theorem entry_eq (hx : RealQK x0 f0) (x2 : FVec Ideal Cert.KernelIdeal.S24576x4096 .bf16) (d : Fin 128)
    (s v : Fin 512 → EReal)
    (hs : ∀ t : Fin 512, s t = (∑ d' : Fin 128, x0 (ix2 (tok b r w) (chan 0 h d'))
        * x0 (ix2 ⟨16384 + 2048 * b.val + 64 * rowStart r.val + t.val, by
            have : rowStart r.val ≤ 24 := min_le_right _ _
            omega⟩ (chan 1 h d')))
      + NaBias.table (fun i => (f1 i : EReal)) (ix4 h ⟨r.val - rowStart r.val, by show _ - min _ _ < _; omega⟩ w t))
    (hv : ∀ t : Fin 512, v t = x0 (ix2 ⟨16384 + 2048 * b.val + 64 * rowStart r.val + t.val, by
            have : rowStart r.val ≤ 24 := min_le_right _ _
            omega⟩ (chan 2 h d))) :
    attend s v = fn x0 (fun i => (f1 i : EReal)) x2
      (ix2 (tok b r w) ⟨128 * h.val + d.val, by omega⟩) := by
  have hcs : colStart w.val ≤ 48 := min_le_right _ _
  have hrs : rowStart r.val ≤ 24 := min_le_right _ _
  have htok : ∀ u : Fin 128, (⟨16384 + 2048 * b.val + 64 * rowStart r.val + (key w u).val, by omega⟩ : Fin 24576)
      = tok b (winRow r (kRow u)) (winCol w (kCol u)) := fun u => Fin.ext (by
    show 16384 + 2048 * b.val + 64 * rowStart r.val + (64 * (u.val / 16) + colStart w.val + u.val % 16)
      = 16384 + 2048 * b.val + 64 * (rowStart r.val + u.val / 16) + (colStart w.val + u.val % 16)
    omega)
  rw [ref_entry x0 b h r w _ x2 d _ (scores_real x0 f0 f1 b h r w hx)]
  refine NaMath.attend_eq (key w) (key_injective w) (sig f0 f1 b h r w)
    (fun u => x0 (ix2 (tok b (winRow r (kRow u)) (winCol w (kCol u))) (chan 2 h d))) s v (fun u => ?_) (fun t ht => ?_)
    (fun u => ?_) _ (fun u => rfl)
  · rw [hs, htok, NaBias.table_in _ h _ (kRow u) w (winCol w (kCol u)) _
        (by show 64 * (u.val / 16) + colStart w.val + u.val % 16 = 64 * (u.val / 16) + (colStart w.val + u.val % 16); omega)
        (by show colStart w.val ≤ colStart w.val + u.val % 16 ∧ colStart w.val + u.val % 16 < colStart w.val + 16; omega)
        (dRow r (kRow u)) (dCol w (kCol u))
        (by show rowStart r.val + u.val / 16 + 7 - r.val = u.val / 16 + 7 - (r.val - rowStart r.val)
            have : rowStart r.val ≤ r.val := (min_le_left _ _).trans (Nat.sub_le _ _)
            omega)
        rfl,
      Ideal.div_coe (by norm_num)]
    simp only [query_real x0 hx, key_real x0 hx]
    simp only [← EReal.coe_mul, NaMath.coe_sum, ← EReal.coe_add]
    rfl
  · rw [hs, NaBias.table_out _ h _ ⟨t.val / 64, by omega⟩ w ⟨t.val % 64, by omega⟩ _
      (by show t.val = 64 * (t.val / 64) + t.val % 64; omega) ?_]
    · exact EReal.add_bot _
    · rintro ⟨h1, h2⟩
      replace h1 : colStart w.val ≤ t.val % 64 := h1
      replace h2 : t.val % 64 < colStart w.val + 16 := h2
      refine ht ⟨⟨16 * (t.val / 64) + (t.val % 64 - colStart w.val), by omega⟩, Fin.ext ?_⟩
      show 64 * ((16 * (t.val / 64) + (t.val % 64 - colStart w.val)) / 16) + colStart w.val
        + (16 * (t.val / 64) + (t.val % 64 - colStart w.val)) % 16 = t.val
      omega
  · rw [hv, htok]

end Cert.Proof.NaEntry

end
-- ==== Proof.NaValue.lean ====
/-
  The neighbourhood attention: from finite queries, keys and relative positions the launch leaves the reference's
  result.
-/
module

public import proofs.«01_k».proof.Defs
public import proofs.«01_k».proof.Proof.NaBlock
public import proofs.«01_k».proof.Proof.NaEntry
public import proofs.«01_k».proof.Proof.Gen.KernelIdeal.Value
public import proofs.«01_k».proof.Proof.Gen.Pre_finite
public import Idealize.ShloMosaic.Lib.Pipeline.ValueKit
public import Idealize.ShloMosaic.Lib.ReduceAll
public import Idealize.ShloMosaic.Lib.Claim

@[expose] public section

noncomputable section

namespace Cert.Proof.NaValue

open Idealize.ShloMosaic Idealize.ShloMosaic.TcCoe Idealize.SL.Sem
open Cert.KernelIdeal Cert.KernelIdeal.Gen
open Cert.Proof.NaTiles (blockVal)
open Cert.Proof.NaRef (tok chan fn)
open Cert.Proof.NaEntry (RealQK)

/-- A block's entry is the reference's, once its windows are the arrays' blocks. -/
theorem block_eq (x0 : FVec Ideal S24576x12288 .bf16) (f0 : S24576x12288.Idx → ℝ) (hx : RealQK x0 f0) (f1 : S32x15x31.Idx → ℝ) (o : FVec Ideal S24576x4096 .bf16)
    (b : Fin 4) (h : Fin 32) (q k v : Vec Ideal S2048x128 .bf16) (tb : Vec Ideal S1x8x64x512 .f32)
    (hq : ∀ (n : Fin 2048) (d : Fin 128), q (ix2 n d) = x0 (ix2 ⟨16384 + 2048 * b.val + n.val, by omega⟩ (chan 0 h d)))
    (hk : ∀ (n : Fin 2048) (d : Fin 128), k (ix2 n d) = x0 (ix2 ⟨16384 + 2048 * b.val + n.val, by omega⟩ (chan 1 h d)))
    (hv : ∀ (n : Fin 2048) (d : Fin 128), v (ix2 n d) = x0 (ix2 ⟨16384 + 2048 * b.val + n.val, by omega⟩ (chan 2 h d)))
    (ht : ∀ (i : Fin 8) (w : Fin 64) (t : Fin 512), tb (ix4 0 i w t) = NaBias.table (fun i => (f1 i : EReal)) (ix4 h i w t))
    (n : Fin 2048) (d : Fin 128) :
    blockVal q k v tb (ix2 n d) = fn x0 (fun i => (f1 i : EReal)) o
      (ix2 ⟨16384 + 2048 * b.val + n.val, by omega⟩ ⟨128 * h.val + d.val, by omega⟩) := by
  have hn : (⟨16384 + 2048 * b.val + n.val, by omega⟩ : Fin 24576) = tok b ⟨n.val / 64, by omega⟩ ⟨n.val % 64, by omega⟩ :=
    Fin.ext (by show 16384 + 2048 * b.val + n.val = 16384 + 2048 * b.val + 64 * (n.val / 64) + n.val % 64; omega)
  have hkey : ∀ t : Fin 512, (⟨16384 + 2048 * b.val + (NaTiles.keyTok n t).val, by omega⟩ : Fin 24576)
      = ⟨16384 + 2048 * b.val + 64 * NaTiles.rowStart (n.val / 64) + t.val, by
          have : NaTiles.rowStart (n.val / 64) ≤ 24 := min_le_right _ _
          omega⟩ := fun t => Fin.ext (by
    show 16384 + 2048 * b.val + (64 * NaTiles.rowStart (n.val / 64) + t.val) = _
    exact (Nat.add_assoc _ _ _).symm)
  rw [hn]
  refine NaEntry.entry_eq x0 f0 f1 b h ⟨n.val / 64, by omega⟩ ⟨n.val % 64, by omega⟩ hx o d _ _ (fun t => ?_) (fun t => ?_)
  · show (∑ d' : Fin 128, (q (ix2 n d') : EReal) * k (ix2 (NaTiles.keyTok n t) d'))
      + tb (ix4 0 (NaTiles.biasRow n) (NaTiles.tokCol n) t) = _
    simp only [hq, hk, ht, hkey, hn]
    rfl
  · show v (ix2 (NaTiles.keyTok n t) d) = _
    rw [hv, hkey]

variable (m : (ℓ : Loc nD τ sig) → Buf (Elt Ideal) ℓ)

theorem idx0 : ∀ t : Fin cfg0.N, win0_0.index t = ![8 + (grid0.coords t 0).val, (grid0.coords t 1).val] := by decide +kernel
theorem idx1 : ∀ t : Fin cfg0.N, win0_1.index t = ![8 + (grid0.coords t 0).val, 32 + (grid0.coords t 1).val] := by decide +kernel
theorem idx2 : ∀ t : Fin cfg0.N, win0_2.index t = ![8 + (grid0.coords t 0).val, 64 + (grid0.coords t 1).val] := by decide +kernel
theorem idx3 : ∀ t : Fin cfg0.N, win0_3.index t = ![(grid0.coords t 1).val, 0, 0, 0] := by decide +kernel
theorem idx4 : ∀ t : Fin cfg0.N, win0_4.index t = ![8 + (grid0.coords t 0).val, (grid0.coords t 1).val] := by decide +kernel

/-- The array the launch leaves. -/
theorem final (c : Dev nD) (f0 : S24576x12288.Idx → ℝ) (f1 : S32x15x31.Idx → ℝ)
    (h0 : RealQK (m ((c : Thread nD τ).loc main_arg0)) f0)
    (h1 : m ((c : Thread nD τ).loc main_arg1) = fun i => (f1 i : EReal)) :
    (dats m 0 c).arrAt 4 cfg0.N
      = fn (m ((c : Thread nD τ).loc main_arg0)) (fun i => (f1 i : EReal)) (m ((c : Thread nD τ).loc main_arg2)) := by
  have hW : (dats m 0 c).arrAt 4 cfg0.N = fun i : S24576x4096.Idx => if 8 ≤ (i 0 : ℕ) / 2048
      then fn (m ((c : Thread nD τ).loc main_arg0)) (fun i => (f1 i : EReal)) (m ((c : Thread nD τ).loc main_arg2)) i
      else V m c main_v16 i := by
    refine (dats m 0 c).arrAt_eq_of_coversWhere 4 _ (fun β => 8 ≤ β (0 : Fin _)) (by decide +kernel) (fun t hf y => ?_)
      (fun j => Iff.rfl)
    blk_simp
    rw [after0_4]
    unfold outsAt0
    refine (NaTiles.out_apply _ _ _ _ _ _ _ _ _ _ _ _ _ _ _ _ _).trans ?_
    refine (block_eq (m ((c : Thread nD τ).loc main_arg0)) f0 h0 f1 (m ((c : Thread nD τ).loc main_arg2)) ⟨(grid0.coords t 0).val, (grid0.coords t 0).isLt⟩
      ⟨(grid0.coords t 1).val, (grid0.coords t 1).isLt⟩ _ _ _ _ (fun n d => ?_) (fun n d => ?_) (fun n d => ?_)
      (fun i w k => ?_) (y 0) (y 1)).trans ?_
    · blk_simp [iblk]
      rw [V_main_arg0]
      refine congrArg (m ((c : Thread nD τ).loc main_arg0)) ?_
      blk_ext [idx0]
    · blk_simp [iblk]
      rw [V_main_arg0]
      refine congrArg (m ((c : Thread nD τ).loc main_arg0)) ?_
      blk_ext [idx1]
    · blk_simp [iblk]
      rw [V_main_arg0]
      refine congrArg (m ((c : Thread nD τ).loc main_arg0)) ?_
      blk_ext [idx2]
    · blk_simp [iblk]
      rw [NaBias.V_table, h1]
      refine congrArg (NaBias.table fun i => (f1 i : EReal)) ?_
      blk_ext [idx3]
    · refine congrArg (fn _ _ _) ?_
      blk_ext [idx4]
  rw [hW]
  funext i
  by_cases hi : 8 ≤ (i 0 : ℕ) / 2048
  · exact if_pos hi
  · refine (if_neg hi).trans ?_
    rw [NaBias.V_copy]
    exact (NaRef.out_low _ _ i (by omega)).symm

/-- A conjunction of two bits that is one. -/
theorem and_of (x y : BitVec 1) (e : IntOp.andi x y = 1#1) : x = 1#1 ∧ y = 1#1 := by
  revert x y; decide

/-- An array whose entries are all below ∞ in absolute value is an array of reals. -/
theorem real_of {S : Shape} (x : S.Idx → EReal)
    (h : ∀ i, BitVec.ofBool (decide (max (x i) (-(x i)) < Ideal.ofBits .f32 0x7F800000#32)) = 1#1) :
    ∃ f : S.Idx → ℝ, x = fun i => (f i : EReal) := by
  have hinf : Ideal.ofBits .f32 0x7F800000#32 = ⊤ := by
    simp only [Ideal.ofBits, Ideal.ieee]
    rfl
  refine ⟨fun i => (x i).toReal, funext fun i => (EReal.coe_toReal (fun ht => ?_) (fun hb => ?_)).symm⟩
  · have := h i
    rw [hinf, ht] at this
    simp at this
  · have := h i
    rw [hinf, hb] at this
    simp at this

/-- What the precondition says: the queries, the keys and the relative positions are real. -/
theorem real_of_pre (h : Cert.Pre_KernelIdeal_finite m) (c : Dev nD) :
    (∃ f0 : S24576x12288.Idx → ℝ, RealQK (m ((c : Thread nD τ).loc main_arg0)) f0)
      ∧ ∃ f1 : S32x15x31.Idx → ℝ, m ((c : Thread nD τ).loc main_arg1) = fun i => (f1 i : EReal) := by
  have e := congrFun (h c) (fun a => a.elim0)
  obtain ⟨e0, e1⟩ := and_of _ _ e
  refine ⟨?_, real_of _ fun i => Host.reduce_andi_all _ _ _ _ _ e1 i⟩
  obtain ⟨g, hg⟩ := real_of (S := Cert.Pre_finite.S8192x8192) (fun j => (m ((c : Thread nD τ).loc main_arg0) :
      FVec Ideal S24576x12288 .bf16) (ix2 ⟨16384 + (j 0).val, by have : (j 0).val < 8192 := (j 0).isLt; omega⟩
        ⟨(j 1).val, by have : (j 1).val < 8192 := (j 1).isLt; omega⟩)) fun j => by
    have ej := Host.reduce_andi_all _ _ _ _ _ e0 j
    refine Eq.trans (congrArg (fun x : EReal => BitVec.ofBool (decide (max x (-x) < Ideal.ofBits .f32 0x7F800000#32))) ?_) ej
    refine congrArg (m ((c : Thread nD τ).loc main_arg0)) ?_
    funext ax
    refine Fin.ext ?_
    match ax with
    | 0 => rfl
    | 1 => exact (Nat.zero_add _).symm
  refine ⟨fun i => g (ix2 ⟨(i 0).val - 16384, by have : (i 0).val < 24576 := (i 0).isLt; omega⟩
    ⟨(i 1).val % 8192, Nat.mod_lt _ (by norm_num)⟩), fun n k hn hk => ?_⟩
  refine Eq.trans ?_ (congrFun hg (ix2 ⟨n.val - 16384, by omega⟩ ⟨k.val % 8192, Nat.mod_lt _ (by norm_num)⟩))
  refine congrArg (m ((c : Thread nD τ).loc main_arg0)) ?_
  funext ax
  refine Fin.ext ?_
  match ax with
  | 0 => show n.val = 16384 + (n.val - 16384); omega
  | 1 => show k.val = k.val % 8192; omega

/-- The array the launch leaves, from the precondition. -/
theorem final_of_pre (h : Cert.Pre_KernelIdeal_finite m) (c : Dev nD) :
    (dats m 0 c).arrAt 4 cfg0.N = fn (m ((c : Thread nD τ).loc main_arg0)) (m ((c : Thread nD τ).loc main_arg1))
      (m ((c : Thread nD τ).loc main_arg2)) := by
  obtain ⟨⟨f0, h0⟩, f1, h1⟩ := real_of_pre m h c
  exact (final m c f0 f1 h0 h1).trans (congrArg (fun r : FVec Ideal S32x15x31 .f32 =>
    fn (m ((c : Thread nD τ).loc main_arg0)) r (m ((c : Thread nD τ).loc main_arg2))) h1.symm)

/-- The neighbourhood attention's algebraic claim. -/
theorem algebraic : Cert.algebraic_KernelIdeal_ReferenceIdeal_pre_finite := by
  intro m g m' g' hpre hargs
  refine ⟨fun c => fn (m ((c : Thread nD τ).loc main_arg0)) (m ((c : Thread nD τ).loc main_arg1))
    (m ((c : Thread nD τ).loc main_arg2)), ?_, ?_⟩
  · exact (θ_run defs _ _).mono (fun r h c => ⟨(h c).1.trans (final_of_pre m hpre c), (h c).2⟩)
      (Cert.KernelIdeal.Value.run_blocks m g)
  · refine (θ_run Cert.ReferenceIdeal.defs _ _).mono (fun r h c => ⟨(h c).1.trans ?_, (h c).2⟩)
      (Cert.ReferenceIdeal.Value.run m' g')
    rw [NaRef.res_eq, (hargs c).1, (hargs c).2.1, (hargs c).2.2]

end Cert.Proof.NaValue

end
-- ==== Proof.lean ====
/-
  The proof of the claims in `Defs.lean`.
-/
module

public import proofs.«01_k».proof.Defs
public import proofs.«01_k».proof.Proof.Gen.Pre_finite
public import proofs.«01_k».proof.Proof.Gen.Pre_sum_of_squares
public import proofs.«01_k».proof.Proof.Gen.Kernel.Frame
public import proofs.«01_k».proof.Proof.Gen.KernelIdeal.Frame
public import proofs.«01_k».proof.Proof.Gen.Up.Frame
public import proofs.«01_k».proof.Proof.Gen.UpIdeal.Frame
public import proofs.«01_k».proof.Proof.Gen.Down.Frame
public import proofs.«01_k».proof.Proof.Gen.DownIdeal.Frame
public import proofs.«01_k».proof.Proof.Gen.Qkv.Frame
public import proofs.«01_k».proof.Proof.Gen.QkvIdeal.Frame
public import proofs.«01_k».proof.Proof.Gen.Proj.Frame
public import proofs.«01_k».proof.Proof.Gen.ProjIdeal.Frame
public import proofs.«01_k».proof.Proof.Gen.Out.Frame
public import proofs.«01_k».proof.Proof.Gen.OutIdeal.Frame
public import proofs.«01_k».proof.Proof.Gen.NormPrompt.Frame
public import proofs.«01_k».proof.Proof.Gen.NormPromptIdeal.Frame
public import proofs.«01_k».proof.Proof.Gen.NormSample.Frame
public import proofs.«01_k».proof.Proof.Gen.NormSampleIdeal.Frame
public import proofs.«01_k».proof.Proof.Gen.KernelIdeal.Value
public import proofs.«01_k».proof.Proof.Gen.UpIdeal.Value
public import proofs.«01_k».proof.Proof.Gen.DownIdeal.Value
public import proofs.«01_k».proof.Proof.Gen.QkvIdeal.Value
public import proofs.«01_k».proof.Proof.Gen.ProjIdeal.Value
public import proofs.«01_k».proof.Proof.Gen.OutIdeal.Value
public import proofs.«01_k».proof.Proof.Gen.NormPromptIdeal.Value
public import proofs.«01_k».proof.Proof.Gen.NormSampleIdeal.Value
public import proofs.«01_k».proof.Proof.Gen.ReferenceIdeal.Run
public import proofs.«01_k».proof.Proof.Gen.UpRefIdeal.Run
public import proofs.«01_k».proof.Proof.Gen.DownRefIdeal.Run
public import proofs.«01_k».proof.Proof.Gen.QkvRefIdeal.Run
public import proofs.«01_k».proof.Proof.Gen.ProjRefIdeal.Run
public import proofs.«01_k».proof.Proof.Gen.OutRefIdeal.Run
public import proofs.«01_k».proof.Proof.Gen.NormPromptRefIdeal.Run
public import proofs.«01_k».proof.Proof.Gen.NormSampleRefIdeal.Run
public import proofs.«01_k».proof.Proof.Gen.UpRefIdeal.Read
public import proofs.«01_k».proof.Proof.Gen.DownRefIdeal.Read
public import proofs.«01_k».proof.Proof.Gen.QkvRefIdeal.Read
public import proofs.«01_k».proof.Proof.Gen.ProjRefIdeal.Read
public import proofs.«01_k».proof.Proof.Gen.OutRefIdeal.Read
public import proofs.«01_k».proof.Proof.Gen.NormPromptRefIdeal.Read
public import proofs.«01_k».proof.Proof.Gen.NormSampleRefIdeal.Read
public import proofs.«01_k».proof.Proof.Gen.Norm.Frame
public import proofs.«01_k».proof.Proof.Gen.NormIdeal.Frame
public import proofs.«01_k».proof.Proof.Gen.NormIdeal.Value
public import proofs.«01_k».proof.Proof.Gen.NormRefIdeal.Run
public import proofs.«01_k».proof.Proof.Gen.NormRefIdeal.Read
public import proofs.«01_k».proof.Proof.Gen.Bounds.Frame
public import proofs.«01_k».proof.Proof.Gen.BoundsIdeal.Frame
public import proofs.«01_k».proof.Proof.Gen.BoundsIdeal.Value
public import proofs.«01_k».proof.Proof.Gen.BoundsRefIdeal.Run
public import proofs.«01_k».proof.Proof.Gen.BoundsRefIdeal.Read
public import proofs.«01_k».proof.Proof.Gen.Tail.Frame
public import proofs.«01_k».proof.Proof.Gen.TailIdeal.Frame
public import proofs.«01_k».proof.Proof.Gen.TailRefIdeal.Run
public import proofs.«01_k».proof.Proof.Gen.TailRefIdeal.Read
public import proofs.«01_k».proof.Proof.Gen.Cast.Frame
public import proofs.«01_k».proof.Proof.Gen.CastIdeal.Frame
public import proofs.«01_k».proof.Proof.Gen.CastIdeal.Value
public import proofs.«01_k».proof.Proof.Gen.CastRefIdeal.Run
public import proofs.«01_k».proof.Proof.Gen.CastRefIdeal.Read
public import proofs.«01_k».proof.Proof.Gen.Mid.Frame
public import proofs.«01_k».proof.Proof.Gen.MidIdeal.Frame
public import proofs.«01_k».proof.Proof.Gen.MidRefIdeal.Run
public import proofs.«01_k».proof.Proof.Gen.MidRefIdeal.Read
public import proofs.«01_k».proof.Proof.Gen.Second.Frame
public import proofs.«01_k».proof.Proof.Gen.SecondIdeal.Frame
public import proofs.«01_k».proof.Proof.Gen.SecondRefIdeal.Run
public import proofs.«01_k».proof.Proof.Gen.SecondRefIdeal.Read
public import proofs.«01_k».proof.Proof.Gen.Begin.Frame
public import proofs.«01_k».proof.Proof.Gen.BeginIdeal.Frame
public import proofs.«01_k».proof.Proof.Gen.BeginRefIdeal.Run
public import proofs.«01_k».proof.Proof.Gen.BeginRefIdeal.Read
public import proofs.«01_k».proof.Proof.Gen.First.Frame
public import proofs.«01_k».proof.Proof.Gen.FirstIdeal.Frame
public import proofs.«01_k».proof.Proof.Gen.FirstRefIdeal.Run
public import proofs.«01_k».proof.Proof.Gen.FirstRefIdeal.Read
public import proofs.«01_k».proof.Proof.QkvValue
public import proofs.«01_k».proof.Proof.ProjValue
public import proofs.«01_k».proof.Proof.UpValue
public import proofs.«01_k».proof.Proof.DownValue
public import proofs.«01_k».proof.Proof.OutValue
public import proofs.«01_k».proof.Proof.NormPromptValue
public import proofs.«01_k».proof.Proof.NormSampleValue
public import proofs.«01_k».proof.Proof.NormValue
public import proofs.«01_k».proof.Proof.BoundsValue
public import proofs.«01_k».proof.Proof.TailValue
public import proofs.«01_k».proof.Proof.CastValue
public import proofs.«01_k».proof.Proof.MidValue
public import proofs.«01_k».proof.Proof.SecondValue
public import proofs.«01_k».proof.Proof.BeginValue
public import proofs.«01_k».proof.Proof.FirstValue
public import proofs.«01_k».proof.Proof.NaValue

@[expose] public section

namespace Cert.Proof

open Idealize.ShloMosaic Idealize.SL.Sem

/-- The named constant is the one the kernel folds: the score scale over the natural logarithm of two. -/
theorem preserves_attention : Cert.preserves_Kernel_KernelIdeal :=
  IdealRules.named_const.statement Cert.KernelIdeal.κ "scale_log2e" .f32 0x3E0293EE#32
    (((11863283 / 134217728) * (Real.log 2)⁻¹ : ℝ) : EReal) rfl

/-- Every call keeps its frame, and each call proved computes its reference. -/
theorem claim : Cert.Claim :=
  ⟨Cert.Kernel.Gen.facts, Cert.KernelIdeal.Gen.facts, Cert.ReferenceIdeal.Gen.facts, Cert.Up.Gen.facts, Cert.UpIdeal.Gen.facts, Cert.UpRefIdeal.Gen.facts, Cert.Down.Gen.facts, Cert.DownIdeal.Gen.facts, Cert.DownRefIdeal.Gen.facts, Cert.Qkv.Gen.facts, Cert.QkvIdeal.Gen.facts, Cert.QkvRefIdeal.Gen.facts, Cert.Proj.Gen.facts, Cert.ProjIdeal.Gen.facts, Cert.ProjRefIdeal.Gen.facts, Cert.Out.Gen.facts, Cert.OutIdeal.Gen.facts, Cert.OutRefIdeal.Gen.facts, Cert.NormPrompt.Gen.facts, Cert.NormPromptIdeal.Gen.facts, Cert.NormPromptRefIdeal.Gen.facts, Cert.NormSample.Gen.facts, Cert.NormSampleIdeal.Gen.facts, Cert.NormSampleRefIdeal.Gen.facts, Cert.Norm.Gen.facts, Cert.NormIdeal.Gen.facts, Cert.NormRefIdeal.Gen.facts, Cert.Bounds.Gen.facts, Cert.BoundsIdeal.Gen.facts, Cert.BoundsRefIdeal.Gen.facts, Cert.Tail.Gen.facts, Cert.TailIdeal.Gen.facts, Cert.TailRefIdeal.Gen.facts, Cert.Cast.Gen.facts, Cert.CastIdeal.Gen.facts, Cert.CastRefIdeal.Gen.facts, Cert.Mid.Gen.facts, Cert.MidIdeal.Gen.facts, Cert.MidRefIdeal.Gen.facts, Cert.Second.Gen.facts, Cert.SecondIdeal.Gen.facts, Cert.SecondRefIdeal.Gen.facts, Cert.Begin.Gen.facts, Cert.BeginIdeal.Gen.facts, Cert.BeginRefIdeal.Gen.facts, Cert.First.Gen.facts, Cert.FirstIdeal.Gen.facts, Cert.FirstRefIdeal.Gen.facts, Cert.Pre_finite.Gen.facts, Cert.Pre_sum_of_squares.Gen.facts,
    fun m ρ _ => Cert.Kernel.Gen.frame m ρ,
    fun m ρ _ => Cert.KernelIdeal.Gen.frame m ρ,
    fun m ρ _ => Cert.KernelIdeal.Gen.frame m ρ,
    fun m ρ _ => (θ_run _ _ _).mono (fun _ h => ⟨fun c => (h c).2, sem_eq_zero_of_no_sems rfl _⟩) (Cert.ReferenceIdeal.Value.run m ρ),
    fun m ρ _ => (θ_run _ _ _).mono (fun _ h => ⟨fun c => (h c).2, sem_eq_zero_of_no_sems rfl _⟩) (Cert.ReferenceIdeal.Value.run m ρ),
    fun m ρ _ => Cert.Up.Gen.frame m ρ,
    fun m ρ _ => Cert.UpIdeal.Gen.frame m ρ,
    fun m ρ _ => Cert.UpIdeal.Gen.frame m ρ,
    fun m ρ _ => (θ_run _ _ _).mono (fun _ h => ⟨fun c => (h c).2, sem_eq_zero_of_no_sems rfl _⟩) (Cert.UpRefIdeal.Value.run m ρ),
    fun m ρ _ => (θ_run _ _ _).mono (fun _ h => ⟨fun c => (h c).2, sem_eq_zero_of_no_sems rfl _⟩) (Cert.UpRefIdeal.Value.run m ρ),
    fun m ρ _ => Cert.Down.Gen.frame m ρ,
    fun m ρ _ => Cert.DownIdeal.Gen.frame m ρ,
    fun m ρ _ => (θ_run _ _ _).mono (fun _ h => ⟨fun c => (h c).2, sem_eq_zero_of_no_sems rfl _⟩) (Cert.DownRefIdeal.Value.run m ρ),
    fun m ρ _ => Cert.Qkv.Gen.frame m ρ,
    fun m ρ _ => Cert.QkvIdeal.Gen.frame m ρ,
    fun m ρ _ => (θ_run _ _ _).mono (fun _ h => ⟨fun c => (h c).2, sem_eq_zero_of_no_sems rfl _⟩) (Cert.QkvRefIdeal.Value.run m ρ),
    fun m ρ _ => Cert.Proj.Gen.frame m ρ,
    fun m ρ _ => Cert.ProjIdeal.Gen.frame m ρ,
    fun m ρ _ => (θ_run _ _ _).mono (fun _ h => ⟨fun c => (h c).2, sem_eq_zero_of_no_sems rfl _⟩) (Cert.ProjRefIdeal.Value.run m ρ),
    fun m ρ _ => Cert.Out.Gen.frame m ρ,
    fun m ρ _ => Cert.OutIdeal.Gen.frame m ρ,
    fun m ρ _ => (θ_run _ _ _).mono (fun _ h => ⟨fun c => (h c).2.2.2, sem_eq_zero_of_no_sems rfl _⟩) (Cert.OutRefIdeal.Value.run m ρ),
    fun m ρ _ => Cert.NormPrompt.Gen.frame m ρ,
    fun m ρ _ => Cert.NormPromptIdeal.Gen.frame m ρ,
    fun m ρ _ => (θ_run _ _ _).mono (fun _ h => ⟨fun c => (h c).2, sem_eq_zero_of_no_sems rfl _⟩) (Cert.NormPromptRefIdeal.Value.run m ρ),
    fun m ρ _ => Cert.NormSample.Gen.frame m ρ,
    fun m ρ _ => Cert.NormSampleIdeal.Gen.frame m ρ,
    fun m ρ _ => (θ_run _ _ _).mono (fun _ h => ⟨fun c => (h c).2, sem_eq_zero_of_no_sems rfl _⟩) (Cert.NormSampleRefIdeal.Value.run m ρ),
    fun m ρ _ => Cert.Norm.Gen.frame m ρ,
    fun m ρ _ => Cert.NormIdeal.Gen.frame m ρ,
    fun m ρ _ => (θ_run _ _ _).mono (fun _ h => ⟨fun c => (h c).2, sem_eq_zero_of_no_sems rfl _⟩) (Cert.NormRefIdeal.Value.run m ρ),
    fun m ρ _ => Cert.Bounds.Gen.frame m ρ,
    fun m ρ _ => Cert.BoundsIdeal.Gen.frame m ρ,
    fun m ρ _ => (θ_run _ _ _).mono (fun _ h => ⟨fun c => (h c).2.2, sem_eq_zero_of_no_sems rfl _⟩) (Cert.BoundsRefIdeal.Value.run m ρ),
    fun m ρ _ => Cert.Tail.Gen.frame m ρ,
    fun m ρ _ => Cert.TailIdeal.Gen.frame m ρ,
    fun m ρ _ => (θ_run _ _ _).mono (fun _ h => ⟨fun c => (h c).2.2, sem_eq_zero_of_no_sems rfl _⟩) (Cert.TailRefIdeal.Value.run m ρ),
    fun m ρ _ => Cert.Cast.Gen.frame m ρ,
    fun m ρ _ => Cert.CastIdeal.Gen.frame m ρ,
    fun m ρ _ => (θ_run _ _ _).mono (fun _ h => ⟨fun c => (h c).2, sem_eq_zero_of_no_sems rfl _⟩) (Cert.CastRefIdeal.Value.run m ρ),
    fun m ρ _ => Cert.Mid.Gen.frame m ρ,
    fun m ρ _ => Cert.MidIdeal.Gen.frame m ρ,
    fun m ρ _ => (θ_run _ _ _).mono (fun _ h => ⟨fun c => (h c).2.2, sem_eq_zero_of_no_sems rfl _⟩) (Cert.MidRefIdeal.Value.run m ρ),
    fun m ρ _ => Cert.Second.Gen.frame m ρ,
    fun m ρ _ => Cert.SecondIdeal.Gen.frame m ρ,
    fun m ρ _ => (θ_run _ _ _).mono (fun _ h => ⟨fun c => (h c).2.2, sem_eq_zero_of_no_sems rfl _⟩) (Cert.SecondRefIdeal.Value.run m ρ),
    fun m ρ _ => Cert.Begin.Gen.frame m ρ,
    fun m ρ _ => Cert.BeginIdeal.Gen.frame m ρ,
    fun m ρ _ => (θ_run _ _ _).mono (fun _ h => ⟨fun c => (h c).2, sem_eq_zero_of_no_sems rfl _⟩) (Cert.BeginRefIdeal.Value.run m ρ),
    fun m ρ _ => Cert.First.Gen.frame m ρ,
    fun m ρ _ => Cert.FirstIdeal.Gen.frame m ρ,
    fun m ρ _ => (θ_run _ _ _).mono (fun _ h => ⟨fun c => (h c).2.2, sem_eq_zero_of_no_sems rfl _⟩) (Cert.FirstRefIdeal.Value.run m ρ),
    preserves_attention,
    NaValue.algebraic,
    trivial,
    UpValue.algebraic,
    trivial,
    DownValue.algebraic,
    trivial,
    QkvValue.algebraic,
    trivial,
    ProjValue.algebraic,
    trivial,
    OutValue.algebraic,
    trivial,
    NormPromptValue.algebraic,
    trivial,
    NormSampleValue.algebraic,
    trivial,
    NormValue.algebraic,
    trivial,
    BoundsValue.algebraic,
    trivial,
    TailValue.algebraic,
    trivial,
    CastValue.algebraic,
    trivial,
    MidValue.algebraic,
    trivial,
    SecondValue.algebraic,
    trivial,
    BeginValue.algebraic,
    trivial,
    FirstValue.algebraic⟩

end Cert.Proof
